-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8))
      ∧ r.2.sem = fun _ => 0)

def preserves_Kernel_KernelIdeal : Prop :=
  IdealRules.named_const.Statement Cert.KernelIdeal.κ "scale_log2e" .f32 0x3E16C740#32 (((3424635 / 33554432) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v56_0)) (v1 : (c : Dev Cert.KernelIdeal.nD) → Buf (Elt Ideal) ((c.tc : Thread Cert.KernelIdeal.nD Cert.KernelIdeal.τ).loc Cert.KernelIdeal.main_v56_1)) (v2 : (c : Dev Cert.KernelIdeal.nD) → Buf (Elt Ideal) ((c.tc : Thread Cert.KernelIdeal.nD Cert.KernelIdeal.τ).loc Cert.KernelIdeal.main_v56_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56_0) = v0 c
          ∧ r.2.mem ((c.tc : Thread Cert.KernelIdeal.nD Cert.KernelIdeal.τ).loc Cert.KernelIdeal.main_v56_1) = v1 c
          ∧ r.2.mem ((c.tc : Thread Cert.KernelIdeal.nD Cert.KernelIdeal.τ).loc Cert.KernelIdeal.main_v56_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)) (v2 : (c : Dev Cert.Kernel2Ideal.nD) → Buf (Elt Ideal) ((c.tc : Thread Cert.Kernel2Ideal.nD Cert.Kernel2Ideal.τ).loc Cert.Kernel2Ideal.main_v7_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_v7_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_v52) = v1 c
          ∧ r.2.mem ((c.tc : Thread Cert.Reference2Ideal.nD Cert.Reference2Ideal.τ).loc Cert.Reference2Ideal.main_v20) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v21) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v22) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_v28) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_v13) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)) →
    ∃ (v0 : (c : Dev Cert.Kernel11Ideal.nD) → Buf (Elt Ideal) ((c.tc : Thread Cert.Kernel11Ideal.nD Cert.Kernel11Ideal.τ).loc Cert.Kernel11Ideal.main_v5_0)) (v1 : (c : Dev Cert.Kernel11Ideal.nD) → Buf (Elt Ideal) ((c.tc : Thread Cert.Kernel11Ideal.nD Cert.Kernel11Ideal.τ).loc Cert.Kernel11Ideal.main_v5_1)) (v2 : (c : Dev Cert.Kernel11Ideal.nD) → Buf (Elt Ideal) ((c.tc : Thread Cert.Kernel11Ideal.nD Cert.Kernel11Ideal.τ).loc Cert.Kernel11Ideal.main_v5_2)) (v3 : (c : Dev Cert.Kernel11Ideal.nD) → Buf (Elt Ideal) ((c.tc : Thread Cert.Kernel11Ideal.nD Cert.Kernel11Ideal.τ).loc Cert.Kernel11Ideal.main_v5_3)) (v4 : (c : Dev Cert.Kernel11Ideal.nD) → Buf (Elt Ideal) ((c.tc : Thread Cert.Kernel11Ideal.nD Cert.Kernel11Ideal.τ).loc Cert.Kernel11Ideal.main_v5_4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5_0) = v0 c
          ∧ r.2.mem ((c.tc : Thread Cert.Kernel11Ideal.nD Cert.Kernel11Ideal.τ).loc Cert.Kernel11Ideal.main_v5_1) = v1 c
          ∧ r.2.mem ((c.tc : Thread Cert.Kernel11Ideal.nD Cert.Kernel11Ideal.τ).loc Cert.Kernel11Ideal.main_v5_2) = v2 c
          ∧ r.2.mem ((c.tc : Thread Cert.Kernel11Ideal.nD Cert.Kernel11Ideal.τ).loc Cert.Kernel11Ideal.main_v5_3) = v3 c
          ∧ r.2.mem ((c.tc : Thread Cert.Kernel11Ideal.nD Cert.Kernel11Ideal.τ).loc Cert.Kernel11Ideal.main_v5_4) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v18) = v0 c
          ∧ r.2.mem ((c.tc : Thread Cert.Reference11Ideal.nD Cert.Reference11Ideal.τ).loc Cert.Reference11Ideal.main_v17) = v1 c
          ∧ r.2.mem ((c.tc : Thread Cert.Reference11Ideal.nD Cert.Reference11Ideal.τ).loc Cert.Reference11Ideal.main_v19) = v2 c
          ∧ r.2.mem ((c.tc : Thread Cert.Reference11Ideal.nD Cert.Reference11Ideal.τ).loc Cert.Reference11Ideal.main_v20) = v3 c
          ∧ r.2.mem ((c.tc : Thread Cert.Reference11Ideal.nD Cert.Reference11Ideal.τ).loc Cert.Reference11Ideal.main_v33) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S4096x16x96 : Shape := ⟨3, ![4096, 16, 96]⟩
abbrev S4096x16x64 : Shape := ⟨3, ![4096, 16, 64]⟩
abbrev S_ : Shape := ⟨0, ![]⟩

class Facts : Prop where
  bcast_S_S4096x16x96 : S_.BroadcastsInDim S4096x16x96 (![] : Fin 0 → Fin S4096x16x96.rank)
  bcast_S_S4096x16x64 : S_.BroadcastsInDim S4096x16x64 (![] : Fin 0 → Fin S4096x16x64.rank)

variable [Facts]

def fn {F : FTy → Type} [FloatOps F] (main_arg0 : FVec F S4096x16x96 .f32) (main_arg1 : FVec F S4096x16x96 .f32) (main_arg2 : FVec F S4096x16x64 .f32) (main_arg3 : FVec F S4096x16x64 .f32) : IVec S4096x16x96 1 × IVec S4096x16x96 1 × IVec S4096x16x64 1 × IVec S4096x16x64 1 :=
  let main_v0 : FVec F S4096x16x96 .f32 := Host.absf main_arg0
  let main_cst : FVec F S_ .f32 := constant S_ .f32 0x7F800000#32
  let main_v1 : FVec F S4096x16x96 .f32 := broadcastInDim S4096x16x96 ![] bcast_S_S4096x16x96 main_cst
  let main_v2 : IVec S4096x16x96 1 := cmpf .olt main_v0 main_v1
  let main_v3 : FVec F S4096x16x96 .f32 := Host.absf main_arg1
  let main_cst_0 : FVec F S_ .f32 := constant S_ .f32 0x7F800000#32
  let main_v4 : FVec F S4096x16x96 .f32 := broadcastInDim S4096x16x96 ![] bcast_S_S4096x16x96 main_cst_0
  let main_v5 : IVec S4096x16x96 1 := cmpf .olt main_v3 main_v4
  let main_v6 : FVec F S4096x16x64 .f32 := Host.absf main_arg2
  let main_cst_1 : FVec F S_ .f32 := constant S_ .f32 0x7F800000#32
  let main_v7 : FVec F S4096x16x64 .f32 := broadcastInDim S4096x16x64 ![] bcast_S_S4096x16x64 main_cst_1
  let main_v8 : IVec S4096x16x64 1 := cmpf .olt main_v6 main_v7
  let main_v9 : FVec F S4096x16x64 .f32 := Host.absf main_arg3
  let main_cst_2 : FVec F S_ .f32 := constant S_ .f32 0x7F800000#32
  let main_v10 : FVec F S4096x16x64 .f32 := broadcastInDim S4096x16x64 ![] bcast_S_S4096x16x64 main_cst_2
  let main_v11 : IVec S4096x16x64 1 := cmpf .olt main_v9 main_v10
  (main_v2, main_v5, main_v8, main_v11)
-- ==== Kernel.lean ====
abbrev S4096x16x96 : Shape := ⟨3, ![4096, 16, 96]⟩
abbrev S4096x16x64 : Shape := ⟨3, ![4096, 16, 64]⟩
abbrev S_ : Shape := ⟨0, ![]⟩
abbrev S4096x16x128 : Shape := ⟨3, ![4096, 16, 128]⟩
abbrev S4096x2048 : Shape := ⟨2, ![4096, 2048]⟩
abbrev S16x256x2048 : Shape := ⟨3, ![16, 256, 2048]⟩
abbrev S16x2048x256 : Shape := ⟨3, ![16, 2048, 256]⟩
abbrev S4096x1024 : Shape := ⟨2, ![4096, 1024]⟩
abbrev S16x256x1024 : Shape := ⟨3, ![16, 256, 1024]⟩
abbrev S16x1024x256 : Shape := ⟨3, ![16, 1024, 256]⟩
abbrev S16x4096x4096 : Shape := ⟨3, ![16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S16x4096 : Shape := ⟨2, ![16, 4096]⟩
abbrev S16x4096x1 : Shape := ⟨3, ![16, 4096, 1]⟩
abbrev S16x64x4096 : Shape := ⟨3, ![16, 64, 4096]⟩
abbrev S4096x16 : Shape := ⟨2, ![4096, 16]⟩
abbrev S8x2x16x256 : Shape := ⟨4, ![8, 2, 16, 256]⟩
abbrev S8x16x2x256 : Shape := ⟨4, ![8, 16, 2, 256]⟩
abbrev S8x16x8x256 : Shape := ⟨4, ![8, 16, 8, 256]⟩
abbrev S16x256x256 : Shape := ⟨3, ![16, 256, 256]⟩
abbrev S512x256 : Shape := ⟨2, ![512, 256]⟩
abbrev S2x256x256 : Shape := ⟨3, ![2, 256, 256]⟩
abbrev S512x128 : Shape := ⟨2, ![512, 128]⟩
abbrev S16x128x256 : Shape := ⟨3, ![16, 128, 256]⟩
abbrev S1x16x8x256 : Shape := ⟨4, ![1, 16, 8, 256]⟩
abbrev S2x128x256 : Shape := ⟨3, ![2, 128, 256]⟩
abbrev S2x2x256x256 : Shape := ⟨4, ![2, 2, 256, 256]⟩
abbrev S2x256x128 : Shape := ⟨3, ![2, 256, 128]⟩
abbrev S256x128 : Shape := ⟨2, ![256, 128]⟩
abbrev S1x256x128 : Shape := ⟨3, ![1, 256, 128]⟩
abbrev S1x128x256 : Shape := ⟨3, ![1, 128, 256]⟩
abbrev S128x256 : Shape := ⟨2, ![128, 256]⟩
abbrev S256x256 : Shape := ⟨2, ![256, 256]⟩
abbrev S1x1x256x256 : Shape := ⟨4, ![1, 1, 256, 256]⟩
abbrev S1x1x8x256 : Shape := ⟨4, ![1, 1, 8, 256]⟩
abbrev S8x256 : Shape := ⟨2, ![8, 256]⟩
abbrev S1x1x256x128 : Shape := ⟨4, ![1, 1, 256, 128]⟩
abbrev S1x128 : Shape := ⟨2, ![1, 128]⟩
abbrev S1x64x256 : Shape := ⟨3, ![1, 64, 256]⟩
abbrev S64x256 : Shape := ⟨2, ![64, 256]⟩
abbrev S1x256x256 : Shape := ⟨3, ![1, 256, 256]⟩
abbrev S1x96x256 : Shape := ⟨3, ![1, 96, 256]⟩
abbrev S96x256 : Shape := ⟨2, ![96, 256]⟩

abbrev nBuf : Space → Nat
  | .hbm => 82
  | .vmem => 25
  | .smem => 0
  | _ => 0

abbrev bufTy : (tb : Table) → Fin (tcTables nBuf tb) → BufTy
  | .hbm, ⟨0, _⟩ => ⟨S4096x16x96, .f32⟩
  | .hbm, ⟨1, _⟩ => ⟨S4096x16x96, .f32⟩
  | .hbm, ⟨2, _⟩ => ⟨S4096x16x64, .f32⟩
  | .hbm, ⟨3, _⟩ => ⟨S4096x16x64, .f32⟩
  | .hbm, ⟨4, _⟩ => ⟨S_, .i32⟩
  | .hbm, ⟨5, _⟩ => ⟨S_, .f32⟩
  | .hbm, ⟨6, _⟩ => ⟨S4096x16x128, .f32⟩
  | .hbm, ⟨7, _⟩ => ⟨S4096x2048, .f32⟩
  | .hbm, ⟨8, _⟩ => ⟨S16x256x2048, .f32⟩
  | .hbm, ⟨9, _⟩ => ⟨S16x2048x256, .f32⟩
  | .hbm, ⟨10, _⟩ => ⟨S16x2048x256, .bf16⟩
  | .hbm, ⟨11, _⟩ => ⟨S_, .i32⟩
  | .hbm, ⟨12, _⟩ => ⟨S_, .f32⟩
  | .hbm, ⟨13, _⟩ => ⟨S4096x16x128, .f32⟩
  | .hbm, ⟨14, _⟩ => ⟨S4096x2048, .f32⟩
  | .hbm, ⟨15, _⟩ => ⟨S4096x2048, .bf16⟩
  | .hbm, ⟨16, _⟩ => ⟨S_, .i32⟩
  | .hbm, ⟨17, _⟩ => ⟨S_, .f32⟩
  | .hbm, ⟨18, _⟩ => ⟨S4096x16x128, .f32⟩
  | .hbm, ⟨19, _⟩ => ⟨S4096x2048, .f32⟩
  | .hbm, ⟨20, _⟩ => ⟨S16x256x2048, .f32⟩
  | .hbm, ⟨21, _⟩ => ⟨S16x2048x256, .f32⟩
  | .hbm, ⟨22, _⟩ => ⟨S16x2048x256, .bf16⟩
  | .hbm, ⟨23, _⟩ => ⟨S4096x1024, .f32⟩
  | .hbm, ⟨24, _⟩ => ⟨S4096x1024, .bf16⟩
  | .hbm, ⟨25, _⟩ => ⟨S4096x1024, .f32⟩
  | .hbm, ⟨26, _⟩ => ⟨S16x256x1024, .f32⟩
  | .hbm, ⟨27, _⟩ => ⟨S16x1024x256, .f32⟩
  | .hbm, ⟨28, _⟩ => ⟨S16x1024x256, .bf16⟩
  | .hbm, ⟨29, _⟩ => ⟨S16x4096x4096, .f32⟩
  | .hbm, ⟨30, _⟩ => ⟨S_, .f32⟩
  | .hbm, ⟨31, _⟩ => ⟨S16x4096x4096, .f32⟩
  | .hbm, ⟨32, _⟩ => ⟨S16x4096x4096, .f32⟩
  | .hbm, ⟨33, _⟩ => ⟨S4096, .i32⟩
  | .hbm, ⟨34, _⟩ => ⟨S1x4096, .i32⟩
  | .hbm, ⟨35, _⟩ => ⟨S4096x1, .i32⟩
  | .hbm, ⟨36, _⟩ => ⟨S4096x4096, .i32⟩
  | .hbm, ⟨37, _⟩ => ⟨S4096x4096, .i32⟩
  | .hbm, ⟨38, _⟩ => ⟨S4096x4096, .i1⟩
  | .hbm, ⟨39, _⟩ => ⟨S1x4096x4096, .i1⟩
  | .hbm, ⟨40, _⟩ => ⟨S_, .f32⟩
  | .hbm, ⟨41, _⟩ => ⟨S_, .f32⟩
  | .hbm, ⟨42, _⟩ => ⟨S16x4096x4096, .i1⟩
  | .hbm, ⟨43, _⟩ => ⟨S16x4096x4096, .f32⟩
  | .hbm, ⟨44, _⟩ => ⟨S16x4096x4096, .f32⟩
  | .hbm, ⟨45, _⟩ => ⟨S_, .f32⟩
  | .hbm, ⟨46, _⟩ => ⟨S16x4096, .f32⟩
  | .hbm, ⟨47, _⟩ => ⟨S16x4096x1, .f32⟩
  | .hbm, ⟨48, _⟩ => ⟨S16x4096x4096, .f32⟩
  | .hbm, ⟨49, _⟩ => ⟨S16x4096x4096, .f32⟩
  | .hbm, ⟨50, _⟩ => ⟨S16x4096x4096, .f32⟩
  | .hbm, ⟨51, _⟩ => ⟨S_, .f32⟩
  | .hbm, ⟨52, _⟩ => ⟨S16x4096, .f32⟩
  | .hbm, ⟨53, _⟩ => ⟨S16x4096x1, .f32⟩
  | .hbm, ⟨54, _⟩ => ⟨S16x4096x4096, .f32⟩
  | .hbm, ⟨55, _⟩ => ⟨S16x4096x4096, .f32⟩
  | .hbm, ⟨56, _⟩ => ⟨S16x64x4096, .f32⟩
  | .hbm, ⟨57, _⟩ => ⟨S4096x16x64, .f32⟩
  | .hbm, ⟨58, _⟩ => ⟨S16x4096x1, .f32⟩
  | .hbm, ⟨59, _⟩ => ⟨S16x4096x1, .f32⟩
  | .hbm, ⟨60, _⟩ => ⟨S_, .f32⟩
  | .hbm, ⟨61, _⟩ => ⟨S16x4096x1, .f32⟩
  | .hbm, ⟨62, _⟩ => ⟨S16x4096x1, .f32⟩
  | .hbm, ⟨63, _⟩ => ⟨S16x4096x1, .f32⟩
  | .hbm, ⟨64, _⟩ => ⟨S16x4096, .f32⟩
  | .hbm, ⟨65, _⟩ => ⟨S4096x16x64, .f32⟩
  | .hbm, ⟨66, _⟩ => ⟨S_, .f32⟩
  | .hbm, ⟨67, _⟩ => ⟨S4096x16, .f32⟩
  | .hbm, ⟨68, _⟩ => ⟨S16x4096, .f32⟩
  | .hbm, ⟨69, _⟩ => ⟨S8x2x16x256, .f32⟩
  | .hbm, ⟨70, _⟩ => ⟨S8x16x2x256, .f32⟩
  | .hbm, ⟨71, _⟩ => ⟨S_, .i32⟩
  | .hbm, ⟨72, _⟩ => ⟨S_, .f32⟩
  | .hbm, ⟨73, _⟩ => ⟨S8x16x8x256, .f32⟩
  | .hbm, ⟨74, _⟩ => ⟨S8x2x16x256, .f32⟩
  | .hbm, ⟨75, _⟩ => ⟨S8x16x2x256, .f32⟩
  | .hbm, ⟨76, _⟩ => ⟨S_, .i32⟩
  | .hbm, ⟨77, _⟩ => ⟨S_, .f32⟩
  | .hbm, ⟨78, _⟩ => ⟨S8x16x8x256, .f32⟩
  | .hbm, ⟨79, _⟩ => ⟨S16x2048x256, .f32⟩
  | .hbm, ⟨80, _⟩ => ⟨S16x2048x256, .f32⟩
  | .hbm, ⟨81, _⟩ => ⟨S16x1024x256, .f32⟩
  | .local _ .vmem, ⟨0, _⟩ => ⟨S16x256x256, .bf16⟩
  | .local _ .vmem, ⟨1, _⟩ => ⟨S16x256x256, .bf16⟩
  | .local _ .vmem, ⟨2, _⟩ => ⟨S512x256, .bf16⟩
  | .local _ .vmem, ⟨3, _⟩ => ⟨S512x256, .bf16⟩
  | .local _ .vmem, ⟨4, _⟩ => ⟨S2x256x256, .bf16⟩
  | .local _ .vmem, ⟨5, _⟩ => ⟨S2x256x256, .bf16⟩
  | .local _ .vmem, ⟨6, _⟩ => ⟨S512x128, .bf16⟩
  | .local _ .vmem, ⟨7, _⟩ => ⟨S512x128, .bf16⟩
  | .local _ .vmem, ⟨8, _⟩ => ⟨S16x128x256, .bf16⟩
  | .local _ .vmem, ⟨9, _⟩ => ⟨S16x128x256, .bf16⟩
  | .local _ .vmem, ⟨10, _⟩ => ⟨S1x16x8x256, .f32⟩
  | .local _ .vmem, ⟨11, _⟩ => ⟨S1x16x8x256, .f32⟩
  | .local _ .vmem, ⟨12, _⟩ => ⟨S1x16x8x256, .f32⟩
  | .local _ .vmem, ⟨13, _⟩ => ⟨S1x16x8x256, .f32⟩
  | .local _ .vmem, ⟨14, _⟩ => ⟨S16x256x256, .f32⟩
  | .local _ .vmem, ⟨15, _⟩ => ⟨S16x256x256, .f32⟩
  | .local _ .vmem, ⟨16, _⟩ => ⟨S2x256x256, .f32⟩
  | .local _ .vmem, ⟨17, _⟩ => ⟨S2x256x256, .f32⟩
  | .local _ .vmem, ⟨18, _⟩ => ⟨S2x128x256, .f32⟩
  | .local _ .vmem, ⟨19, _⟩ => ⟨S2x128x256, .f32⟩
  | .local _ .vmem, ⟨20, _⟩ => ⟨S2x2x256x256, .f32⟩
  | .local _ .vmem, ⟨21, _⟩ => ⟨S2x2x256x256, .f32⟩
  | .local _ .vmem, ⟨22, _⟩ => ⟨S2x256x256, .bf16⟩
  | .local _ .vmem, ⟨23, _⟩ => ⟨S2x256x256, .bf16⟩
  | .local _ .vmem, ⟨24, _⟩ => ⟨S2x256x128, .bf16⟩
  | _, _ => ⟨S4096x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call2_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_7 : Ref sig .tc := ⟨.hbm, 71, rfl⟩
abbrev main_call4_v0 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_8 : Ref sig .tc := ⟨.hbm, 76, rfl⟩
abbrev main_call5_v0 : Ref sig .tc := ⟨.hbm, 77, rfl⟩
abbrev main_v55 : Ref sig .tc := ⟨.hbm, 78, rfl⟩
abbrev main_v56_0 : Ref sig .tc := ⟨.hbm, 79, rfl⟩
abbrev main_v56_1 : Ref sig .tc := ⟨.hbm, 80, rfl⟩
abbrev main_v56_2 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

def k0_off1 (i : grid0.Coords) (c0_i32_7 : BitVec 32) : Fin 3 → Nat :=
  let c15_i32 : BitVec 32 := 15#32
  let c2_i32 : BitVec 32 := 2#32
  let arg1 : BitVec 32 := BitVec.ofNat 32 (i 1).val
  let v7 : BitVec 32 := Scalar.muli c2_i32 arg1
  let v8 : BitVec 32 := Scalar.addi v7 c0_i32_7
  let v26 : BitVec 32 := Scalar.subi c15_i32 v8
  let c0_i32_17 : BitVec 32 := 0#32
  let v27 : BitVec 1 := Scalar.cmpi .sgt v26 c0_i32_17
  let c1_i32 : BitVec 32 := 1#32
  let v28 : BitVec 32 := Scalar.addi v8 c1_i32
  let v29 : BitVec 32 := Scalar.select v27 v28 v8
  let v32 : Index := Scalar.indexCast v29
  let c0_20 : Index := 0#32
  let c0_21 : Index := 0#32
  ![v32.toNat, 0, 0]
def k0_off2 (i : grid0.Coords) (c0_i32_7 : BitVec 32) : Fin 3 → Nat :=
  let c15_i32 : BitVec 32 := 15#32
  let c2_i32 : BitVec 32 := 2#32
  let arg1 : BitVec 32 := BitVec.ofNat 32 (i 1).val
  let v7 : BitVec 32 := Scalar.muli c2_i32 arg1
  let v8 : BitVec 32 := Scalar.addi v7 c0_i32_7
  let v26 : BitVec 32 := Scalar.subi c15_i32 v8
  let c0_i32_17 : BitVec 32 := 0#32
  let v27 : BitVec 1 := Scalar.cmpi .sgt v26 c0_i32_17
  let c1_i32 : BitVec 32 := 1#32
  let v28 : BitVec 32 := Scalar.addi v8 c1_i32
  let v29 : BitVec 32 := Scalar.select v27 v28 v8
  let v41 : Index := Scalar.indexCast v29
  let c0_30 : Index := 0#32
  let c0_31 : Index := 0#32
  ![v41.toNat, 0, 0]
def k0_off3 (i : grid0.Coords) (c0_i32_7 : BitVec 32) : Fin 3 → Nat :=
  let c15_i32 : BitVec 32 := 15#32
  let c2_i32 : BitVec 32 := 2#32
  let arg1 : BitVec 32 := BitVec.ofNat 32 (i 1).val
  let v7 : BitVec 32 := Scalar.muli c2_i32 arg1
  let v8 : BitVec 32 := Scalar.addi v7 c0_i32_7
  let v26 : BitVec 32 := Scalar.subi c15_i32 v8
  let c0_i32_17 : BitVec 32 := 0#32
  let v27 : BitVec 1 := Scalar.cmpi .sgt v26 c0_i32_17
  let c1_i32 : BitVec 32 := 1#32
  let v28 : BitVec 32 := Scalar.addi v8 c1_i32
  let v29 : BitVec 32 := Scalar.select v27 v28 v8
  let v50 : Index := Scalar.indexCast v29
  let c128_38 : Index := 128#32
  let c0_39 : Index := 0#32
  ![v50.toNat, 128, 0]
@[reducible] def k0_t1_loop (i : grid0.Coords) : Scf.Loop 32 :=
  let c0_i32_63 : BitVec 32 := 0#32
  let c15_i32 : BitVec 32 := 15#32
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_65 : BitVec 32 := 1#32
  ⟨c0_i32_63, v87, c1_i32_65⟩
def k0_off4 (i : grid0.Coords) (k0_t1 : Fin (k0_t1_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let c1_i32_166 : BitVec 32 := 1#32
  let v224 : BitVec 32 := Scalar.addi v223 c1_i32_166
  let v227 : Index := Scalar.indexCast v224
  let c0_169 : Index := 0#32
  let c0_170 : Index := 0#32
  ![v227.toNat, 0, 0]
def k0_off5 (i : grid0.Coords) (k0_t1 : Fin (k0_t1_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let c1_i32_166 : BitVec 32 := 1#32
  let v224 : BitVec 32 := Scalar.addi v223 c1_i32_166
  let v236 : Index := Scalar.indexCast v224
  let c0_179 : Index := 0#32
  let c0_180 : Index := 0#32
  ![v236.toNat, 0, 0]
def k0_off6 (i : grid0.Coords) (k0_t1 : Fin (k0_t1_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let c1_i32_166 : BitVec 32 := 1#32
  let v224 : BitVec 32 := Scalar.addi v223 c1_i32_166
  let v245 : Index := Scalar.indexCast v224
  let c128_188 : Index := 128#32
  let c0_189 : Index := 0#32
  ![v245.toNat, 128, 0]
def k0_off7 (i : grid0.Coords) (k0_t1 : Fin (k0_t1_loop i).trips) : Fin 4 → Nat :=
  let c0_205 : Index := 0#32
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let v261 : Index := Scalar.indexCast v223
  let c0_206 : Index := 0#32
  let c0_207 : Index := 0#32
  ![0, v261.toNat, 0, 0]
def k0_off8 (i : grid0.Coords) (k0_t1 : Fin (k0_t1_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let v365 : Index := Scalar.indexCast v223
  let c0_278 : Index := 0#32
  let c0_279 : Index := 0#32
  ![v365.toNat, 0, 0]
def k0_off9 (i : grid0.Coords) (k0_t1 : Fin (k0_t1_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let v377 : Index := Scalar.indexCast v223
  let c0_290 : Index := 0#32
  let c0_291 : Index := 0#32
  ![v377.toNat, 0, 0]
def k0_off10 (i : grid0.Coords) (k0_t1 : Fin (k0_t1_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let v402 : Index := Scalar.indexCast v223
  let c64_312 : Index := 64#32
  let c0_313 : Index := 0#32
  ![v402.toNat, 64, 0]
def k0_off11 (i : grid0.Coords) (k0_t1 : Fin (k0_t1_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let v414 : Index := Scalar.indexCast v223
  let c128_324 : Index := 128#32
  let c0_325 : Index := 0#32
  ![v414.toNat, 128, 0]
def k0_off12 (i : grid0.Coords) (k0_t1 : Fin (k0_t1_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let c2_i32_344 : BitVec 32 := 2#32
  let v437 : BitVec 32 := Scalar.addi v223 c2_i32_344
  let c16_i32 : BitVec 32 := 16#32
  let v438 : BitVec 1 := Scalar.cmpi .slt v437 c16_i32
  let c2_i32_345 : BitVec 32 := 2#32
  let v439 : BitVec 32 := Scalar.addi v223 c2_i32_345
  let v440 : BitVec 32 := Scalar.select v438 v439 v8
  let v443 : Index := Scalar.indexCast v440
  let c0_348 : Index := 0#32
  let c0_349 : Index := 0#32
  ![v443.toNat, 0, 0]
def k0_off13 (i : grid0.Coords) (k0_t1 : Fin (k0_t1_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let c2_i32_344 : BitVec 32 := 2#32
  let v437 : BitVec 32 := Scalar.addi v223 c2_i32_344
  let c16_i32 : BitVec 32 := 16#32
  let v438 : BitVec 1 := Scalar.cmpi .slt v437 c16_i32
  let c2_i32_345 : BitVec 32 := 2#32
  let v439 : BitVec 32 := Scalar.addi v223 c2_i32_345
  let v440 : BitVec 32 := Scalar.select v438 v439 v8
  let v452 : Index := Scalar.indexCast v440
  let c0_358 : Index := 0#32
  let c0_359 : Index := 0#32
  ![v452.toNat, 0, 0]
def k0_off14 (i : grid0.Coords) (k0_t1 : Fin (k0_t1_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let c2_i32_344 : BitVec 32 := 2#32
  let v437 : BitVec 32 := Scalar.addi v223 c2_i32_344
  let c16_i32 : BitVec 32 := 16#32
  let v438 : BitVec 1 := Scalar.cmpi .slt v437 c16_i32
  let c2_i32_345 : BitVec 32 := 2#32
  let v439 : BitVec 32 := Scalar.addi v223 c2_i32_345
  let v440 : BitVec 32 := Scalar.select v438 v439 v8
  let v461 : Index := Scalar.indexCast v440
  let c128_367 : Index := 128#32
  let c0_368 : Index := 0#32
  ![v461.toNat, 128, 0]
def k0_off15 (i : grid0.Coords) (k0_t1 : Fin (k0_t1_loop i).trips) : Fin 4 → Nat :=
  let c0_385 : Index := 0#32
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let c1_i32_384 : BitVec 32 := 1#32
  let v477 : BitVec 32 := Scalar.addi v223 c1_i32_384
  let v478 : Index := Scalar.indexCast v477
  let c0_386 : Index := 0#32
  let c0_387 : Index := 0#32
  ![0, v478.toNat, 0, 0]
def k0_off16 (i : grid0.Coords) (k0_t1 : Fin (k0_t1_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let c1_i32_384 : BitVec 32 := 1#32
  let v477 : BitVec 32 := Scalar.addi v223 c1_i32_384
  let v582 : Index := Scalar.indexCast v477
  let c0_458 : Index := 0#32
  let c0_459 : Index := 0#32
  ![v582.toNat, 0, 0]
def k0_off17 (i : grid0.Coords) (k0_t1 : Fin (k0_t1_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let c1_i32_384 : BitVec 32 := 1#32
  let v477 : BitVec 32 := Scalar.addi v223 c1_i32_384
  let v594 : Index := Scalar.indexCast v477
  let c0_470 : Index := 0#32
  let c0_471 : Index := 0#32
  ![v594.toNat, 0, 0]
def k0_off18 (i : grid0.Coords) (k0_t1 : Fin (k0_t1_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let c1_i32_384 : BitVec 32 := 1#32
  let v477 : BitVec 32 := Scalar.addi v223 c1_i32_384
  let v619 : Index := Scalar.indexCast v477
  let c64_493 : Index := 64#32
  let c0_494 : Index := 0#32
  ![v619.toNat, 64, 0]
def k0_off19 (i : grid0.Coords) (k0_t1 : Fin (k0_t1_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let c1_i32_384 : BitVec 32 := 1#32
  let v477 : BitVec 32 := Scalar.addi v223 c1_i32_384
  let v631 : Index := Scalar.indexCast v477
  let c128_505 : Index := 128#32
  let c0_506 : Index := 0#32
  ![v631.toNat, 128, 0]
@[reducible] def k0_t2_loop (i : grid0.Coords) : Scf.Loop 32 :=
  let c0_i32_63 : BitVec 32 := 0#32
  let c15_i32 : BitVec 32 := 15#32
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let v84 : BitVec 32 := Scalar.addi c0_i32_63 v83
  let c1_i32_66 : BitVec 32 := 1#32
  ⟨v87, v84, c1_i32_66⟩
def k0_off20 (i : grid0.Coords) (k0_t2 : Fin (k0_t2_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let c1_i32_166 : BitVec 32 := 1#32
  let v224 : BitVec 32 := Scalar.addi v223 c1_i32_166
  let v227 : Index := Scalar.indexCast v224
  let c0_169 : Index := 0#32
  let c0_170 : Index := 0#32
  ![v227.toNat, 0, 0]
def k0_off21 (i : grid0.Coords) (k0_t2 : Fin (k0_t2_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let c1_i32_166 : BitVec 32 := 1#32
  let v224 : BitVec 32 := Scalar.addi v223 c1_i32_166
  let v236 : Index := Scalar.indexCast v224
  let c0_179 : Index := 0#32
  let c0_180 : Index := 0#32
  ![v236.toNat, 0, 0]
def k0_off22 (i : grid0.Coords) (k0_t2 : Fin (k0_t2_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let c1_i32_166 : BitVec 32 := 1#32
  let v224 : BitVec 32 := Scalar.addi v223 c1_i32_166
  let v245 : Index := Scalar.indexCast v224
  let c128_188 : Index := 128#32
  let c0_189 : Index := 0#32
  ![v245.toNat, 128, 0]
def k0_off23 (i : grid0.Coords) (k0_t2 : Fin (k0_t2_loop i).trips) : Fin 4 → Nat :=
  let c0_205 : Index := 0#32
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let v261 : Index := Scalar.indexCast v223
  let c0_206 : Index := 0#32
  let c0_207 : Index := 0#32
  ![0, v261.toNat, 0, 0]
def k0_off24 (i : grid0.Coords) (k0_t2 : Fin (k0_t2_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let v365 : Index := Scalar.indexCast v223
  let c0_278 : Index := 0#32
  let c0_279 : Index := 0#32
  ![v365.toNat, 0, 0]
def k0_off25 (i : grid0.Coords) (k0_t2 : Fin (k0_t2_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let v377 : Index := Scalar.indexCast v223
  let c0_290 : Index := 0#32
  let c0_291 : Index := 0#32
  ![v377.toNat, 0, 0]
def k0_off26 (i : grid0.Coords) (k0_t2 : Fin (k0_t2_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let v402 : Index := Scalar.indexCast v223
  let c64_312 : Index := 64#32
  let c0_313 : Index := 0#32
  ![v402.toNat, 64, 0]
def k0_off27 (i : grid0.Coords) (k0_t2 : Fin (k0_t2_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let v414 : Index := Scalar.indexCast v223
  let c128_324 : Index := 128#32
  let c0_325 : Index := 0#32
  ![v414.toNat, 128, 0]
def k0_off28 (i : grid0.Coords) (k0_t2 : Fin (k0_t2_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let c2_i32_344 : BitVec 32 := 2#32
  let v437 : BitVec 32 := Scalar.addi v223 c2_i32_344
  let c16_i32 : BitVec 32 := 16#32
  let v438 : BitVec 1 := Scalar.cmpi .slt v437 c16_i32
  let c2_i32_345 : BitVec 32 := 2#32
  let v439 : BitVec 32 := Scalar.addi v223 c2_i32_345
  let v440 : BitVec 32 := Scalar.select v438 v439 v8
  let v443 : Index := Scalar.indexCast v440
  let c0_348 : Index := 0#32
  let c0_349 : Index := 0#32
  ![v443.toNat, 0, 0]
def k0_off29 (i : grid0.Coords) (k0_t2 : Fin (k0_t2_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let c2_i32_344 : BitVec 32 := 2#32
  let v437 : BitVec 32 := Scalar.addi v223 c2_i32_344
  let c16_i32 : BitVec 32 := 16#32
  let v438 : BitVec 1 := Scalar.cmpi .slt v437 c16_i32
  let c2_i32_345 : BitVec 32 := 2#32
  let v439 : BitVec 32 := Scalar.addi v223 c2_i32_345
  let v440 : BitVec 32 := Scalar.select v438 v439 v8
  let v452 : Index := Scalar.indexCast v440
  let c0_358 : Index := 0#32
  let c0_359 : Index := 0#32
  ![v452.toNat, 0, 0]
def k0_off30 (i : grid0.Coords) (k0_t2 : Fin (k0_t2_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let c2_i32_344 : BitVec 32 := 2#32
  let v437 : BitVec 32 := Scalar.addi v223 c2_i32_344
  let c16_i32 : BitVec 32 := 16#32
  let v438 : BitVec 1 := Scalar.cmpi .slt v437 c16_i32
  let c2_i32_345 : BitVec 32 := 2#32
  let v439 : BitVec 32 := Scalar.addi v223 c2_i32_345
  let v440 : BitVec 32 := Scalar.select v438 v439 v8
  let v461 : Index := Scalar.indexCast v440
  let c128_367 : Index := 128#32
  let c0_368 : Index := 0#32
  ![v461.toNat, 128, 0]
def k0_off31 (i : grid0.Coords) (k0_t2 : Fin (k0_t2_loop i).trips) : Fin 4 → Nat :=
  let c0_385 : Index := 0#32
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let c1_i32_384 : BitVec 32 := 1#32
  let v477 : BitVec 32 := Scalar.addi v223 c1_i32_384
  let v478 : Index := Scalar.indexCast v477
  let c0_386 : Index := 0#32
  let c0_387 : Index := 0#32
  ![0, v478.toNat, 0, 0]
def k0_off32 (i : grid0.Coords) (k0_t2 : Fin (k0_t2_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let c1_i32_384 : BitVec 32 := 1#32
  let v477 : BitVec 32 := Scalar.addi v223 c1_i32_384
  let v582 : Index := Scalar.indexCast v477
  let c0_458 : Index := 0#32
  let c0_459 : Index := 0#32
  ![v582.toNat, 0, 0]
def k0_off33 (i : grid0.Coords) (k0_t2 : Fin (k0_t2_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let c1_i32_384 : BitVec 32 := 1#32
  let v477 : BitVec 32 := Scalar.addi v223 c1_i32_384
  let v594 : Index := Scalar.indexCast v477
  let c0_470 : Index := 0#32
  let c0_471 : Index := 0#32
  ![v594.toNat, 0, 0]
def k0_off34 (i : grid0.Coords) (k0_t2 : Fin (k0_t2_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let c1_i32_384 : BitVec 32 := 1#32
  let v477 : BitVec 32 := Scalar.addi v223 c1_i32_384
  let v619 : Index := Scalar.indexCast v477
  let c64_493 : Index := 64#32
  let c0_494 : Index := 0#32
  ![v619.toNat, 64, 0]
def k0_off35 (i : grid0.Coords) (k0_t2 : Fin (k0_t2_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let c1_i32_384 : BitVec 32 := 1#32
  let v477 : BitVec 32 := Scalar.addi v223 c1_i32_384
  let v631 : Index := Scalar.indexCast v477
  let c128_505 : Index := 128#32
  let c0_506 : Index := 0#32
  ![v631.toNat, 128, 0]
def k0_cond2 (i : grid0.Coords) : BitVec 1 :=
  let c15_i32 : BitVec 32 := 15#32
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v26 : BitVec 32 := Scalar.subi c15_i32 v8
  let c2_i32_67 : BitVec 32 := 2#32
  let c0_i32_68 : BitVec 32 := 0#32
  let v88 : BitVec 1 := Scalar.cmpi .eq c2_i32_67 c0_i32_68
  let c1_i32_69 : BitVec 32 := 1#32
  let v89 : BitVec 32 := Scalar.select v88 c1_i32_69 c2_i32_67
  let v90 : BitVec 32 := Scalar.remsi v26 v89
  let c0_i32_71 : BitVec 32 := 0#32
  let v92 : BitVec 1 := Scalar.cmpi .slt v90 c0_i32_71
  let c0_i32_72 : BitVec 32 := 0#32
  let v93 : BitVec 1 := Scalar.cmpi .slt v89 c0_i32_72
  let v94 : BitVec 1 := Scalar.xori v92 v93
  let c0_i32_70 : BitVec 32 := 0#32
  let v91 : BitVec 1 := Scalar.cmpi .ne v90 c0_i32_70
  let v95 : BitVec 1 := Scalar.andi v94 v91
  let v96 : BitVec 32 := Scalar.addi v90 v89
  let v97 : BitVec 32 := Scalar.select v95 v96 v90
  let c1_i32_73 : BitVec 32 := 1#32
  let v98 : BitVec 1 := Scalar.cmpi .eq v97 c1_i32_73
  let v99 : BitVec 32 := Scalar.extui v98
  let c0_i32_74 : BitVec 32 := 0#32
  let v100 : BitVec 1 := Scalar.cmpi .ne v99 c0_i32_74
  v100

def k0_off36 (i : grid0.Coords) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v223 : Index := Scalar.indexCast v8
  let c0_166 : Index := 0#32
  let c0_167 : Index := 0#32
  ![v223.toNat, 0, 0]
def k0_off37 (i : grid0.Coords) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v232 : Index := Scalar.indexCast v8
  let c0_176 : Index := 0#32
  let c0_177 : Index := 0#32
  ![v232.toNat, 0, 0]
def k0_off38 (i : grid0.Coords) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v241 : Index := Scalar.indexCast v8
  let c128_185 : Index := 128#32
  let c0_186 : Index := 0#32
  ![v241.toNat, 128, 0]
def k0_off39 (i : grid0.Coords) : Fin 4 → Nat :=
  let c0_350 : Index := 0#32
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v423 : Index := Scalar.indexCast v8
  let c0_351 : Index := 0#32
  let c0_352 : Index := 0#32
  ![0, v423.toNat, 0, 0]
def k0_off40 (i : grid0.Coords) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v547 : Index := Scalar.indexCast v8
  let c0_430 : Index := 0#32
  let c0_431 : Index := 0#32
  ![v547.toNat, 0, 0]
def k0_off41 (i : grid0.Coords) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v559 : Index := Scalar.indexCast v8
  let c0_442 : Index := 0#32
  let c0_443 : Index := 0#32
  ![v559.toNat, 0, 0]
def k0_off42 (i : grid0.Coords) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v584 : Index := Scalar.indexCast v8
  let c64_465 : Index := 64#32
  let c0_466 : Index := 0#32
  ![v584.toNat, 64, 0]
def k0_off43 (i : grid0.Coords) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v596 : Index := Scalar.indexCast v8
  let c128_477 : Index := 128#32
  let c0_478 : Index := 0#32
  ![v596.toNat, 128, 0]
def k0_cond3 (i : grid0.Coords) : BitVec 1 :=
  let c15_i32 : BitVec 32 := 15#32
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v26 : BitVec 32 := Scalar.subi c15_i32 v8
  let c2_i32_75 : BitVec 32 := 2#32
  let c0_i32_76 : BitVec 32 := 0#32
  let v101 : BitVec 1 := Scalar.cmpi .eq c2_i32_75 c0_i32_76
  let c1_i32_77 : BitVec 32 := 1#32
  let v102 : BitVec 32 := Scalar.select v101 c1_i32_77 c2_i32_75
  let v103 : BitVec 32 := Scalar.remsi v26 v102
  let c0_i32_79 : BitVec 32 := 0#32
  let v105 : BitVec 1 := Scalar.cmpi .slt v103 c0_i32_79
  let c0_i32_80 : BitVec 32 := 0#32
  let v106 : BitVec 1 := Scalar.cmpi .slt v102 c0_i32_80
  let v107 : BitVec 1 := Scalar.xori v105 v106
  let c0_i32_78 : BitVec 32 := 0#32
  let v104 : BitVec 1 := Scalar.cmpi .ne v103 c0_i32_78
  let v108 : BitVec 1 := Scalar.andi v107 v104
  let v109 : BitVec 32 := Scalar.addi v103 v102
  let v110 : BitVec 32 := Scalar.select v108 v109 v103
  let c0_i32_81 : BitVec 32 := 0#32
  let v111 : BitVec 1 := Scalar.cmpi .eq v110 c0_i32_81
  let v112 : BitVec 32 := Scalar.extui v111
  let c0_i32_82 : BitVec 32 := 0#32
  let v113 : BitVec 1 := Scalar.cmpi .ne v112 c0_i32_82
  v113

def k0_off44 (i : grid0.Coords) : Fin 4 → Nat :=
  let c0_164 : Index := 0#32
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v221 : Index := Scalar.indexCast v8
  let c0_165 : Index := 0#32
  let c0_166 : Index := 0#32
  ![0, v221.toNat, 0, 0]
def k0_off45 (i : grid0.Coords) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v345 : Index := Scalar.indexCast v8
  let c0_244 : Index := 0#32
  let c0_245 : Index := 0#32
  ![v345.toNat, 0, 0]
def k0_off46 (i : grid0.Coords) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v357 : Index := Scalar.indexCast v8
  let c0_256 : Index := 0#32
  let c0_257 : Index := 0#32
  ![v357.toNat, 0, 0]
def k0_off47 (i : grid0.Coords) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v382 : Index := Scalar.indexCast v8
  let c64_278 : Index := 64#32
  let c0_279 : Index := 0#32
  ![v382.toNat, 64, 0]
def k0_off48 (i : grid0.Coords) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v394 : Index := Scalar.indexCast v8
  let c128_290 : Index := 128#32
  let c0_291 : Index := 0#32
  ![v394.toNat, 128, 0]
@[reducible] def k0_t3_loop (i : grid0.Coords) : Scf.Loop 32 :=
  let c0_i32_144 : BitVec 32 := 0#32
  let c15_i32_95 : BitVec 32 := 15#32
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_146 : BitVec 32 := 1#32
  ⟨c0_i32_144, v194, c1_i32_146⟩
def k0_off49 (i : grid0.Coords) (k0_t3 : Fin (k0_t3_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let c1_i32_166 : BitVec 32 := 1#32
  let v224 : BitVec 32 := Scalar.addi v223 c1_i32_166
  let v227 : Index := Scalar.indexCast v224
  let c0_169 : Index := 0#32
  let c0_170 : Index := 0#32
  ![v227.toNat, 0, 0]
def k0_off50 (i : grid0.Coords) (k0_t3 : Fin (k0_t3_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let c1_i32_166 : BitVec 32 := 1#32
  let v224 : BitVec 32 := Scalar.addi v223 c1_i32_166
  let v236 : Index := Scalar.indexCast v224
  let c0_179 : Index := 0#32
  let c0_180 : Index := 0#32
  ![v236.toNat, 0, 0]
def k0_off51 (i : grid0.Coords) (k0_t3 : Fin (k0_t3_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let c1_i32_166 : BitVec 32 := 1#32
  let v224 : BitVec 32 := Scalar.addi v223 c1_i32_166
  let v245 : Index := Scalar.indexCast v224
  let c128_188 : Index := 128#32
  let c0_189 : Index := 0#32
  ![v245.toNat, 128, 0]
def k0_off52 (i : grid0.Coords) (k0_t3 : Fin (k0_t3_loop i).trips) : Fin 4 → Nat :=
  let c0_205 : Index := 0#32
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let v261 : Index := Scalar.indexCast v223
  let c0_206 : Index := 0#32
  let c0_207 : Index := 0#32
  ![0, v261.toNat, 0, 0]
def k0_off53 (i : grid0.Coords) (k0_t3 : Fin (k0_t3_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let v365 : Index := Scalar.indexCast v223
  let c0_278 : Index := 0#32
  let c0_279 : Index := 0#32
  ![v365.toNat, 0, 0]
def k0_off54 (i : grid0.Coords) (k0_t3 : Fin (k0_t3_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let v377 : Index := Scalar.indexCast v223
  let c0_290 : Index := 0#32
  let c0_291 : Index := 0#32
  ![v377.toNat, 0, 0]
def k0_off55 (i : grid0.Coords) (k0_t3 : Fin (k0_t3_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let v402 : Index := Scalar.indexCast v223
  let c64_312 : Index := 64#32
  let c0_313 : Index := 0#32
  ![v402.toNat, 64, 0]
def k0_off56 (i : grid0.Coords) (k0_t3 : Fin (k0_t3_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let v414 : Index := Scalar.indexCast v223
  let c128_324 : Index := 128#32
  let c0_325 : Index := 0#32
  ![v414.toNat, 128, 0]
def k0_off57 (i : grid0.Coords) (k0_t3 : Fin (k0_t3_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let c2_i32_344 : BitVec 32 := 2#32
  let v437 : BitVec 32 := Scalar.addi v223 c2_i32_344
  let c16_i32 : BitVec 32 := 16#32
  let v438 : BitVec 1 := Scalar.cmpi .slt v437 c16_i32
  let c2_i32_345 : BitVec 32 := 2#32
  let v439 : BitVec 32 := Scalar.addi v223 c2_i32_345
  let v440 : BitVec 32 := Scalar.select v438 v439 v115
  let v443 : Index := Scalar.indexCast v440
  let c0_348 : Index := 0#32
  let c0_349 : Index := 0#32
  ![v443.toNat, 0, 0]
def k0_off58 (i : grid0.Coords) (k0_t3 : Fin (k0_t3_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let c2_i32_344 : BitVec 32 := 2#32
  let v437 : BitVec 32 := Scalar.addi v223 c2_i32_344
  let c16_i32 : BitVec 32 := 16#32
  let v438 : BitVec 1 := Scalar.cmpi .slt v437 c16_i32
  let c2_i32_345 : BitVec 32 := 2#32
  let v439 : BitVec 32 := Scalar.addi v223 c2_i32_345
  let v440 : BitVec 32 := Scalar.select v438 v439 v115
  let v452 : Index := Scalar.indexCast v440
  let c0_358 : Index := 0#32
  let c0_359 : Index := 0#32
  ![v452.toNat, 0, 0]
def k0_off59 (i : grid0.Coords) (k0_t3 : Fin (k0_t3_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let c2_i32_344 : BitVec 32 := 2#32
  let v437 : BitVec 32 := Scalar.addi v223 c2_i32_344
  let c16_i32 : BitVec 32 := 16#32
  let v438 : BitVec 1 := Scalar.cmpi .slt v437 c16_i32
  let c2_i32_345 : BitVec 32 := 2#32
  let v439 : BitVec 32 := Scalar.addi v223 c2_i32_345
  let v440 : BitVec 32 := Scalar.select v438 v439 v115
  let v461 : Index := Scalar.indexCast v440
  let c128_367 : Index := 128#32
  let c0_368 : Index := 0#32
  ![v461.toNat, 128, 0]
def k0_off60 (i : grid0.Coords) (k0_t3 : Fin (k0_t3_loop i).trips) : Fin 4 → Nat :=
  let c0_385 : Index := 0#32
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let c1_i32_384 : BitVec 32 := 1#32
  let v477 : BitVec 32 := Scalar.addi v223 c1_i32_384
  let v478 : Index := Scalar.indexCast v477
  let c0_386 : Index := 0#32
  let c0_387 : Index := 0#32
  ![0, v478.toNat, 0, 0]
def k0_off61 (i : grid0.Coords) (k0_t3 : Fin (k0_t3_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let c1_i32_384 : BitVec 32 := 1#32
  let v477 : BitVec 32 := Scalar.addi v223 c1_i32_384
  let v582 : Index := Scalar.indexCast v477
  let c0_458 : Index := 0#32
  let c0_459 : Index := 0#32
  ![v582.toNat, 0, 0]
def k0_off62 (i : grid0.Coords) (k0_t3 : Fin (k0_t3_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let c1_i32_384 : BitVec 32 := 1#32
  let v477 : BitVec 32 := Scalar.addi v223 c1_i32_384
  let v594 : Index := Scalar.indexCast v477
  let c0_470 : Index := 0#32
  let c0_471 : Index := 0#32
  ![v594.toNat, 0, 0]
def k0_off63 (i : grid0.Coords) (k0_t3 : Fin (k0_t3_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let c1_i32_384 : BitVec 32 := 1#32
  let v477 : BitVec 32 := Scalar.addi v223 c1_i32_384
  let v619 : Index := Scalar.indexCast v477
  let c64_493 : Index := 64#32
  let c0_494 : Index := 0#32
  ![v619.toNat, 64, 0]
def k0_off64 (i : grid0.Coords) (k0_t3 : Fin (k0_t3_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let c1_i32_384 : BitVec 32 := 1#32
  let v477 : BitVec 32 := Scalar.addi v223 c1_i32_384
  let v631 : Index := Scalar.indexCast v477
  let c128_505 : Index := 128#32
  let c0_506 : Index := 0#32
  ![v631.toNat, 128, 0]
@[reducible] def k0_t4_loop (i : grid0.Coords) : Scf.Loop 32 :=
  let c0_i32_144 : BitVec 32 := 0#32
  let c15_i32_95 : BitVec 32 := 15#32
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let v191 : BitVec 32 := Scalar.addi c0_i32_144 v190
  let c1_i32_147 : BitVec 32 := 1#32
  ⟨v194, v191, c1_i32_147⟩
def k0_off65 (i : grid0.Coords) (k0_t4 : Fin (k0_t4_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let c1_i32_166 : BitVec 32 := 1#32
  let v224 : BitVec 32 := Scalar.addi v223 c1_i32_166
  let v227 : Index := Scalar.indexCast v224
  let c0_169 : Index := 0#32
  let c0_170 : Index := 0#32
  ![v227.toNat, 0, 0]
def k0_off66 (i : grid0.Coords) (k0_t4 : Fin (k0_t4_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let c1_i32_166 : BitVec 32 := 1#32
  let v224 : BitVec 32 := Scalar.addi v223 c1_i32_166
  let v236 : Index := Scalar.indexCast v224
  let c0_179 : Index := 0#32
  let c0_180 : Index := 0#32
  ![v236.toNat, 0, 0]
def k0_off67 (i : grid0.Coords) (k0_t4 : Fin (k0_t4_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let c1_i32_166 : BitVec 32 := 1#32
  let v224 : BitVec 32 := Scalar.addi v223 c1_i32_166
  let v245 : Index := Scalar.indexCast v224
  let c128_188 : Index := 128#32
  let c0_189 : Index := 0#32
  ![v245.toNat, 128, 0]
def k0_off68 (i : grid0.Coords) (k0_t4 : Fin (k0_t4_loop i).trips) : Fin 4 → Nat :=
  let c0_205 : Index := 0#32
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let v261 : Index := Scalar.indexCast v223
  let c0_206 : Index := 0#32
  let c0_207 : Index := 0#32
  ![0, v261.toNat, 0, 0]
def k0_off69 (i : grid0.Coords) (k0_t4 : Fin (k0_t4_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let v365 : Index := Scalar.indexCast v223
  let c0_278 : Index := 0#32
  let c0_279 : Index := 0#32
  ![v365.toNat, 0, 0]
def k0_off70 (i : grid0.Coords) (k0_t4 : Fin (k0_t4_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let v377 : Index := Scalar.indexCast v223
  let c0_290 : Index := 0#32
  let c0_291 : Index := 0#32
  ![v377.toNat, 0, 0]
def k0_off71 (i : grid0.Coords) (k0_t4 : Fin (k0_t4_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let v402 : Index := Scalar.indexCast v223
  let c64_312 : Index := 64#32
  let c0_313 : Index := 0#32
  ![v402.toNat, 64, 0]
def k0_off72 (i : grid0.Coords) (k0_t4 : Fin (k0_t4_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let v414 : Index := Scalar.indexCast v223
  let c128_324 : Index := 128#32
  let c0_325 : Index := 0#32
  ![v414.toNat, 128, 0]
def k0_off73 (i : grid0.Coords) (k0_t4 : Fin (k0_t4_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let c2_i32_344 : BitVec 32 := 2#32
  let v437 : BitVec 32 := Scalar.addi v223 c2_i32_344
  let c16_i32 : BitVec 32 := 16#32
  let v438 : BitVec 1 := Scalar.cmpi .slt v437 c16_i32
  let c2_i32_345 : BitVec 32 := 2#32
  let v439 : BitVec 32 := Scalar.addi v223 c2_i32_345
  let v440 : BitVec 32 := Scalar.select v438 v439 v115
  let v443 : Index := Scalar.indexCast v440
  let c0_348 : Index := 0#32
  let c0_349 : Index := 0#32
  ![v443.toNat, 0, 0]
def k0_off74 (i : grid0.Coords) (k0_t4 : Fin (k0_t4_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let c2_i32_344 : BitVec 32 := 2#32
  let v437 : BitVec 32 := Scalar.addi v223 c2_i32_344
  let c16_i32 : BitVec 32 := 16#32
  let v438 : BitVec 1 := Scalar.cmpi .slt v437 c16_i32
  let c2_i32_345 : BitVec 32 := 2#32
  let v439 : BitVec 32 := Scalar.addi v223 c2_i32_345
  let v440 : BitVec 32 := Scalar.select v438 v439 v115
  let v452 : Index := Scalar.indexCast v440
  let c0_358 : Index := 0#32
  let c0_359 : Index := 0#32
  ![v452.toNat, 0, 0]
def k0_off75 (i : grid0.Coords) (k0_t4 : Fin (k0_t4_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let c2_i32_344 : BitVec 32 := 2#32
  let v437 : BitVec 32 := Scalar.addi v223 c2_i32_344
  let c16_i32 : BitVec 32 := 16#32
  let v438 : BitVec 1 := Scalar.cmpi .slt v437 c16_i32
  let c2_i32_345 : BitVec 32 := 2#32
  let v439 : BitVec 32 := Scalar.addi v223 c2_i32_345
  let v440 : BitVec 32 := Scalar.select v438 v439 v115
  let v461 : Index := Scalar.indexCast v440
  let c128_367 : Index := 128#32
  let c0_368 : Index := 0#32
  ![v461.toNat, 128, 0]
def k0_off76 (i : grid0.Coords) (k0_t4 : Fin (k0_t4_loop i).trips) : Fin 4 → Nat :=
  let c0_385 : Index := 0#32
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let c1_i32_384 : BitVec 32 := 1#32
  let v477 : BitVec 32 := Scalar.addi v223 c1_i32_384
  let v478 : Index := Scalar.indexCast v477
  let c0_386 : Index := 0#32
  let c0_387 : Index := 0#32
  ![0, v478.toNat, 0, 0]
def k0_off77 (i : grid0.Coords) (k0_t4 : Fin (k0_t4_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let c1_i32_384 : BitVec 32 := 1#32
  let v477 : BitVec 32 := Scalar.addi v223 c1_i32_384
  let v582 : Index := Scalar.indexCast v477
  let c0_458 : Index := 0#32
  let c0_459 : Index := 0#32
  ![v582.toNat, 0, 0]
def k0_off78 (i : grid0.Coords) (k0_t4 : Fin (k0_t4_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let c1_i32_384 : BitVec 32 := 1#32
  let v477 : BitVec 32 := Scalar.addi v223 c1_i32_384
  let v594 : Index := Scalar.indexCast v477
  let c0_470 : Index := 0#32
  let c0_471 : Index := 0#32
  ![v594.toNat, 0, 0]
def k0_off79 (i : grid0.Coords) (k0_t4 : Fin (k0_t4_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let c1_i32_384 : BitVec 32 := 1#32
  let v477 : BitVec 32 := Scalar.addi v223 c1_i32_384
  let v619 : Index := Scalar.indexCast v477
  let c64_493 : Index := 64#32
  let c0_494 : Index := 0#32
  ![v619.toNat, 64, 0]
def k0_off80 (i : grid0.Coords) (k0_t4 : Fin (k0_t4_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let c1_i32_384 : BitVec 32 := 1#32
  let v477 : BitVec 32 := Scalar.addi v223 c1_i32_384
  let v631 : Index := Scalar.indexCast v477
  let c128_505 : Index := 128#32
  let c0_506 : Index := 0#32
  ![v631.toNat, 128, 0]
def k0_cond4 (i : grid0.Coords) : BitVec 1 :=
  let c15_i32_95 : BitVec 32 := 15#32
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v133 : BitVec 32 := Scalar.subi c15_i32_95 v115
  let c2_i32_148 : BitVec 32 := 2#32
  let c0_i32_149 : BitVec 32 := 0#32
  let v195 : BitVec 1 := Scalar.cmpi .eq c2_i32_148 c0_i32_149
  let c1_i32_150 : BitVec 32 := 1#32
  let v196 : BitVec 32 := Scalar.select v195 c1_i32_150 c2_i32_148
  let v197 : BitVec 32 := Scalar.remsi v133 v196
  let c0_i32_152 : BitVec 32 := 0#32
  let v199 : BitVec 1 := Scalar.cmpi .slt v197 c0_i32_152
  let c0_i32_153 : BitVec 32 := 0#32
  let v200 : BitVec 1 := Scalar.cmpi .slt v196 c0_i32_153
  let v201 : BitVec 1 := Scalar.xori v199 v200
  let c0_i32_151 : BitVec 32 := 0#32
  let v198 : BitVec 1 := Scalar.cmpi .ne v197 c0_i32_151
  let v202 : BitVec 1 := Scalar.andi v201 v198
  let v203 : BitVec 32 := Scalar.addi v197 v196
  let v204 : BitVec 32 := Scalar.select v202 v203 v197
  let c1_i32_154 : BitVec 32 := 1#32
  let v205 : BitVec 1 := Scalar.cmpi .eq v204 c1_i32_154
  let v206 : BitVec 32 := Scalar.extui v205
  let c0_i32_155 : BitVec 32 := 0#32
  let v207 : BitVec 1 := Scalar.cmpi .ne v206 c0_i32_155
  v207

def k0_off81 (i : grid0.Coords) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v223 : Index := Scalar.indexCast v115
  let c0_166 : Index := 0#32
  let c0_167 : Index := 0#32
  ![v223.toNat, 0, 0]
def k0_off82 (i : grid0.Coords) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v232 : Index := Scalar.indexCast v115
  let c0_176 : Index := 0#32
  let c0_177 : Index := 0#32
  ![v232.toNat, 0, 0]
def k0_off83 (i : grid0.Coords) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v241 : Index := Scalar.indexCast v115
  let c128_185 : Index := 128#32
  let c0_186 : Index := 0#32
  ![v241.toNat, 128, 0]
def k0_off84 (i : grid0.Coords) : Fin 4 → Nat :=
  let c0_350 : Index := 0#32
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v423 : Index := Scalar.indexCast v115
  let c0_351 : Index := 0#32
  let c0_352 : Index := 0#32
  ![0, v423.toNat, 0, 0]
def k0_off85 (i : grid0.Coords) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v547 : Index := Scalar.indexCast v115
  let c0_430 : Index := 0#32
  let c0_431 : Index := 0#32
  ![v547.toNat, 0, 0]
def k0_off86 (i : grid0.Coords) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v559 : Index := Scalar.indexCast v115
  let c0_442 : Index := 0#32
  let c0_443 : Index := 0#32
  ![v559.toNat, 0, 0]
def k0_off87 (i : grid0.Coords) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v584 : Index := Scalar.indexCast v115
  let c64_465 : Index := 64#32
  let c0_466 : Index := 0#32
  ![v584.toNat, 64, 0]
def k0_off88 (i : grid0.Coords) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v596 : Index := Scalar.indexCast v115
  let c128_477 : Index := 128#32
  let c0_478 : Index := 0#32
  ![v596.toNat, 128, 0]
def k0_cond5 (i : grid0.Coords) : BitVec 1 :=
  let c15_i32_95 : BitVec 32 := 15#32
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v133 : BitVec 32 := Scalar.subi c15_i32_95 v115
  let c2_i32_156 : BitVec 32 := 2#32
  let c0_i32_157 : BitVec 32 := 0#32
  let v208 : BitVec 1 := Scalar.cmpi .eq c2_i32_156 c0_i32_157
  let c1_i32_158 : BitVec 32 := 1#32
  let v209 : BitVec 32 := Scalar.select v208 c1_i32_158 c2_i32_156
  let v210 : BitVec 32 := Scalar.remsi v133 v209
  let c0_i32_160 : BitVec 32 := 0#32
  let v212 : BitVec 1 := Scalar.cmpi .slt v210 c0_i32_160
  let c0_i32_161 : BitVec 32 := 0#32
  let v213 : BitVec 1 := Scalar.cmpi .slt v209 c0_i32_161
  let v214 : BitVec 1 := Scalar.xori v212 v213
  let c0_i32_159 : BitVec 32 := 0#32
  let v211 : BitVec 1 := Scalar.cmpi .ne v210 c0_i32_159
  let v215 : BitVec 1 := Scalar.andi v214 v211
  let v216 : BitVec 32 := Scalar.addi v210 v209
  let v217 : BitVec 32 := Scalar.select v215 v216 v210
  let c0_i32_162 : BitVec 32 := 0#32
  let v218 : BitVec 1 := Scalar.cmpi .eq v217 c0_i32_162
  let v219 : BitVec 32 := Scalar.extui v218
  let c0_i32_163 : BitVec 32 := 0#32
  let v220 : BitVec 1 := Scalar.cmpi .ne v219 c0_i32_163
  v220

def k0_off89 (i : grid0.Coords) : Fin 4 → Nat :=
  let c0_164 : Index := 0#32
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v221 : Index := Scalar.indexCast v115
  let c0_165 : Index := 0#32
  let c0_166 : Index := 0#32
  ![0, v221.toNat, 0, 0]
def k0_off90 (i : grid0.Coords) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v345 : Index := Scalar.indexCast v115
  let c0_244 : Index := 0#32
  let c0_245 : Index := 0#32
  ![v345.toNat, 0, 0]
def k0_off91 (i : grid0.Coords) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v357 : Index := Scalar.indexCast v115
  let c0_256 : Index := 0#32
  let c0_257 : Index := 0#32
  ![v357.toNat, 0, 0]
def k0_off92 (i : grid0.Coords) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v382 : Index := Scalar.indexCast v115
  let c64_278 : Index := 64#32
  let c0_279 : Index := 0#32
  ![v382.toNat, 64, 0]
def k0_off93 (i : grid0.Coords) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v394 : Index := Scalar.indexCast v115
  let c128_290 : Index := 128#32
  let c0_291 : Index := 0#32
  ![v394.toNat, 128, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S16x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x16x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S16x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "scale_log2e" => some (((3424635 / 33554432) * (Real.log 2)⁻¹ : ℝ) : EReal)
  | _ => none
-- ==== ReferenceIdeal.lean ====
abbrev S4096x16x96 : Shape := ⟨3, ![4096, 16, 96]⟩
abbrev S4096x16x64 : Shape := ⟨3, ![4096, 16, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S16x4096 : Shape := ⟨2, ![16, 4096]⟩
abbrev S16x4096x1 : Shape := ⟨3, ![16, 4096, 1]⟩
abbrev S16x64x4096 : Shape := ⟨3, ![16, 64, 4096]⟩
abbrev S16x4096x96 : Shape := ⟨3, ![16, 4096, 96]⟩
abbrev S4096x16x128 : Shape := ⟨3, ![4096, 16, 128]⟩
abbrev S4096x2048 : Shape := ⟨2, ![4096, 2048]⟩
abbrev S16x256x2048 : Shape := ⟨3, ![16, 256, 2048]⟩
abbrev S16x2048x256 : Shape := ⟨3, ![16, 2048, 256]⟩
abbrev S4096x1024 : Shape := ⟨2, ![4096, 1024]⟩
abbrev S16x256x1024 : Shape := ⟨3, ![16, 256, 1024]⟩
abbrev S16x1024x256 : Shape := ⟨3, ![16, 1024, 256]⟩

abbrev nBuf : Space → Nat
  | .hbm => 105
  | .vmem => 0
  | .smem => 0
  | _ => 0

abbrev bufTy : (tb : Table) → Fin (tcTables nBuf tb) → BufTy
  | .hbm, ⟨0, _⟩ => ⟨S4096x16x96, .f32⟩
  | .hbm, ⟨1, _⟩ => ⟨S4096x16x96, .f32⟩
  | .hbm, ⟨2, _⟩ => ⟨S4096x16x64, .f32⟩
  | .hbm, ⟨3, _⟩ => ⟨S4096x16x64, .f32⟩
  | .hbm, ⟨4, _⟩ => ⟨S16x4096x4096, .f32⟩
  | .hbm, ⟨5, _⟩ => ⟨S_, .f32⟩
  | .hbm, ⟨6, _⟩ => ⟨S16x4096x4096, .f32⟩
  | .hbm, ⟨7, _⟩ => ⟨S16x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S1x4096x4096, .i1⟩
  | .hbm, ⟨15, _⟩ => ⟨S_, .f32⟩
  | .hbm, ⟨16, _⟩ => ⟨S_, .f32⟩
  | .hbm, ⟨17, _⟩ => ⟨S16x4096x4096, .i1⟩
  | .hbm, ⟨18, _⟩ => ⟨S16x4096x4096, .f32⟩
  | .hbm, ⟨19, _⟩ => ⟨S16x4096x4096, .f32⟩
  | .hbm, ⟨20, _⟩ => ⟨S_, .f32⟩
  | .hbm, ⟨21, _⟩ => ⟨S16x4096x4096, .f32⟩
  | .hbm, ⟨22, _⟩ => ⟨S_, .f32⟩
  | .hbm, ⟨23, _⟩ => ⟨S16x4096, .f32⟩
  | .hbm, ⟨24, _⟩ => ⟨S16x4096x1, .f32⟩
  | .hbm, ⟨25, _⟩ => ⟨S16x4096x4096, .f32⟩
  | .hbm, ⟨26, _⟩ => ⟨S16x4096x4096, .i1⟩
  | .hbm, ⟨27, _⟩ => ⟨S16x4096x4096, .f32⟩
  | .hbm, ⟨28, _⟩ => ⟨S_, .f32⟩
  | .hbm, ⟨29, _⟩ => ⟨S16x4096, .f32⟩
  | .hbm, ⟨30, _⟩ => ⟨S_, .f32⟩
  | .hbm, ⟨31, _⟩ => ⟨S16x4096, .f32⟩
  | .hbm, ⟨32, _⟩ => ⟨S16x4096, .f32⟩
  | .hbm, ⟨33, _⟩ => ⟨S_, .f32⟩
  | .hbm, ⟨34, _⟩ => ⟨S16x4096, .f32⟩
  | .hbm, ⟨35, _⟩ => ⟨S16x4096, .i1⟩
  | .hbm, ⟨36, _⟩ => ⟨S_, .f32⟩
  | .hbm, ⟨37, _⟩ => ⟨S16x4096, .f32⟩
  | .hbm, ⟨38, _⟩ => ⟨S16x4096, .i1⟩
  | .hbm, ⟨39, _⟩ => ⟨S_, .f32⟩
  | .hbm, ⟨40, _⟩ => ⟨S16x4096, .f32⟩
  | .hbm, ⟨41, _⟩ => ⟨S_, .f32⟩
  | .hbm, ⟨42, _⟩ => ⟨S16x4096, .f32⟩
  | .hbm, ⟨43, _⟩ => ⟨S_, .f32⟩
  | .hbm, ⟨44, _⟩ => ⟨S16x4096, .f32⟩
  | .hbm, ⟨45, _⟩ => ⟨S16x4096, .f32⟩
  | .hbm, ⟨46, _⟩ => ⟨S16x4096, .f32⟩
  | .hbm, ⟨47, _⟩ => ⟨S16x4096x1, .f32⟩
  | .hbm, ⟨48, _⟩ => ⟨S16x4096x4096, .f32⟩
  | .hbm, ⟨49, _⟩ => ⟨S16x4096x4096, .f32⟩
  | .hbm, ⟨50, _⟩ => ⟨S16x4096x4096, .f32⟩
  | .hbm, ⟨51, _⟩ => ⟨S_, .f32⟩
  | .hbm, ⟨52, _⟩ => ⟨S16x4096, .f32⟩
  | .hbm, ⟨53, _⟩ => ⟨S16x4096x1, .f32⟩
  | .hbm, ⟨54, _⟩ => ⟨S16x4096x4096, .f32⟩
  | .hbm, ⟨55, _⟩ => ⟨S16x4096x4096, .f32⟩
  | .hbm, ⟨56, _⟩ => ⟨S16x4096x1, .f32⟩
  | .hbm, ⟨57, _⟩ => ⟨S_, .f32⟩
  | .hbm, ⟨58, _⟩ => ⟨S16x4096x1, .f32⟩
  | .hbm, ⟨59, _⟩ => ⟨S16x4096x1, .f32⟩
  | .hbm, ⟨60, _⟩ => ⟨S16x64x4096, .f32⟩
  | .hbm, ⟨61, _⟩ => ⟨S4096x16x64, .f32⟩
  | .hbm, ⟨62, _⟩ => ⟨S16x64x4096, .f32⟩
  | .hbm, ⟨63, _⟩ => ⟨S16x4096x4096, .f32⟩
  | .hbm, ⟨64, _⟩ => ⟨S16x64x4096, .f32⟩
  | .hbm, ⟨65, _⟩ => ⟨S4096x16x64, .f32⟩
  | .hbm, ⟨66, _⟩ => ⟨S16x4096x4096, .f32⟩
  | .hbm, ⟨67, _⟩ => ⟨S16x4096x4096, .f32⟩
  | .hbm, ⟨68, _⟩ => ⟨S16x4096x4096, .f32⟩
  | .hbm, ⟨69, _⟩ => ⟨S_, .f32⟩
  | .hbm, ⟨70, _⟩ => ⟨S16x4096, .f32⟩
  | .hbm, ⟨71, _⟩ => ⟨S16x4096x1, .f32⟩
  | .hbm, ⟨72, _⟩ => ⟨S16x4096x1, .f32⟩
  | .hbm, ⟨73, _⟩ => ⟨S16x4096x4096, .f32⟩
  | .hbm, ⟨74, _⟩ => ⟨S16x4096x4096, .f32⟩
  | .hbm, ⟨75, _⟩ => ⟨S_, .f32⟩
  | .hbm, ⟨76, _⟩ => ⟨S16x4096, .f32⟩
  | .hbm, ⟨77, _⟩ => ⟨S16x4096x4096, .f32⟩
  | .hbm, ⟨78, _⟩ => ⟨S16x4096x4096, .f32⟩
  | .hbm, ⟨79, _⟩ => ⟨S16x4096x4096, .f32⟩
  | .hbm, ⟨80, _⟩ => ⟨S_, .f32⟩
  | .hbm, ⟨81, _⟩ => ⟨S16x4096x4096, .f32⟩
  | .hbm, ⟨82, _⟩ => ⟨S16x4096x4096, .f32⟩
  | .hbm, ⟨83, _⟩ => ⟨S_, .f32⟩
  | .hbm, ⟨84, _⟩ => ⟨S16x4096x4096, .f32⟩
  | .hbm, ⟨85, _⟩ => ⟨S16x4096x4096, .f32⟩
  | .hbm, ⟨86, _⟩ => ⟨S16x4096x96, .f32⟩
  | .hbm, ⟨87, _⟩ => ⟨S4096x16x96, .f32⟩
  | .hbm, ⟨88, _⟩ => ⟨S16x4096x96, .f32⟩
  | .hbm, ⟨89, _⟩ => ⟨S4096x16x96, .f32⟩
  | .hbm, ⟨90, _⟩ => ⟨S_, .i32⟩
  | .hbm, ⟨91, _⟩ => ⟨S_, .f32⟩
  | .hbm, ⟨92, _⟩ => ⟨S4096x16x128, .f32⟩
  | .hbm, ⟨93, _⟩ => ⟨S4096x2048, .f32⟩
  | .hbm, ⟨94, _⟩ => ⟨S16x256x2048, .f32⟩
  | .hbm, ⟨95, _⟩ => ⟨S16x2048x256, .f32⟩
  | .hbm, ⟨96, _⟩ => ⟨S_, .i32⟩
  | .hbm, ⟨97, _⟩ => ⟨S_, .f32⟩
  | .hbm, ⟨98, _⟩ => ⟨S4096x16x128, .f32⟩
  | .hbm, ⟨99, _⟩ => ⟨S4096x2048, .f32⟩
  | .hbm, ⟨100, _⟩ => ⟨S16x256x2048, .f32⟩
  | .hbm, ⟨101, _⟩ => ⟨S16x2048x256, .f32⟩
  | .hbm, ⟨102, _⟩ => ⟨S4096x1024, .f32⟩
  | .hbm, ⟨103, _⟩ => ⟨S16x256x1024, .f32⟩
  | .hbm, ⟨104, _⟩ => ⟨S16x1024x256, .f32⟩
  | _, _ => ⟨S4096x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c : Ref sig .tc := ⟨.hbm, 90, rfl⟩
abbrev main_call2_v0 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_call3_v0 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩

abbrev nD : Nat := 1
abbrev τ : Topo := Topo.v7x

variable {F : FTy → Type} [FloatOps F]
-- ==== Kernel2.lean ====
abbrev S4096x1024 : Shape := ⟨2, ![4096, 1024]⟩
abbrev S4096x4096 : Shape := ⟨2, ![4096, 4096]⟩
abbrev S1x1024 : Shape := ⟨2, ![1, 1024]⟩
abbrev S_ : Shape := ⟨0, ![]⟩
abbrev S4x1024x1024 : Shape := ⟨3, ![4, 1024, 1024]⟩
abbrev S4x3072x1024 : Shape := ⟨3, ![4, 3072, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1024 : Shape := ⟨1, ![1024]⟩

abbrev nBuf : Space → Nat
  | .hbm => 18
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .f32⟩
  | .hbm, ⟨3, _⟩ => ⟨S1x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S4x1024x1024, .f32⟩
  | .hbm, ⟨10, _⟩ => ⟨S_, .i32⟩
  | .hbm, ⟨11, _⟩ => ⟨S_, .f32⟩
  | .hbm, ⟨12, _⟩ => ⟨S4x3072x1024, .f32⟩
  | .hbm, ⟨13, _⟩ => ⟨S4x3072x1024, .bf16⟩
  | .hbm, ⟨14, _⟩ => ⟨S4096x4096, .bf16⟩
  | .hbm, ⟨15, _⟩ => ⟨S4096x1024, .bf16⟩
  | .hbm, ⟨16, _⟩ => ⟨S4096x4096, .bf16⟩
  | .hbm, ⟨17, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S4x1024x1024, .bf16⟩
  | .local _ .vmem, ⟨6, _⟩ => ⟨S256x4096, .bf16⟩
  | .local _ .vmem, ⟨7, _⟩ => ⟨S256x4096, .bf16⟩
  | .local _ .vmem, ⟨8, _⟩ => ⟨S256x1024, .bf16⟩
  | .local _ .vmem, ⟨9, _⟩ => ⟨S256x1024, .bf16⟩
  | .local _ .vmem, ⟨10, _⟩ => ⟨S256x4096, .bf16⟩
  | .local _ .vmem, ⟨11, _⟩ => ⟨S256x4096, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S4096x1024 : Shape := ⟨2, ![4096, 1024]⟩
abbrev S4096x4096 : Shape := ⟨2, ![4096, 4096]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1024x4096 : Shape := ⟨2, ![1024, 4096]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .f32⟩
  | .hbm, ⟨3, _⟩ => ⟨S1x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S4096x4096, .f32⟩
  | .hbm, ⟨56, _⟩ => ⟨S4096x4096, .i1⟩
  | .hbm, ⟨57, _⟩ => ⟨S_, .f32⟩
  | .hbm, ⟨58, _⟩ => ⟨S4096x4096, .f32⟩
  | .hbm, ⟨59, _⟩ => ⟨S4096x4096, .f32⟩
  | .hbm, ⟨60, _⟩ => ⟨S_, .f32⟩
  | .hbm, ⟨61, _⟩ => ⟨S4096x4096, .f32⟩
  | .hbm, ⟨62, _⟩ => ⟨S4096x4096, .f32⟩
  | .hbm, ⟨63, _⟩ => ⟨S4096x1024, .f32⟩
  | .hbm, ⟨64, _⟩ => ⟨S1024x4096, .f32⟩
  | .hbm, ⟨65, _⟩ => ⟨S4096x1024, .f32⟩
  | .hbm, ⟨66, _⟩ => ⟨S4096x4096, .f32⟩
  | .hbm, ⟨67, _⟩ => ⟨S4096x4096, .f32⟩
  | .hbm, ⟨68, _⟩ => ⟨S_, .f32⟩
  | .hbm, ⟨69, _⟩ => ⟨S4096x4096, .f32⟩
  | .hbm, ⟨70, _⟩ => ⟨S4096x4096, .f32⟩
  | .hbm, ⟨71, _⟩ => ⟨S4096x1024, .bf16⟩
  | .hbm, ⟨72, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call1_cst : Ref sig .tc := ⟨.hbm, 51, rfl⟩
abbrev main_call1_v0 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel3.lean ====
abbrev S4096x1024 : Shape := ⟨2, ![4096, 1024]⟩
abbrev S4096x4096 : Shape := ⟨2, ![4096, 4096]⟩
abbrev S1x1024 : Shape := ⟨2, ![1, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S_ : Shape := ⟨0, ![]⟩
abbrev S4x3072x1024 : Shape := ⟨3, ![4, 3072, 1024]⟩
abbrev S256x4096 : Shape := ⟨2, ![256, 4096]⟩
abbrev S256x1024 : Shape := ⟨2, ![256, 1024]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 14
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .f32⟩
  | .hbm, ⟨3, _⟩ => ⟨S1x1024, .f32⟩
  | .hbm, ⟨4, _⟩ => ⟨S1024x4096, .f32⟩
  | .hbm, ⟨5, _⟩ => ⟨S1024x4x1024, .f32⟩
  | .hbm, ⟨6, _⟩ => ⟨S4x1024x1024, .f32⟩
  | .hbm, ⟨7, _⟩ => ⟨S_, .i32⟩
  | .hbm, ⟨8, _⟩ => ⟨S_, .f32⟩
  | .hbm, ⟨9, _⟩ => ⟨S4x3072x1024, .f32⟩
  | .hbm, ⟨10, _⟩ => ⟨S4x3072x1024, .bf16⟩
  | .hbm, ⟨11, _⟩ => ⟨S4096x4096, .bf16⟩
  | .hbm, ⟨12, _⟩ => ⟨S4096x1024, .f32⟩
  | .hbm, ⟨13, _⟩ => ⟨S1x1024, .f32⟩
  | .local _ .vmem, ⟨0, _⟩ => ⟨S256x4096, .bf16⟩
  | .local _ .vmem, ⟨1, _⟩ => ⟨S256x4096, .bf16⟩
  | .local _ .vmem, ⟨2, _⟩ => ⟨S4x1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S4096x1024 : Shape := ⟨2, ![4096, 1024]⟩
abbrev S4096x4096 : Shape := ⟨2, ![4096, 4096]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .f32⟩
  | .hbm, ⟨3, _⟩ => ⟨S1x1024, .f32⟩
  | .hbm, ⟨4, _⟩ => ⟨S1024x4096, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4096, .f32⟩
  | .hbm, ⟨25, _⟩ => ⟨S4096x1024, .f32⟩
  | .hbm, ⟨26, _⟩ => ⟨S1024x4096, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel4.lean ====
abbrev S4096x1024 : Shape := ⟨2, ![4096, 1024]⟩
abbrev S1024x4096 : Shape := ⟨2, ![1024, 4096]⟩
abbrev S1x1024 : Shape := ⟨2, ![1, 1024]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 15
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024x4096, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S1024x4096, .bf16⟩
  | .hbm, ⟨13, _⟩ => ⟨S4096x1024, .f32⟩
  | .hbm, ⟨14, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x4096, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S4096x1024 : Shape := ⟨2, ![4096, 1024]⟩
abbrev S1024x4096 : Shape := ⟨2, ![1024, 4096]⟩
abbrev S1x1024 : Shape := ⟨2, ![1, 1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024x4096, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x4096, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x4096, .f32⟩
  | .hbm, ⟨29, _⟩ => ⟨S4096x1024, .f32⟩
  | .hbm, ⟨30, _⟩ => ⟨S1024x4096, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Kernel5.lean ====
abbrev S4096x1024 : Shape := ⟨2, ![4096, 1024]⟩
abbrev S4096x4096 : Shape := ⟨2, ![4096, 4096]⟩
abbrev S4x3072x1024 : Shape := ⟨3, ![4, 3072, 1024]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4x3072x1024, .bf16⟩
  | .hbm, ⟨3, _⟩ => ⟨S4096x1024, .bf16⟩
  | .hbm, ⟨4, _⟩ => ⟨S4096x4096, .bf16⟩
  | .hbm, ⟨5, _⟩ => ⟨S4x3072x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.addi arg0 arg1
  let c1_i32 : BitVec 32 := 1#32
  let c0_i32 : BitVec 32 := 0#32
  let c0_i32_0 : BitVec 32 := 0#32
  ![v0.toNat, c1_i32.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4096x4096 : Shape := ⟨2, ![4096, 4096]⟩
abbrev S4x3072x1024 : Shape := ⟨3, ![4, 3072, 1024]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4x3072x1024, .bf16⟩
  | .hbm, ⟨3, _⟩ => ⟨S_, .f32⟩
  | .hbm, ⟨4, _⟩ => ⟨S1024x4096, .f32⟩
  | .hbm, ⟨5, _⟩ => ⟨S4096x4096, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S1024x4x1024, .f32⟩
  | .hbm, ⟨10, _⟩ => ⟨S4x1024x1024, .f32⟩
  | .hbm, ⟨11, _⟩ => ⟨S4x1024x1024, .bf16⟩
  | .hbm, ⟨12, _⟩ => ⟨S4x1024x1024, .bf16⟩
  | .hbm, ⟨13, _⟩ => ⟨S4x1024x1024, .bf16⟩
  | .hbm, ⟨14, _⟩ => ⟨S4x3072x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel6.lean ====
abbrev S4096x4096 : Shape := ⟨2, ![4096, 4096]⟩
abbrev S4096x1024 : Shape := ⟨2, ![4096, 1024]⟩
abbrev S4x3072x1024 : Shape := ⟨3, ![4, 3072, 1024]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4x3072x1024, .bf16⟩
  | .hbm, ⟨3, _⟩ => ⟨S4096x4096, .bf16⟩
  | .hbm, ⟨4, _⟩ => ⟨S4096x1024, .bf16⟩
  | .hbm, ⟨5, _⟩ => ⟨S4x3072x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.addi arg0 arg1
  let c2_i32 : BitVec 32 := 2#32
  let c0_i32 : BitVec 32 := 0#32
  let c0_i32_0 : BitVec 32 := 0#32
  ![v0.toNat, c2_i32.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x4096 : Shape := ⟨2, ![4096, 4096]⟩
abbrev S4096x1024 : Shape := ⟨2, ![4096, 1024]⟩
abbrev S4x3072x1024 : Shape := ⟨3, ![4, 3072, 1024]⟩
abbrev S_ : Shape := ⟨0, ![]⟩
abbrev S1024x4096 : Shape := ⟨2, ![1024, 4096]⟩
abbrev S4x2048x1024 : Shape := ⟨3, ![4, 2048, 1024]⟩
abbrev S4x1024x1024 : Shape := ⟨3, ![4, 1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4x3072x1024, .bf16⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S1024x4096, .f32⟩
  | .hbm, ⟨7, _⟩ => ⟨S4096x1024, .f32⟩
  | .hbm, ⟨8, _⟩ => ⟨S4096x4096, .f32⟩
  | .hbm, ⟨9, _⟩ => ⟨S4x2048x1024, .bf16⟩
  | .hbm, ⟨10, _⟩ => ⟨S4x1024x1024, .f32⟩
  | .hbm, ⟨11, _⟩ => ⟨S4x1024x1024, .bf16⟩
  | .hbm, ⟨12, _⟩ => ⟨S4x3072x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S1024x4096, .bf16⟩
  | .hbm, ⟨4, _⟩ => ⟨S4096x4096, .f32⟩
  | .hbm, ⟨5, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S256x4096, .f32⟩
  | .local _ .vmem, ⟨5, _⟩ => ⟨S256x4096, .f32⟩
  | .local _ .vmem, ⟨6, _⟩ => ⟨S256x1024, .bf16⟩
  | .local _ .vmem, ⟨7, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x4096, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel9.lean ====
abbrev S4096x1024 : Shape := ⟨2, ![4096, 1024]⟩
abbrev S1x1024 : Shape := ⟨2, ![1, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S_ : Shape := ⟨0, ![]⟩
abbrev S4x3072x1024 : Shape := ⟨3, ![4, 3072, 1024]⟩
abbrev S4096x4096 : Shape := ⟨2, ![4096, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S1024x4x1024, .f32⟩
  | .hbm, ⟨4, _⟩ => ⟨S4x1024x1024, .f32⟩
  | .hbm, ⟨5, _⟩ => ⟨S_, .i32⟩
  | .hbm, ⟨6, _⟩ => ⟨S_, .f32⟩
  | .hbm, ⟨7, _⟩ => ⟨S4x3072x1024, .f32⟩
  | .hbm, ⟨8, _⟩ => ⟨S4x3072x1024, .bf16⟩
  | .hbm, ⟨9, _⟩ => ⟨S4096x1024, .bf16⟩
  | .hbm, ⟨10, _⟩ => ⟨S4096x4096, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1024, .bf16⟩
  | .local _ .vmem, ⟨4, _⟩ => ⟨S256x1024, .bf16⟩
  | .local _ .vmem, ⟨5, _⟩ => ⟨S256x1024, .bf16⟩
  | .local _ .vmem, ⟨6, _⟩ => ⟨S256x4096, .bf16⟩
  | .local _ .vmem, ⟨7, _⟩ => ⟨S256x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_cst : Ref sig .tc := ⟨.hbm, 35, rfl⟩
abbrev main_call0_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel10.lean ====
abbrev S4096x4096 : Shape := ⟨2, ![4096, 4096]⟩
abbrev S4096x1024 : Shape := ⟨2, ![4096, 1024]⟩
abbrev S1x1024 : Shape := ⟨2, ![1, 1024]⟩
abbrev S4x1024x1024 : Shape := ⟨3, ![4, 1024, 1024]⟩
abbrev S_ : Shape := ⟨0, ![]⟩
abbrev S4x3072x1024 : Shape := ⟨3, ![4, 3072, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4x1024x1024, .f32⟩
  | .hbm, ⟨5, _⟩ => ⟨S_, .i32⟩
  | .hbm, ⟨6, _⟩ => ⟨S_, .f32⟩
  | .hbm, ⟨7, _⟩ => ⟨S4x3072x1024, .f32⟩
  | .hbm, ⟨8, _⟩ => ⟨S4x3072x1024, .bf16⟩
  | .hbm, ⟨9, _⟩ => ⟨S4096x4096, .bf16⟩
  | .hbm, ⟨10, _⟩ => ⟨S4096x1024, .f32⟩
  | .hbm, ⟨11, _⟩ => ⟨S4096x1024, .f32⟩
  | .local _ .vmem, ⟨0, _⟩ => ⟨S256x4096, .bf16⟩
  | .local _ .vmem, ⟨1, _⟩ => ⟨S256x4096, .bf16⟩
  | .local _ .vmem, ⟨2, _⟩ => ⟨S4x1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S1x1024 : Shape := ⟨2, ![1, 1024]⟩
abbrev S4096x2048 : Shape := ⟨2, ![4096, 2048]⟩
abbrev S_ : Shape := ⟨0, ![]⟩
abbrev S4096x4096 : Shape := ⟨2, ![4096, 4096]⟩
abbrev S256x1024 : Shape := ⟨2, ![256, 1024]⟩
abbrev S256 : Shape := ⟨1, ![256]⟩
abbrev S256x1 : Shape := ⟨2, ![256, 1]⟩

abbrev nBuf : Space → Nat
  | .hbm => 21
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1x1024, .f32⟩
  | .hbm, ⟨9, _⟩ => ⟨S4096x2048, .f32⟩
  | .hbm, ⟨10, _⟩ => ⟨S_, .i32⟩
  | .hbm, ⟨11, _⟩ => ⟨S_, .f32⟩
  | .hbm, ⟨12, _⟩ => ⟨S4096x4096, .f32⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S4096x1024, .bf16⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v5_3 : Ref sig .tc := ⟨.hbm, 19, rfl⟩
abbrev main_v5_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference11Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== Proof.State.lean ====
/-
What a buffer holds, as a function of its index: a load reads such a function through a rectangle, a store changes it
on one, and the two rules of the logic said of it.
-/
module

public import proofs.«01_k».proof.Proof.Gen.KernelIdeal.Frame

@[expose] public section

set_option maxRecDepth 16384

noncomputable section

namespace Cert.KernelIdeal.Flow

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Cells

variable {Val : EltTy → Type} {s : Shape} {e : EltTy}

/-- A function of the index read through a rectangle. -/
def ldr (r : LoadRect s) (f : s.Idx → Val e) : r.shape.Idx → Val e := fun j => f (r.idx j)

/-- A function of the index changed to `w` on a rectangle. -/
def upd (r : Rect s) (w : r.shape.Idx → Val e) (f : s.Idx → Val e) : s.Idx → Val e := fun i =>
  open Classical in if h : ∃ j, r.idx j = i then w h.choose else f i

theorem upd_idx (r : Rect s) (w : r.shape.Idx → Val e) (f : s.Idx → Val e) (j : r.shape.Idx) : upd r w f (r.idx j) = w j := by
  have h : ∃ j', r.idx j' = r.idx j := ⟨j, rfl⟩
  rw [upd, dif_pos h]
  congr 1
  exact r.emb.injective h.choose_spec

theorem upd_of_not (r : Rect s) (w : r.shape.Idx → Val e) (f : s.Idx → Val e) (i : s.Idx) (h : ¬ ∃ j, r.idx j = i) : upd r w f i = f i := by
  rw [upd, dif_neg h]

theorem read_write_eq {sig : RefSig} {κ : Kind} {sp : Space} (v : View sig κ sp s e) (r : Rect s) (w : r.shape.Idx → Val e) (g : v.ty.Contents Val) :
    v.read Val ((v.slice r).write Val g w Finset.univ) = upd r w (v.read Val g) := by
  funext i
  by_cases h : ∃ j, r.idx j = i
  · obtain ⟨j, rfl⟩ := h
    rw [upd_idx]
    exact View.read_writes_cons_emb v g r w [] j
  · rw [upd_of_not r w _ i h]
    refine View.read_writes_cons_miss v g ⟨r, w⟩ [] i fun hi => h ?_
    exact r.toLoadRect.exists_idx_of_mem hi

end Cells

variable {F : FTy → Type} [FloatOps F] [Named F]

local notation "𝕄" => MT nD τ sig Unit (Elt F) ℕ (UR sig nD τ) ℕ

variable (𝒱 : Variants) (c : Dev nD) (bd : Option 𝒱.V) (E : Set ℕ)

/-- The memref's buffer is held whole and reads as `f`. -/
def Own {s : Shape} {e : EltTy} (m : Memref sig .tc .vmem s e) (f : s.Idx → Elt F e) : sProp 𝕄 :=
  iprop(∃ g, ⌜m.view.read (Elt F) g = f⌝ ∗ (m.view.loc (c : Thread nD τ) ↦[m.view.set]{fullShare} g))

variable {s : Shape} {e : EltTy} {α : Type}

theorem own_load {Q : α → sProp 𝕄} {m : Memref sig .tc .vmem s e} {r : LoadRect s} {hl : m.view.LoadsAt r} {f : s.Idx → Elt F e}
    {k : (r.shape.Idx → Elt F e) → Prog (TpuEff nD τ sig (Elt F) Λ₀ .tc) α} :
    Own c m f ⊢ iprop((Own c m f -∗ wp frame (wpE defs₀ 𝒱 (c : Thread nD τ) bd) E (k (ldr r f)) Q)
      -∗ wp frame (wpE defs₀ 𝒱 (c : Thread nD τ) bd) E (.op (.load m r hl) k) Q) := by
  unfold Own
  have hS : m.view.setOn (r.set) ⊆ m.view.set := Finset.map_subset_map.mpr (Finset.subset_univ _)
  iintro ⟨%g, %hg, H⟩ HK
  iapply (wp_load 𝒱 (c : Thread nD τ) bd E (S := m.view.set) (f := g) (q := fullShare) hS) $$ [H]
  · iexact H
  · iintro H
    have e1 : m.view.readAt (Elt F) r g = ldr r f := by rw [← hg]; rfl
    rw [e1]
    iapply HK
    iexists g
    isplitr
    · ipureintro; exact hg
    · iexact H

theorem own_store {Q : α → sProp 𝕄} {m : Memref sig .tc .vmem s e} {r : Rect s} {w : r.shape.Idx → Elt F e} {hx : (m.access r).Stores Finset.univ}
    {hm : Finset.univ = Finset.univ ∨ ∀ a, r.stride a = 1} {f : s.Idx → Elt F e}
    {k : PUnit → Prog (TpuEff nD τ sig (Elt F) Λ₀ .tc) α} :
    Own c m f ⊢ iprop((Own c m (upd r w f) -∗ wp frame (wpE defs₀ 𝒱 (c : Thread nD τ) bd) E (k ⟨⟩) Q)
      -∗ wp frame (wpE defs₀ 𝒱 (c : Thread nD τ) bd) E (.op (.store m r w Finset.univ hx hm) k) Q) := by
  unfold Own
  have hS : (m.access r).setOn Finset.univ ⊆ m.view.set := by
    rw [View.setOn_univ, View.set_slice, View.set]; exact Finset.map_subset_map.mpr (Finset.subset_univ _)
  iintro ⟨%g, %hg, H⟩ HK
  iapply (wp_store 𝒱 (c : Thread nD τ) bd E (S := m.view.set) (w := w) (Mk := Finset.univ) (hx := hx) (hm := hm) (k := k) (f := g) hS) $$ [H]
  · iexact H
  · iintro H
    iapply HK
    iexists ((m.access r).write (Elt F) g w Finset.univ)
    isplitr
    · ipureintro; rw [← hg]; exact read_write_eq m.view r w g
    · iexact H

end Cert.KernelIdeal.Flow

end
-- ==== Proof.Program.lean ====
/-
The body of the kernel written by its own functions (the scores of one block of queries, the gradients of one block,
one block of keys), and the equation with the printed body.
-/
module

public import proofs.«01_k».proof.Proof.State

@[expose] public section

set_option maxRecDepth 16384

noncomputable section

namespace Cert.KernelIdeal.Flow

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Facts₀ Cert.KernelIdeal.Facts

variable {F : FTy → Type} [FloatOps F] [Named F]

/-- The buffers of one run of the body. -/
structure Refs where
  qt : Memref sig .tc .vmem S16x256x256 .bf16
  hqt : qt.IsWhole
  k : Memref sig .tc .vmem S512x256 .bf16
  hk : k.IsWhole
  kt : Memref sig .tc .vmem S2x256x256 .bf16
  hkt : kt.IsWhole
  v : Memref sig .tc .vmem S512x128 .bf16
  hv : v.IsWhole
  dot : Memref sig .tc .vmem S16x128x256 .bf16
  hdot : dot.IsWhole
  l : Memref sig .tc .vmem S1x16x8x256 .f32
  hl : l.IsWhole
  dl : Memref sig .tc .vmem S1x16x8x256 .f32
  hdl : dl.IsWhole
  dq : Memref sig .tc .vmem S16x256x256 .f32
  hdq : dq.IsWhole
  dk : Memref sig .tc .vmem S2x256x256 .f32
  hdk : dk.IsWhole
  dv : Memref sig .tc .vmem S2x128x256 .f32
  hdv : dv.IsWhole
  s : Memref sig .tc .vmem S2x2x256x256 .f32
  hs : s.IsWhole
  dp : Memref sig .tc .vmem S2x2x256x256 .f32
  hdp : dp.IsWhole
  p : Memref sig .tc .vmem S2x256x256 .bf16
  hp : p.IsWhole
  ds : Memref sig .tc .vmem S2x256x256 .bf16
  hds : ds.IsWhole
  vh : Memref sig .tc .vmem S2x256x128 .bf16
  hvh : vh.IsWhole

/-! ## The rectangles -/

section Rects

variable (blk slot hh c : Fin 2) (n : Nat) (hn : n + 1 ≤ 16)

theorem inbS : ∀ a, (![slot.val, hh.val, 0, 0] : Fin 4 → Nat) a + S1x1x256x256.size a ≤ S2x2x256x256.size a := by
  intro a; fin_cases slot <;> fin_cases hh <;> fin_cases a <;> decide
theorem inbSc : ∀ a, (![slot.val, hh.val, 0, 128 * c.val] : Fin 4 → Nat) a + S1x1x256x128.size a ≤ S2x2x256x256.size a := by
  intro a; fin_cases slot <;> fin_cases hh <;> fin_cases c <;> fin_cases a <;> decide
theorem inbP : ∀ a, (![hh.val, 0, 0] : Fin 3 → Nat) a + S1x256x256.size a ≤ S2x256x256.size a := by
  intro a; fin_cases hh <;> fin_cases a <;> decide
theorem inbPc : ∀ a, (![hh.val, 0, 128 * c.val] : Fin 3 → Nat) a + S1x256x128.size a ≤ S2x256x256.size a := by
  intro a; fin_cases hh <;> fin_cases c <;> fin_cases a <;> decide
theorem inbVh : ∀ a, (![hh.val, 0, 0] : Fin 3 → Nat) a + S1x256x128.size a ≤ S2x256x128.size a := by
  intro a; fin_cases hh <;> fin_cases a <;> decide
theorem inbK : ∀ a, (![256 * blk.val, 128 * hh.val] : Fin 2 → Nat) a + S256x128.size a ≤ S512x256.size a := by
  intro a; fin_cases blk <;> fin_cases hh <;> fin_cases a <;> decide
theorem inbV : ∀ a, (![256 * blk.val, 0] : Fin 2 → Nat) a + S256x128.size a ≤ S512x128.size a := by
  intro a; fin_cases blk <;> fin_cases a <;> decide
include hn in
theorem inbQ : ∀ a, (![n, 128 * hh.val, 0] : Fin 3 → Nat) a + S1x128x256.size a ≤ S16x256x256.size a := by
  intro a; fin_cases a; · exact hn
  · fin_cases hh; exacts [(by decide : 0 + 128 ≤ 256), (by decide : 128 + 128 ≤ 256)]
  · exact (by decide : 0 + 256 ≤ 256)
include hn in
theorem inbQ96 : ∀ a, (![n, 128 * hh.val, 0] : Fin 3 → Nat) a + S1x96x256.size a ≤ S16x256x256.size a := by
  intro a; fin_cases a; · exact hn
  · fin_cases hh; exacts [(by decide : 0 + 96 ≤ 256), (by decide : 128 + 96 ≤ 256)]
  · exact (by decide : 0 + 256 ≤ 256)
include hn in
theorem inbDo : ∀ a, (![n, 0, 0] : Fin 3 → Nat) a + S1x128x256.size a ≤ S16x128x256.size a := by
  intro a; fin_cases a; · exact hn
  · exact (by decide : 0 + 128 ≤ 128)
  · exact (by decide : 0 + 256 ≤ 256)
include hn in
theorem inbDo64 : ∀ a, (![n, 64 * hh.val, 0] : Fin 3 → Nat) a + S1x64x256.size a ≤ S16x128x256.size a := by
  intro a; fin_cases a; · exact hn
  · fin_cases hh; exacts [(by decide : 0 + 64 ≤ 128), (by decide : 64 + 64 ≤ 128)]
  · exact (by decide : 0 + 256 ≤ 256)
include hn in
theorem inbL : ∀ a, (![0, n, 0, 0] : Fin 4 → Nat) a + S1x1x8x256.size a ≤ S1x16x8x256.size a := by
  intro a; fin_cases a; · exact (by decide : 0 + 1 ≤ 1)
  · exact hn
  · exact (by decide : 0 + 8 ≤ 8)
  · exact (by decide : 0 + 256 ≤ 256)
theorem inbDv : ∀ a, (![blk.val, 64 * hh.val, 0] : Fin 3 → Nat) a + S1x64x256.size a ≤ S2x128x256.size a := by
  intro a; fin_cases blk <;> fin_cases hh <;> fin_cases a <;> decide
theorem inbDk : ∀ a, (![blk.val, 128 * hh.val, 0] : Fin 3 → Nat) a + S1x96x256.size a ≤ S2x256x256.size a := by
  intro a; fin_cases blk <;> fin_cases hh <;> fin_cases a <;> decide

abbrev rS : Rect S2x2x256x256 := Rect.unit (s := S2x2x256x256) ![slot.val, hh.val, 0, 0] S1x1x256x256.size (inbS slot hh)
abbrev rSc : Rect S2x2x256x256 := Rect.unit (s := S2x2x256x256) ![slot.val, hh.val, 0, 128 * c.val] S1x1x256x128.size (inbSc slot hh c)
abbrev rP : Rect S2x256x256 := Rect.unit (s := S2x256x256) ![hh.val, 0, 0] S1x256x256.size (inbP hh)
abbrev rPc : Rect S2x256x256 := Rect.unit (s := S2x256x256) ![hh.val, 0, 128 * c.val] S1x256x128.size (inbPc hh c)
abbrev rVh : Rect S2x256x128 := Rect.unit (s := S2x256x128) ![hh.val, 0, 0] S1x256x128.size (inbVh hh)
abbrev rK : Rect S512x256 := Rect.unit (s := S512x256) ![256 * blk.val, 128 * hh.val] S256x128.size (inbK blk hh)
abbrev rV : Rect S512x128 := Rect.unit (s := S512x128) ![256 * blk.val, 0] S256x128.size (inbV blk)
abbrev rQ : Rect S16x256x256 := Rect.unit (s := S16x256x256) ![n, 128 * hh.val, 0] S1x128x256.size (inbQ hh n hn)
abbrev rQ96 : Rect S16x256x256 := Rect.unit (s := S16x256x256) ![n, 128 * hh.val, 0] S1x96x256.size (inbQ96 hh n hn)
abbrev rDo : Rect S16x128x256 := Rect.unit (s := S16x128x256) ![n, 0, 0] S1x128x256.size (inbDo n hn)
abbrev rDo64 : Rect S16x128x256 := Rect.unit (s := S16x128x256) ![n, 64 * hh.val, 0] S1x64x256.size (inbDo64 hh n hn)
abbrev rL : Rect S1x16x8x256 := Rect.unit (s := S1x16x8x256) ![0, n, 0, 0] S1x1x8x256.size (inbL n hn)
abbrev rDv : Rect S2x128x256 := Rect.unit (s := S2x128x256) ![blk.val, 64 * hh.val, 0] S1x64x256.size (inbDv blk hh)
abbrev rDk : Rect S2x256x256 := Rect.unit (s := S2x256x256) ![blk.val, 128 * hh.val, 0] S1x96x256.size (inbDk blk hh)

theorem packedPc : (rPc hh c).PackedRows (EltTy.packing .bf16) := by
  fin_cases hh <;> fin_cases c
  · exact packedbf16_S2x256x256_S1x256x128_0_0_0
  · exact packedbf16_S2x256x256_S1x256x128_0_0_128
  · exact packedbf16_S2x256x256_S1x256x128_1_0_0
  · exact packedbf16_S2x256x256_S1x256x128_1_0_128
theorem packedVh : (rVh hh).PackedRows (EltTy.packing .bf16) := by
  fin_cases hh
  · exact packedbf16_S2x256x128_S1x256x128_0_0_0
  · exact packedbf16_S2x256x128_S1x256x128_1_0_0
theorem slicesHC : S8x256.Slices ![hh.val, 128 * c.val] S1x128 := by
  fin_cases hh <;> fin_cases c
  · exact slices_S8x256_o0_0_S1x128
  · exact slices_S8x256_o0_128_S1x128
  · exact slices_S8x256_o1_0_S1x128
  · exact slices_S8x256_o1_128_S1x128

end Rects

/-! ## What is stored -/

/-- Scores (or the products with the cotangent) of one head against one block of queries. -/
def payDot (a : Vec F S256x128 .bf16) (b : Vec F S1x128x256 .bf16) : FVec F S1x1x256x256 .f32 :=
  shapeCast S1x1x256x256 (matmul dot_S256x128_S128x256_S256x256_1_0_0_1_n_n none a
    (shapeCast S128x256 b shapeCasts_S1x128x256_S128x256) (constant S256x256 .f32 0x00000000#32)) shapeCasts_S256x256_S1x1x256x256

/-- The probabilities of one half of a block of queries, from the scores and the log-sums. -/
def payP (hh c : Fin 2) (s : Vec F S1x1x256x128 .f32) (l : Vec F S1x1x8x256 .f32) : FVec F S256x128 .f32 :=
  exp2 (subf (mulf (shapeCast S256x128 s shapeCasts_S1x1x256x128_S256x128) (broadcast S256x128 (Named.named κ "scale_log2e" 0x3E16C740#32)))
    (broadcastTo S256x128 (extractStridedSlice S1x128 ![hh.val, 128 * c.val] (shapeCast S8x256 l shapeCasts_S1x1x8x256_S8x256) (slicesHC hh c))
      broadcasts_S1x128_S256x128))

/-- The probabilities of one half of the diagonal block: zero where the key comes after the query. -/
def payDiag (c : Fin 2) (p : FVec F S256x128 .f32) : FVec F S256x128 .f32 :=
  select (cmpi .sle (iota .tc S256x128 32 [0] iota_S256x128_d0_w32)
      (addi (iota .tc S256x128 32 [1] iota_S256x128_d1_w32) (broadcast S256x128 (BitVec.ofNat 32 (128 * c.val))))) p
    (broadcast S256x128 (Scalar.ofBits .f32 0x00000000#32))

def payPd (diag : Bool) (hh c : Fin 2) (s : Vec F S1x1x256x128 .f32) (l : Vec F S1x1x8x256 .f32) : FVec F S256x128 .f32 :=
  match diag with
  | true => payDiag c (payP hh c s l)
  | false => payP hh c s l

def payPb (p : FVec F S256x128 .f32) : FVec F S1x256x128 .bf16 :=
  shapeCast S1x256x128 (truncf .bf16 p bitsLt_bf16_f32) shapeCasts_S256x128_S1x256x128

/-- The derivative of the scores, rounded. -/
def payDs (hh c : Fin 2) (p : FVec F S256x128 .f32) (dp : Vec F S1x1x256x128 .f32) (dl : Vec F S1x1x8x256 .f32) : FVec F S1x256x128 .bf16 :=
  shapeCast S1x256x128 (truncf .bf16 (mulf (mulf p (subf (shapeCast S256x128 dp shapeCasts_S1x1x256x128_S256x128)
    (broadcastTo S256x128 (extractStridedSlice S1x128 ![hh.val, 128 * c.val] (shapeCast S8x256 dl shapeCasts_S1x1x8x256_S8x256) (slicesHC hh c))
      broadcasts_S1x128_S256x128))) (broadcast S256x128 (Scalar.ofBits .f32 0x3DD105EC#32))) bitsLt_bf16_f32) shapeCasts_S256x128_S1x256x128

def payDv (old : Vec F S1x64x256 .f32) (a : Vec F S1x64x256 .bf16) (b : Vec F S1x256x256 .bf16) : FVec F S1x64x256 .f32 :=
  shapeCast S1x64x256 (addf (shapeCast S64x256 old shapeCasts_S1x64x256_S64x256)
    (matmul dot_S64x256_S256x256_S64x256_1_1_0_0_n_n none (shapeCast S64x256 a shapeCasts_S1x64x256_S64x256)
      (shapeCast S256x256 b shapeCasts_S1x256x256_S256x256) (constant S64x256 .f32 0x00000000#32))) shapeCasts_S64x256_S1x64x256

def payDk (old : Vec F S1x96x256 .f32) (a : Vec F S1x96x256 .bf16) (b : Vec F S1x256x256 .bf16) : FVec F S1x96x256 .f32 :=
  shapeCast S1x96x256 (addf (shapeCast S96x256 old shapeCasts_S1x96x256_S96x256)
    (matmul dot_S96x256_S256x256_S96x256_1_1_0_0_n_n none (shapeCast S96x256 a shapeCasts_S1x96x256_S96x256)
      (shapeCast S256x256 b shapeCasts_S1x256x256_S256x256) (constant S96x256 .f32 0x00000000#32))) shapeCasts_S96x256_S1x96x256

def payDq (old : Vec F S1x96x256 .f32) (a : Vec F S1x96x256 .bf16) (b : Vec F S1x256x256 .bf16) : FVec F S1x96x256 .f32 :=
  shapeCast S1x96x256 (addf (shapeCast S96x256 old shapeCasts_S1x96x256_S96x256)
    (matmul dot_S96x256_S256x256_S96x256_1_0_0_1_n_n none (shapeCast S96x256 a shapeCasts_S1x96x256_S96x256)
      (shapeCast S256x256 b shapeCasts_S1x256x256_S256x256) (constant S96x256 .f32 0x00000000#32))) shapeCasts_S96x256_S1x96x256

/-- The values of one of the two heads, the other head's columns zero. -/
def payVh (hh : Fin 2) (v : Vec F S256x128 .bf16) : FVec F S1x256x128 .bf16 :=
  shapeCast S1x256x128 (match hh with
    | 0 => select (cmpi .slt (iota .tc S256x128 32 [1] iota_S256x128_d1_w32) (broadcast S256x128 64#32)) v
        (broadcast S256x128 (Scalar.ofBits .bf16 0x0000#16))
    | 1 => select (cmpi .slt (iota .tc S256x128 32 [1] iota_S256x128_d1_w32) (broadcast S256x128 64#32)) (broadcast S256x128 (Scalar.ofBits .bf16 0x0000#16)) v) shapeCasts_S256x128_S1x256x128

/-! ## The programs -/

/-- Programs of the body. -/
abbrev PT (F : FTy → Type) [FloatOps F] [Named F] (α : Type) := Prog (TpuEff nD τ sig (Elt F) Λ₀ .tc) α

def scoreHalf (R : Refs) (blk slot hh : Fin 2) (n : Nat) (hn : n + 1 ≤ 16) : PT F PUnit := do
  let k : Vec F S256x128 .bf16 ← Prog.lift (.load R.k (rK blk hh).toLoadRect (View.loadsAt_vmem h_S256x128))
  let q : Vec F S1x128x256 .bf16 ← Prog.lift (.load R.qt (rQ hh n hn).toLoadRect (View.loadsAt_vmem h_S1x128x256))
  let _ : Vec F S1x1x256x256 .f32 ← Prog.lift (.load R.s (rS slot hh).toLoadRect (View.loadsAt_vmem h_S1x1x256x256))
  Prog.lift (.store R.s (rS slot hh) (payDot (shapeCast S256x128 k shapeCasts_S256x128_S256x128) q) Finset.univ (View.stores_vmem_bits_univ h_S1x1x256x256 rfl) (.inl rfl))
  let v : Vec F S1x256x128 .bf16 ← Prog.lift (.load R.vh (rVh hh).toLoadRect (View.loadsAt_vmem h_S1x256x128))
  let d : Vec F S1x128x256 .bf16 ← Prog.lift (.load R.dot (rDo n hn).toLoadRect (View.loadsAt_vmem h_S1x128x256))
  let _ : Vec F S1x1x256x256 .f32 ← Prog.lift (.load R.dp (rS slot hh).toLoadRect (View.loadsAt_vmem h_S1x1x256x256))
  Prog.lift (.store R.dp (rS slot hh) (payDot (shapeCast S256x128 v shapeCasts_S1x256x128_S256x128) d) Finset.univ (View.stores_vmem_bits_univ h_S1x1x256x256 rfl) (.inl rfl))

/-- The scores of block `n` of the queries against block `blk` of the keys, into slot `slot`. -/
def scoresP (R : Refs) (blk slot : Fin 2) (n : Nat) (hn : n + 1 ≤ 16) : PT F PUnit := do
  scoreHalf R blk slot 0 n hn
  scoreHalf R blk slot 1 n hn

def chunkP (R : Refs) (diag : Bool) (slot hh c : Fin 2) (l dl : Vec F S1x1x8x256 .f32) : PT F PUnit := do
  let s : Vec F S1x1x256x128 .f32 ← Prog.lift (.load R.s (rSc slot hh c).toLoadRect (View.loadsAt_vmem h_S1x1x256x128))
  let _ : Vec F S1x256x128 .bf16 ← Prog.lift (.load R.p (rPc hh c).toLoadRect (View.loadsAt_vmem h_S1x256x128))
  Prog.lift (.store R.p (rPc hh c) (payPb (payPd diag hh c s l)) Finset.univ
    (View.stores_vmem h_S1x256x128 (R.hp.storeExact_slice rfl _ (packedPc hh c)) (fun _ => rfl)) (.inl rfl))
  let dp : Vec F S1x1x256x128 .f32 ← Prog.lift (.load R.dp (rSc slot hh c).toLoadRect (View.loadsAt_vmem h_S1x1x256x128))
  let _ : Vec F S1x256x128 .bf16 ← Prog.lift (.load R.ds (rPc hh c).toLoadRect (View.loadsAt_vmem h_S1x256x128))
  Prog.lift (.store R.ds (rPc hh c) (payDs hh c (payPd diag hh c s l) dp dl) Finset.univ
    (View.stores_vmem h_S1x256x128 (R.hds.storeExact_slice rfl _ (packedPc hh c)) (fun _ => rfl)) (.inl rfl))

def updP (R : Refs) (blk hh : Fin 2) (n : Nat) (hn : n + 1 ≤ 16) : PT F PUnit := do
  let ov : Vec F S1x64x256 .f32 ← Prog.lift (.load R.dv (rDv blk hh).toLoadRect (View.loadsAt_vmem h_S1x64x256))
  let d : Vec F S1x64x256 .bf16 ← Prog.lift (.load R.dot (rDo64 hh n hn).toLoadRect (View.loadsAt_vmem h_S1x64x256))
  let p : Vec F S1x256x256 .bf16 ← Prog.lift (.load R.p (rP hh).toLoadRect (View.loadsAt_vmem h_S1x256x256))
  let _ : Vec F S1x64x256 .f32 ← Prog.lift (.load R.dv (rDv blk hh).toLoadRect (View.loadsAt_vmem h_S1x64x256))
  Prog.lift (.store R.dv (rDv blk hh) (payDv ov d p) Finset.univ (View.stores_vmem_bits_univ h_S1x64x256 rfl) (.inl rfl))
  let ok : Vec F S1x96x256 .f32 ← Prog.lift (.load R.dk (rDk blk hh).toLoadRect (View.loadsAt_vmem h_S1x96x256))
  let q : Vec F S1x96x256 .bf16 ← Prog.lift (.load R.qt (rQ96 hh n hn).toLoadRect (View.loadsAt_vmem h_S1x96x256))
  let ds : Vec F S1x256x256 .bf16 ← Prog.lift (.load R.ds (rP hh).toLoadRect (View.loadsAt_vmem h_S1x256x256))
  let _ : Vec F S1x96x256 .f32 ← Prog.lift (.load R.dk (rDk blk hh).toLoadRect (View.loadsAt_vmem h_S1x96x256))
  Prog.lift (.store R.dk (rDk blk hh) (payDk ok q ds) Finset.univ (View.stores_vmem_bits_univ h_S1x96x256 rfl) (.inl rfl))
  let oq : Vec F S1x96x256 .f32 ← Prog.lift (.load R.dq (rQ96 hh n hn).toLoadRect (View.loadsAt_vmem h_S1x96x256))
  let k : Vec F S1x96x256 .bf16 ← Prog.lift (.load R.kt (rDk blk hh).toLoadRect (View.loadsAt_vmem h_S1x96x256))
  let ds' : Vec F S1x256x256 .bf16 ← Prog.lift (.load R.ds (rP hh).toLoadRect (View.loadsAt_vmem h_S1x256x256))
  let _ : Vec F S1x96x256 .f32 ← Prog.lift (.load R.dq (rQ96 hh n hn).toLoadRect (View.loadsAt_vmem h_S1x96x256))
  Prog.lift (.store R.dq (rQ96 hh n hn) (payDq oq k ds') Finset.univ (View.stores_vmem_bits_univ h_S1x96x256 rfl) (.inl rfl))

/-- The gradients that block `n` of the queries gives, from the scores in slot `slot`. -/
def gradsP (R : Refs) (diag : Bool) (blk slot : Fin 2) (n : Nat) (hn : n + 1 ≤ 16) : PT F PUnit := do
  let l : Vec F S1x1x8x256 .f32 ← Prog.lift (.load R.l (rL n hn).toLoadRect (View.loadsAt_vmem h_S1x1x8x256))
  let dl : Vec F S1x1x8x256 .f32 ← Prog.lift (.load R.dl (rL n hn).toLoadRect (View.loadsAt_vmem h_S1x1x8x256))
  chunkP R diag slot 0 0 l dl
  chunkP R diag slot 0 1 l dl
  chunkP R diag slot 1 0 l dl
  chunkP R diag slot 1 1 l dl
  updP R blk 0 n hn
  updP R blk 1 n hn

/-- One trip of the loop over pairs of blocks of queries. -/
def tripP (R : Refs) (blk : Fin 2) (n0 n1 n2 : Nat) (h0 : n0 + 1 ≤ 16) (h1 : n1 + 1 ≤ 16) (h2 : n2 + 1 ≤ 16) : PT F PUnit := do
  scoresP R blk 1 n1 h1
  gradsP R false blk 0 n0 h0
  scoresP R blk 0 n2 h2
  gradsP R false blk 1 n1 h1

/-- The odd ending: the last block of queries and the diagonal one. -/
def oddP (R : Refs) (blk : Fin 2) (n : Nat) (hn : n + 1 ≤ 16) : PT F PUnit := do
  scoresP R blk 1 n hn
  gradsP R false blk 0 15 (by decide)
  gradsP R true blk 1 n hn

/-- The two heads' values of a block of keys, each with the other head's columns zero. -/
def headP (R : Refs) (v : Vec F S256x128 .bf16) : PT F PUnit := do
  let _ : Vec F S1x256x128 .bf16 ← Prog.lift (.load R.vh (rVh 0).toLoadRect (View.loadsAt_vmem h_S1x256x128))
  Prog.lift (.store R.vh (rVh 0) (payVh 0 v) Finset.univ (View.stores_vmem h_S1x256x128 (R.hvh.storeExact_slice rfl _ (packedVh 0)) (fun _ => rfl)) (.inl rfl))
  let _ : Vec F S1x256x128 .bf16 ← Prog.lift (.load R.vh (rVh 1).toLoadRect (View.loadsAt_vmem h_S1x256x128))
  Prog.lift (.store R.vh (rVh 1) (payVh 1 v) Finset.univ (View.stores_vmem h_S1x256x128 (R.hvh.storeExact_slice rfl _ (packedVh 1)) (fun _ => rfl)) (.inl rfl))

def zeroQ (R : Refs) : PT F PUnit := do
  let _ : Vec F S16x256x256 .f32 ← Prog.lift (.load R.dq (Rect.unit (s := S16x256x256) ![0, 0, 0] S16x256x256.size inb_S16x256x256_S16x256x256_0_0_0).toLoadRect (View.loadsAt_vmem h_S16x256x256))
  Prog.lift (.store R.dq (Rect.unit (s := S16x256x256) ![0, 0, 0] S16x256x256.size inb_S16x256x256_S16x256x256_0_0_0) (broadcast S16x256x256 (Scalar.ofBits .f32 0x00000000#32)) Finset.univ (View.stores_vmem_bits_univ h_S16x256x256 rfl) (.inl rfl))

def zeroKV (R : Refs) : PT F PUnit := do
  let _ : Vec F S2x256x256 .f32 ← Prog.lift (.load R.dk (Rect.unit (s := S2x256x256) ![0, 0, 0] S2x256x256.size inb_S2x256x256_S2x256x256_0_0_0).toLoadRect (View.loadsAt_vmem h_S2x256x256))
  Prog.lift (.store R.dk (Rect.unit (s := S2x256x256) ![0, 0, 0] S2x256x256.size inb_S2x256x256_S2x256x256_0_0_0) (broadcast S2x256x256 (Scalar.ofBits .f32 0x00000000#32)) Finset.univ (View.stores_vmem_bits_univ h_S2x256x256 rfl) (.inl rfl))
  let _ : Vec F S2x128x256 .f32 ← Prog.lift (.load R.dv (Rect.unit (s := S2x128x256) ![0, 0, 0] S2x128x256.size inb_S2x128x256_S2x128x256_0_0_0).toLoadRect (View.loadsAt_vmem h_S2x128x256))
  Prog.lift (.store R.dv (Rect.unit (s := S2x128x256) ![0, 0, 0] S2x128x256.size inb_S2x128x256_S2x128x256_0_0_0) (broadcast S2x128x256 (Scalar.ofBits .f32 0x00000000#32)) Finset.univ (View.stores_vmem_bits_univ h_S2x128x256 rfl) (.inl rfl))

/-- Whether this is a pair's first point. -/
abbrev isFirst (i : grid0.Coords) : Prop := Scalar.cmpi .ne (Scalar.extui (Scalar.cmpi .eq (BitVec.ofNat 32 (i 1).val) 0#32)) 0#32 = (1#1 : BitVec 1)

/-- The words of a grid point. -/
abbrev pidW (i : grid0.Coords) : BitVec 32 := BitVec.ofNat 32 (i 1).val
abbrev jW (i : grid0.Coords) (b : BitVec 32) : BitVec 32 := Scalar.addi (Scalar.muli 2#32 (pidW i)) b
abbrev keyW : IVec S256x128 32 := iota .tc S256x128 32 [0] iota_S256x128_d0_w32
abbrev qryW : IVec S256x128 32 := iota .tc S256x128 32 [1] iota_S256x128_d1_w32

def loadV (R : Refs) (blk : Fin 2) : PT F (FVec F S256x128 .bf16) := do
  let v : Vec F S256x128 .bf16 ← Prog.lift (.load R.v (rV blk).toLoadRect (View.loadsAt_vmem h_S256x128))
  pure (shapeCast S256x128 v shapeCasts_S256x128_S256x128)

/-- The start of the body: the results zeroed, the values of the first block of keys. -/
def startP (i : grid0.Coords) (R : Refs) :
    PT F (Σ' (arg1 : BitVec 32) (v8 : BitVec 32) (v12 : IVec S256x128 32) (v13 : IVec S256x128 32) (v26 : BitVec 32), BitVec 1) := do
  if _h : isFirst i then zeroQ R else pure ⟨⟩
  zeroKV R
  let v ← loadV R 0
  headP R v
  pure ⟨pidW i, jW i 0#32, keyW, qryW, Scalar.subi 15#32 (jW i 0#32), Scalar.cmpi .sgt (Scalar.subi 15#32 (jW i 0#32)) 0#32⟩

/-- The first block of keys: the loops. -/
def loopsP0 (i : grid0.Coords) (R : Refs) : PT F (Σ' (_ : BitVec 32), BitVec 1) := do
  scoresP R 0 0 (k0_off1 i 0#32 0) (k0_off1_inb i 0 0)
  Scf.Loop.for (k0_t1_loop i) (k0_t1_ok i) ⟨⟩ fun u _ =>
    tripP R 0 (k0_off7 i u 1) (k0_off4 i u 0) (k0_off12 i u 0) (k0_off7_inb i u 1) (k0_off4_inb i u 0) (k0_off12_inb i u 0)
  Scf.Loop.for (k0_t2_loop i) (k0_t2_ok i) ⟨⟩ fun u _ =>
    tripP R 0 (k0_off23 i u 1) (k0_off20 i u 0) (k0_off28 i u 0) (k0_off23_inb i u 1) (k0_off20_inb i u 0) (k0_off28_inb i u 0)
  pure ⟨2#32, Scalar.cmpi .eq 2#32 0#32⟩

/-- The first block of keys: its ending; and the values of the second block. -/
def endP0 (i : grid0.Coords) (R : Refs) :
    PT F (Σ' (v115 : BitVec 32) (v118 : IVec S256x128 1) (v119 : IVec S256x128 32) (v120 : IVec S256x128 32) (v122 : FVec F S256x128 .bf16), FVec F S256x128 .bf16) := do
  if h : k0_cond2 i = 1#1 then oddP R 0 (k0_off36 i 0) (k0_off36_inb i h 0) else pure ⟨⟩
  if h : k0_cond3 i = 1#1 then gradsP R true 0 0 (k0_off48 i 0) (k0_off48_inb i h 0) else pure ⟨⟩
  let v ← loadV R 1
  pure ⟨jW i 1#32, cmpi .slt qryW (broadcast S256x128 64#32), keyW, qryW, v,
    select (cmpi .slt qryW (broadcast S256x128 64#32)) v (broadcast S256x128 (Scalar.ofBits .bf16 0x0000#16))⟩

/-- The second block of keys: its first scores. -/
def openP1 (i : grid0.Coords) (R : Refs) (v : FVec F S256x128 .bf16) : PT F PUnit := do
  headP R v
  scoresP R 1 0 (k0_off1 i 1#32 0) (k0_off1_inb i 1 0)

/-- The second block of keys: its loops and its ending. -/
def endP1 (i : grid0.Coords) (R : Refs) : PT F PUnit := do
  Scf.Loop.for (k0_t3_loop i) (k0_t3_ok i) ⟨⟩ fun u _ =>
    tripP R 1 (k0_off52 i u 1) (k0_off49 i u 0) (k0_off57 i u 0) (k0_off52_inb i u 1) (k0_off49_inb i u 0) (k0_off57_inb i u 0)
  Scf.Loop.for (k0_t4_loop i) (k0_t4_ok i) ⟨⟩ fun u _ =>
    tripP R 1 (k0_off68 i u 1) (k0_off65 i u 0) (k0_off73 i u 0) (k0_off68_inb i u 1) (k0_off65_inb i u 0) (k0_off73_inb i u 0)
  if h : k0_cond4 i = 1#1 then oddP R 1 (k0_off81 i 0) (k0_off81_inb i h 0) else pure ⟨⟩
  if h : k0_cond5 i = 1#1 then gradsP R true 1 0 (k0_off93 i 0) (k0_off93_inb i h 0) else pure ⟨⟩
  pure ⟨⟩

end Cert.KernelIdeal.Flow

end
-- ==== Proof.Text.lean ====
/-
The printed body is the body written by its own functions.
-/
module

public import proofs.«01_k».proof.Proof.Program

@[expose] public section

set_option maxRecDepth 16384

noncomputable section

namespace Cert.KernelIdeal.Flow

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Facts₀ Cert.KernelIdeal.Facts

variable {F : FTy → Type} [FloatOps F] [Named F]

set_option maxRecDepth 65536

/-- The printed text of the start. -/
theorem text1 (i : grid0.Coords) (R : Refs) : (k0_part93 (F := F) i R.qt R.hqt R.k R.hk R.kt R.hkt R.v R.hv R.dot R.hdot R.l R.hl R.dl R.hdl R.dq R.hdq R.dk R.hdk R.dv R.hdv R.s R.hs R.dp R.hdp R.p R.hp R.ds R.hds R.vh R.hvh) = startP i R := rfl

/-- The printed text of the loops of the first block of keys. -/
theorem text2 (i : grid0.Coords) (R : Refs) : (do
  let ⟨v29, v56⟩ ← k0_part94 (F := F) i R.qt R.hqt R.k R.hk R.kt R.hkt R.v R.hv R.dot R.hdot R.l R.hl R.dl R.hdl R.dq R.hdq R.dk R.hdk R.dv R.hdv R.s R.hs R.dp R.hdp R.p R.hp R.ds R.hds R.vh R.hvh (jW i 0#32) (Scalar.cmpi .sgt (Scalar.subi 15#32 (jW i 0#32)) 0#32)
  k0_part95 i R.qt R.hqt R.k R.hk R.kt R.hkt R.v R.hv R.dot R.hdot R.l R.hl R.dl R.hdl R.dq R.hdq R.dk R.hdk R.dv R.hdv R.s R.hs R.dp R.hdp R.p R.hp R.ds R.hds R.vh R.hvh (jW i 0#32) (Scalar.subi 15#32 (jW i 0#32)) v29 v56) = loopsP0 i R := rfl

/-- The printed text of the ending of the first block of keys. -/
theorem text3 (i : grid0.Coords) (R : Refs) : (k0_part96 (F := F) i R.qt R.hqt R.k R.hk R.kt R.hkt R.v R.hv R.dot R.hdot R.l R.hl R.dl R.hdl R.dq R.hdq R.dk R.hdk R.dv R.hdv R.s R.hs R.dp R.hdp R.p R.hp R.ds R.hds R.vh R.hvh (pidW i) (jW i 0#32) keyW qryW (Scalar.subi 15#32 (jW i 0#32)) 2#32 (Scalar.cmpi .eq 2#32 0#32)) = endP0 i R := rfl

abbrev w184 (i : grid0.Coords) : BitVec 1 :=
  Scalar.cmpi .ne (Scalar.subi (Scalar.extui (Scalar.cmpi .sgt (Scalar.subi 15#32 (jW i 1#32)) 0#32)) (Scalar.extui (Scalar.cmpi .slt (Scalar.subi 15#32 (jW i 1#32)) 0#32)))
    (Scalar.subi (Scalar.extui (Scalar.cmpi .sgt 2#32 0#32)) (Scalar.extui (Scalar.cmpi .slt 2#32 0#32)))
abbrev w186 (i : grid0.Coords) : BitVec 1 := Scalar.cmpi .ne (Scalar.remsi (Scalar.subi 15#32 (jW i 1#32)) 2#32) 0#32

/-- The printed text of the opening of the second block of keys, before any continuation. -/
theorem text4 {α : Type} (i : grid0.Coords) (R : Refs) (v : FVec F S256x128 .bf16) (K : BitVec 32 → BitVec 32 → BitVec 1 → BitVec 1 → PT F α) : (do
  let ⟨v133, v136, v154⟩ ← k0_part97 (F := F) i R.qt R.hqt R.k R.hk R.kt R.hkt R.v R.hv R.dot R.hdot R.l R.hl R.dl R.hdl R.dq R.hdq R.dk R.hdk R.dv R.hdv R.s R.hs R.dp R.hdp R.p R.hp R.ds R.hds R.vh R.hvh (jW i 1#32) (cmpi .slt qryW (broadcast S256x128 64#32)) v (select (cmpi .slt qryW (broadcast S256x128 64#32)) v (broadcast S256x128 (Scalar.ofBits .bf16 0x0000#16)))
  let ⟨v173, v184, v186⟩ ← k0_part98 i R.qt R.hqt R.k R.hk R.kt R.hkt R.v R.hv R.dot R.hdot R.l R.hl R.dl R.hdl R.dq R.hdq R.dk R.hdk R.dv R.hdv R.s R.hs R.dp R.hdp R.p R.hp R.ds R.hds R.vh R.hvh v133 v136 v154
  K v133 v173 v184 v186) = (do
  openP1 i R v
  K (Scalar.subi 15#32 (jW i 1#32)) (Scalar.divsi (Scalar.subi 15#32 (jW i 1#32)) 2#32) (w184 i) (w186 i)) := rfl

/-- The printed text of the rest of the second block of keys. -/
theorem text5 (i : grid0.Coords) (R : Refs) : (k0_part99 (F := F) i R.qt R.hqt R.k R.hk R.kt R.hkt R.v R.hv R.dot R.hdot R.l R.hl R.dl R.hdl R.dq R.hdq R.dk R.hdk R.dv R.hdv R.s R.hs R.dp R.hdp R.p R.hp R.ds R.hds R.vh R.hvh (jW i 1#32) keyW qryW (Scalar.subi 15#32 (jW i 1#32)) (Scalar.divsi (Scalar.subi 15#32 (jW i 1#32)) 2#32) (w184 i) (w186 i)) = endP1 i R := rfl

end Cert.KernelIdeal.Flow
end
-- ==== Proof.Semantics.lean ====
/-
What the body does to its buffers, as a function of what they hold.
-/
module

public import proofs.«01_k».proof.Proof.Program

@[expose] public section

set_option maxRecDepth 16384

noncomputable section

namespace Cert.KernelIdeal.Flow

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Facts₀ Cert.KernelIdeal.Facts

variable {F : FTy → Type} [FloatOps F] [Named F]

local notation "𝕄" => MT nD τ sig Unit (Elt F) ℕ (UR sig nD τ) ℕ

/-- What the buffers that the body only reads hold. -/
structure In (F : FTy → Type) where
  qt : S16x256x256.Idx → Elt F .bf16
  k : S512x256.Idx → Elt F .bf16
  kt : S2x256x256.Idx → Elt F .bf16
  v : S512x128.Idx → Elt F .bf16
  dot : S16x128x256.Idx → Elt F .bf16
  l : S1x16x8x256.Idx → Elt F .f32
  dl : S1x16x8x256.Idx → Elt F .f32

/-- What the buffers that the body writes hold. -/
structure Mu (F : FTy → Type) where
  dq : S16x256x256.Idx → Elt F .f32
  dk : S2x256x256.Idx → Elt F .f32
  dv : S2x128x256.Idx → Elt F .f32
  s : S2x2x256x256.Idx → Elt F .f32
  dp : S2x2x256x256.Idx → Elt F .f32
  p : S2x256x256.Idx → Elt F .bf16
  ds : S2x256x256.Idx → Elt F .bf16
  vh : S2x256x128.Idx → Elt F .bf16

variable (c : Dev nD) (R : Refs) (I : In F)

/-- The buffers are held, with these contents. -/
def OwnAll (μ : Mu F) : sProp 𝕄 :=
  iprop(Own c R.qt I.qt ∗ Own c R.k I.k ∗ Own c R.kt I.kt ∗ Own c R.v I.v ∗ Own c R.dot I.dot ∗ Own c R.l I.l ∗ Own c R.dl I.dl ∗
    Own c R.dq μ.dq ∗ Own c R.dk μ.dk ∗ Own c R.dv μ.dv ∗ Own c R.s μ.s ∗ Own c R.dp μ.dp ∗ Own c R.p μ.p ∗ Own c R.ds μ.ds ∗ Own c R.vh μ.vh)

theorem focus_qt (μ : Mu F) : OwnAll c R I μ ⊢ iprop(Own c R.qt I.qt ∗ (Own c R.qt I.qt -∗ OwnAll c R I μ)) := by
  unfold OwnAll
  iintro ⟨Hqt, Hk, Hkt, Hv, Hdot, Hl, Hdl, Hdq, Hdk, Hdv, Hs, Hdp, Hp, Hds, Hvh⟩
  isplitl [Hqt]; · iexact Hqt
  iintro H
  isplitl [H]; · iexact H
  isplitl [Hk]; · iexact Hk
  isplitl [Hkt]; · iexact Hkt
  isplitl [Hv]; · iexact Hv
  isplitl [Hdot]; · iexact Hdot
  isplitl [Hl]; · iexact Hl
  isplitl [Hdl]; · iexact Hdl
  isplitl [Hdq]; · iexact Hdq
  isplitl [Hdk]; · iexact Hdk
  isplitl [Hdv]; · iexact Hdv
  isplitl [Hs]; · iexact Hs
  isplitl [Hdp]; · iexact Hdp
  isplitl [Hp]; · iexact Hp
  isplitl [Hds]; · iexact Hds
  iexact Hvh
theorem focus_k (μ : Mu F) : OwnAll c R I μ ⊢ iprop(Own c R.k I.k ∗ (Own c R.k I.k -∗ OwnAll c R I μ)) := by
  unfold OwnAll
  iintro ⟨Hqt, Hk, Hkt, Hv, Hdot, Hl, Hdl, Hdq, Hdk, Hdv, Hs, Hdp, Hp, Hds, Hvh⟩
  isplitl [Hk]; · iexact Hk
  iintro H
  isplitl [Hqt]; · iexact Hqt
  isplitl [H]; · iexact H
  isplitl [Hkt]; · iexact Hkt
  isplitl [Hv]; · iexact Hv
  isplitl [Hdot]; · iexact Hdot
  isplitl [Hl]; · iexact Hl
  isplitl [Hdl]; · iexact Hdl
  isplitl [Hdq]; · iexact Hdq
  isplitl [Hdk]; · iexact Hdk
  isplitl [Hdv]; · iexact Hdv
  isplitl [Hs]; · iexact Hs
  isplitl [Hdp]; · iexact Hdp
  isplitl [Hp]; · iexact Hp
  isplitl [Hds]; · iexact Hds
  iexact Hvh
theorem focus_kt (μ : Mu F) : OwnAll c R I μ ⊢ iprop(Own c R.kt I.kt ∗ (Own c R.kt I.kt -∗ OwnAll c R I μ)) := by
  unfold OwnAll
  iintro ⟨Hqt, Hk, Hkt, Hv, Hdot, Hl, Hdl, Hdq, Hdk, Hdv, Hs, Hdp, Hp, Hds, Hvh⟩
  isplitl [Hkt]; · iexact Hkt
  iintro H
  isplitl [Hqt]; · iexact Hqt
  isplitl [Hk]; · iexact Hk
  isplitl [H]; · iexact H
  isplitl [Hv]; · iexact Hv
  isplitl [Hdot]; · iexact Hdot
  isplitl [Hl]; · iexact Hl
  isplitl [Hdl]; · iexact Hdl
  isplitl [Hdq]; · iexact Hdq
  isplitl [Hdk]; · iexact Hdk
  isplitl [Hdv]; · iexact Hdv
  isplitl [Hs]; · iexact Hs
  isplitl [Hdp]; · iexact Hdp
  isplitl [Hp]; · iexact Hp
  isplitl [Hds]; · iexact Hds
  iexact Hvh
theorem focus_v (μ : Mu F) : OwnAll c R I μ ⊢ iprop(Own c R.v I.v ∗ (Own c R.v I.v -∗ OwnAll c R I μ)) := by
  unfold OwnAll
  iintro ⟨Hqt, Hk, Hkt, Hv, Hdot, Hl, Hdl, Hdq, Hdk, Hdv, Hs, Hdp, Hp, Hds, Hvh⟩
  isplitl [Hv]; · iexact Hv
  iintro H
  isplitl [Hqt]; · iexact Hqt
  isplitl [Hk]; · iexact Hk
  isplitl [Hkt]; · iexact Hkt
  isplitl [H]; · iexact H
  isplitl [Hdot]; · iexact Hdot
  isplitl [Hl]; · iexact Hl
  isplitl [Hdl]; · iexact Hdl
  isplitl [Hdq]; · iexact Hdq
  isplitl [Hdk]; · iexact Hdk
  isplitl [Hdv]; · iexact Hdv
  isplitl [Hs]; · iexact Hs
  isplitl [Hdp]; · iexact Hdp
  isplitl [Hp]; · iexact Hp
  isplitl [Hds]; · iexact Hds
  iexact Hvh
theorem focus_dot (μ : Mu F) : OwnAll c R I μ ⊢ iprop(Own c R.dot I.dot ∗ (Own c R.dot I.dot -∗ OwnAll c R I μ)) := by
  unfold OwnAll
  iintro ⟨Hqt, Hk, Hkt, Hv, Hdot, Hl, Hdl, Hdq, Hdk, Hdv, Hs, Hdp, Hp, Hds, Hvh⟩
  isplitl [Hdot]; · iexact Hdot
  iintro H
  isplitl [Hqt]; · iexact Hqt
  isplitl [Hk]; · iexact Hk
  isplitl [Hkt]; · iexact Hkt
  isplitl [Hv]; · iexact Hv
  isplitl [H]; · iexact H
  isplitl [Hl]; · iexact Hl
  isplitl [Hdl]; · iexact Hdl
  isplitl [Hdq]; · iexact Hdq
  isplitl [Hdk]; · iexact Hdk
  isplitl [Hdv]; · iexact Hdv
  isplitl [Hs]; · iexact Hs
  isplitl [Hdp]; · iexact Hdp
  isplitl [Hp]; · iexact Hp
  isplitl [Hds]; · iexact Hds
  iexact Hvh
theorem focus_l (μ : Mu F) : OwnAll c R I μ ⊢ iprop(Own c R.l I.l ∗ (Own c R.l I.l -∗ OwnAll c R I μ)) := by
  unfold OwnAll
  iintro ⟨Hqt, Hk, Hkt, Hv, Hdot, Hl, Hdl, Hdq, Hdk, Hdv, Hs, Hdp, Hp, Hds, Hvh⟩
  isplitl [Hl]; · iexact Hl
  iintro H
  isplitl [Hqt]; · iexact Hqt
  isplitl [Hk]; · iexact Hk
  isplitl [Hkt]; · iexact Hkt
  isplitl [Hv]; · iexact Hv
  isplitl [Hdot]; · iexact Hdot
  isplitl [H]; · iexact H
  isplitl [Hdl]; · iexact Hdl
  isplitl [Hdq]; · iexact Hdq
  isplitl [Hdk]; · iexact Hdk
  isplitl [Hdv]; · iexact Hdv
  isplitl [Hs]; · iexact Hs
  isplitl [Hdp]; · iexact Hdp
  isplitl [Hp]; · iexact Hp
  isplitl [Hds]; · iexact Hds
  iexact Hvh
theorem focus_dl (μ : Mu F) : OwnAll c R I μ ⊢ iprop(Own c R.dl I.dl ∗ (Own c R.dl I.dl -∗ OwnAll c R I μ)) := by
  unfold OwnAll
  iintro ⟨Hqt, Hk, Hkt, Hv, Hdot, Hl, Hdl, Hdq, Hdk, Hdv, Hs, Hdp, Hp, Hds, Hvh⟩
  isplitl [Hdl]; · iexact Hdl
  iintro H
  isplitl [Hqt]; · iexact Hqt
  isplitl [Hk]; · iexact Hk
  isplitl [Hkt]; · iexact Hkt
  isplitl [Hv]; · iexact Hv
  isplitl [Hdot]; · iexact Hdot
  isplitl [Hl]; · iexact Hl
  isplitl [H]; · iexact H
  isplitl [Hdq]; · iexact Hdq
  isplitl [Hdk]; · iexact Hdk
  isplitl [Hdv]; · iexact Hdv
  isplitl [Hs]; · iexact Hs
  isplitl [Hdp]; · iexact Hdp
  isplitl [Hp]; · iexact Hp
  isplitl [Hds]; · iexact Hds
  iexact Hvh
theorem focus_dq (μ : Mu F) (g) : OwnAll c R I μ ⊢ iprop(Own c R.dq μ.dq ∗ (Own c R.dq g -∗ OwnAll c R I { μ with dq := g })) := by
  unfold OwnAll
  iintro ⟨Hqt, Hk, Hkt, Hv, Hdot, Hl, Hdl, Hdq, Hdk, Hdv, Hs, Hdp, Hp, Hds, Hvh⟩
  isplitl [Hdq]; · iexact Hdq
  iintro H
  isplitl [Hqt]; · iexact Hqt
  isplitl [Hk]; · iexact Hk
  isplitl [Hkt]; · iexact Hkt
  isplitl [Hv]; · iexact Hv
  isplitl [Hdot]; · iexact Hdot
  isplitl [Hl]; · iexact Hl
  isplitl [Hdl]; · iexact Hdl
  isplitl [H]; · iexact H
  isplitl [Hdk]; · iexact Hdk
  isplitl [Hdv]; · iexact Hdv
  isplitl [Hs]; · iexact Hs
  isplitl [Hdp]; · iexact Hdp
  isplitl [Hp]; · iexact Hp
  isplitl [Hds]; · iexact Hds
  iexact Hvh
theorem focus_dk (μ : Mu F) (g) : OwnAll c R I μ ⊢ iprop(Own c R.dk μ.dk ∗ (Own c R.dk g -∗ OwnAll c R I { μ with dk := g })) := by
  unfold OwnAll
  iintro ⟨Hqt, Hk, Hkt, Hv, Hdot, Hl, Hdl, Hdq, Hdk, Hdv, Hs, Hdp, Hp, Hds, Hvh⟩
  isplitl [Hdk]; · iexact Hdk
  iintro H
  isplitl [Hqt]; · iexact Hqt
  isplitl [Hk]; · iexact Hk
  isplitl [Hkt]; · iexact Hkt
  isplitl [Hv]; · iexact Hv
  isplitl [Hdot]; · iexact Hdot
  isplitl [Hl]; · iexact Hl
  isplitl [Hdl]; · iexact Hdl
  isplitl [Hdq]; · iexact Hdq
  isplitl [H]; · iexact H
  isplitl [Hdv]; · iexact Hdv
  isplitl [Hs]; · iexact Hs
  isplitl [Hdp]; · iexact Hdp
  isplitl [Hp]; · iexact Hp
  isplitl [Hds]; · iexact Hds
  iexact Hvh
theorem focus_dv (μ : Mu F) (g) : OwnAll c R I μ ⊢ iprop(Own c R.dv μ.dv ∗ (Own c R.dv g -∗ OwnAll c R I { μ with dv := g })) := by
  unfold OwnAll
  iintro ⟨Hqt, Hk, Hkt, Hv, Hdot, Hl, Hdl, Hdq, Hdk, Hdv, Hs, Hdp, Hp, Hds, Hvh⟩
  isplitl [Hdv]; · iexact Hdv
  iintro H
  isplitl [Hqt]; · iexact Hqt
  isplitl [Hk]; · iexact Hk
  isplitl [Hkt]; · iexact Hkt
  isplitl [Hv]; · iexact Hv
  isplitl [Hdot]; · iexact Hdot
  isplitl [Hl]; · iexact Hl
  isplitl [Hdl]; · iexact Hdl
  isplitl [Hdq]; · iexact Hdq
  isplitl [Hdk]; · iexact Hdk
  isplitl [H]; · iexact H
  isplitl [Hs]; · iexact Hs
  isplitl [Hdp]; · iexact Hdp
  isplitl [Hp]; · iexact Hp
  isplitl [Hds]; · iexact Hds
  iexact Hvh
theorem focus_s (μ : Mu F) (g) : OwnAll c R I μ ⊢ iprop(Own c R.s μ.s ∗ (Own c R.s g -∗ OwnAll c R I { μ with s := g })) := by
  unfold OwnAll
  iintro ⟨Hqt, Hk, Hkt, Hv, Hdot, Hl, Hdl, Hdq, Hdk, Hdv, Hs, Hdp, Hp, Hds, Hvh⟩
  isplitl [Hs]; · iexact Hs
  iintro H
  isplitl [Hqt]; · iexact Hqt
  isplitl [Hk]; · iexact Hk
  isplitl [Hkt]; · iexact Hkt
  isplitl [Hv]; · iexact Hv
  isplitl [Hdot]; · iexact Hdot
  isplitl [Hl]; · iexact Hl
  isplitl [Hdl]; · iexact Hdl
  isplitl [Hdq]; · iexact Hdq
  isplitl [Hdk]; · iexact Hdk
  isplitl [Hdv]; · iexact Hdv
  isplitl [H]; · iexact H
  isplitl [Hdp]; · iexact Hdp
  isplitl [Hp]; · iexact Hp
  isplitl [Hds]; · iexact Hds
  iexact Hvh
theorem focus_dp (μ : Mu F) (g) : OwnAll c R I μ ⊢ iprop(Own c R.dp μ.dp ∗ (Own c R.dp g -∗ OwnAll c R I { μ with dp := g })) := by
  unfold OwnAll
  iintro ⟨Hqt, Hk, Hkt, Hv, Hdot, Hl, Hdl, Hdq, Hdk, Hdv, Hs, Hdp, Hp, Hds, Hvh⟩
  isplitl [Hdp]; · iexact Hdp
  iintro H
  isplitl [Hqt]; · iexact Hqt
  isplitl [Hk]; · iexact Hk
  isplitl [Hkt]; · iexact Hkt
  isplitl [Hv]; · iexact Hv
  isplitl [Hdot]; · iexact Hdot
  isplitl [Hl]; · iexact Hl
  isplitl [Hdl]; · iexact Hdl
  isplitl [Hdq]; · iexact Hdq
  isplitl [Hdk]; · iexact Hdk
  isplitl [Hdv]; · iexact Hdv
  isplitl [Hs]; · iexact Hs
  isplitl [H]; · iexact H
  isplitl [Hp]; · iexact Hp
  isplitl [Hds]; · iexact Hds
  iexact Hvh
theorem focus_p (μ : Mu F) (g) : OwnAll c R I μ ⊢ iprop(Own c R.p μ.p ∗ (Own c R.p g -∗ OwnAll c R I { μ with p := g })) := by
  unfold OwnAll
  iintro ⟨Hqt, Hk, Hkt, Hv, Hdot, Hl, Hdl, Hdq, Hdk, Hdv, Hs, Hdp, Hp, Hds, Hvh⟩
  isplitl [Hp]; · iexact Hp
  iintro H
  isplitl [Hqt]; · iexact Hqt
  isplitl [Hk]; · iexact Hk
  isplitl [Hkt]; · iexact Hkt
  isplitl [Hv]; · iexact Hv
  isplitl [Hdot]; · iexact Hdot
  isplitl [Hl]; · iexact Hl
  isplitl [Hdl]; · iexact Hdl
  isplitl [Hdq]; · iexact Hdq
  isplitl [Hdk]; · iexact Hdk
  isplitl [Hdv]; · iexact Hdv
  isplitl [Hs]; · iexact Hs
  isplitl [Hdp]; · iexact Hdp
  isplitl [H]; · iexact H
  isplitl [Hds]; · iexact Hds
  iexact Hvh
theorem focus_ds (μ : Mu F) (g) : OwnAll c R I μ ⊢ iprop(Own c R.ds μ.ds ∗ (Own c R.ds g -∗ OwnAll c R I { μ with ds := g })) := by
  unfold OwnAll
  iintro ⟨Hqt, Hk, Hkt, Hv, Hdot, Hl, Hdl, Hdq, Hdk, Hdv, Hs, Hdp, Hp, Hds, Hvh⟩
  isplitl [Hds]; · iexact Hds
  iintro H
  isplitl [Hqt]; · iexact Hqt
  isplitl [Hk]; · iexact Hk
  isplitl [Hkt]; · iexact Hkt
  isplitl [Hv]; · iexact Hv
  isplitl [Hdot]; · iexact Hdot
  isplitl [Hl]; · iexact Hl
  isplitl [Hdl]; · iexact Hdl
  isplitl [Hdq]; · iexact Hdq
  isplitl [Hdk]; · iexact Hdk
  isplitl [Hdv]; · iexact Hdv
  isplitl [Hs]; · iexact Hs
  isplitl [Hdp]; · iexact Hdp
  isplitl [Hp]; · iexact Hp
  isplitl [H]; · iexact H
  iexact Hvh
theorem focus_vh (μ : Mu F) (g) : OwnAll c R I μ ⊢ iprop(Own c R.vh μ.vh ∗ (Own c R.vh g -∗ OwnAll c R I { μ with vh := g })) := by
  unfold OwnAll
  iintro ⟨Hqt, Hk, Hkt, Hv, Hdot, Hl, Hdl, Hdq, Hdk, Hdv, Hs, Hdp, Hp, Hds, Hvh⟩
  isplitl [Hvh]; · iexact Hvh
  iintro H
  isplitl [Hqt]; · iexact Hqt
  isplitl [Hk]; · iexact Hk
  isplitl [Hkt]; · iexact Hkt
  isplitl [Hv]; · iexact Hv
  isplitl [Hdot]; · iexact Hdot
  isplitl [Hl]; · iexact Hl
  isplitl [Hdl]; · iexact Hdl
  isplitl [Hdq]; · iexact Hdq
  isplitl [Hdk]; · iexact Hdk
  isplitl [Hdv]; · iexact Hdv
  isplitl [Hs]; · iexact Hs
  isplitl [Hdp]; · iexact Hdp
  isplitl [Hp]; · iexact Hp
  isplitl [Hds]; · iexact Hds
  iexact H
theorem focusL_dq (μ : Mu F) : OwnAll c R I μ ⊢ iprop(Own c R.dq μ.dq ∗ (Own c R.dq μ.dq -∗ OwnAll c R I μ)) := focus_dq c R I μ μ.dq
theorem focusL_dk (μ : Mu F) : OwnAll c R I μ ⊢ iprop(Own c R.dk μ.dk ∗ (Own c R.dk μ.dk -∗ OwnAll c R I μ)) := focus_dk c R I μ μ.dk
theorem focusL_dv (μ : Mu F) : OwnAll c R I μ ⊢ iprop(Own c R.dv μ.dv ∗ (Own c R.dv μ.dv -∗ OwnAll c R I μ)) := focus_dv c R I μ μ.dv
theorem focusL_s (μ : Mu F) : OwnAll c R I μ ⊢ iprop(Own c R.s μ.s ∗ (Own c R.s μ.s -∗ OwnAll c R I μ)) := focus_s c R I μ μ.s
theorem focusL_dp (μ : Mu F) : OwnAll c R I μ ⊢ iprop(Own c R.dp μ.dp ∗ (Own c R.dp μ.dp -∗ OwnAll c R I μ)) := focus_dp c R I μ μ.dp
theorem focusL_p (μ : Mu F) : OwnAll c R I μ ⊢ iprop(Own c R.p μ.p ∗ (Own c R.p μ.p -∗ OwnAll c R I μ)) := focus_p c R I μ μ.p
theorem focusL_ds (μ : Mu F) : OwnAll c R I μ ⊢ iprop(Own c R.ds μ.ds ∗ (Own c R.ds μ.ds -∗ OwnAll c R I μ)) := focus_ds c R I μ μ.ds
theorem focusL_vh (μ : Mu F) : OwnAll c R I μ ⊢ iprop(Own c R.vh μ.vh ∗ (Own c R.vh μ.vh -∗ OwnAll c R I μ)) := focus_vh c R I μ μ.vh

variable {c} {R} {I}

section Rules

variable {𝒱 : Variants} {bd : Option 𝒱.V} {E : Set ℕ} {s : Shape} {e : EltTy} {α : Type}

theorem ldOf {A Z : sProp 𝕄} {Q : α → sProp 𝕄} {m : Memref sig .tc .vmem s e} {r : LoadRect s} {hl : m.view.LoadsAt r} {f : s.Idx → Elt F e}
    {k : (r.shape.Idx → Elt F e) → PT F α} (hA : A ⊢ iprop(Own c m f ∗ (Own c m f -∗ A)))
    (h : iprop(A ∗ Z) ⊢ wp frame (wpE defs₀ 𝒱 (c : Thread nD τ) bd) E (k (ldr r f)) Q) :
    iprop(A ∗ Z) ⊢ wp frame (wpE defs₀ 𝒱 (c : Thread nD τ) bd) E (.op (.load m r hl) k) Q := by
  iintro ⟨HA, HZ⟩
  ihave HA := hA $$ HA
  icases HA with ⟨HO, HC⟩
  iapply (own_load 𝒱 c bd E) $$ [HO]
  · iexact HO
  iintro HO
  iapply h
  isplitl [HO HC]
  · iapply HC; iexact HO
  · iexact HZ

theorem stOf {A A' Z : sProp 𝕄} {Q : α → sProp 𝕄} {m : Memref sig .tc .vmem s e} {r : Rect s} {w : r.shape.Idx → Elt F e}
    {Mk : Finset r.shape.Idx} {hx : (m.access r).Stores Mk} {hm : Mk = Finset.univ ∨ ∀ a, r.stride a = 1} {f : s.Idx → Elt F e}
    {k : PUnit → PT F α} (hM : Mk = Finset.univ) (hA : A ⊢ iprop(Own c m f ∗ (Own c m (upd r w f) -∗ A')))
    (h : iprop(A' ∗ Z) ⊢ wp frame (wpE defs₀ 𝒱 (c : Thread nD τ) bd) E (k ⟨⟩) Q) :
    iprop(A ∗ Z) ⊢ wp frame (wpE defs₀ 𝒱 (c : Thread nD τ) bd) E (.op (.store m r w Mk hx hm) k) Q := by
  subst hM
  iintro ⟨HA, HZ⟩
  ihave HA := hA $$ HA
  icases HA with ⟨HO, HC⟩
  iapply (own_store 𝒱 c bd E) $$ [HO]
  · iexact HO
  iintro HO
  iapply h
  isplitl [HO HC]
  · iapply HC; iexact HO
  · iexact HZ

end Rules

variable (c) (R) (I)

/-- The program `p` returns `v μ` from the contents `μ` and leaves the contents `f μ`. -/
def Tr {β : Type} (p : PT F β) (v : Mu F → β) (f : Mu F → Mu F) : Prop :=
  ∀ (𝒱 : Variants) (bd : Option 𝒱.V) (E : Set ℕ) (α : Type) (k : β → PT F α) (Q : α → sProp 𝕄) (Z : sProp 𝕄) (μ : Mu F),
    (iprop(OwnAll c R I (f μ) ∗ Z) ⊢ wp frame (wpE defs₀ 𝒱 (c : Thread nD τ) bd) E (k (v μ)) Q) →
    (iprop(OwnAll c R I μ ∗ Z) ⊢ wp frame (wpE defs₀ 𝒱 (c : Thread nD τ) bd) E (p >>= k) Q)

/-- The same of a program that returns nothing. -/
abbrev TrU (p : PT F PUnit) (f : Mu F → Mu F) : Prop := Tr c R I p (fun _ => ⟨⟩) f

variable {c} {R} {I}

theorem Tr.pure {β : Type} (b : β) : Tr c R I (Pure.pure b : PT F β) (fun _ => b) id := by
  intro 𝒱 bd E α k Q Z μ h; exact h

theorem Tr.bind {β γ : Type} {p : PT F β} {v : Mu F → β} {f : Mu F → Mu F} {q : β → PT F γ} {w : Mu F → γ} {g : Mu F → Mu F}
    (hp : Tr c R I p v f) (hq : ∀ μ, Tr c R I (q (v μ)) w g) : Tr c R I (p >>= q) (fun μ => w (f μ)) (fun μ => g (f μ)) := by
  intro 𝒱 bd E α k Q Z μ h
  rw [Prog.bind_assoc]
  exact hp 𝒱 bd E α _ Q Z μ (hq μ 𝒱 bd E α k Q Z (f μ) h)

/-- The value read by the first half may decide what the second does. -/
theorem Tr.bindV {β γ : Type} {p : PT F β} {v : Mu F → β} {f : Mu F → Mu F} {q : β → PT F γ} {w : β → Mu F → γ} {g : β → Mu F → Mu F}
    (hp : Tr c R I p v f) (hq : ∀ b, Tr c R I (q b) (w b) (g b)) : Tr c R I (p >>= q) (fun μ => w (v μ) (f μ)) (fun μ => g (v μ) (f μ)) := by
  intro 𝒱 bd E α k Q Z μ h
  rw [Prog.bind_assoc]
  exact hp 𝒱 bd E α _ Q Z μ (hq (v μ) 𝒱 bd E α k Q Z (f μ) h)

theorem TrU.seq {γ : Type} {p : PT F PUnit} {f : Mu F → Mu F} {q : PUnit → PT F γ} {w : Mu F → γ} {g : Mu F → Mu F}
    (hp : TrU c R I p f) (hq : Tr c R I (q ⟨⟩) w g) : Tr c R I (p >>= q) (fun μ => w (f μ)) (fun μ => g (f μ)) :=
  Tr.bind hp fun _ => hq

theorem TrU.then {p q : PT F PUnit} {f g : Mu F → Mu F} (hp : TrU c R I p f) (hq : TrU c R I q g) :
    TrU c R I (p >>= fun _ => q) (fun μ => g (f μ)) := by
  intro 𝒱 bd E α k Q Z μ h
  rw [Prog.bind_assoc]
  exact hp 𝒱 bd E α _ Q Z μ (hq 𝒱 bd E α k Q Z (f μ) h)

theorem Tr.dite {γ : Type} {P : Prop} [Decidable P] {p : P → PT F γ} {q : ¬ P → PT F γ} {w : Mu F → γ} {f : P → Mu F → Mu F} {g : ¬ P → Mu F → Mu F}
    (hp : ∀ h, Tr c R I (p h) w (f h)) (hq : ∀ h, Tr c R I (q h) w (g h)) :
    Tr c R I (if h : P then p h else q h) w (fun μ => if h : P then f h μ else g h μ) := by
  by_cases h : P
  · simp only [dif_pos h]; exact hp h
  · simp only [dif_neg h]; exact hq h

theorem TrU.forFrom {n : Nat} {b : Fin n → PUnit → PT F PUnit} {f : Fin n → Mu F → Mu F} (hb : ∀ u x, TrU c R I (b u x) (f u)) :
    ∀ (l : List (Fin n)) (x : PUnit), TrU c R I (Scf.forFrom b l x) (fun μ => l.foldl (fun μ u => f u μ) μ)
  | [], _ => Tr.pure _
  | u :: l, x => by
      intro 𝒱 bd E α k Q Z μ h
      rw [Scf.forFrom_cons, Prog.bind_assoc]
      exact hb u x 𝒱 bd E α _ Q Z μ (TrU.forFrom hb l _ 𝒱 bd E α k Q Z (f u μ) h)

theorem TrU.loop {l : Scf.Loop 32} {hok : l.OK} {b : Fin l.trips → PUnit → PT F PUnit} {f : Fin l.trips → Mu F → Mu F}
    (hb : ∀ u x, TrU c R I (b u x) (f u)) :
    TrU c R I (Scf.Loop.for l hok ⟨⟩ b) (fun μ => (List.finRange l.trips).foldl (fun μ u => f u μ) μ) := by
  unfold Scf.Loop.for
  rw [Scf.for_eq]
  exact TrU.forFrom hb _ _

/-! ## The functions -/

variable (I)

def scoreHalfM (blk slot hh : Fin 2) (n : Nat) (hn : n + 1 ≤ 16) (μ : Mu F) : Mu F :=
  { μ with
    s := upd (rS slot hh) (payDot (shapeCast S256x128 (ldr (rK blk hh).toLoadRect I.k) shapeCasts_S256x128_S256x128) (ldr (rQ hh n hn).toLoadRect I.qt)) μ.s
    dp := upd (rS slot hh) (payDot (shapeCast S256x128 (ldr (rVh hh).toLoadRect μ.vh) shapeCasts_S1x256x128_S256x128) (ldr (rDo n hn).toLoadRect I.dot)) μ.dp }

def scoresM (blk slot : Fin 2) (n : Nat) (hn : n + 1 ≤ 16) (μ : Mu F) : Mu F :=
  scoreHalfM I blk slot 1 n hn (scoreHalfM I blk slot 0 n hn μ)

def chunkM (diag : Bool) (slot hh cc : Fin 2) (l dl : Vec F S1x1x8x256 .f32) (μ : Mu F) : Mu F :=
  { μ with
    p := upd (rPc hh cc) (payPb (payPd diag hh cc (ldr (rSc slot hh cc).toLoadRect μ.s) l)) μ.p
    ds := upd (rPc hh cc) (payDs hh cc (payPd diag hh cc (ldr (rSc slot hh cc).toLoadRect μ.s) l) (ldr (rSc slot hh cc).toLoadRect μ.dp) dl) μ.ds }

def updM (blk hh : Fin 2) (n : Nat) (hn : n + 1 ≤ 16) (μ : Mu F) : Mu F :=
  { μ with
    dv := upd (rDv blk hh) (payDv (ldr (rDv blk hh).toLoadRect μ.dv) (ldr (rDo64 hh n hn).toLoadRect I.dot) (ldr (rP hh).toLoadRect μ.p)) μ.dv
    dk := upd (rDk blk hh) (payDk (ldr (rDk blk hh).toLoadRect μ.dk) (ldr (rQ96 hh n hn).toLoadRect I.qt) (ldr (rP hh).toLoadRect μ.ds)) μ.dk
    dq := upd (rQ96 hh n hn) (payDq (ldr (rQ96 hh n hn).toLoadRect μ.dq) (ldr (rDk blk hh).toLoadRect I.kt) (ldr (rP hh).toLoadRect μ.ds)) μ.dq }

def chunksM (diag : Bool) (slot : Fin 2) (l dl : Vec F S1x1x8x256 .f32) (μ : Mu F) : Mu F :=
  chunkM diag slot 1 1 l dl (chunkM diag slot 1 0 l dl (chunkM diag slot 0 1 l dl (chunkM diag slot 0 0 l dl μ)))

def gradsM (diag : Bool) (blk slot : Fin 2) (n : Nat) (hn : n + 1 ≤ 16) (μ : Mu F) : Mu F :=
  updM I blk 1 n hn (updM I blk 0 n hn (chunksM diag slot (ldr (rL n hn).toLoadRect I.l) (ldr (rL n hn).toLoadRect I.dl) μ))

def tripM (blk : Fin 2) (n0 n1 n2 : Nat) (h0 : n0 + 1 ≤ 16) (h1 : n1 + 1 ≤ 16) (h2 : n2 + 1 ≤ 16) (μ : Mu F) : Mu F :=
  gradsM I false blk 1 n1 h1 (scoresM I blk 0 n2 h2 (gradsM I false blk 0 n0 h0 (scoresM I blk 1 n1 h1 μ)))

def oddM (blk : Fin 2) (n : Nat) (hn : n + 1 ≤ 16) (μ : Mu F) : Mu F :=
  gradsM I true blk 1 n hn (gradsM I false blk 0 15 (by decide) (scoresM I blk 1 n hn μ))

variable {I}

def headM (v : Vec F S256x128 .bf16) (μ : Mu F) : Mu F :=
  { μ with vh := upd (rVh 1) (payVh 1 v) (upd (rVh 0) (payVh 0 v) μ.vh) }

def zeroQM (μ : Mu F) : Mu F :=
  { μ with dq := upd (Rect.unit (s := S16x256x256) ![0, 0, 0] S16x256x256.size inb_S16x256x256_S16x256x256_0_0_0) (broadcast S16x256x256 (Scalar.ofBits .f32 0x00000000#32)) μ.dq }

def zeroKVM (μ : Mu F) : Mu F :=
  { μ with
    dk := upd (Rect.unit (s := S2x256x256) ![0, 0, 0] S2x256x256.size inb_S2x256x256_S2x256x256_0_0_0) (broadcast S2x256x256 (Scalar.ofBits .f32 0x00000000#32)) μ.dk
    dv := upd (Rect.unit (s := S2x128x256) ![0, 0, 0] S2x128x256.size inb_S2x128x256_S2x128x256_0_0_0) (broadcast S2x128x256 (Scalar.ofBits .f32 0x00000000#32)) μ.dv }

variable (I) in
def vOf (blk : Fin 2) : FVec F S256x128 .bf16 := shapeCast S256x128 (ldr (rV blk).toLoadRect I.v) shapeCasts_S256x128_S256x128

end Cert.KernelIdeal.Flow

end
-- ==== Proof.Steps.lean ====
/-
The programs of the body do to the buffers what their functions say.
-/
module

public import proofs.«01_k».proof.Proof.Semantics

@[expose] public section

set_option maxRecDepth 16384

noncomputable section

namespace Cert.KernelIdeal.Flow

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Facts₀ Cert.KernelIdeal.Facts

variable {F : FTy → Type} [FloatOps F] [Named F]

local notation "𝕄" => MT nD τ sig Unit (Elt F) ℕ (UR sig nD τ) ℕ

variable {c : Dev nD} {R : Refs} {I : In F}

attribute [local irreducible] payDot payPd payPb payDs payDv payDk payDq payVh upd ldr

/-! ## The programs do them -/

theorem scoreHalf_tr (blk slot hh : Fin 2) (n : Nat) (hn : n + 1 ≤ 16) : TrU c R I (scoreHalf R blk slot hh n hn) (scoreHalfM I blk slot hh n hn) := by
  intro 𝒱 bd E α k Q Z μ h
  refine ldOf (focus_k c R I _) ?_
  refine ldOf (focus_qt c R I _) ?_
  refine ldOf (focusL_s c R I _) ?_
  refine stOf rfl (focus_s c R I _ _) ?_
  refine ldOf (focusL_vh c R I _) ?_
  refine ldOf (focus_dot c R I _) ?_
  refine ldOf (focusL_dp c R I _) ?_
  refine stOf rfl (focus_dp c R I _ _) ?_
  exact h

theorem chunk_tr (diag : Bool) (slot hh cc : Fin 2) (l dl : Vec F S1x1x8x256 .f32) : TrU c R I (chunkP R diag slot hh cc l dl) (chunkM diag slot hh cc l dl) := by
  intro 𝒱 bd E α k Q Z μ h
  refine ldOf (focusL_s c R I _) ?_
  refine ldOf (focusL_p c R I _) ?_
  refine stOf rfl (focus_p c R I _ _) ?_
  refine ldOf (focusL_dp c R I _) ?_
  refine ldOf (focusL_ds c R I _) ?_
  refine stOf rfl (focus_ds c R I _ _) ?_
  exact h

theorem upd_tr (blk hh : Fin 2) (n : Nat) (hn : n + 1 ≤ 16) : TrU c R I (updP R blk hh n hn) (updM I blk hh n hn) := by
  intro 𝒱 bd E α k Q Z μ h
  refine ldOf (focusL_dv c R I _) ?_
  refine ldOf (focus_dot c R I _) ?_
  refine ldOf (focusL_p c R I _) ?_
  refine ldOf (focusL_dv c R I _) ?_
  refine stOf rfl (focus_dv c R I _ _) ?_
  refine ldOf (focusL_dk c R I _) ?_
  refine ldOf (focus_qt c R I _) ?_
  refine ldOf (focusL_ds c R I _) ?_
  refine ldOf (focusL_dk c R I _) ?_
  refine stOf rfl (focus_dk c R I _ _) ?_
  refine ldOf (focusL_dq c R I _) ?_
  refine ldOf (focus_kt c R I _) ?_
  refine ldOf (focusL_ds c R I _) ?_
  refine ldOf (focusL_dq c R I _) ?_
  refine stOf rfl (focus_dq c R I _ _) ?_
  exact h

theorem head_tr (v : Vec F S256x128 .bf16) : TrU c R I (headP R v) (headM v) := by
  intro 𝒱 bd E α k Q Z μ h
  refine ldOf (focusL_vh c R I _) ?_
  refine stOf rfl (focus_vh c R I _ _) ?_
  refine ldOf (focusL_vh c R I _) ?_
  refine stOf rfl (focus_vh c R I _ _) ?_
  exact h

theorem zeroQ_tr  : TrU c R I (zeroQ R) (zeroQM) := by
  intro 𝒱 bd E α k Q Z μ h
  refine ldOf (focusL_dq c R I _) ?_
  refine stOf rfl (focus_dq c R I _ _) ?_
  exact h

theorem zeroKV_tr  : TrU c R I (zeroKV R) (zeroKVM) := by
  intro 𝒱 bd E α k Q Z μ h
  refine ldOf (focusL_dk c R I _) ?_
  refine stOf rfl (focus_dk c R I _ _) ?_
  refine ldOf (focusL_dv c R I _) ?_
  refine stOf rfl (focus_dv c R I _ _) ?_
  exact h

theorem loadV_tr (blk : Fin 2) : Tr c R I (loadV R blk) (fun _ => vOf I blk) (id) := by
  intro 𝒱 bd E α k Q Z μ h
  refine ldOf (focus_v c R I _) ?_
  exact h

theorem scores_tr (blk slot : Fin 2) (n : Nat) (hn : n + 1 ≤ 16) : TrU c R I (scoresP R blk slot n hn) (scoresM I blk slot n hn) := by
  have h := TrU.then (scoreHalf_tr (c := c) (R := R) (I := I) blk slot 0 n hn) (scoreHalf_tr blk slot 1 n hn)
  exact h

theorem grads_tr (diag : Bool) (blk slot : Fin 2) (n : Nat) (hn : n + 1 ≤ 16) : TrU c R I (gradsP R diag blk slot n hn) (gradsM I diag blk slot n hn) := by
  intro 𝒱 bd E α k Q Z μ h
  refine ldOf (focus_l c R I _) ?_
  refine ldOf (focus_dl c R I _) ?_
  have h' := (chunk_tr (c := c) (R := R) (I := I) diag slot 0 0 (ldr (rL n hn).toLoadRect I.l) (ldr (rL n hn).toLoadRect I.dl)).then
    ((chunk_tr diag slot 0 1 (ldr (rL n hn).toLoadRect I.l) (ldr (rL n hn).toLoadRect I.dl)).then
    ((chunk_tr diag slot 1 0 (ldr (rL n hn).toLoadRect I.l) (ldr (rL n hn).toLoadRect I.dl)).then
    ((chunk_tr diag slot 1 1 (ldr (rL n hn).toLoadRect I.l) (ldr (rL n hn).toLoadRect I.dl)).then ((upd_tr blk 0 n hn).then (upd_tr blk 1 n hn)))))
  exact h' 𝒱 bd E α k Q Z μ h

theorem trip_tr (blk : Fin 2) (n0 n1 n2 : Nat) (h0 : n0 + 1 ≤ 16) (h1 : n1 + 1 ≤ 16) (h2 : n2 + 1 ≤ 16) :
    TrU c R I (tripP R blk n0 n1 n2 h0 h1 h2) (tripM I blk n0 n1 n2 h0 h1 h2) := by
  have h := (scores_tr (c := c) (R := R) (I := I) blk 1 n1 h1).then ((grads_tr false blk 0 n0 h0).then ((scores_tr blk 0 n2 h2).then (grads_tr false blk 1 n1 h1)))
  exact h

theorem odd_tr (blk : Fin 2) (n : Nat) (hn : n + 1 ≤ 16) : TrU c R I (oddP R blk n hn) (oddM I blk n hn) := by
  have h := (scores_tr (c := c) (R := R) (I := I) blk 1 n hn).then ((grads_tr false blk 0 15 (by decide)).then (grads_tr true blk 1 n hn))
  exact h

end Cert.KernelIdeal.Flow

end
-- ==== Proof.Body.lean ====
/-
The whole body at a grid point, as a function of what the buffers hold.
-/
module

public import proofs.«01_k».proof.Proof.Text
public import proofs.«01_k».proof.Proof.Steps

@[expose] public section

set_option maxRecDepth 16384

noncomputable section

namespace Cert.KernelIdeal.Flow

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Facts₀ Cert.KernelIdeal.Facts

variable {F : FTy → Type} [FloatOps F] [Named F]

local notation "𝕄" => MT nD τ sig Unit (Elt F) ℕ (UR sig nD τ) ℕ

variable (I : In F) (i : grid0.Coords)

def startM (μ : Mu F) : Mu F := headM (vOf I 0) (zeroKVM (if _h : isFirst i then zeroQM μ else μ))

def trip1M (u : Fin (k0_t1_loop i).trips) : Mu F → Mu F :=
  tripM I 0 (k0_off7 i u 1) (k0_off4 i u 0) (k0_off12 i u 0) (k0_off7_inb i u 1) (k0_off4_inb i u 0) (k0_off12_inb i u 0)
def trip2M (u : Fin (k0_t2_loop i).trips) : Mu F → Mu F :=
  tripM I 0 (k0_off23 i u 1) (k0_off20 i u 0) (k0_off28 i u 0) (k0_off23_inb i u 1) (k0_off20_inb i u 0) (k0_off28_inb i u 0)
def trip3M (u : Fin (k0_t3_loop i).trips) : Mu F → Mu F :=
  tripM I 1 (k0_off52 i u 1) (k0_off49 i u 0) (k0_off57 i u 0) (k0_off52_inb i u 1) (k0_off49_inb i u 0) (k0_off57_inb i u 0)
def trip4M (u : Fin (k0_t4_loop i).trips) : Mu F → Mu F :=
  tripM I 1 (k0_off68 i u 1) (k0_off65 i u 0) (k0_off73 i u 0) (k0_off68_inb i u 1) (k0_off65_inb i u 0) (k0_off73_inb i u 0)

def loops0M (μ : Mu F) : Mu F :=
  (List.finRange (k0_t2_loop i).trips).foldl (fun μ u => trip2M I i u μ) ((List.finRange (k0_t1_loop i).trips).foldl (fun μ u => trip1M I i u μ)
    (scoresM I 0 0 (k0_off1 i 0#32 0) (k0_off1_inb i 0 0) μ))

def odd0M (μ : Mu F) : Mu F := if h : k0_cond2 i = 1#1 then oddM I 0 (k0_off36 i 0) (k0_off36_inb i h 0) μ else μ
def even0M (μ : Mu F) : Mu F := if h : k0_cond3 i = 1#1 then gradsM I true 0 0 (k0_off48 i 0) (k0_off48_inb i h 0) μ else μ
def open1M (μ : Mu F) : Mu F := scoresM I 1 0 (k0_off1 i 1#32 0) (k0_off1_inb i 1 0) (headM (vOf I 1) μ)
def loops1M (μ : Mu F) : Mu F :=
  (List.finRange (k0_t4_loop i).trips).foldl (fun μ u => trip4M I i u μ) ((List.finRange (k0_t3_loop i).trips).foldl (fun μ u => trip3M I i u μ) μ)
def odd1M (μ : Mu F) : Mu F := if h : k0_cond4 i = 1#1 then oddM I 1 (k0_off81 i 0) (k0_off81_inb i h 0) μ else μ
def even1M (μ : Mu F) : Mu F := if h : k0_cond5 i = 1#1 then gradsM I true 1 0 (k0_off93 i 0) (k0_off93_inb i h 0) μ else μ

/-- The whole body. -/
def bodyM (μ : Mu F) : Mu F :=
  even1M I i (odd1M I i (loops1M I i (open1M I i (even0M I i (odd0M I i (loops0M I i (startM I i μ)))))))

variable {I} {i} {c : Dev nD} {R : Refs}

attribute [local irreducible] scoresM gradsM tripM oddM headM zeroQM zeroKVM scoresP gradsP tripP oddP headP zeroQ zeroKV loadV

section Steps

variable {𝒱 : Variants} {bd : Option 𝒱.V} {E : Set ℕ} {α : Type}

theorem dite_step {P : Prop} [Decidable P] {β : Type} {Z : sProp 𝕄} {Q : α → sProp 𝕄} {p : P → PT F PUnit} {f : P → Mu F → Mu F} {jp : PUnit → PT F β}
    {k : β → PT F α} {μ : Mu F} (hp : ∀ h, TrU c R I (p h) (f h))
    (h : iprop(OwnAll c R I (if h : P then f h μ else μ) ∗ Z) ⊢ wp frame (wpE defs₀ 𝒱 (c : Thread nD τ) bd) E (jp ⟨⟩ >>= k) Q) :
    iprop(OwnAll c R I μ ∗ Z) ⊢ wp frame (wpE defs₀ 𝒱 (c : Thread nD τ) bd) E ((if h : P then p h >>= jp else jp ⟨⟩) >>= k) Q := by
  by_cases hP : P
  · rw [dif_pos hP] at h ⊢
    rw [Prog.bind_assoc]
    exact hp hP 𝒱 bd E α _ Q Z μ h
  · rw [dif_neg hP] at h ⊢
    exact h

theorem start_step {Z : sProp 𝕄} {Q : α → sProp 𝕄} {k : _ → PT F α} {μ : Mu F}
    (h : iprop(OwnAll c R I (startM I i μ) ∗ Z) ⊢ wp frame (wpE defs₀ 𝒱 (c : Thread nD τ) bd) E
      (k ⟨pidW i, jW i 0#32, keyW, qryW, Scalar.subi 15#32 (jW i 0#32), Scalar.cmpi .sgt (Scalar.subi 15#32 (jW i 0#32)) 0#32⟩) Q) :
    iprop(OwnAll c R I μ ∗ Z) ⊢ wp frame (wpE defs₀ 𝒱 (c : Thread nD τ) bd) E (startP i R >>= k) Q := by
  unfold startP
  refine dite_step (p := fun _ => zeroQ R) (f := fun _ => zeroQM) (fun _ => zeroQ_tr) ?_
  rw [Prog.bind_assoc]
  refine zeroKV_tr 𝒱 bd E α _ Q Z _ ?_
  rw [Prog.bind_assoc]
  refine loadV_tr 0 𝒱 bd E α _ Q Z _ ?_
  rw [Prog.bind_assoc]
  exact head_tr _ 𝒱 bd E α _ Q Z _ h

theorem loops0_step {Z : sProp 𝕄} {Q : α → sProp 𝕄} {k : _ → PT F α} {μ : Mu F}
    (h : iprop(OwnAll c R I (loops0M I i μ) ∗ Z) ⊢ wp frame (wpE defs₀ 𝒱 (c : Thread nD τ) bd) E
      (k ⟨2#32, Scalar.cmpi .eq 2#32 0#32⟩) Q) :
    iprop(OwnAll c R I μ ∗ Z) ⊢ wp frame (wpE defs₀ 𝒱 (c : Thread nD τ) bd) E (loopsP0 i R >>= k) Q := by
  unfold loopsP0
  rw [Prog.bind_assoc]
  refine scores_tr 0 0 _ _ 𝒱 bd E α _ Q Z μ ?_
  rw [Prog.bind_assoc]
  refine TrU.loop (f := fun u => trip1M I i u) (fun u x => trip_tr 0 _ _ _ _ _ _) 𝒱 bd E α _ Q Z _ ?_
  rw [Prog.bind_assoc]
  exact TrU.loop (f := fun u => trip2M I i u) (fun u x => trip_tr 0 _ _ _ _ _ _) 𝒱 bd E α _ Q Z _ h

theorem end0_step {Z : sProp 𝕄} {Q : α → sProp 𝕄} {k : _ → PT F α} {μ : Mu F}
    (h : iprop(OwnAll c R I (even0M I i (odd0M I i μ)) ∗ Z) ⊢ wp frame (wpE defs₀ 𝒱 (c : Thread nD τ) bd) E
      (k ⟨jW i 1#32, cmpi .slt qryW (broadcast S256x128 64#32), keyW, qryW, vOf I 1,
        select (cmpi .slt qryW (broadcast S256x128 64#32)) (vOf I 1) (broadcast S256x128 (Scalar.ofBits .bf16 0x0000#16))⟩) Q) :
    iprop(OwnAll c R I μ ∗ Z) ⊢ wp frame (wpE defs₀ 𝒱 (c : Thread nD τ) bd) E (endP0 i R >>= k) Q := by
  unfold endP0
  refine dite_step (p := fun h => oddP R 0 (k0_off36 i 0) (k0_off36_inb i h 0)) (f := fun h => oddM I 0 (k0_off36 i 0) (k0_off36_inb i h 0)) (fun h => odd_tr 0 _ _) ?_
  refine dite_step (p := fun h => gradsP R true 0 0 (k0_off48 i 0) (k0_off48_inb i h 0)) (f := fun h => gradsM I true 0 0 (k0_off48 i 0) (k0_off48_inb i h 0)) (fun h => grads_tr true 0 0 _ _) ?_
  rw [Prog.bind_assoc]
  exact loadV_tr 1 𝒱 bd E α _ Q Z _ h

theorem open1_step {Z : sProp 𝕄} {Q : α → sProp 𝕄} {k : _ → PT F α} {μ : Mu F}
    (h : iprop(OwnAll c R I (open1M I i μ) ∗ Z) ⊢ wp frame (wpE defs₀ 𝒱 (c : Thread nD τ) bd) E (k ⟨⟩) Q) :
    iprop(OwnAll c R I μ ∗ Z) ⊢ wp frame (wpE defs₀ 𝒱 (c : Thread nD τ) bd) E (openP1 i R (vOf I 1) >>= k) Q := by
  unfold openP1
  rw [Prog.bind_assoc]
  refine head_tr _ 𝒱 bd E α _ Q Z μ ?_
  exact scores_tr 1 0 _ _ 𝒱 bd E α _ Q Z _ h

theorem end1_step {Z : sProp 𝕄} {Q : α → sProp 𝕄} {k : _ → PT F α} {μ : Mu F}
    (h : iprop(OwnAll c R I (even1M I i (odd1M I i (loops1M I i μ))) ∗ Z) ⊢ wp frame (wpE defs₀ 𝒱 (c : Thread nD τ) bd) E (k ⟨⟩) Q) :
    iprop(OwnAll c R I μ ∗ Z) ⊢ wp frame (wpE defs₀ 𝒱 (c : Thread nD τ) bd) E (endP1 i R >>= k) Q := by
  unfold endP1
  rw [Prog.bind_assoc]
  refine TrU.loop (f := fun u => trip3M I i u) (fun u x => trip_tr 1 _ _ _ _ _ _) 𝒱 bd E α _ Q Z _ ?_
  rw [Prog.bind_assoc]
  refine TrU.loop (f := fun u => trip4M I i u) (fun u x => trip_tr 1 _ _ _ _ _ _) 𝒱 bd E α _ Q Z _ ?_
  refine dite_step (p := fun h => oddP R 1 (k0_off81 i 0) (k0_off81_inb i h 0)) (f := fun h => oddM I 1 (k0_off81 i 0) (k0_off81_inb i h 0)) (fun h => odd_tr 1 _ _) ?_
  exact dite_step (p := fun h => gradsP R true 1 0 (k0_off93 i 0) (k0_off93_inb i h 0)) (f := fun h => gradsM I true 1 0 (k0_off93 i 0) (k0_off93_inb i h 0)) (fun h => grads_tr true 1 0 _ _) h

end Steps

/-- The printed body on the buffers `R`. -/
abbrev printed (i : grid0.Coords) (R : Refs) : PT F PUnit :=
  cc0_mla_bwd (F := F) i R.qt R.hqt R.k R.hk R.kt R.hkt R.v R.hv R.dot R.hdot R.l R.hl R.dl R.hdl R.dq R.hdq R.dk R.hdk R.dv R.hdv R.s R.hs R.dp R.hdp R.p R.hp R.ds R.hds R.vh R.hvh

theorem body_tr : TrU c R I (printed i R) (bodyM I i) := by
  intro 𝒱 bd E α k Q Z μ h
  unfold printed cc0_mla_bwd
  rw [Prog.bind_assoc, text1 (F := F)]
  refine start_step ?_
  dsimp only
  have e2 := fun (K : _ → PT F α) => (congrArg (· >>= K) (text2 (F := F) i R))
  simp only [Prog.bind_assoc] at e2 ⊢
  erw [e2]
  refine loops0_step ?_
  dsimp only
  rw [text3 (F := F)]
  refine end0_step ?_
  dsimp only
  have e4 := text4 (F := F) i R (vOf I 1) (fun a b c d => k0_part99 (F := F) i R.qt R.hqt R.k R.hk R.kt R.hkt R.v R.hv R.dot R.hdot R.l R.hl R.dl R.hdl R.dq R.hdq R.dk R.hdk R.dv R.hdv R.s R.hs R.dp R.hdp R.p R.hp R.ds R.hds R.vh R.hvh (jW i 1#32) keyW qryW a b c d >>= fun _ => k ⟨⟩)
  dsimp only [Prog.pure_eq_ret] at e4 ⊢
  erw [e4]
  refine open1_step ?_
  rw [text5 (F := F)]
  exact end1_step h

end Cert.KernelIdeal.Flow

end
-- ==== Proof.Words.lean ====
/-
The grid point's numbers: how many trips each loop makes, and which blocks of queries a trip takes.
-/
module

public import proofs.«01_k».proof.Proof.Program

@[expose] public section

set_option maxRecDepth 16384

noncomputable section

namespace Cert.KernelIdeal.Flow

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Facts₀ Cert.KernelIdeal.Facts

variable {F : FTy → Type} [FloatOps F] [Named F]

variable (i : grid0.Coords)

/-- The point's number among the pairs of key blocks. -/
abbrev pid : Nat := (i 1).val

theorem pid_lt : pid i < 8 := (i 1).isLt

theorem trips1 : (k0_t1_loop i).trips = 7 - pid i := by
  unfold k0_t1_loop pid
  generalize i 1 = p
  revert p
  decide

theorem trips2 : (k0_t2_loop i).trips = 0 := by
  unfold k0_t2_loop
  generalize i 1 = p
  revert p
  decide

theorem trips3 : (k0_t3_loop i).trips = 7 - pid i := by
  unfold k0_t3_loop pid
  generalize i 1 = p
  revert p
  decide

theorem trips4 : (k0_t4_loop i).trips = 0 := by
  unfold k0_t4_loop
  generalize i 1 = p
  revert p
  decide

theorem first_iff : isFirst i ↔ pid i = 0 := by
  unfold isFirst pid
  generalize i 1 = p
  revert p
  decide

theorem cond2 : k0_cond2 i = 1#1 := by
  unfold k0_cond2
  generalize i 1 = p
  revert p
  decide

theorem cond3 : k0_cond3 i = 0#1 := by
  unfold k0_cond3
  generalize i 1 = p
  revert p
  decide

theorem cond4 : k0_cond4 i = 0#1 := by
  unfold k0_cond4
  generalize i 1 = p
  revert p
  decide

theorem cond5 : k0_cond5 i = 1#1 := by
  unfold k0_cond5
  generalize i 1 = p
  revert p
  decide

theorem off1_0 : k0_off1 i 0#32 0 = 2 * pid i + 1 := by
  unfold k0_off1 pid
  generalize i 1 = p
  revert p
  decide

theorem off1_1 : k0_off1 i 1#32 0 = if 2 * pid i + 2 < 16 then 2 * pid i + 2 else 2 * pid i + 1 := by
  unfold k0_off1 pid
  generalize i 1 = p
  revert p
  decide

theorem off36 : k0_off36 i 0 = 2 * pid i := by
  unfold k0_off36 pid
  generalize i 1 = p
  revert p
  decide

theorem off93 : k0_off93 i 0 = 2 * pid i + 1 := by
  unfold k0_off93 pid
  generalize i 1 = p
  revert p
  decide

theorem off7 (u : Fin (k0_t1_loop i).trips) : k0_off7 i u 1 = 2 * pid i + 1 + 2 * u.val := by
  obtain ⟨u, hu⟩ := u
  have hu' : u < 7 - pid i := lt_of_lt_of_eq hu (trips1 i)
  have h7 : u < 7 := by omega
  obtain ⟨w, rfl⟩ : ∃ w : Fin 7, w.val = u := ⟨⟨u, h7⟩, rfl⟩
  unfold k0_off7
  unfold pid at hu' ⊢
  dsimp only at hu' ⊢
  clear hu h7
  generalize i 1 = p at hu' ⊢
  revert p w
  decide

theorem off4 (u : Fin (k0_t1_loop i).trips) : k0_off4 i u 0 = 2 * pid i + 2 + 2 * u.val := by
  obtain ⟨u, hu⟩ := u
  have hu' : u < 7 - pid i := lt_of_lt_of_eq hu (trips1 i)
  have h7 : u < 7 := by omega
  obtain ⟨w, rfl⟩ : ∃ w : Fin 7, w.val = u := ⟨⟨u, h7⟩, rfl⟩
  unfold k0_off4
  unfold pid at hu' ⊢
  dsimp only at hu' ⊢
  clear hu h7
  generalize i 1 = p at hu' ⊢
  revert p w
  decide

theorem off12 (u : Fin (k0_t1_loop i).trips) : k0_off12 i u 0 = 2 * pid i + 3 + 2 * u.val := by
  obtain ⟨u, hu⟩ := u
  have hu' : u < 7 - pid i := lt_of_lt_of_eq hu (trips1 i)
  have h7 : u < 7 := by omega
  obtain ⟨w, rfl⟩ : ∃ w : Fin 7, w.val = u := ⟨⟨u, h7⟩, rfl⟩
  unfold k0_off12
  unfold pid at hu' ⊢
  dsimp only at hu' ⊢
  clear hu h7
  generalize i 1 = p at hu' ⊢
  revert p w
  decide

theorem off52 (u : Fin (k0_t3_loop i).trips) : k0_off52 i u 1 = 2 * pid i + 2 + 2 * u.val := by
  obtain ⟨u, hu⟩ := u
  have hu' : u < 7 - pid i := lt_of_lt_of_eq hu (trips3 i)
  have h7 : u < 7 := by omega
  obtain ⟨w, rfl⟩ : ∃ w : Fin 7, w.val = u := ⟨⟨u, h7⟩, rfl⟩
  unfold k0_off52
  unfold pid at hu' ⊢
  dsimp only at hu' ⊢
  clear hu h7
  generalize i 1 = p at hu' ⊢
  revert p w
  decide

theorem off49 (u : Fin (k0_t3_loop i).trips) : k0_off49 i u 0 = 2 * pid i + 3 + 2 * u.val := by
  obtain ⟨u, hu⟩ := u
  have hu' : u < 7 - pid i := lt_of_lt_of_eq hu (trips3 i)
  have h7 : u < 7 := by omega
  obtain ⟨w, rfl⟩ : ∃ w : Fin 7, w.val = u := ⟨⟨u, h7⟩, rfl⟩
  unfold k0_off49
  unfold pid at hu' ⊢
  dsimp only at hu' ⊢
  clear hu h7
  generalize i 1 = p at hu' ⊢
  revert p w
  decide

theorem off57 (u : Fin (k0_t3_loop i).trips) : k0_off57 i u 0 = if 2 * pid i + 4 + 2 * u.val < 16 then 2 * pid i + 4 + 2 * u.val else 2 * pid i + 1 := by
  obtain ⟨u, hu⟩ := u
  have hu' : u < 7 - pid i := lt_of_lt_of_eq hu (trips3 i)
  have h7 : u < 7 := by omega
  obtain ⟨w, rfl⟩ : ∃ w : Fin 7, w.val = u := ⟨⟨u, h7⟩, rfl⟩
  unfold k0_off57
  unfold pid at hu' ⊢
  dsimp only at hu' ⊢
  show _ = if 2 * (i 1).val + 4 + 2 * w.val < 16 then 2 * (i 1).val + 4 + 2 * w.val else 2 * (i 1).val + 1
  clear hu h7
  generalize i 1 = p at hu' ⊢
  revert p w
  decide

end Cert.KernelIdeal.Flow

end
-- ==== Proof.Blocks.lean ====
/-
What the body's functions leave in the three results, whatever the scratch buffers held before: a block of keys gives the
gradients of each later block of queries in turn, and of its own block with the mask.
-/
module

public import proofs.«01_k».proof.Proof.Body
public import proofs.«01_k».proof.Proof.Words

@[expose] public section

set_option maxRecDepth 16384

noncomputable section

namespace Cert.KernelIdeal.Flow

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Facts₀ Cert.KernelIdeal.Facts

variable {F : FTy → Type} [FloatOps F] [Named F]

section Cells

variable {Val : EltTy → Type} {s : Shape} {e : EltTy}

theorem ldr_upd_same (r : Rect s) (w : r.shape.Idx → Val e) (f : s.Idx → Val e) : ldr r.toLoadRect (upd r w f) = w :=
  funext fun j => upd_idx r w f j

theorem ldr_upd_apart (r' : LoadRect s) (r : Rect s) (w : r.shape.Idx → Val e) (f : s.Idx → Val e)
    (a : Fin s.rank) (hs : r.stride a = 1) (hs' : r'.stride a = 1)
    (h : r'.off a + r'.size a ≤ r.off a ∨ r.off a + r.size a ≤ r'.off a) : ldr r' (upd r w f) = ldr r' f := by
  funext j
  refine upd_of_not r w f _ ?_
  rintro ⟨k, hk⟩
  have := congrArg (fun x : s.Idx => (x a).val) hk
  simp only [LoadRect.idx_apply, hs, hs', Nat.one_mul] at this
  have h1 := (j a).isLt
  have h2 := (k a).isLt
  omega

theorem ldr_upd_sub (r : Rect s) (r' : Rect s) (r'' : Rect r.shape) (w : r'.shape.Idx → Val e) (w' : r''.shape.Idx → Val e) (f : s.Idx → Val e)
    (h1 : ∀ k, ∃ k', r'.idx k' = r.idx (r''.idx k) ∧ w k' = w' k) (h2 : ∀ k, ∃ k', r'.idx k = r.idx (r''.idx k')) :
    ldr r.toLoadRect (upd r' w f) = upd (e := e) (Val := Val) r'' w' (ldr r.toLoadRect f) := by
  funext j
  by_cases h : ∃ k, r''.idx k = j
  · obtain ⟨k, rfl⟩ := h
    rw [upd_idx]
    obtain ⟨k', hk, hw⟩ := h1 k
    show upd r' w f (r.idx (r''.idx k)) = _
    rw [← hk, upd_idx, hw]
  · rw [upd_of_not r'' _ _ _ h]
    refine upd_of_not r' w f _ ?_
    rintro ⟨k, hk⟩
    obtain ⟨k', hk'⟩ := h2 k
    exact h ⟨k', r.emb.injective (hk'.symm.trans hk)⟩

end Cells

/-- The columns of one half of a block of queries. -/
theorem inbH (c : Fin 2) : ∀ a, (![0, 0, 0, 128 * c.val] : Fin 4 → Nat) a + S1x1x256x128.size a ≤ S1x1x256x256.size a := by
  intro a; fin_cases c <;> fin_cases a <;> decide
theorem inbG (c : Fin 2) : ∀ a, (![0, 0, 128 * c.val] : Fin 3 → Nat) a + S1x256x128.size a ≤ S1x256x256.size a := by
  intro a; fin_cases c <;> fin_cases a <;> decide

abbrev rH (c : Fin 2) : Rect S1x1x256x256 := Rect.unit (s := S1x1x256x256) ![0, 0, 0, 128 * c.val] S1x1x256x128.size (inbH c)
abbrev rG (c : Fin 2) : Rect S1x256x256 := Rect.unit (s := S1x256x256) ![0, 0, 128 * c.val] S1x256x128.size (inbG c)

theorem ldr_half {Val : EltTy → Type} (slot hh c : Fin 2) (f : S2x2x256x256.Idx → Val .f32) :
    ldr (rSc slot hh c).toLoadRect f = ldr (e := .f32) (Val := Val) (rH c).toLoadRect (ldr (rS slot hh).toLoadRect f) := by
  funext j
  refine congrArg f (funext fun a => Fin.ext ?_)
  show (![slot.val, hh.val, 0, 128 * c.val] : Fin 4 → Nat) a + 1 * (j a).val
    = (![slot.val, hh.val, 0, 0] : Fin 4 → Nat) a + 1 * ((![0, 0, 0, 128 * c.val] : Fin 4 → Nat) a + 1 * (j a).val)
  fin_cases a <;> simp

theorem ldr_updPc {Val : EltTy → Type} (hh c : Fin 2) (w : S1x256x128.Idx → Val .bf16) (f : S2x256x256.Idx → Val .bf16) :
    ldr (rP hh).toLoadRect (upd (rPc hh c) w f) = upd (e := .bf16) (Val := Val) (rG c) w (ldr (rP hh).toLoadRect f) := by
  have key : ∀ k : S1x256x128.Idx, (rPc hh c).idx k = (rP hh).idx ((rG c).idx k) := by
    intro k
    refine funext fun a => Fin.ext ?_
    show (![hh.val, 0, 128 * c.val] : Fin 3 → Nat) a + 1 * (k a).val
      = (![hh.val, 0, 0] : Fin 3 → Nat) a + 1 * ((![0, 0, 128 * c.val] : Fin 3 → Nat) a + 1 * (k a).val)
    fin_cases a <;> simp
  exact ldr_upd_sub _ _ _ _ _ _ (fun k => ⟨k, key k, rfl⟩) (fun k => ⟨k, key k⟩)

theorem ldr_updPc_other {Val : EltTy → Type} (hh hh' c : Fin 2) (hne : hh ≠ hh') (w : S1x256x128.Idx → Val .bf16) (f : S2x256x256.Idx → Val .bf16) :
    ldr (rP hh).toLoadRect (upd (rPc hh' c) w f) = ldr (rP hh).toLoadRect f := by
  refine ldr_upd_apart _ _ _ _ (0 : Fin 3) rfl rfl ?_
  show hh.val + 1 ≤ hh'.val ∨ hh'.val + 1 ≤ hh.val
  omega

theorem rG_cover (j : S1x256x256.Idx) : ∃ c k, (rG c).idx k = j := by
  have h0 : (j (0 : Fin 3)).val < 1 := (j (0 : Fin 3)).isLt
  have h1 : (j (1 : Fin 3)).val < 256 := (j (1 : Fin 3)).isLt
  have h2 : (j (2 : Fin 3)).val < 256 := (j (2 : Fin 3)).isLt
  by_cases h : (j (2 : Fin 3)).val < 128
  · refine ⟨0, LoadRect.exists_idx_of_mem _ (LoadRect.mem_set _ |>.mpr fun a => ?_)⟩
    fin_cases a
    · exact ⟨(j (0 : Fin 3)).val, h0, by simp⟩
    · exact ⟨(j (1 : Fin 3)).val, h1, by simp⟩
    · exact ⟨(j (2 : Fin 3)).val, h, by simp⟩
  · refine ⟨1, LoadRect.exists_idx_of_mem _ (LoadRect.mem_set _ |>.mpr fun a => ?_)⟩
    fin_cases a
    · exact ⟨(j (0 : Fin 3)).val, h0, by simp⟩
    · exact ⟨(j (1 : Fin 3)).val, h1, by simp⟩
    · exact ⟨(j (2 : Fin 3)).val - 128, by show _ < 128; omega, by show (j (2 : Fin 3)).val = 128 * 1 + 1 * _; omega⟩

/-- The two halves side by side. -/
def glue (a b : FVec F S1x256x128 .bf16) : FVec F S1x256x256 .bf16 :=
  upd (e := .bf16) (Val := Elt F) (rG 1) b (upd (e := .bf16) (Val := Elt F) (rG 0) a (broadcast S1x256x256 (Scalar.ofBits .bf16 0x0000#16)))

theorem glue_eq (a b : FVec F S1x256x128 .bf16) (x : FVec F S1x256x256 .bf16) :
    upd (e := .bf16) (Val := Elt F) (rG 1) b (upd (e := .bf16) (Val := Elt F) (rG 0) a x) = glue a b := by
  funext j
  unfold glue
  by_cases h1 : ∃ k, (rG 1).idx k = j
  · obtain ⟨k, rfl⟩ := h1
    rw [upd_idx, upd_idx]
  · rw [upd_of_not _ _ _ _ h1, upd_of_not _ _ _ _ h1]
    obtain ⟨c, k, rfl⟩ := rG_cover j
    have : c = 0 := by
      by_contra hc
      have : c = 1 := by omega
      subst this
      exact h1 ⟨k, rfl⟩
    subst this
    rw [upd_idx, upd_idx]

/-! ## The gradients that one block of queries gives -/

/-- The three results. -/
structure Acc (F : FTy → Type) where
  dq : S16x256x256.Idx → Elt F .f32
  dk : S2x256x256.Idx → Elt F .f32
  dv : S2x128x256.Idx → Elt F .f32

def acc (μ : Mu F) : Acc F := ⟨μ.dq, μ.dk, μ.dv⟩

variable (I : In F) (blk hh : Fin 2) (n : Nat) (hn : n + 1 ≤ 16)

/-- The scores of head `hh`. -/
def scoreX : FVec F S1x1x256x256 .f32 :=
  payDot (shapeCast S256x128 (ldr (rK blk hh).toLoadRect I.k) shapeCasts_S256x128_S256x128) (ldr (rQ hh n hn).toLoadRect I.qt)

/-- The products of the values with the cotangent. -/
def scoreY : FVec F S1x1x256x256 .f32 :=
  payDot (shapeCast S256x128 (payVh hh (vOf I blk)) shapeCasts_S1x256x128_S256x128) (ldr (rDo n hn).toLoadRect I.dot)

/-- The probabilities of one half, before rounding. -/
def probC (diag : Bool) (c : Fin 2) : FVec F S256x128 .f32 :=
  payPd diag hh c (ldr (e := .f32) (Val := Elt F) (rH c).toLoadRect (scoreX I blk hh n hn)) (ldr (rL n hn).toLoadRect I.l)

/-- The probabilities, rounded. -/
def probP (diag : Bool) : FVec F S1x256x256 .bf16 :=
  glue (payPb (probC I blk hh n hn diag 0)) (payPb (probC I blk hh n hn diag 1))

def dsC (diag : Bool) (c : Fin 2) : FVec F S1x256x128 .bf16 :=
  payDs hh c (probC I blk hh n hn diag c) (ldr (e := .f32) (Val := Elt F) (rH c).toLoadRect (scoreY I blk hh n hn)) (ldr (rL n hn).toLoadRect I.dl)

/-- The derivative of the scores, rounded. -/
def probDs (diag : Bool) : FVec F S1x256x256 .bf16 := glue (dsC I blk hh n hn diag 0) (dsC I blk hh n hn diag 1)

/-- What one head adds to the results. -/
def updA (P D : FVec F S1x256x256 .bf16) (a : Acc F) : Acc F where
  dv := upd (rDv blk hh) (payDv (ldr (rDv blk hh).toLoadRect a.dv) (ldr (rDo64 hh n hn).toLoadRect I.dot) P) a.dv
  dk := upd (rDk blk hh) (payDk (ldr (rDk blk hh).toLoadRect a.dk) (ldr (rQ96 hh n hn).toLoadRect I.qt) D) a.dk
  dq := upd (rQ96 hh n hn) (payDq (ldr (rQ96 hh n hn).toLoadRect a.dq) (ldr (rDk blk hh).toLoadRect I.kt) D) a.dq

/-- What one block of queries adds to the results. -/
def gradA (diag : Bool) (a : Acc F) : Acc F :=
  updA I blk 1 n hn (probP I blk 1 n hn diag) (probDs I blk 1 n hn diag)
    (updA I blk 0 n hn (probP I blk 0 n hn diag) (probDs I blk 0 n hn diag) a)

/-- The same of any number, nothing out of range. -/
def gradT (diag : Bool) (a : Acc F) : Acc F := if h : n + 1 ≤ 16 then gradA I blk n h diag a else a

/-- The two heads' values are those of block `blk`. -/
def HasV (μ : Mu F) : Prop := ∀ hh, ldr (rVh hh).toLoadRect μ.vh = payVh hh (vOf I blk)

/-- Slot `slot` holds the scores of block `n` of the queries. -/
def Ready (slot : Fin 2) (μ : Mu F) : Prop := ∃ hn : n + 1 ≤ 16, ∀ hh,
  ldr (rS slot hh).toLoadRect μ.s = scoreX I blk hh n hn ∧ ldr (rS slot hh).toLoadRect μ.dp = scoreY I blk hh n hn

variable {I} {blk} {n}

theorem Ready.cast {slot : Fin 2} {μ : Mu F} {n' : Nat} (h : Ready I blk n slot μ) (e : n = n') : Ready I blk n' slot μ := e ▸ h

theorem rS_apart (slot hh slot' hh' : Fin 2) (hne : slot ≠ slot' ∨ hh ≠ hh') (w : S1x1x256x256.Idx → Elt F .f32) (f : S2x2x256x256.Idx → Elt F .f32) :
    ldr (rS slot hh).toLoadRect (upd (rS slot' hh') w f) = ldr (rS slot hh).toLoadRect f := by
  rcases hne with h | h
  · refine ldr_upd_apart _ _ _ _ (0 : Fin 4) rfl rfl ?_
    show slot.val + 1 ≤ slot'.val ∨ slot'.val + 1 ≤ slot.val
    omega
  · refine ldr_upd_apart _ _ _ _ (1 : Fin 4) rfl rfl ?_
    show hh.val + 1 ≤ hh'.val ∨ hh'.val + 1 ≤ hh.val
    omega

section Fields

theorem setS_dq (μ : Mu F) (x0 x1) : ({ μ with s := x0, dp := x1 } : Mu F).dq = μ.dq := rfl
theorem setS_dk (μ : Mu F) (x0 x1) : ({ μ with s := x0, dp := x1 } : Mu F).dk = μ.dk := rfl
theorem setS_dv (μ : Mu F) (x0 x1) : ({ μ with s := x0, dp := x1 } : Mu F).dv = μ.dv := rfl
theorem setS_s (μ : Mu F) (x0 x1) : ({ μ with s := x0, dp := x1 } : Mu F).s = x0 := rfl
theorem setS_dp (μ : Mu F) (x0 x1) : ({ μ with s := x0, dp := x1 } : Mu F).dp = x1 := rfl
theorem setS_p (μ : Mu F) (x0 x1) : ({ μ with s := x0, dp := x1 } : Mu F).p = μ.p := rfl
theorem setS_ds (μ : Mu F) (x0 x1) : ({ μ with s := x0, dp := x1 } : Mu F).ds = μ.ds := rfl
theorem setS_vh (μ : Mu F) (x0 x1) : ({ μ with s := x0, dp := x1 } : Mu F).vh = μ.vh := rfl
theorem setP_dq (μ : Mu F) (x0 x1) : ({ μ with p := x0, ds := x1 } : Mu F).dq = μ.dq := rfl
theorem setP_dk (μ : Mu F) (x0 x1) : ({ μ with p := x0, ds := x1 } : Mu F).dk = μ.dk := rfl
theorem setP_dv (μ : Mu F) (x0 x1) : ({ μ with p := x0, ds := x1 } : Mu F).dv = μ.dv := rfl
theorem setP_s (μ : Mu F) (x0 x1) : ({ μ with p := x0, ds := x1 } : Mu F).s = μ.s := rfl
theorem setP_dp (μ : Mu F) (x0 x1) : ({ μ with p := x0, ds := x1 } : Mu F).dp = μ.dp := rfl
theorem setP_p (μ : Mu F) (x0 x1) : ({ μ with p := x0, ds := x1 } : Mu F).p = x0 := rfl
theorem setP_ds (μ : Mu F) (x0 x1) : ({ μ with p := x0, ds := x1 } : Mu F).ds = x1 := rfl
theorem setP_vh (μ : Mu F) (x0 x1) : ({ μ with p := x0, ds := x1 } : Mu F).vh = μ.vh := rfl
theorem setA_dq (μ : Mu F) (x0 x1 x2) : ({ μ with dv := x0, dk := x1, dq := x2 } : Mu F).dq = x2 := rfl
theorem setA_dk (μ : Mu F) (x0 x1 x2) : ({ μ with dv := x0, dk := x1, dq := x2 } : Mu F).dk = x1 := rfl
theorem setA_dv (μ : Mu F) (x0 x1 x2) : ({ μ with dv := x0, dk := x1, dq := x2 } : Mu F).dv = x0 := rfl
theorem setA_s (μ : Mu F) (x0 x1 x2) : ({ μ with dv := x0, dk := x1, dq := x2 } : Mu F).s = μ.s := rfl
theorem setA_dp (μ : Mu F) (x0 x1 x2) : ({ μ with dv := x0, dk := x1, dq := x2 } : Mu F).dp = μ.dp := rfl
theorem setA_p (μ : Mu F) (x0 x1 x2) : ({ μ with dv := x0, dk := x1, dq := x2 } : Mu F).p = μ.p := rfl
theorem setA_ds (μ : Mu F) (x0 x1 x2) : ({ μ with dv := x0, dk := x1, dq := x2 } : Mu F).ds = μ.ds := rfl
theorem setA_vh (μ : Mu F) (x0 x1 x2) : ({ μ with dv := x0, dk := x1, dq := x2 } : Mu F).vh = μ.vh := rfl

end Fields

theorem scores_dq (slot : Fin 2) (μ : Mu F) : (scoresM I blk slot n hn μ).dq = μ.dq :=
  (setS_dq _ _ _).trans (setS_dq μ _ _)
theorem scores_dk (slot : Fin 2) (μ : Mu F) : (scoresM I blk slot n hn μ).dk = μ.dk :=
  (setS_dk _ _ _).trans (setS_dk μ _ _)
theorem scores_dv (slot : Fin 2) (μ : Mu F) : (scoresM I blk slot n hn μ).dv = μ.dv :=
  (setS_dv _ _ _).trans (setS_dv μ _ _)
theorem scores_p (slot : Fin 2) (μ : Mu F) : (scoresM I blk slot n hn μ).p = μ.p :=
  (setS_p _ _ _).trans (setS_p μ _ _)
theorem scores_ds (slot : Fin 2) (μ : Mu F) : (scoresM I blk slot n hn μ).ds = μ.ds :=
  (setS_ds _ _ _).trans (setS_ds μ _ _)
theorem scores_vh (slot : Fin 2) (μ : Mu F) : (scoresM I blk slot n hn μ).vh = μ.vh :=
  (setS_vh _ _ _).trans (setS_vh μ _ _)
theorem scores_acc (slot : Fin 2) (μ : Mu F) : acc (scoresM I blk slot n hn μ) = acc μ := by
  unfold acc; rw [scores_dq, scores_dk, scores_dv]

theorem scores_hasV (slot : Fin 2) {μ : Mu F} (h : HasV I blk μ) : HasV I blk (scoresM I blk slot n hn μ) := by
  intro hh; rw [scores_vh]; exact h hh

theorem scores_ready (slot : Fin 2) {μ : Mu F} (h : HasV I blk μ) : Ready I blk n slot (scoresM I blk slot n hn μ) := by
  refine ⟨hn, fun hh => ?_⟩
  unfold scoresM scoreHalfM
  dsimp only
  rcases (by omega : hh = 0 ∨ hh = 1) with rfl | rfl
  · rw [rS_apart slot 0 slot 1 (.inr (by decide)), rS_apart slot 0 slot 1 (.inr (by decide)), ldr_upd_same, ldr_upd_same, h 0]
    exact ⟨rfl, rfl⟩
  · rw [ldr_upd_same, ldr_upd_same, h 1]
    exact ⟨rfl, rfl⟩

theorem scores_keep (slot slot' : Fin 2) (hne : slot' ≠ slot) {n' : Nat} {μ : Mu F} (h : Ready I blk n' slot' μ) :
    Ready I blk n' slot' (scoresM I blk slot n hn μ) := by
  obtain ⟨hn', h⟩ := h
  refine ⟨hn', fun hh => ?_⟩
  unfold scoresM scoreHalfM
  dsimp only
  rw [rS_apart slot' hh slot 1 (.inl hne), rS_apart slot' hh slot 1 (.inl hne), rS_apart slot' hh slot 0 (.inl hne), rS_apart slot' hh slot 0 (.inl hne)]
  exact h hh

theorem chunks_p (diag : Bool) (slot : Fin 2) (l dl : Vec F S1x1x8x256 .f32) (μ : Mu F) :
    (chunksM diag slot l dl μ).p = upd (rPc 1 1) (payPb (payPd diag 1 1 (ldr (rSc slot 1 1).toLoadRect μ.s) l))
      (upd (rPc 1 0) (payPb (payPd diag 1 0 (ldr (rSc slot 1 0).toLoadRect μ.s) l))
      (upd (rPc 0 1) (payPb (payPd diag 0 1 (ldr (rSc slot 0 1).toLoadRect μ.s) l))
      (upd (rPc 0 0) (payPb (payPd diag 0 0 (ldr (rSc slot 0 0).toLoadRect μ.s) l)) μ.p))) := rfl

theorem chunks_ds (diag : Bool) (slot : Fin 2) (l dl : Vec F S1x1x8x256 .f32) (μ : Mu F) :
    (chunksM diag slot l dl μ).ds = upd (rPc 1 1) (payDs 1 1 (payPd diag 1 1 (ldr (rSc slot 1 1).toLoadRect μ.s) l) (ldr (rSc slot 1 1).toLoadRect μ.dp) dl)
      (upd (rPc 1 0) (payDs 1 0 (payPd diag 1 0 (ldr (rSc slot 1 0).toLoadRect μ.s) l) (ldr (rSc slot 1 0).toLoadRect μ.dp) dl)
      (upd (rPc 0 1) (payDs 0 1 (payPd diag 0 1 (ldr (rSc slot 0 1).toLoadRect μ.s) l) (ldr (rSc slot 0 1).toLoadRect μ.dp) dl)
      (upd (rPc 0 0) (payDs 0 0 (payPd diag 0 0 (ldr (rSc slot 0 0).toLoadRect μ.s) l) (ldr (rSc slot 0 0).toLoadRect μ.dp) dl) μ.ds))) := rfl

theorem chunks_dq (diag : Bool) (slot : Fin 2) (l dl : Vec F S1x1x8x256 .f32) (μ : Mu F) : (chunksM diag slot l dl μ).dq = μ.dq :=
  (setP_dq _ _ _).trans ((setP_dq _ _ _).trans ((setP_dq _ _ _).trans (setP_dq μ _ _)))
theorem chunks_dk (diag : Bool) (slot : Fin 2) (l dl : Vec F S1x1x8x256 .f32) (μ : Mu F) : (chunksM diag slot l dl μ).dk = μ.dk :=
  (setP_dk _ _ _).trans ((setP_dk _ _ _).trans ((setP_dk _ _ _).trans (setP_dk μ _ _)))
theorem chunks_dv (diag : Bool) (slot : Fin 2) (l dl : Vec F S1x1x8x256 .f32) (μ : Mu F) : (chunksM diag slot l dl μ).dv = μ.dv :=
  (setP_dv _ _ _).trans ((setP_dv _ _ _).trans ((setP_dv _ _ _).trans (setP_dv μ _ _)))
theorem chunks_s (diag : Bool) (slot : Fin 2) (l dl : Vec F S1x1x8x256 .f32) (μ : Mu F) : (chunksM diag slot l dl μ).s = μ.s :=
  (setP_s _ _ _).trans ((setP_s _ _ _).trans ((setP_s _ _ _).trans (setP_s μ _ _)))
theorem chunks_dp (diag : Bool) (slot : Fin 2) (l dl : Vec F S1x1x8x256 .f32) (μ : Mu F) : (chunksM diag slot l dl μ).dp = μ.dp :=
  (setP_dp _ _ _).trans ((setP_dp _ _ _).trans ((setP_dp _ _ _).trans (setP_dp μ _ _)))
theorem chunks_vh (diag : Bool) (slot : Fin 2) (l dl : Vec F S1x1x8x256 .f32) (μ : Mu F) : (chunksM diag slot l dl μ).vh = μ.vh :=
  (setP_vh _ _ _).trans ((setP_vh _ _ _).trans ((setP_vh _ _ _).trans (setP_vh μ _ _)))
theorem updM_s (hh : Fin 2) (μ : Mu F) : (updM I blk hh n hn μ).s = μ.s := setA_s μ _ _ _
theorem updM_dp (hh : Fin 2) (μ : Mu F) : (updM I blk hh n hn μ).dp = μ.dp := setA_dp μ _ _ _
theorem updM_p (hh : Fin 2) (μ : Mu F) : (updM I blk hh n hn μ).p = μ.p := setA_p μ _ _ _
theorem updM_ds (hh : Fin 2) (μ : Mu F) : (updM I blk hh n hn μ).ds = μ.ds := setA_ds μ _ _ _
theorem updM_vh (hh : Fin 2) (μ : Mu F) : (updM I blk hh n hn μ).vh = μ.vh := setA_vh μ _ _ _
theorem grads_s (diag : Bool) (slot : Fin 2) (μ : Mu F) : (gradsM I diag blk slot n hn μ).s = μ.s :=
  (updM_s hn 1 _).trans ((updM_s hn 0 _).trans (chunks_s diag slot _ _ μ))
theorem grads_dp (diag : Bool) (slot : Fin 2) (μ : Mu F) : (gradsM I diag blk slot n hn μ).dp = μ.dp :=
  (updM_dp hn 1 _).trans ((updM_dp hn 0 _).trans (chunks_dp diag slot _ _ μ))
theorem grads_vh (diag : Bool) (slot : Fin 2) (μ : Mu F) : (gradsM I diag blk slot n hn μ).vh = μ.vh :=
  (updM_vh hn 1 _).trans ((updM_vh hn 0 _).trans (chunks_vh diag slot _ _ μ))
theorem chunks_acc (diag : Bool) (slot : Fin 2) (l dl : Vec F S1x1x8x256 .f32) (μ : Mu F) : acc (chunksM diag slot l dl μ) = acc μ := by
  unfold acc; rw [chunks_dq, chunks_dk, chunks_dv]

theorem grads_hasV (diag : Bool) (slot : Fin 2) {μ : Mu F} (h : HasV I blk μ) : HasV I blk (gradsM I diag blk slot n hn μ) := by
  intro hh; rw [grads_vh]; exact h hh
theorem grads_keep (diag : Bool) (slot slot' : Fin 2) {n' : Nat} {μ : Mu F} (h : Ready I blk n' slot' μ) :
    Ready I blk n' slot' (gradsM I diag blk slot n hn μ) := by
  obtain ⟨hn', h⟩ := h
  refine ⟨hn', fun hh => ?_⟩
  rw [grads_s, grads_dp]
  exact h hh

/-- Four stores fill the two heads' rows. -/
theorem four (w00 w01 w10 w11 : FVec F S1x256x128 .bf16) (f : S2x256x256.Idx → Elt F .bf16) (hh : Fin 2) :
    ldr (rP hh).toLoadRect (upd (rPc 1 1) w11 (upd (rPc 1 0) w10 (upd (rPc 0 1) w01 (upd (rPc 0 0) w00 f))))
      = match hh with | 0 => glue w00 w01 | 1 => glue w10 w11 := by
  rcases (by omega : hh = 0 ∨ hh = 1) with rfl | rfl
  · rw [ldr_updPc_other 0 1 _ (by decide), ldr_updPc_other 0 1 _ (by decide), ldr_updPc, ldr_updPc]
    exact glue_eq _ _ _
  · rw [ldr_updPc, ldr_updPc]
    exact glue_eq _ _ _

theorem chunks_probP (diag : Bool) (slot : Fin 2) {μ : Mu F} (h : ∀ hh, ldr (rS slot hh).toLoadRect μ.s = scoreX I blk hh n hn) (hh : Fin 2) (dl : Vec F S1x1x8x256 .f32) :
    ldr (rP hh).toLoadRect (chunksM diag slot (ldr (rL n hn).toLoadRect I.l) dl μ).p = probP I blk hh n hn diag := by
  rw [chunks_p, four]
  simp only [ldr_half, h]
  rcases (by omega : hh = 0 ∨ hh = 1) with rfl | rfl <;> simp only [probP, probC]

theorem chunks_probDs (diag : Bool) (slot : Fin 2) {μ : Mu F} (h : ∀ hh, ldr (rS slot hh).toLoadRect μ.s = scoreX I blk hh n hn)
    (h' : ∀ hh, ldr (rS slot hh).toLoadRect μ.dp = scoreY I blk hh n hn) (hh : Fin 2) :
    ldr (rP hh).toLoadRect (chunksM diag slot (ldr (rL n hn).toLoadRect I.l) (ldr (rL n hn).toLoadRect I.dl) μ).ds = probDs I blk hh n hn diag := by
  rw [chunks_ds, four]
  simp only [ldr_half, h, h']
  rcases (by omega : hh = 0 ∨ hh = 1) with rfl | rfl <;> simp only [probDs, dsC, probC]

theorem updM_acc (hh : Fin 2) (ν : Mu F) :
    acc (updM I blk hh n hn ν) = updA I blk hh n hn (ldr (rP hh).toLoadRect ν.p) (ldr (rP hh).toLoadRect ν.ds) (acc ν) := by
  cases ν; unfold acc updM updA; dsimp only

theorem grads_acc (diag : Bool) (slot : Fin 2) {μ : Mu F} (h : Ready I blk n slot μ) :
    acc (gradsM I diag blk slot n hn μ) = gradA I blk n hn diag (acc μ) := by
  obtain ⟨hn', h⟩ := h
  have h1 := fun hh => (h hh).1
  have h2 := fun hh => (h hh).2
  unfold gradsM
  rw [updM_acc, updM_acc, updM_p, updM_ds, chunks_acc, chunks_probP hn diag slot h1, chunks_probP hn diag slot h1,
    chunks_probDs hn diag slot h1 h2, chunks_probDs hn diag slot h1 h2, gradA]

theorem grads_accT (diag : Bool) (slot : Fin 2) {μ : Mu F} (h : Ready I blk n slot μ) :
    acc (gradsM I diag blk slot n hn μ) = gradT I blk n diag (acc μ) := by
  rw [grads_acc hn diag slot h, gradT, dif_pos hn]

/-! ## One trip, the loops -/

theorem trip_spec {n0 n1 n2 : Nat} (h0 : n0 + 1 ≤ 16) (h1 : n1 + 1 ≤ 16) (h2 : n2 + 1 ≤ 16) {μ : Mu F} (hv : HasV I blk μ) (hr : Ready I blk n0 0 μ) :
    HasV I blk (tripM I blk n0 n1 n2 h0 h1 h2 μ) ∧ Ready I blk n2 0 (tripM I blk n0 n1 n2 h0 h1 h2 μ)
      ∧ acc (tripM I blk n0 n1 n2 h0 h1 h2 μ) = gradT I blk n1 false (gradT I blk n0 false (acc μ)) := by
  have a1 : Ready I blk n0 0 (scoresM I blk 1 n1 h1 μ) := scores_keep h1 1 0 (by decide) hr
  have b1 : Ready I blk n1 1 (scoresM I blk 1 n1 h1 μ) := scores_ready h1 1 hv
  have v1 : HasV I blk (gradsM I false blk 0 n0 h0 (scoresM I blk 1 n1 h1 μ)) := grads_hasV h0 false 0 (scores_hasV h1 1 hv)
  have b2 : Ready I blk n1 1 (gradsM I false blk 0 n0 h0 (scoresM I blk 1 n1 h1 μ)) := grads_keep h0 false 0 1 b1
  have b3 := scores_keep h2 0 1 (by decide) b2
  unfold tripM
  refine ⟨grads_hasV h1 false 1 (scores_hasV h2 0 v1), grads_keep h1 false 1 0 (scores_ready h2 0 v1), ?_⟩
  rw [grads_accT h1 false 1 b3, scores_acc, grads_accT h0 false 0 a1, scores_acc]

theorem odd_spec {n : Nat} (hn : n + 1 ≤ 16) {μ : Mu F} (hv : HasV I blk μ) (hr : Ready I blk 15 0 μ) :
    acc (oddM I blk n hn μ) = gradT I blk n true (gradT I blk 15 false (acc μ)) := by
  have b1 := scores_ready hn 1 hv
  have b0 := scores_keep hn 1 0 (by decide) hr
  unfold oddM
  rw [grads_accT hn true 1 (grads_keep _ false 0 1 b1), grads_accT _ false 0 b0, scores_acc]

theorem foldl_inv {β : Type} {m : Nat} (f : Fin m → β → β) (P : Nat → β → Prop) (hs : ∀ (u : Fin m) b, P u.val b → P (u.val + 1) (f u b)) {b : β} (h : P 0 b) {T : Nat} (hT : m = T) :
    P T ((List.finRange m).foldl (fun b u => f u b) b) := by
  subst hT
  induction m with
  | zero => simpa using h
  | succ m ih =>
    rw [List.finRange_succ_last, List.foldl_append, List.foldl_map]
    exact hs (Fin.last m) _ (ih (fun u => f u.castSucc) (fun u b => hs u.castSucc b))

/-- The blocks `j + 1, …, j + m` of the queries in turn. -/
def laters (I : In F) (blk : Fin 2) (j m : Nat) (a : Acc F) : Acc F := (List.range m).foldl (fun a k => gradT I blk (j + 1 + k) false a) a

theorem laters_succ (j m : Nat) (a : Acc F) : laters I blk j (m + 1) a = gradT I blk (j + 1 + m) false (laters I blk j m a) := by
  unfold laters; rw [List.range_succ, List.foldl_append]; rfl

/-- A block of keys: the later blocks of queries, then its own with the mask. -/
def blockA (I : In F) (blk : Fin 2) (j : Nat) (a : Acc F) : Acc F := gradT I blk j true (laters I blk j (15 - j) a)

variable (i : grid0.Coords)

theorem loops0_spec {μ : Mu F} (hv : HasV I 0 μ) :
    HasV I 0 (loops0M I i μ) ∧ Ready I 0 15 0 (loops0M I i μ) ∧ acc (loops0M I i μ) = laters I 0 (2 * pid i) (2 * (7 - pid i)) (acc μ) := by
  have hp := pid_lt i
  have h := foldl_inv (fun u => trip1M I i u) (fun t ν => HasV I 0 ν ∧ Ready I 0 (2 * pid i + 1 + 2 * t) 0 ν ∧ acc ν = laters I 0 (2 * pid i) (2 * t) (acc μ))
    (fun u ν hν => by
      obtain ⟨h1, h2, h3⟩ := hν
      have := trip_spec (n0 := k0_off7 i u 1) (k0_off7_inb i u 1) (k0_off4_inb i u 0) (k0_off12_inb i u 0) h1 (h2.cast (off7 i u).symm)
      refine ⟨this.1, ?_, ?_⟩
      · exact this.2.1.cast ((off12 i u).trans (by omega))
      · refine this.2.2.trans ?_
        rw [off7, off4, h3, show 2 * (u.val + 1) = 2 * u.val + 1 + 1 from rfl, laters_succ, laters_succ,
          show 2 * pid i + 1 + (2 * u.val + 1) = 2 * pid i + 2 + 2 * u.val by omega])
    (b := scoresM I 0 0 (k0_off1 i 0#32 0) (k0_off1_inb i 0 0) μ)
    ⟨hv, (scores_ready (k0_off1_inb i 0 0) 0 hv).cast (off1_0 i), rfl⟩ (trips1 i)
  unfold loops0M
  have e2 : List.finRange (k0_t2_loop i).trips = [] := by rw [List.finRange_eq_nil_iff, trips2]
  rw [e2, List.foldl_nil]
  refine ⟨h.1, ?_, ?_⟩
  · exact h.2.1.cast (by omega)
  · exact h.2.2

theorem loops1_spec {μ : Mu F} (hv : HasV I 1 μ) (hr : Ready I 1 (if 2 * pid i + 2 < 16 then 2 * pid i + 2 else 2 * pid i + 1) 0 μ) :
    Ready I 1 (2 * pid i + 1) 0 (loops1M I i μ) ∧ acc (loops1M I i μ) = laters I 1 (2 * pid i + 1) (2 * (7 - pid i)) (acc μ) := by
  have hp := pid_lt i
  have h := foldl_inv (fun u => trip3M I i u) (fun t ν => HasV I 1 ν ∧ Ready I 1 (if 2 * pid i + 2 + 2 * t < 16 then 2 * pid i + 2 + 2 * t else 2 * pid i + 1) 0 ν
      ∧ acc ν = laters I 1 (2 * pid i + 1) (2 * t) (acc μ))
    (fun u ν hν => by
      obtain ⟨h1, h2, h3⟩ := hν
      have hu : u.val < 7 - pid i := lt_of_lt_of_eq u.isLt (trips3 i)
      rw [if_pos (by omega)] at h2
      have := trip_spec (n0 := k0_off52 i u 1) (k0_off52_inb i u 1) (k0_off49_inb i u 0) (k0_off57_inb i u 0) h1 (h2.cast (off52 i u).symm)
      refine ⟨this.1, ?_, ?_⟩
      · exact this.2.1.cast ((off57 i u).trans (by rw [show 2 * pid i + 4 + 2 * u.val = 2 * pid i + 2 + 2 * (u.val + 1) by omega]))
      · refine this.2.2.trans ?_
        rw [off52, off49, h3, show 2 * (u.val + 1) = 2 * u.val + 1 + 1 from rfl, laters_succ, laters_succ,
          show 2 * pid i + 1 + 1 + (2 * u.val + 1) = 2 * pid i + 3 + 2 * u.val by omega,
          show 2 * pid i + 1 + 1 + 2 * u.val = 2 * pid i + 2 + 2 * u.val by omega])
    (b := μ) ⟨hv, hr, rfl⟩ (trips3 i)
  unfold loops1M
  have e2 : List.finRange (k0_t4_loop i).trips = [] := by rw [List.finRange_eq_nil_iff, trips4]
  rw [e2, List.foldl_nil]
  refine ⟨?_, ?_⟩
  · exact h.2.1.cast (if_neg (by omega))
  · exact h.2.2

theorem head_hasV {μ : Mu F} : HasV I blk (headM (vOf I blk) μ) := by
  intro hh
  unfold headM
  rcases (by omega : hh = 0 ∨ hh = 1) with rfl | rfl
  · dsimp only
    rw [ldr_upd_apart (rVh 0).toLoadRect (rVh 1) _ _ (0 : Fin 3) rfl rfl (by decide), ldr_upd_same]
  · exact ldr_upd_same _ _ _

theorem head_acc (v : Vec F S256x128 .bf16) (μ : Mu F) : acc (headM v μ) = acc μ := rfl

/-- The results zeroed. -/
def zeroA (first : Bool) (dq : S16x256x256.Idx → Elt F .f32) : Acc F where
  dq := if first then broadcast S16x256x256 (Scalar.ofBits .f32 0x00000000#32) else dq
  dk := broadcast S2x256x256 (Scalar.ofBits .f32 0x00000000#32)
  dv := broadcast S2x128x256 (Scalar.ofBits .f32 0x00000000#32)

theorem upd_whole {s : Shape} {e : EltTy} (r : Rect s) (hz : ∀ j : s.Idx, ∃ k, r.idx k = j) (w : Elt F e) (f : s.Idx → Elt F e) : upd (Val := Elt F) r (fun _ => w) f = fun _ => w := by
  funext j
  obtain ⟨k, rfl⟩ := hz j
  rw [upd_idx]

theorem cover_whole {s : Shape} (r : Rect s) (h0 : ∀ a, r.off a = 0) (h1 : ∀ a, r.stride a = 1) (hs : ∀ a, r.size a = s.size a) (j : s.Idx) : ∃ k, r.idx k = j :=
  LoadRect.exists_idx_of_mem _ (LoadRect.mem_set _ |>.mpr fun a => ⟨(j a).val, by rw [hs]; exact (j a).isLt, by rw [h0, h1]; omega⟩)

theorem zero_acc (μ : Mu F) : acc (zeroKVM (if _h : isFirst i then zeroQM μ else μ)) = zeroA (decide (pid i = 0)) μ.dq := by
  by_cases h : isFirst i
  · have hp := (first_iff i).mp h
    rw [dif_pos h]
    simp only [acc, zeroKVM, zeroQM, zeroA, hp, decide_true, if_true, Acc.mk.injEq]
    refine ⟨upd_whole _ (cover_whole _ ?_ ?_ ?_) _ _, upd_whole _ (cover_whole _ ?_ ?_ ?_) _ _, upd_whole _ (cover_whole _ ?_ ?_ ?_) _ _⟩ <;>
      (intro a; fin_cases a <;> rfl)
  · have hp : ¬ pid i = 0 := fun hp => h ((first_iff i).mpr hp)
    rw [dif_neg h]
    simp only [acc, zeroKVM, zeroA, hp, decide_false, Acc.mk.injEq]
    refine ⟨by simp, upd_whole _ (cover_whole _ ?_ ?_ ?_) _ _, upd_whole _ (cover_whole _ ?_ ?_ ?_) _ _⟩ <;>
      (intro a; fin_cases a <;> rfl)

/-- What the body leaves in the three results. -/
def bodyA (I : In F) (p : Nat) (dq : S16x256x256.Idx → Elt F .f32) : Acc F :=
  blockA I 1 (2 * p + 1) (blockA I 0 (2 * p) (zeroA (decide (p = 0)) dq))

/-- The first point of a pair of heads forgets what the buffer held. -/
theorem bodyA_zero (I : In F) (d d' : S16x256x256.Idx → Elt F .f32) : bodyA I 0 d = bodyA I 0 d' := rfl

theorem body_acc (μ : Mu F) : acc (bodyM I i μ) = bodyA I (pid i) μ.dq := by
  have hp := pid_lt i
  unfold bodyM
  -- the first block of keys
  have hv0 : HasV I 0 (startM I i μ) := head_hasV
  have ha0 : acc (startM I i μ) = zeroA (decide (pid i = 0)) μ.dq := zero_acc i μ
  obtain ⟨hv, hr, ha⟩ := loops0_spec i hv0
  have hodd : odd0M I i (loops0M I i (startM I i μ)) = oddM I 0 (k0_off36 i 0) (k0_off36_inb i (cond2 i) 0) (loops0M I i (startM I i μ)) := by
    unfold odd0M; rw [dif_pos (cond2 i)]
  have heven : ∀ ν, even0M I i ν = ν := fun ν => by unfold even0M; rw [dif_neg (by rw [cond3]; decide)]
  have hodd1 : ∀ ν, odd1M I i ν = ν := fun ν => by unfold odd1M; rw [dif_neg (by rw [cond4]; decide)]
  have a0 : acc (even0M I i (odd0M I i (loops0M I i (startM I i μ)))) = blockA I 0 (2 * pid i) (zeroA (decide (pid i = 0)) μ.dq) := by
    rw [heven, hodd]
    refine (odd_spec _ hv hr).trans ?_
    rw [ha, ha0, off36]
    unfold blockA
    rw [show 15 - 2 * pid i = 2 * (7 - pid i) + 1 by omega, laters_succ, show 2 * pid i + 1 + 2 * (7 - pid i) = 15 by omega]
  -- the second block of keys
  generalize even0M I i (odd0M I i (loops0M I i (startM I i μ))) = ν at a0 ⊢
  have hv1 : HasV I 1 (headM (vOf I 1) ν) := head_hasV
  have hr1 : Ready I 1 (if 2 * pid i + 2 < 16 then 2 * pid i + 2 else 2 * pid i + 1) 0 (open1M I i ν) := by
    exact (scores_ready (k0_off1_inb i 1 0) 0 hv1).cast (off1_1 i)
  obtain ⟨hr2, ha2⟩ := loops1_spec i (show HasV I 1 (open1M I i ν) from hv1) hr1
  rw [hodd1]
  unfold even1M
  rw [dif_pos (cond5 i)]
  refine (grads_accT _ true 0 (hr2.cast (off93 i).symm)).trans ?_
  rw [ha2, off93, show acc (open1M I i ν) = acc ν from rfl, a0]
  unfold bodyA
  conv_rhs => unfold blockA
  rw [show 15 - (2 * pid i + 1) = 2 * (7 - pid i) by omega]
  rfl

end Cert.KernelIdeal.Flow

end
-- ==== Proof.Run.lean ====
/-
The kernel's run: what each point of the grid leaves in the three results' buffers, the body's obligation, and the run of
the whole program.
-/
module

public import proofs.«01_k».proof.Proof.Blocks

@[expose] public section

set_option maxRecDepth 16384

noncomputable section

namespace Cert.KernelIdeal.Flow

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)
open Cert.KernelIdeal.Facts₀ Cert.KernelIdeal.Facts

variable {F : FTy → Type} [FloatOps F] [Named F]

local notation "𝕄" => MT nD τ sig Unit (Elt F) ℕ (UR sig nD τ) ℕ

/-- No loop has a variant. -/
abbrev 𝒱₀ : Variants := Variants.none

variable (m : (ℓ : Loc nD τ sig) → Buf (Elt F) ℓ) (ρ : Dev nD → PrngReg)

/-- The blocks of the inputs at a point. -/
def inAt (c : Dev nD) (t : Fin cfg0.N) : In F where
  qt := Gen.iblk m c 0 t
  k := Gen.iblk m c 1 t
  kt := Gen.iblk m c 2 t
  v := Gen.iblk m c 3 t
  dot := Gen.iblk m c 4 t
  l := Gen.iblk m c 5 t
  dl := Gen.iblk m c 6 t

/-- What the points up to `n` leave in the results' buffers. -/
def accN (c : Dev nD) : (n : Nat) → n < cfg0.N → Acc F
  | 0, h => bodyA (inAt m c ⟨0, h⟩) 0 (broadcast S16x256x256 (Scalar.ofBits .f32 0x00000000#32))
  | n + 1, h => bodyA (inAt m c ⟨n + 1, h⟩) ((n + 1) % 8) (accN c n (Nat.lt_of_succ_lt h)).dq

def accAt (c : Dev nD) (t : Fin cfg0.N) : Acc F := accN m c t.val t.isLt

theorem pid_coords (t : Fin cfg0.N) : pid (grid0.coords t) = t.val % 8 := by
  have h := Pipeline.Grid.coords_val (G := grid0) t 1 (S := 1) (B := 8) rfl rfl
  unfold pid
  rw [h, Nat.div_one]

/-! ## The pipeline's data -/

def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => Gen.iblk m c 5 t
    | ⟨6, _⟩ => Gen.iblk m c 6 t
    | ⟨7, _⟩ => (accAt m c t).dq
    | ⟨8, _⟩ => (accAt m c t).dk
    | ⟨9, _⟩ => (accAt m c t).dv
  Φ _ := Pipeline.ΦA spec0 c
  q _ := fullShare
  owed _ := 0

theorem A_eq (c : Dev nD) (w : Fin cfg0.W) : (dats m 0 c).A w = Gen.V m c (Pipeline.arrRef spec0 w) := rfl
theorem after0_0 (c : Dev nD) (t : Fin cfg0.N) : (dats m 0 c).after 0 t = Gen.iblk m c 0 t := by dsimp only [dats]
theorem after0_1 (c : Dev nD) (t : Fin cfg0.N) : (dats m 0 c).after 1 t = Gen.iblk m c 1 t := by dsimp only [dats]
theorem after0_2 (c : Dev nD) (t : Fin cfg0.N) : (dats m 0 c).after 2 t = Gen.iblk m c 2 t := by dsimp only [dats]
theorem after0_3 (c : Dev nD) (t : Fin cfg0.N) : (dats m 0 c).after 3 t = Gen.iblk m c 3 t := by dsimp only [dats]
theorem after0_4 (c : Dev nD) (t : Fin cfg0.N) : (dats m 0 c).after 4 t = Gen.iblk m c 4 t := by dsimp only [dats]
theorem after0_5 (c : Dev nD) (t : Fin cfg0.N) : (dats m 0 c).after 5 t = Gen.iblk m c 5 t := by dsimp only [dats]
theorem after0_6 (c : Dev nD) (t : Fin cfg0.N) : (dats m 0 c).after 6 t = Gen.iblk m c 6 t := by dsimp only [dats]
theorem after0_7 (c : Dev nD) (t : Fin cfg0.N) : (dats m 0 c).after 7 t = (accAt m c t).dq := by dsimp only [dats]
theorem after0_8 (c : Dev nD) (t : Fin cfg0.N) : (dats m 0 c).after 8 t = (accAt m c t).dk := by dsimp only [dats]
theorem after0_9 (c : Dev nD) (t : Fin cfg0.N) : (dats m 0 c).after 9 t = (accAt m c t).dv := by dsimp only [dats]

theorem before0_0 (c : Dev nD) (t : Fin cfg0.N) (d) : (dats m 0 c).before 0 t d = Gen.iblk m c 0 t :=
  Gen.before0_0_of m (dats m 0 c) (A_eq m c 0) (after0_0 m c) t d
theorem before0_1 (c : Dev nD) (t : Fin cfg0.N) (d) : (dats m 0 c).before 1 t d = Gen.iblk m c 1 t :=
  Gen.before0_1_of m (dats m 0 c) (A_eq m c 1) (after0_1 m c) t d
theorem before0_2 (c : Dev nD) (t : Fin cfg0.N) (d) : (dats m 0 c).before 2 t d = Gen.iblk m c 2 t :=
  Gen.before0_2_of m (dats m 0 c) (A_eq m c 2) (after0_2 m c) t d
theorem before0_3 (c : Dev nD) (t : Fin cfg0.N) (d) : (dats m 0 c).before 3 t d = Gen.iblk m c 3 t :=
  Gen.before0_3_of m (dats m 0 c) (A_eq m c 3) (after0_3 m c) t d
theorem before0_4 (c : Dev nD) (t : Fin cfg0.N) (d) : (dats m 0 c).before 4 t d = Gen.iblk m c 4 t :=
  Gen.before0_4_of m (dats m 0 c) (A_eq m c 4) (after0_4 m c) t d
theorem before0_5 (c : Dev nD) (t : Fin cfg0.N) (d) : (dats m 0 c).before 5 t d = Gen.iblk m c 5 t :=
  Gen.before0_5_of m (dats m 0 c) (A_eq m c 5) (after0_5 m c) t d
theorem before0_6 (c : Dev nD) (t : Fin cfg0.N) (d) : (dats m 0 c).before 6 t d = Gen.iblk m c 6 t :=
  Gen.before0_6_of m (dats m 0 c) (A_eq m c 6) (after0_6 m c) t d

/-- What the body leaves, from what it finds in the first result's buffer. -/
theorem accAt_eq (c : Dev nD) (t : Fin cfg0.N) (d) :
    bodyA (inAt m c t) (pid (grid0.coords t)) ((dats m 0 c).before 7 t d) = accAt m c t := by
  rw [pid_coords]
  by_cases h8 : t.val % 8 = 0
  · rw [h8]
    unfold accAt
    obtain ⟨n, hn⟩ := t
    cases n with
    | zero => exact bodyA_zero _ _ _
    | succ n =>
      dsimp only at h8 ⊢
      rw [accN, h8]
      exact bodyA_zero _ _ _
  · have ht : t.val ≠ 0 := by omega
    have hf : (cfg0.win 7).flush ⟨t.val - 1, Nat.lt_of_le_of_lt (Nat.sub_le _ _) t.isLt⟩ = false := by
      have := (Gen.flush0_7 ⟨t.val - 1, Nat.lt_of_le_of_lt (Nat.sub_le _ _) t.isLt⟩).not
      rw [Bool.not_eq_true] at this
      exact this.mpr (by dsimp only; omega)
    rw [(dats m 0 c).before_out_kept 7 rfl t ht hf (fun _ => rfl) (fun _ _ => rfl) d, after0_7]
    unfold accAt
    obtain ⟨n, hn⟩ := t
    cases n with
    | zero => exact absurd rfl ht
    | succ n => rfl

/-! ## The body's obligation -/

/-- The buffers at a point. -/
abbrev refs (t : Fin cfg0.N) : Refs where
  qt := win0_0.stage (cfg0.slots t 0)
  hqt := hstage0_0 ((cfg0.slots t 0).cast nbuf0_0)
  k := win0_1.stage (cfg0.slots t 1)
  hk := hstage0_1 ((cfg0.slots t 1).cast nbuf0_1)
  kt := win0_2.stage (cfg0.slots t 2)
  hkt := hstage0_2 ((cfg0.slots t 2).cast nbuf0_2)
  v := win0_3.stage (cfg0.slots t 3)
  hv := hstage0_3 ((cfg0.slots t 3).cast nbuf0_3)
  dot := win0_4.stage (cfg0.slots t 4)
  hdot := hstage0_4 ((cfg0.slots t 4).cast nbuf0_4)
  l := win0_5.stage (cfg0.slots t 5)
  hl := hstage0_5 ((cfg0.slots t 5).cast nbuf0_5)
  dl := win0_6.stage (cfg0.slots t 6)
  hdl := hstage0_6 ((cfg0.slots t 6).cast nbuf0_6)
  dq := win0_7.stage (cfg0.slots t 7)
  hdq := hstage0_7 ((cfg0.slots t 7).cast nbuf0_7)
  dk := win0_8.stage (cfg0.slots t 8)
  hdk := hstage0_8 ((cfg0.slots t 8).cast nbuf0_8)
  dv := win0_9.stage (cfg0.slots t 9)
  hdv := hstage0_9 ((cfg0.slots t 9).cast nbuf0_9)
  s := Memref.whole cc0_scratch0
  hs := Memref.isWhole_whole _
  dp := Memref.whole cc0_scratch1
  hdp := Memref.isWhole_whole _
  p := Memref.whole cc0_scratch2
  hp := Memref.isWhole_whole _
  ds := Memref.whole cc0_scratch3
  hds := Memref.isWhole_whole _
  vh := Memref.whole cc0_scratch4
  hvh := Memref.isWhole_whole _

theorem scr0 (c : Dev nD) (f : Buf (Elt F) ((c : Thread nD τ).loc cc0_scratch0)) :
    ((((c : Thread nD τ).loc cc0_scratch0) ↦{fullShare} f) : sProp 𝕄) = Own (F := F) c (Memref.whole cc0_scratch0) f :=
  (owns_whole (c : Thread nD τ) cc0_scratch0 fullShare f).symm
theorem scr1 (c : Dev nD) (f : Buf (Elt F) ((c : Thread nD τ).loc cc0_scratch1)) :
    ((((c : Thread nD τ).loc cc0_scratch1) ↦{fullShare} f) : sProp 𝕄) = Own (F := F) c (Memref.whole cc0_scratch1) f :=
  (owns_whole (c : Thread nD τ) cc0_scratch1 fullShare f).symm
theorem scr2 (c : Dev nD) (f : Buf (Elt F) ((c : Thread nD τ).loc cc0_scratch2)) :
    ((((c : Thread nD τ).loc cc0_scratch2) ↦{fullShare} f) : sProp 𝕄) = Own (F := F) c (Memref.whole cc0_scratch2) f :=
  (owns_whole (c : Thread nD τ) cc0_scratch2 fullShare f).symm
theorem scr3 (c : Dev nD) (f : Buf (Elt F) ((c : Thread nD τ).loc cc0_scratch3)) :
    ((((c : Thread nD τ).loc cc0_scratch3) ↦{fullShare} f) : sProp 𝕄) = Own (F := F) c (Memref.whole cc0_scratch3) f :=
  (owns_whole (c : Thread nD τ) cc0_scratch3 fullShare f).symm
theorem scr4 (c : Dev nD) (f : Buf (Elt F) ((c : Thread nD τ).loc cc0_scratch4)) :
    ((((c : Thread nD τ).loc cc0_scratch4) ↦{fullShare} f) : sProp 𝕄) = Own (F := F) c (Memref.whole cc0_scratch4) f :=
  (owns_whole (c : Thread nD τ) cc0_scratch4 fullShare f).symm

/-- The scratch buffers, each at some contents. -/
theorem scratch_eq (c : Dev nD) : (Pipeline.scopedRest (Ix := Unit) (Name := ℕ) (U := UR sig nD τ) (Lvl := ℕ) (Val := Elt F) spec0 c : sProp 𝕄)
    = iprop((∃ f, Own (F := F) c (Memref.whole cc0_scratch0) f) ∗ (∃ f, Own (F := F) c (Memref.whole cc0_scratch1) f) ∗ (∃ f, Own (F := F) c (Memref.whole cc0_scratch2) f)
      ∗ (∃ f, Own (F := F) c (Memref.whole cc0_scratch3) f) ∗ (∃ f, Own (F := F) c (Memref.whole cc0_scratch4) f)) := by
  rw [Gen.scopedRest0_eq c]
  simp only [scr0, scr1, scr2, scr3, scr4]

theorem own_eq {s : Shape} {e : EltTy} (c : Dev nD) (M : Memref sig .tc .vmem s e) (f : s.Idx → Elt F e) :
    (Own (F := F) c M f : sProp 𝕄) = owns (c : Thread nD τ) M fullShare f := rfl

/-- The body at a point, on buffers at the blocks and at what the points before left. -/
theorem point (c : Dev nD) (t : Fin cfg0.N) (d7) (Q : PUnit → sProp 𝕄) (Z : sProp 𝕄)
    (hK : ∀ μ : Mu F, μ.dq = (accAt m c t).dq → μ.dk = (accAt m c t).dk → μ.dv = (accAt m c t).dv →
      iprop(OwnAll c (refs t) (inAt m c t) μ ∗ Z) ⊢ Q ⟨⟩)
    (μ : Mu F) (hμ : μ.dq = (dats m 0 c).before 7 t d7) :
    iprop(OwnAll c (refs t) (inAt m c t) μ ∗ Z) ⊢ wp frame (wpE defs₀ 𝒱₀ (c : Thread nD τ) none) Set.univ (printed (grid0.coords t) (refs t)) Q := by
  have h := body_tr (c := c) (R := refs t) (I := inAt m c t) (i := grid0.coords t) 𝒱₀ none Set.univ PUnit pure Q Z μ
  rw [Prog.bind_pure] at h
  have e := (body_acc (I := inAt m c t) (grid0.coords t) μ).trans ((congrArg (bodyA _ _) hμ).trans (accAt_eq m c t d7))
  have h2 := hK (bodyM (inAt m c t) (grid0.coords t) μ) (congrArg Acc.dq e) (congrArg Acc.dk e) (congrArg Acc.dv e)
  refine h (h2.trans ?_)
  exact Idealize.SL.BI.fupd_intro

theorem body_obligation (c : Dev nD) : BodyObligation (dats (F := F) m 0 c) (defs₀ (F := F)) 𝒱₀ () Set.univ := fun t => by
  rw [Gen.bigSep_W0, Gen.bigSep_W0]
  sl_whnfR [defs₀, Defs.onTc]
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4, after0_5, after0_6, after0_7, after0_8, after0_9]
  unfold Pipeline.ΦA
  rw [scratch_eq]
  simp only [own_eq]
  iintro ⟨⟨⟨⟨%s, Hs⟩, ⟨%dp, Hdp⟩, ⟨%p, Hp⟩, ⟨%ds, Hds⟩, ⟨%vh, Hvh⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (point m c t d7 _ iprop((∃ r, prngReg c r) ∗ (dats m 0 c).owesAt () t.castSucc) ?_ ⟨(dats m 0 c).before 7 t d7, (dats m 0 c).before 8 t d8, (dats m 0 c).before 9 t d9, s, dp, p, ds, vh⟩ rfl)
  · intro μ e7 e8 e9
    unfold OwnAll
    rw [e7, e8, e9]
    simp only [own_eq]
    dsimp only [inAt]
    iintro ⟨⟨H0, H1, H2, H3, H4, H5, H6, H7, H8, H9, Hs, Hdp, Hp, Hds, Hvh⟩, Hr, Ho⟩
    isplitr [Ho H0 H1 H2 H3 H4 H5 H6 H7 H8 H9]
    · isplitr [Hr]
      · isplitl [Hs]; · iexists _; iexact Hs
        isplitl [Hdp]; · iexists _; iexact Hdp
        isplitl [Hp]; · iexists _; iexact Hp
        isplitl [Hds]; · iexists _; iexact Hds
        iexists _; iexact Hvh
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · unfold OwnAll
    simp only [own_eq]
    dsimp only [inAt]
    isplitr [Hr Ho]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [Hs]; · iexact Hs
      isplitl [Hdp]; · iexact Hdp
      isplitl [Hp]; · iexact Hp
      isplitl [Hds]; · iexact Hds
      iexact Hvh
    · isplitl [Hr]
      · iexact Hr
      · iexact Ho

/-! ## The run -/

set_option backward.isDefEq.respectTransparency.types false in
/-- The program terminates from any memory, each array of the pipeline at what the data give and every counter at zero. -/
theorem run_main : θ_run defs (onTc (τ := τ) (main (F := F))) (s₀ m ρ)
    (fun r => Pipeline.FramePost cfgs (dats m) 0 (Gen.V m) r ∧ r.2.sem = fun _ => 0) :=
  Pipeline.θ_run_frame (Q' := _) cfgs (dats m) (0 : Fin 1) Gen.launch0 defs₀ 𝒱₀ m ρ main
    (hbody := fun c => (body_obligation m c).loose) (hshare := fun c => (dats m 0 c).share_full fun _ => rfl)
    (howed := fun _ _ => rfl) (V := Gen.V m) (hmain := Gen.hmain m 𝒱₀) (hA := fun _ _ => rfl) (hΦ := fun _ _ => rfl)

/-- The arguments end unchanged, and every counter is at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (Gen.frame_of m ρ (dats m) fun _ _ => rfl) (run_main (F := F) m ρ)

end Cert.KernelIdeal.Flow

end
-- ==== Proof.Frames.lean ====
/-
The frames of the three programs, and the one named constant.
-/
module

public import proofs.«01_k».proof.Defs
public import proofs.«01_k».proof.Proof.Run
public import proofs.«01_k».proof.Proof.Word.Run
public import proofs.«01_k».proof.Proof.Gen.ReferenceIdeal.Run
public import Idealize.ShloMosaic.Lib.Quiescent

@[expose] public section

set_option maxRecDepth 16384

noncomputable section

namespace Cert.Proof

open Idealize.ShloMosaic Idealize.ShloMosaic.TcCoe Idealize.SL.Sem

/-- The given kernel leaves its arguments as they were, at machine words. -/
theorem frame_kernel : Cert.quiescent_Kernel := fun m ρ _ => Cert.Kernel.Flow.frame (F := Bits) m ρ

/-- The kernel with its named constant leaves its arguments as they were, at the reals. -/
theorem frame_kernelIdeal : Cert.quiescent_KernelIdeal := fun m ρ _ => Cert.KernelIdeal.Flow.frame (F := Ideal) m ρ

/-- The reference leaves its arguments as they were. -/
theorem frame_referenceIdeal : Cert.quiescent_ReferenceIdeal := fun m g _ =>
  (θ_run Cert.ReferenceIdeal.defs _ _).mono
    (fun r h => ⟨fun c => (h c).2.2.2, sem_eq_zero_of_no_sems rfl r.2⟩)
    (Cert.ReferenceIdeal.Value.run (F := Ideal) m g)

/-- The word of the named constant stands for its real value. -/
theorem preserves : Cert.preserves_Kernel_KernelIdeal :=
  IdealRules.named_const.statement Cert.KernelIdeal.κ "scale_log2e" .f32 0x3E16C740#32 _ rfl

end Cert.Proof

end
-- ==== Proof.BlockValue.lean ====
/-
What a block of keys adds to the three results, read element by element over the extended reals.
-/
module

public import proofs.«01_k».proof.Proof.Blocks
public import Idealize.ShloMosaic.Lib.Pointwise

@[expose] public section

set_option maxRecDepth 16384

noncomputable section

namespace Cert.KernelIdeal.Flow

open Idealize.ShloMosaic Idealize.ShloMosaic.TcCoe Idealize.ShloMosaic.Tactic
open Cert.KernelIdeal.Facts₀ Cert.KernelIdeal.Facts

section Read

variable {Val : EltTy → Type} {s : Shape} {e : EltTy}

theorem upd_at (r : Rect s) (w : r.shape.Idx → Val e) (f : s.Idx → Val e) (j : r.shape.Idx) (i : s.Idx) (h : r.idx j = i) : upd r w f i = w j := by
  rw [← h]; exact upd_idx r w f j

theorem upd_off (r : Rect s) (w : r.shape.Idx → Val e) (f : s.Idx → Val e) (i : s.Idx) (a : Fin s.rank) (hs : r.stride a = 1)
    (h : (i a).val < r.off a ∨ r.off a + r.size a ≤ (i a).val) : upd r w f i = f i := by
  refine upd_of_not r w f i ?_
  rintro ⟨j, hj⟩
  have := congrArg (fun x : s.Idx => (x a).val) hj
  simp only [LoadRect.idx_apply, hs, Nat.one_mul] at this
  have := (j a).isLt
  omega

end Read

/-- The number that the scores are multiplied by inside the power of two. -/
def expScale : EReal := Named.named (F := Ideal) κ "scale_log2e" (φ := .f32) 0x3E16C740#32
/-- The number that the scores are multiplied by. -/
def scale : EReal := Ideal.ofBits .f32 0x3DD105EC#32

/-- A row index of a block of two heads. -/
abbrev at128 (hh : Fin 2) (d : Fin 128) : Fin 256 := ⟨128 * hh.val + d.val, by omega⟩
/-- A key of a pair of blocks. -/
abbrev at256 (blk : Fin 2) (t : Fin 256) : Fin 512 := ⟨256 * blk.val + t.val, by omega⟩

/-- The score of a key and a query. -/
def sX (I : In Ideal) (blk hh : Fin 2) (n : Fin 16) (t r : Fin 256) : EReal :=
  ∑ d : Fin 128, (I.k (ix2 (at256 blk t) (at128 hh d)) : EReal) * (I.qt (ix3 n (at128 hh d) r) : EReal)

theorem k_at (I : In Ideal) (blk hh : Fin 2) (t : Fin 256) (d : Fin 128) :
    ldr (rK blk hh).toLoadRect I.k (ix2 t d) = I.k (ix2 (at256 blk t) (at128 hh d)) :=
  congrArg I.k (by idx_ext)

theorem qt_at (I : In Ideal) (hh : Fin 2) (n : Nat) (hn : n + 1 ≤ 16) (d : Fin 128) (r : Fin 256) :
    ldr (rQ hh n hn).toLoadRect I.qt (ix3 0 d r) = I.qt (ix3 ⟨n, hn⟩ (at128 hh d) r) :=
  congrArg I.qt (by idx_ext)

theorem scoreX_at (I : In Ideal) (blk hh : Fin 2) (n : Nat) (hn : n + 1 ≤ 16) (t r : Fin 256) :
    scoreX I blk hh n hn (ix4 0 0 t r) = sX I blk hh ⟨n, hn⟩ t r := by
  unfold scoreX payDot sX
  pointwise [k_at, qt_at]

/-- A row index of the cotangent's block of two heads. -/
abbrev at64 (hh : Fin 2) (d : Fin 64) : Fin 128 := ⟨64 * hh.val + d.val, by omega⟩

/-- The product of a key's values with a query's cotangent, in one of the two heads. -/
def sY (I : In Ideal) (blk hh : Fin 2) (n : Fin 16) (t r : Fin 256) : EReal :=
  ∑ e : Fin 64, (I.v (ix2 (at256 blk t) (at64 hh e)) : EReal) * (I.dot (ix3 n (at64 hh e) r) : EReal)

theorem v_at (I : In Ideal) (blk : Fin 2) (t : Fin 256) (d : Fin 128) :
    ldr (rV blk).toLoadRect I.v (ix2 t d) = I.v (ix2 (at256 blk t) d) :=
  congrArg I.v (by idx_ext)

theorem dot_at (I : In Ideal) (n : Nat) (hn : n + 1 ≤ 16) (d : Fin 128) (r : Fin 256) :
    ldr (rDo n hn).toLoadRect I.dot (ix3 0 d r) = I.dot (ix3 ⟨n, hn⟩ d r) :=
  congrArg I.dot (by idx_ext)

theorem dot64_at (I : In Ideal) (hh : Fin 2) (n : Nat) (hn : n + 1 ≤ 16) (e : Fin 64) (r : Fin 256) :
    ldr (rDo64 hh n hn).toLoadRect I.dot (ix3 0 e r) = I.dot (ix3 ⟨n, hn⟩ (at64 hh e) r) :=
  congrArg I.dot (by idx_ext)

theorem sel64 {α : Type} (d : Fin 128) (a b : α) :
    Scalar.select (IntOp.cmpi CmpIPredicate.slt (BitVec.ofNat 32 d.val) 64#32) a b = if d.val < 64 then a else b := by
  have h : IntOp.cmpi CmpIPredicate.slt (BitVec.ofNat 32 d.val) 64#32 = if d.val < 64 then 1#1 else 0#1 := by
    revert d; decide +kernel
  rw [h]
  split <;> rfl

theorem selLe {α : Type} (x y : Nat) (hx : x < 2 ^ 31) (hy : y < 2 ^ 31) (a b : α) :
    Scalar.select (IntOp.cmpi CmpIPredicate.sle (BitVec.ofNat 32 x) (BitVec.ofNat 32 y)) a b = if x ≤ y then a else b := by
  rw [WordCmp.cmpi_sle_ofNat hx hy]
  by_cases h : x ≤ y
  · rw [if_pos h, decide_eq_true h]; rfl
  · rw [if_neg h, decide_eq_false h]; rfl

theorem scoreY_at (I : In Ideal) (blk hh : Fin 2) (n : Nat) (hn : n + 1 ≤ 16) (t r : Fin 256) :
    scoreY I blk hh n hn (ix4 0 0 t r) = sY I blk hh ⟨n, hn⟩ t r := by
  unfold scoreY payDot sY vOf payVh
  fin_cases hh
  · pointwise [v_at, dot_at]
    simp only [sel64]
    rw [Fin.sum_univ_two_halves 64 64 rfl]
    simp only [Fin.is_lt, if_true, not_lt.mpr (Nat.le_add_right 64 _), if_false, Finset.sum_const_zero, add_zero]
    exact Finset.sum_congr rfl fun e _ => by congr 3 <;> exact Fin.ext (by simp)
  · pointwise [v_at, dot_at]
    simp only [sel64]
    rw [Fin.sum_univ_two_halves 64 64 rfl]
    simp only [Fin.is_lt, if_true, not_lt.mpr (Nat.le_add_right 64 _), if_false, Finset.sum_const_zero, zero_add]
    exact Finset.sum_congr rfl fun e _ => by congr 3 <;> exact Fin.ext (by simp)

/-- The probability of a key for a query; with the mask, zero where the key comes after the query. -/
def pE (I : In Ideal) (diag : Bool) (blk hh : Fin 2) (n : Fin 16) (t r : Fin 256) : EReal :=
  if diag = true ∧ ¬ t ≤ r then 0 else Ideal.exp2 (sX I blk hh n t r * expScale - (I.l (ix4 0 n ⟨hh.val, by omega⟩ r) : EReal))

theorem stat_at (f : S1x16x8x256.Idx → EReal) (n : Nat) (hn : n + 1 ≤ 16) (h : Fin 8) (r : Fin 256) :
    ldr (Val := Elt Ideal) (e := .f32) (rL n hn).toLoadRect f (ix4 0 0 h r) = f (ix4 0 ⟨n, hn⟩ h r) :=
  congrArg f (by idx_ext)

theorem half_at (f : S1x1x256x256.Idx → EReal) (c : Fin 2) (t : Fin 256) (r : Fin 128) :
    ldr (Val := Elt Ideal) (e := .f32) (rH c).toLoadRect f (ix4 0 0 t r) = f (ix4 0 0 t (at128 c r)) :=
  congrArg f (by idx_ext)

theorem probC_at (I : In Ideal) (diag : Bool) (blk hh : Fin 2) (n : Nat) (hn : n + 1 ≤ 16) (c : Fin 2) (t : Fin 256) (r : Fin 128) :
    probC I blk hh n hn diag c (ix2 t r) = pE I diag blk hh ⟨n, hn⟩ t (at128 c r) := by
  unfold probC pE
  cases diag
  · unfold payPd payP
    pointwise [half_at, stat_at, scoreX_at]
    rw [if_neg (fun h => by exact absurd h.1 (by decide))]
    rfl
  · unfold payPd payDiag payP
    pointwise [half_at, stat_at, scoreX_at]
    have e : IntOp.addi (BitVec.ofNat 32 r.val) (BitVec.ofNat 32 (128 * c.val)) = BitVec.ofNat 32 (128 * c.val + r.val) := by
      rw [Nat.add_comm]; exact (BitVec.ofNat_add _ _).symm
    rw [e, selLe _ _ (by omega) (by omega)]
    by_cases h : t.val ≤ 128 * c.val + r.val
    · rw [if_pos h, if_neg (fun h' => h' h)]; rfl
    · rw [if_neg h, if_pos (show ¬ t ≤ at128 c r from h)]

/-- The derivative of a score. -/
def dE (I : In Ideal) (diag : Bool) (blk hh : Fin 2) (n : Fin 16) (t r : Fin 256) : EReal :=
  pE I diag blk hh n t r * (sY I blk hh n t r - (I.dl (ix4 0 n ⟨hh.val, by omega⟩ r) : EReal)) * scale

theorem dsC_at (I : In Ideal) (diag : Bool) (blk hh : Fin 2) (n : Nat) (hn : n + 1 ≤ 16) (c : Fin 2) (t : Fin 256) (r : Fin 128) :
    dsC I blk hh n hn diag c (ix3 0 t r) = dE I diag blk hh ⟨n, hn⟩ t (at128 c r) := by
  unfold dsC payDs dE
  pointwise [half_at, stat_at, scoreY_at, probC_at]
  rfl

theorem split256 (r : Fin 256) : ∃ c d, r = at128 c d :=
  ⟨⟨r.val / 128, by omega⟩, ⟨r.val % 128, by omega⟩, Fin.ext (by simp only [at128]; omega)⟩
theorem split128 (r : Fin 128) : ∃ c d, r = at64 c d :=
  ⟨⟨r.val / 64, by omega⟩, ⟨r.val % 64, by omega⟩, Fin.ext (by simp only [at64]; omega)⟩

theorem glue_at (a : Fin 2 → FVec Ideal S1x256x128 .bf16) (c : Fin 2) (t : Fin 256) (r : Fin 128) :
    glue (a 0) (a 1) (ix3 0 t (at128 c r)) = a c (ix3 0 t r) := by
  unfold glue
  fin_cases c
  · rw [upd_off _ _ _ _ 2 rfl (Or.inl (by simp [Rect.unit]))]
    exact upd_at (rG 0) _ _ (ix3 0 t r) _ (by idx_ext)
  · exact upd_at (rG 1) _ _ (ix3 0 t r) _ (by idx_ext)

theorem probP_at (I : In Ideal) (diag : Bool) (blk hh : Fin 2) (n : Nat) (hn : n + 1 ≤ 16) (t r : Fin 256) :
    probP I blk hh n hn diag (ix3 0 t r) = pE I diag blk hh ⟨n, hn⟩ t r := by
  obtain ⟨c, d, rfl⟩ := split256 r
  unfold probP
  rw [glue_at (fun c => payPb (probC I blk hh n hn diag c)) c t d]
  unfold payPb
  pointwise [probC_at]

theorem probDs_at (I : In Ideal) (diag : Bool) (blk hh : Fin 2) (n : Nat) (hn : n + 1 ≤ 16) (t r : Fin 256) :
    probDs I blk hh n hn diag (ix3 0 t r) = dE I diag blk hh ⟨n, hn⟩ t r := by
  obtain ⟨c, d, rfl⟩ := split256 r
  unfold probDs
  rw [glue_at (fun c => dsC I blk hh n hn diag c) c t d]
  exact dsC_at I diag blk hh n hn c t d

/-! ## One head's step -/

theorem dv_at (f : S2x128x256.Idx → EReal) (blk hh : Fin 2) (e : Fin 64) (t : Fin 256) :
    ldr (Val := Elt Ideal) (e := .f32) (rDv blk hh).toLoadRect f (ix3 0 e t) = f (ix3 blk (at64 hh e) t) :=
  congrArg f (by idx_ext)
theorem dk_at (f : S2x256x256.Idx → EReal) (blk hh : Fin 2) (e : Fin 96) (t : Fin 256) :
    ldr (Val := Elt Ideal) (e := .f32) (rDk blk hh).toLoadRect f (ix3 0 e t) = f (ix3 blk (at128 hh ⟨e.val, by omega⟩) t) :=
  congrArg f (by idx_ext)
theorem kt_at (f : S2x256x256.Idx → EReal) (blk hh : Fin 2) (e : Fin 96) (t : Fin 256) :
    ldr (Val := Elt Ideal) (e := .bf16) (rDk blk hh).toLoadRect f (ix3 0 e t) = f (ix3 blk (at128 hh ⟨e.val, by omega⟩) t) :=
  congrArg f (by idx_ext)
theorem dq_at (f : S16x256x256.Idx → EReal) (hh : Fin 2) (n : Nat) (hn : n + 1 ≤ 16) (e : Fin 96) (t : Fin 256) :
    ldr (Val := Elt Ideal) (e := .f32) (rQ96 hh n hn).toLoadRect f (ix3 0 e t) = f (ix3 ⟨n, hn⟩ (at128 hh ⟨e.val, by omega⟩) t) :=
  congrArg f (by idx_ext)
theorem qt96_at (f : S16x256x256.Idx → EReal) (hh : Fin 2) (n : Nat) (hn : n + 1 ≤ 16) (e : Fin 96) (t : Fin 256) :
    ldr (Val := Elt Ideal) (e := .bf16) (rQ96 hh n hn).toLoadRect f (ix3 0 e t) = f (ix3 ⟨n, hn⟩ (at128 hh ⟨e.val, by omega⟩) t) :=
  congrArg f (by idx_ext)

theorem updA_dv (I : In Ideal) (blk hh : Fin 2) (n : Nat) (hn : n + 1 ≤ 16) (P D : FVec Ideal S1x256x256 .bf16) (a : Acc Ideal)
    (b h : Fin 2) (e : Fin 64) (t : Fin 256) :
    ((updA I blk hh n hn P D a).dv (ix3 b (at64 h e) t) : EReal) = (a.dv (ix3 b (at64 h e) t) : EReal)
      + if b = blk ∧ h = hh then ∑ r : Fin 256, (I.dot (ix3 ⟨n, hn⟩ (at64 h e) r) : EReal) * P (ix3 0 t r) else 0 := by
  unfold updA
  by_cases hc : b = blk ∧ h = hh
  · obtain ⟨rfl, rfl⟩ := hc
    rw [if_pos ⟨rfl, rfl⟩]
    dsimp only
    rw [upd_at _ _ _ (ix3 0 e t) _ (by idx_ext)]
    unfold payDv
    pointwise [dv_at, dot64_at]
  · rw [if_neg hc, add_zero]
    dsimp only
    by_cases hb : b = blk
    · refine upd_off _ _ _ _ 1 rfl ?_
      have hh' : h ≠ hh := fun h' => hc ⟨hb, h'⟩
      simp [Rect.unit]
      omega
    · refine upd_off _ _ _ _ 0 rfl ?_
      simp [Rect.unit]
      omega

theorem updA_dk (I : In Ideal) (blk hh : Fin 2) (n : Nat) (hn : n + 1 ≤ 16) (P D : FVec Ideal S1x256x256 .bf16) (a : Acc Ideal)
    (b h : Fin 2) (e : Fin 128) (t : Fin 256) :
    ((updA I blk hh n hn P D a).dk (ix3 b (at128 h e) t) : EReal) = (a.dk (ix3 b (at128 h e) t) : EReal)
      + if b = blk ∧ h = hh ∧ e.val < 96 then ∑ r : Fin 256, (I.qt (ix3 ⟨n, hn⟩ (at128 h e) r) : EReal) * D (ix3 0 t r) else 0 := by
  unfold updA
  by_cases hc : b = blk ∧ h = hh ∧ e.val < 96
  · obtain ⟨rfl, rfl, he⟩ := hc
    rw [if_pos ⟨rfl, rfl, he⟩]
    dsimp only
    rw [upd_at _ _ _ (ix3 0 ⟨e.val, he⟩ t) _ (by idx_ext)]
    unfold payDk
    pointwise [dk_at, qt96_at]
  · rw [if_neg hc, add_zero]
    dsimp only
    by_cases hb : b = blk
    · refine upd_off _ _ _ _ 1 rfl ?_
      simp [Rect.unit]
      omega
    · refine upd_off _ _ _ _ 0 rfl ?_
      simp [Rect.unit]
      omega

theorem updA_dq (I : In Ideal) (blk hh : Fin 2) (n : Nat) (hn : n + 1 ≤ 16) (P D : FVec Ideal S1x256x256 .bf16) (a : Acc Ideal)
    (i : Fin 16) (h : Fin 2) (e : Fin 128) (r : Fin 256) :
    ((updA I blk hh n hn P D a).dq (ix3 i (at128 h e) r) : EReal) = (a.dq (ix3 i (at128 h e) r) : EReal)
      + if i.val = n ∧ h = hh ∧ e.val < 96 then ∑ t : Fin 256, (I.kt (ix3 blk (at128 h e) t) : EReal) * D (ix3 0 t r) else 0 := by
  unfold updA
  by_cases hc : i.val = n ∧ h = hh ∧ e.val < 96
  · obtain ⟨rfl, rfl, he⟩ := hc
    rw [if_pos ⟨rfl, rfl, he⟩]
    dsimp only
    rw [upd_at _ _ _ (ix3 0 ⟨e.val, he⟩ r) _ (by idx_ext)]
    unfold payDq
    pointwise [dq_at, kt_at]
  · rw [if_neg hc, add_zero]
    dsimp only
    by_cases hb : i.val = n
    · refine upd_off _ _ _ _ 1 rfl ?_
      simp [Rect.unit]
      omega
    · refine upd_off _ _ _ _ 0 rfl ?_
      simp [Rect.unit]
      omega

end Cert.KernelIdeal.Flow

end
-- ==== Proof.BodyValue.lean ====
/-
What one step of the grid leaves in the three results, read element by element: the sum over all blocks of queries, with the
mask on the rows' positions.
-/
module

public import proofs.«01_k».proof.Proof.BlockValue

@[expose] public section

set_option maxRecDepth 16384

noncomputable section

namespace Cert.KernelIdeal.Flow

open Idealize.ShloMosaic Idealize.ShloMosaic.TcCoe Idealize.ShloMosaic.Tactic
open Cert.KernelIdeal.Facts₀ Cert.KernelIdeal.Facts

/-- What a block of queries adds to the gradient of the values, from the probabilities `pf` of the two heads. -/
def cv (I : In Ideal) (pf : Fin 2 → Fin 256 → Fin 256 → EReal) (blk : Fin 2) (n : Fin 16) (b h : Fin 2) (e : Fin 64) (t : Fin 256) : EReal :=
  if b = blk then ∑ r : Fin 256, (I.dot (ix3 n (at64 h e) r) : EReal) * pf h t r else 0

/-- What a block of queries adds to the gradient of the keys, from the derivatives `df` of the scores. -/
def ck (I : In Ideal) (df : Fin 2 → Fin 256 → Fin 256 → EReal) (blk : Fin 2) (n : Fin 16) (b h : Fin 2) (e : Fin 128) (t : Fin 256) : EReal :=
  if b = blk ∧ e.val < 96 then ∑ r : Fin 256, (I.qt (ix3 n (at128 h e) r) : EReal) * df h t r else 0

/-- What a block of keys adds to the gradient of the queries. -/
def cq (I : In Ideal) (df : Fin 2 → Fin 256 → Fin 256 → EReal) (blk : Fin 2) (n : Fin 16) (i : Fin 16) (h : Fin 2) (e : Fin 128) (r : Fin 256) : EReal :=
  if i = n ∧ e.val < 96 then ∑ t : Fin 256, (I.kt (ix3 blk (at128 h e) t) : EReal) * df h t r else 0

section Grad

variable (I : In Ideal) (diag : Bool) (blk : Fin 2) (n : Nat) (hn : n + 1 ≤ 16) (a : Acc Ideal)

theorem gradA_dv (b h : Fin 2) (e : Fin 64) (t : Fin 256) :
    ((gradA I blk n hn diag a).dv (ix3 b (at64 h e) t) : EReal) = (a.dv (ix3 b (at64 h e) t) : EReal)
      + cv I (fun hh => pE I diag blk hh ⟨n, hn⟩) blk ⟨n, hn⟩ b h e t := by
  unfold gradA cv
  rw [updA_dv, updA_dv]
  simp only [probP_at]
  by_cases hb : b = blk <;> fin_cases h <;> simp [hb]

theorem gradA_dk (b h : Fin 2) (e : Fin 128) (t : Fin 256) :
    ((gradA I blk n hn diag a).dk (ix3 b (at128 h e) t) : EReal) = (a.dk (ix3 b (at128 h e) t) : EReal)
      + ck I (fun hh => dE I diag blk hh ⟨n, hn⟩) blk ⟨n, hn⟩ b h e t := by
  unfold gradA ck
  rw [updA_dk, updA_dk]
  simp only [probDs_at]
  by_cases hb : b = blk <;> fin_cases h <;> simp [hb]

theorem gradA_dq (i : Fin 16) (h : Fin 2) (e : Fin 128) (r : Fin 256) :
    ((gradA I blk n hn diag a).dq (ix3 i (at128 h e) r) : EReal) = (a.dq (ix3 i (at128 h e) r) : EReal)
      + cq I (fun hh => dE I diag blk hh ⟨n, hn⟩) blk ⟨n, hn⟩ i h e r := by
  unfold gradA cq
  rw [updA_dq, updA_dq]
  simp only [probDs_at]
  have hi : (i = (⟨n, hn⟩ : Fin 16)) ↔ i.val = n := Fin.ext_iff
  by_cases hb : i.val = n <;> fin_cases h <;> simp [hb, hi]

end Grad

/-! ## The loop -/

/-- A quantity to which every block of queries adds `C` (its own block `C true`) has, after a block of keys `j`, the sum of
    `G` over all sixteen blocks added, where `G` is `C` from block `j` on and zero before. -/
theorem blockA_add (I : In Ideal) (blk : Fin 2) (j : Nat) (hj : j < 16) (φ : Acc Ideal → EReal) (C : Bool → (n : Nat) → n + 1 ≤ 16 → EReal) (G : Fin 16 → EReal)
    (hφ : ∀ diag n hn a, φ (gradA I blk n hn diag a) = φ a + C diag n hn)
    (h0 : ∀ n : Fin 16, n.val < j → G n = 0) (h1 : ∀ n hn, n = j → C true n hn = G ⟨n, hn⟩) (h2 : ∀ n hn, j < n → C false n hn = G ⟨n, hn⟩)
    (a : Acc Ideal) : φ (blockA I blk j a) = φ a + ∑ n : Fin 16, G n := by
  let G' : Nat → EReal := fun n => if h : n < 16 then G ⟨n, h⟩ else 0
  have hl : ∀ m, φ (laters I blk j m a) = φ a + ∑ k ∈ Finset.range m, G' (j + 1 + k) := by
    intro m
    induction m with
    | zero => simp [laters]
    | succ m ih =>
      unfold laters at ih ⊢
      rw [List.range_succ, List.foldl_append, List.foldl_cons, List.foldl_nil, Finset.sum_range_succ, ← add_assoc, ← ih]
      unfold gradT
      by_cases h : j + 1 + m + 1 ≤ 16
      · rw [dif_pos h, hφ, h2 _ _ (by omega)]
        simp only [G', dif_pos (show j + 1 + m < 16 from h)]
      · rw [dif_neg h]
        simp only [G', dif_neg (show ¬ j + 1 + m < 16 from h), add_zero]
  have hs : ∑ n : Fin 16, G n = ∑ n ∈ Finset.range (j + (1 + (15 - j))), G' n := by
    rw [show j + (1 + (15 - j)) = 16 by omega, ← Fin.sum_univ_eq_sum_range]
    exact Finset.sum_congr rfl fun n _ => by simp only [G', dif_pos n.isLt]
  rw [hs, Finset.sum_range_add, Finset.sum_range_add, Finset.sum_range_one, Nat.add_zero]
  have hz : ∑ n ∈ Finset.range j, G' n = 0 := Finset.sum_eq_zero fun n hn => by
    have := Finset.mem_range.mp hn
    simp only [G', dif_pos (show n < 16 by omega)]
    exact h0 _ this
  rw [hz, zero_add]
  unfold blockA gradT
  rw [dif_pos (show j + 1 ≤ 16 from hj), hφ, h1 _ _ rfl, hl]
  simp only [G', dif_pos hj, ← Nat.add_assoc]
  rw [add_assoc, add_comm (∑ k ∈ _, _)]

/-! ## With the mask on positions -/

/-- The probability of a key of block `j` for a query of block `n`: zero where the key's position is the later. -/
def pG (I : In Ideal) (blk hh : Fin 2) (j : Nat) (n : Fin 16) (t r : Fin 256) : EReal :=
  if 256 * j + t.val ≤ 256 * n.val + r.val then Ideal.exp2 (sX I blk hh n t r * expScale - (I.l (ix4 0 n ⟨hh.val, by omega⟩ r) : EReal)) else 0

def dG (I : In Ideal) (blk hh : Fin 2) (j : Nat) (n : Fin 16) (t r : Fin 256) : EReal :=
  pG I blk hh j n t r * (sY I blk hh n t r - (I.dl (ix4 0 n ⟨hh.val, by omega⟩ r) : EReal)) * scale

theorem pG_before (I : In Ideal) (blk hh : Fin 2) (j : Nat) (n : Fin 16) (t r : Fin 256) (h : n.val < j) : pG I blk hh j n t r = 0 := by
  unfold pG; rw [if_neg (by omega)]
theorem pG_own (I : In Ideal) (blk hh : Fin 2) (n : Fin 16) (t r : Fin 256) : pE I true blk hh n t r = pG I blk hh n.val n t r := by
  unfold pG pE
  by_cases h : t ≤ r
  · rw [if_neg (fun h' => h'.2 h), if_pos (by have : t.val ≤ r.val := h; omega)]
  · rw [if_pos ⟨rfl, h⟩, if_neg (by have : ¬ t.val ≤ r.val := h; omega)]
theorem pG_after (I : In Ideal) (blk hh : Fin 2) (j : Nat) (n : Fin 16) (t r : Fin 256) (h : j < n.val) : pE I false blk hh n t r = pG I blk hh j n t r := by
  unfold pG pE
  rw [if_neg (fun h' => absurd h'.1 (by decide)), if_pos (by omega)]
theorem dG_before (I : In Ideal) (blk hh : Fin 2) (j : Nat) (n : Fin 16) (t r : Fin 256) (h : n.val < j) : dG I blk hh j n t r = 0 := by
  unfold dG; rw [pG_before I blk hh j n t r h, zero_mul, zero_mul]
theorem dG_own (I : In Ideal) (blk hh : Fin 2) (n : Fin 16) (t r : Fin 256) : dE I true blk hh n t r = dG I blk hh n.val n t r := by
  unfold dG dE; rw [pG_own]
theorem dG_after (I : In Ideal) (blk hh : Fin 2) (j : Nat) (n : Fin 16) (t r : Fin 256) (h : j < n.val) : dE I false blk hh n t r = dG I blk hh j n t r := by
  unfold dG dE; rw [pG_after I blk hh j n t r h]

section Block

variable (I : In Ideal) (blk : Fin 2) (j : Nat) (hj : j < 16) (a : Acc Ideal)
include hj

theorem blockA_dv (b h : Fin 2) (e : Fin 64) (t : Fin 256) :
    ((blockA I blk j a).dv (ix3 b (at64 h e) t) : EReal) = (a.dv (ix3 b (at64 h e) t) : EReal)
      + ∑ n : Fin 16, cv I (fun hh => pG I blk hh j n) blk n b h e t := by
  refine blockA_add I blk j hj (fun a => a.dv (ix3 b (at64 h e) t)) (fun diag n hn => cv I (fun hh => pE I diag blk hh ⟨n, hn⟩) blk ⟨n, hn⟩ b h e t) _
    (fun diag n hn a => gradA_dv I diag blk n hn a b h e t) ?_ ?_ ?_ a
  · intro n hn; simp only [cv, pG_before I blk _ j n _ _ hn, mul_zero, Finset.sum_const_zero, ite_self]
  · rintro n hn rfl; simp only [cv, pG_own]
  · intro n hn h'; simp only [cv, pG_after I blk _ j ⟨n, hn⟩ _ _ h']

theorem blockA_dk (b h : Fin 2) (e : Fin 128) (t : Fin 256) :
    ((blockA I blk j a).dk (ix3 b (at128 h e) t) : EReal) = (a.dk (ix3 b (at128 h e) t) : EReal)
      + ∑ n : Fin 16, ck I (fun hh => dG I blk hh j n) blk n b h e t := by
  refine blockA_add I blk j hj (fun a => a.dk (ix3 b (at128 h e) t)) (fun diag n hn => ck I (fun hh => dE I diag blk hh ⟨n, hn⟩) blk ⟨n, hn⟩ b h e t) _
    (fun diag n hn a => gradA_dk I diag blk n hn a b h e t) ?_ ?_ ?_ a
  · intro n hn; simp only [ck, dG_before I blk _ j n _ _ hn, mul_zero, Finset.sum_const_zero, ite_self]
  · rintro n hn rfl; simp only [ck, dG_own]
  · intro n hn h'; simp only [ck, dG_after I blk _ j ⟨n, hn⟩ _ _ h']

theorem blockA_dq (i : Fin 16) (h : Fin 2) (e : Fin 128) (r : Fin 256) :
    ((blockA I blk j a).dq (ix3 i (at128 h e) r) : EReal) = (a.dq (ix3 i (at128 h e) r) : EReal)
      + ∑ n : Fin 16, cq I (fun hh => dG I blk hh j n) blk n i h e r := by
  refine blockA_add I blk j hj (fun a => a.dq (ix3 i (at128 h e) r)) (fun diag n hn => cq I (fun hh => dE I diag blk hh ⟨n, hn⟩) blk ⟨n, hn⟩ i h e r) _
    (fun diag n hn a => gradA_dq I diag blk n hn a i h e r) ?_ ?_ ?_ a
  · intro n hn; simp only [cq, dG_before I blk _ j n _ _ hn, mul_zero, Finset.sum_const_zero, ite_self]
  · rintro n hn rfl; simp only [cq, dG_own]
  · intro n hn h'; simp only [cq, dG_after I blk _ j ⟨n, hn⟩ _ _ h']

end Block

/-! ## A step of the grid -/

section Step

variable (I : In Ideal) (p : Nat) (hp : p < 8) (dq : S16x256x256.Idx → EReal)
include hp

theorem bodyA_dv (b h : Fin 2) (e : Fin 64) (t : Fin 256) :
    ((bodyA I p dq).dv (ix3 b (at64 h e) t) : EReal)
      = ∑ n : Fin 16, ∑ r : Fin 256, (I.dot (ix3 n (at64 h e) r) : EReal) * pG I b h (2 * p + b.val) n t r := by
  unfold bodyA
  rw [blockA_dv _ _ _ (by omega), blockA_dv _ _ _ (by omega)]
  have hz : ((zeroA (F := Ideal) (decide (p = 0)) dq).dv (ix3 b (at64 h e) t) : EReal) = 0 := by unfold zeroA; pointwise
  rw [hz, zero_add]
  fin_cases b <;> simp [cv]

theorem bodyA_dk (b h : Fin 2) (e : Fin 128) (t : Fin 256) :
    ((bodyA I p dq).dk (ix3 b (at128 h e) t) : EReal)
      = if e.val < 96 then ∑ n : Fin 16, ∑ r : Fin 256, (I.qt (ix3 n (at128 h e) r) : EReal) * dG I b h (2 * p + b.val) n t r else 0 := by
  unfold bodyA
  rw [blockA_dk _ _ _ (by omega), blockA_dk _ _ _ (by omega)]
  have hz : ((zeroA (F := Ideal) (decide (p = 0)) dq).dk (ix3 b (at128 h e) t) : EReal) = 0 := by unfold zeroA; pointwise
  rw [hz, zero_add]
  by_cases he : e.val < 96 <;> fin_cases b <;> simp [ck, he]

theorem bodyA_dq (i : Fin 16) (h : Fin 2) (e : Fin 128) (r : Fin 256) :
    ((bodyA I p dq).dq (ix3 i (at128 h e) r) : EReal) = (if p = 0 then 0 else (dq (ix3 i (at128 h e) r) : EReal))
      + if e.val < 96 then ∑ b : Fin 2, ∑ t : Fin 256, (I.kt (ix3 b (at128 h e) t) : EReal) * dG I b h (2 * p + b.val) i t r else 0 := by
  unfold bodyA
  rw [blockA_dq _ _ _ (by omega), blockA_dq _ _ _ (by omega)]
  have hz : ((zeroA (F := Ideal) (decide (p = 0)) dq).dq (ix3 i (at128 h e) r) : EReal) = if p = 0 then 0 else (dq (ix3 i (at128 h e) r) : EReal) := by
    unfold zeroA
    by_cases h0 : p = 0
    · simp only [h0, decide_true, if_true]; pointwise
    · simp only [h0, decide_false, if_false]; rfl
  rw [hz, add_assoc]
  congr 1
  by_cases he : e.val < 96
  · simp [cq, he, Fin.sum_univ_two]
  · simp [cq, he]

end Step

end Cert.KernelIdeal.Flow

end
-- ==== Proof.Softmax.lean ====
/-
One row of a softmax and of its derivative, over the extended reals with finite scores: what is computed with a row's
maximum and its sum of exponentials is what is computed with the logarithm of that sum.
-/
module

public import Idealize.ShloMosaic.PureOps.Ideal
public import Idealize.ShloMosaic.Lib.IdealHost
public import Idealize.ShloMosaic.Lib.Pointwise

@[expose] public section

noncomputable section

namespace Cert.Softmax

open Idealize.ShloMosaic

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe_coe {y : ℝ} (h : y ≠ 0) (x : ℝ) : Ideal.div (x : EReal) (y : EReal) = ((x / y : ℝ) : EReal) := by
  rw [Ideal.div_coe h, ← EReal.coe_mul, mul_one_div]

variable {N : Nat} (k : Fin N → Prop) [DecidablePred k] (s : Fin N → ℝ) (d : Fin N → ℝ)

/-- One row: the scaled scores, `⊥` where the mask `k` fails. -/
def row (j : Fin N) : EReal := if k j then ((s j : ℝ) : EReal) else ⊥

def top : EReal := Finset.univ.fold max ⊥ (row k s)

def ex (j : Fin N) : EReal := Ideal.exp (row k s j - top k s)

def den : EReal := ∑ j, ex k s j

def prob (j : Fin N) : EReal := Ideal.div (ex k s j) (den k s)

/-- The same, real. -/
def mx : ℝ := (top k s).toReal
def exR (j : Fin N) : ℝ := if k j then Real.exp (s j - mx k s) else 0
def denR : ℝ := ∑ j, exR k s j
def probR (j : Fin N) : ℝ := exR k s j / denR k s

variable {k} {s}

theorem top_eq (hk : ∃ j, k j) : top k s = ((mx k s : ℝ) : EReal) := by
  obtain ⟨j, hj⟩ := hk
  have hle : ∀ i, row k s i ≤ top k s := fun i => (Finset.le_fold_max _).2 (.inr ⟨i, Finset.mem_univ _, le_rfl⟩)
  have hlt : top k s < ⊤ := (Finset.fold_max_lt _).2 ⟨bot_lt_top, fun i _ => by
    unfold row; split
    · exact EReal.coe_lt_top _
    · exact bot_lt_top⟩
  have hgt : ⊥ < top k s := lt_of_lt_of_le (by unfold row; rw [if_pos hj]; exact EReal.bot_lt_coe _) (hle j)
  exact (EReal.coe_toReal hlt.ne hgt.ne').symm

theorem ex_eq (hk : ∃ j, k j) (j : Fin N) : ex k s j = ((exR k s j : ℝ) : EReal) := by
  unfold ex exR row
  rw [top_eq hk]
  split
  · rw [← EReal.coe_sub, Ideal.exp_coe]
  · rw [EReal.bot_sub, Ideal.exp_bot, EReal.coe_zero]

theorem den_eq (hk : ∃ j, k j) : den k s = ((denR k s : ℝ) : EReal) := by
  unfold den denR
  rw [← coe_sum]
  exact Finset.sum_congr rfl fun j _ => ex_eq hk j

theorem denR_pos (hk : ∃ j, k j) : 0 < denR k s := by
  obtain ⟨j, hj⟩ := hk
  refine Finset.sum_pos' (fun i _ => ?_) ⟨j, Finset.mem_univ _, ?_⟩
  · unfold exR; split
    · exact (Real.exp_pos _).le
    · exact le_rfl
  · unfold exR; rw [if_pos hj]; exact Real.exp_pos _

theorem prob_eq (hk : ∃ j, k j) (j : Fin N) : prob k s j = ((probR k s j : ℝ) : EReal) := by
  unfold prob probR
  rw [ex_eq hk, den_eq hk, div_coe_coe (denR_pos hk).ne']

theorem probR_off {j : Fin N} (h : ¬ k j) : probR k s j = 0 := by
  unfold probR exR; rw [if_neg h, zero_div]

variable (k) (s)

/-- The logarithm to base 2 of the sum of exponentials. -/
def lse : EReal := Ideal.div (top k s + Ideal.log (den k s)) (Ideal.log ((2 : ℝ) : EReal))

variable {k} {s}

theorem lse_eq (hk : ∃ j, k j) : lse k s = (((mx k s + Real.log (denR k s)) / Real.log 2 : ℝ) : EReal) := by
  unfold lse
  rw [top_eq hk, den_eq hk, Ideal.log_coe, Ideal.log_coe, if_neg (not_le.2 (denR_pos hk)), if_neg (by norm_num), ← EReal.coe_add,
    div_coe_coe (Real.log_pos (by norm_num)).ne']

/-- Two to the power of the score less that logarithm is the probability. -/
theorem exp2_eq (hk : ∃ j, k j) {j : Fin N} (hj : k j) {S C : ℝ} (hs : s j = S * C) :
    Ideal.exp2 ((S : EReal) * ((C * (Real.log 2)⁻¹ : ℝ) : EReal) - lse k s) = ((probR k s j : ℝ) : EReal) := by
  have h2 : (0 : ℝ) < Real.log 2 := Real.log_pos (by norm_num)
  rw [lse_eq hk, ← EReal.coe_mul, ← EReal.coe_sub, Ideal.exp2_coe]
  congr 1
  unfold probR exR
  rw [if_pos hj]
  show ((2 : ℝ) ^ (S * (C * (Real.log 2)⁻¹) - (mx k s + Real.log (denR k s)) / Real.log 2) : ℝ) = Real.exp (s j - mx k s) / denR k s
  rw [Real.rpow_def_of_pos (by norm_num)]
  have : Real.log 2 * (S * (C * (Real.log 2)⁻¹) - (mx k s + Real.log (denR k s)) / Real.log 2)
      = (s j - mx k s) - Real.log (denR k s) := by rw [hs]; field_simp; ring
  rw [this, Real.exp_sub, Real.exp_log (denR_pos hk)]

/-- The derivative as the chain rule writes it. -/
theorem grad_eq (hk : ∃ j, k j) (j : Fin N) :
    (Ideal.div ((d j : ℝ) : EReal) (den k s) + -(∑ i, (((d i : ℝ) : EReal) * Ideal.div 1 (den k s * den k s)) * ex k s i)) * ex k s j
      = ((probR k s j * (d j - ∑ i, d i * probR k s i) : ℝ) : EReal) := by
  have hp := (denR_pos (s := s) hk).ne'
  have e1 : ∀ i, (((d i : ℝ) : EReal) * Ideal.div 1 (den k s * den k s)) * ex k s i
      = ((d i * (1 / (denR k s * denR k s)) * exR k s i : ℝ) : EReal) := fun i => by
    rw [den_eq hk, ← EReal.coe_mul, ← EReal.coe_one, div_coe_coe (mul_ne_zero hp hp), ex_eq hk, ← EReal.coe_mul, ← EReal.coe_mul]
  rw [Finset.sum_congr rfl fun i _ => e1 i, coe_sum, den_eq hk, div_coe_coe hp, ex_eq hk, ← EReal.coe_neg, ← EReal.coe_add, ← EReal.coe_mul]
  congr 1
  have e2 : ∑ i, d i * (1 / (denR k s * denR k s)) * exR k s i = (∑ i, d i * probR k s i) / denR k s := by
    rw [Finset.sum_div]
    refine Finset.sum_congr rfl fun i _ => ?_
    unfold probR
    field_simp
  rw [e2]
  unfold probR
  field_simp
  ring

end Cert.Softmax

end
-- ==== Proof.Rows.lean ====
/-
The real numbers the two programs compute from finite arguments: scores, probabilities, and the derivative of each score.
-/
module

public import proofs.«01_k».proof.Proof.Softmax
public import Idealize.ShloMosaic.Lib.WordCmp

@[expose] public section

noncomputable section

namespace Cert.Rows

open Idealize.ShloMosaic Cert.Softmax

/-- The scale of the scores. -/
def C : ℝ := 3424635 / 33554432

theorem scale_eq : Ideal.ofBits .f32 0x3DD105EC#32 = ((C : ℝ) : EReal) := by
  unfold C; simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem bot_eq : Ideal.ofBits .f32 0xFF800000#32 = ⊥ := by
  simp [Ideal.ofBits, Ideal.ieee]
theorem topp_eq : Ideal.ofBits .f32 0x7F800000#32 = ⊤ := by
  simp [Ideal.ofBits, Ideal.ieee]

variable (q k : Fin 4096 → Fin 16 → Fin 96 → ℝ) (v d : Fin 4096 → Fin 16 → Fin 64 → ℝ)

/-- The scaled score of query `y` and key `x`. -/
def sR (hd : Fin 16) (y x : Fin 4096) : ℝ := (∑ e, q y hd e * k x hd e) * C
/-- The derivative of the loss by a probability. -/
def tR (hd : Fin 16) (y x : Fin 4096) : ℝ := ∑ e, d y hd e * v x hd e
/-- The mask: a query sees the keys up to its own position. -/
abbrev sees (y : Fin 4096) (x : Fin 4096) : Prop := x ≤ y
/-- The probability. -/
def pR (hd : Fin 16) (y x : Fin 4096) : ℝ := probR (sees y) (sR q k hd y) x
/-- The derivative of the loss by the product of a query and a key. -/
def gR (hd : Fin 16) (y x : Fin 4096) : ℝ := pR q k hd y x * (tR v d hd y x - ∑ i, tR v d hd y i * pR q k hd y i) * C

theorem sees_self (y : Fin 4096) : ∃ x, sees y x := ⟨y, le_rfl⟩

theorem maskLe {α : Type} (x : Fin 4096) (y : Nat) (hy : y < 4096) (a b : α) :
    Scalar.select (IntOp.cmpi CmpIPredicate.sle (BitVec.ofNat 32 x.val) (BitVec.ofNat 32 y)) a b = if sees ⟨y, hy⟩ x then a else b := by
  rw [WordCmp.cmpi_sle_ofNat (show x.val < 2 ^ 31 by omega) (show y < 2 ^ 31 by omega)]
  by_cases h : x.val ≤ y
  · rw [if_pos (show sees ⟨y, hy⟩ x from h), decide_eq_true h]; rfl
  · rw [if_neg (show ¬ sees ⟨y, hy⟩ x from h), decide_eq_false h]; rfl

/-- A row of scores as both programs compute it. -/
theorem row_at (hd : Fin 16) (y x : Fin 4096) :
    (if sees y x then (∑ e, ((q y hd e : ℝ) : EReal) * ((k x hd e : ℝ) : EReal)) * ((C : ℝ) : EReal) else ⊥) = row (sees y) (sR q k hd y) x := by
  unfold row sR
  simp only [← EReal.coe_mul, coe_sum]

/-- A row's sum of its results' products with their derivatives, as the kernel's program finds it: over the results. -/
theorem delta_eq (hd : Fin 16) (y : Fin 4096) :
    (∑ e, (∑ x, ((v x hd e : ℝ) : EReal) * prob (sees y) (sR q k hd y) x) * ((d y hd e : ℝ) : EReal))
      = ((∑ i, tR v d hd y i * pR q k hd y i : ℝ) : EReal) := by
  simp only [prob_eq (sees_self y), ← EReal.coe_mul, coe_sum]
  congr 1
  simp only [Finset.sum_mul, tR, pR]
  rw [Finset.sum_comm]
  exact Finset.sum_congr rfl fun x _ => Finset.sum_congr rfl fun e _ => by ring

/-- A probability as the kernel finds it. -/
theorem exp2_at (hd : Fin 16) (y x : Fin 4096) :
    (if sees y x then Ideal.exp2 ((∑ e, ((k x hd e : ℝ) : EReal) * ((q y hd e : ℝ) : EReal)) * ((C * (Real.log 2)⁻¹ : ℝ) : EReal)
      - lse (sees y) (sR q k hd y)) else 0) = ((pR q k hd y x : ℝ) : EReal) := by
  split
  case isTrue h =>
    simp only [← EReal.coe_mul, coe_sum]
    refine exp2_eq (sees_self y) h ?_
    unfold sR
    exact congrArg (· * C) (Finset.sum_congr rfl fun e _ => mul_comm _ _)
  case isFalse h =>
    unfold pR
    rw [probR_off h, EReal.coe_zero]

/-- A derivative as the kernel finds it. -/
theorem deriv_at (hd : Fin 16) (y x : Fin 4096) :
    ((pR q k hd y x : ℝ) : EReal) * ((∑ e, ((v x hd e : ℝ) : EReal) * ((d y hd e : ℝ) : EReal))
      - ((∑ i, tR v d hd y i * pR q k hd y i : ℝ) : EReal)) * ((C : ℝ) : EReal) = ((gR q k v d hd y x : ℝ) : EReal) := by
  simp only [← EReal.coe_mul, coe_sum, ← EReal.coe_sub]
  congr 1
  unfold gR
  rw [show ∑ e, v x hd e * d y hd e = tR v d hd y x from Finset.sum_congr rfl fun e _ => mul_comm _ _]

end Cert.Rows

end
-- ==== Proof.Entry.lean ====
/-
What the region finds in its arrays, read element by element: the rows of the four arguments, and each row's two statistics.
-/
module

public import proofs.«01_k».proof.Proof.Run
public import proofs.«01_k».proof.Proof.BodyValue
public import proofs.«01_k».proof.Proof.Rows
public import Idealize.ShloMosaic.Lib.Claim
public import Idealize.ShloMosaic.Lib.StableHlo.ReadAt
public import Idealize.ShloMosaic.Lib.KernelVsHost
public import Idealize.ShloMosaic.Lib.Pipeline.ValueKit

@[expose] public section

set_option maxRecDepth 16384

noncomputable section

namespace Cert.KernelIdeal.Flow

open Idealize.ShloMosaic Idealize.ShloMosaic.TcCoe Idealize.ShloMosaic.Tactic
open Cert.KernelIdeal.Facts₀ Cert.KernelIdeal.Facts

/-- Row `r` of block `n`. -/
abbrev pos (n : Fin 16) (r : Fin 256) : Fin 4096 := ⟨n.val * 256 + r.val, by omega⟩
/-- The head `h` of a pair. -/
abbrev headOf (P : Fin 8) (h : Fin 2) : Fin 16 := ⟨P.val * 2 + h.val, by omega⟩
/-- The column of a head's coordinate, heads 128 apart. -/
abbrev colK (P : Fin 8) (h : Fin 2) (e : Fin 128) : Fin 2048 := ⟨256 * P.val + (128 * h.val + e.val), by omega⟩
/-- The column of a head's coordinate, heads 64 apart. -/
abbrev colV (P : Fin 8) (h : Fin 2) (e : Fin 64) : Fin 1024 := ⟨128 * P.val + (64 * h.val + e.val), by omega⟩

/-- A row padded with zeros. -/
def padded (a : S4096x16x96.Idx → EReal) (y : Fin 4096) (hd : Fin 16) (e : Fin 128) : EReal :=
  if h : e.val < 96 then a (ix3 y hd ⟨e.val, h⟩) else 0

variable (m : (ℓ : Loc nD τ sig) → Buf (Elt Ideal) ℓ) (c : Dev nD)

theorem merge_at (g : S4096x16x128.Idx → EReal) (x : Fin 4096) (P : Fin 8) (h : Fin 2) (e : Fin 128) :
    shapeCast S4096x2048 g Gen.shapeCasts_S4096x16x128_S4096x2048 (ix2 x (colK P h e)) = g (ix3 x (headOf P h) e) := by
  pointwise
  congr 2
  all_goals exact Fin.ext (by dsimp only; omega)

theorem rows_at (g : S4096x2048.Idx → EReal) (n : Fin 16) (r : Fin 256) (j : Fin 2048) :
    shapeCast S16x256x2048 g Gen.shapeCasts_S4096x2048_S16x256x2048 (ix3 n r j) = g (ix2 (pos n r) j) := by
  pointwise

theorem cols_at (g : S16x256x2048.Idx → EReal) (n : Fin 16) (r : Fin 256) (j : Fin 2048) :
    transpose S16x2048x256 [0, 2, 1] g Gen.transposes_S16x256x2048_S16x2048x256_0_2_1 (ix3 n j r) = g (ix3 n r j) := by
  pointwise

theorem pad_at (f : S4096x16x96.Idx → EReal) (y : Fin 4096) (hd : Fin 16) (e : Fin 128) :
    pad S4096x16x128 ![0, 0, 0] ![0, 0, 32] ![0, 0, 0] f (sitofp (F := Ideal) FTy.f32 (constantI S_ 32 0#32)) Gen.pads_S4096x16x96_S4096x16x128_000_000_0320 Gen.h_S_ (ix3 y hd e)
      = padded f y hd e := by
  unfold padded
  pointwise
  have e2 : (FloatOps.sitofp (F := Ideal) FTy.f32 0#32 : EReal) = 0 := by
    show ((((0#32 : BitVec 32).toInt : ℤ) : ℝ) : EReal) = 0
    simp
  rw [e2]

/-- An array of rows padded with zeros, its heads side by side, cut into blocks of 256 rows and each block turned. -/
theorem turned_at (f : S4096x16x96.Idx → EReal) (n : Fin 16) (P : Fin 8) (h : Fin 2) (e : Fin 128) (r : Fin 256) :
    transpose S16x2048x256 [0, 2, 1] (shapeCast S16x256x2048 (shapeCast S4096x2048
      (pad S4096x16x128 ![0, 0, 0] ![0, 0, 32] ![0, 0, 0] f (sitofp (F := Ideal) FTy.f32 (constantI S_ 32 0#32)) Gen.pads_S4096x16x96_S4096x16x128_000_000_0320 Gen.h_S_)
      Gen.shapeCasts_S4096x16x128_S4096x2048) Gen.shapeCasts_S4096x2048_S16x256x2048) Gen.transposes_S16x256x2048_S16x2048x256_0_2_1 (ix3 n (colK P h e) r)
      = padded f (pos n r) (headOf P h) e :=
  (cols_at _ _ _ _).trans ((rows_at _ _ _ _).trans ((merge_at _ _ _ _ _).trans (pad_at _ _ _ _)))

theorem mergeV_at (g : S4096x16x64.Idx → EReal) (x : Fin 4096) (P : Fin 8) (h : Fin 2) (e : Fin 64) :
    shapeCast S4096x1024 g Gen.shapeCasts_S4096x16x64_S4096x1024 (ix2 x (colV P h e)) = g (ix3 x (headOf P h) e) := by
  pointwise
  congr 2
  all_goals exact Fin.ext (by dsimp only; omega)

theorem rowsV_at (g : S4096x1024.Idx → EReal) (n : Fin 16) (r : Fin 256) (j : Fin 1024) :
    shapeCast S16x256x1024 g Gen.shapeCasts_S4096x1024_S16x256x1024 (ix3 n r j) = g (ix2 (pos n r) j) := by
  pointwise

theorem colsV_at (g : S16x256x1024.Idx → EReal) (n : Fin 16) (r : Fin 256) (j : Fin 1024) :
    transpose S16x1024x256 [0, 2, 1] g Gen.transposes_S16x256x1024_S16x1024x256_0_2_1 (ix3 n j r) = g (ix3 n r j) := by
  pointwise

theorem turnedV_at (f : S4096x16x64.Idx → EReal) (n : Fin 16) (P : Fin 8) (h : Fin 2) (e : Fin 64) (r : Fin 256) :
    transpose S16x1024x256 [0, 2, 1] (shapeCast S16x256x1024 (shapeCast S4096x1024 f
      Gen.shapeCasts_S4096x16x64_S4096x1024) Gen.shapeCasts_S4096x1024_S16x256x1024) Gen.transposes_S16x256x1024_S16x1024x256_0_2_1 (ix3 n (colV P h e) r)
      = f (ix3 (pos n r) (headOf P h) e) :=
  (colsV_at _ _ _ _).trans ((rowsV_at _ _ _ _).trans (mergeV_at _ _ _ _ _))

theorem V4_at (n : Fin 16) (P : Fin 8) (h : Fin 2) (e : Fin 128) (r : Fin 256) :
    (Gen.V m c main_v4 (ix3 n (colK P h e) r) : EReal) = padded (m ((c : Thread nD τ).loc main_arg0)) (pos n r) (headOf P h) e := by
  simp only [Gen.V, Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11,
    List.flatten_cons, List.flatten_nil, List.append_nil, List.cons_append, List.nil_append]
  after_reads_simp
  simp -implicitDefEqProofs only [StableHlo.TRef.toBuf, StableHlo.TRef.ofBuf, cast_cast, cast_eq]
  clean_types
  exact turned_at _ n P h e r

theorem V7_at (x : Fin 4096) (P : Fin 8) (h : Fin 2) (e : Fin 128) :
    (Gen.V m c main_v7 (ix2 x (colK P h e)) : EReal) = padded (m ((c : Thread nD τ).loc main_arg1)) x (headOf P h) e := by
  simp only [Gen.V, Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11,
    List.flatten_cons, List.flatten_nil, List.append_nil, List.cons_append, List.nil_append]
  after_reads_simp
  simp -implicitDefEqProofs only [StableHlo.TRef.toBuf, StableHlo.TRef.ofBuf, cast_cast, cast_eq]
  clean_types
  exact (merge_at _ _ _ _ _).trans (pad_at _ _ _ _)

theorem V12_at (n : Fin 16) (P : Fin 8) (h : Fin 2) (e : Fin 128) (r : Fin 256) :
    (Gen.V m c main_v12 (ix3 n (colK P h e) r) : EReal) = padded (m ((c : Thread nD τ).loc main_arg1)) (pos n r) (headOf P h) e := by
  simp only [Gen.V, Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11,
    List.flatten_cons, List.flatten_nil, List.append_nil, List.cons_append, List.nil_append]
  after_reads_simp
  simp -implicitDefEqProofs only [StableHlo.TRef.toBuf, StableHlo.TRef.ofBuf, cast_cast, cast_eq]
  clean_types
  exact turned_at _ n P h e r

theorem V14_at (x : Fin 4096) (P : Fin 8) (h : Fin 2) (e : Fin 64) :
    (Gen.V m c main_v14 (ix2 x (colV P h e)) : EReal) = m ((c : Thread nD τ).loc main_arg2) (ix3 x (headOf P h) e) := by
  simp only [Gen.V, Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11,
    List.flatten_cons, List.flatten_nil, List.append_nil, List.cons_append, List.nil_append]
  after_reads_simp
  clean_types
  exact mergeV_at _ _ _ _ _

theorem V18_at (n : Fin 16) (P : Fin 8) (h : Fin 2) (e : Fin 64) (r : Fin 256) :
    (Gen.V m c main_v18 (ix3 n (colV P h e) r) : EReal) = m ((c : Thread nD τ).loc main_arg3) (ix3 (pos n r) (headOf P h) e) := by
  simp only [Gen.V, Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11,
    List.flatten_cons, List.flatten_nil, List.append_nil, List.cons_append, List.nil_append]
  after_reads_simp
  clean_types
  exact turnedV_at _ n P h e r

theorem drop1 (f : S16x4096x1.Idx → EReal) (a : Fin 16) (b : Fin 4096) : shapeCast S16x4096 f Gen.shapeCasts_S16x4096x1_S16x4096 (ix2 a b) = f (ix3 a b 0) := by
  pointwise

theorem statArr_at (f : S16x4096.Idx → EReal) (x : S_.Idx → EReal) (P : Fin 8) (n : Fin 16) (h : Fin 2) (r : Fin 256) :
    pad S8x16x8x256 ![0, 0, 0, 0] ![0, 0, 6, 0] ![0, 0, 0, 0] (transpose S8x16x2x256 [0, 2, 1, 3] (shapeCast S8x2x16x256 f Gen.shapeCasts_S16x4096_S8x2x16x256)
      Gen.transposes_S8x2x16x256_S8x16x2x256_0_2_1_3) x Gen.pads_S8x16x2x256_S8x16x8x256_000_000_060_000 Gen.h_S_ (ix4 P n ⟨h.val, by omega⟩ r)
      = f (ix2 (headOf P h) (pos n r)) := by
  pointwise

theorem log2sum (M D : FVec Ideal S16x4096 .f32) (a : Fin 16) (b : Fin 4096) :
    (Host.divf (addf (broadcastInDim S16x4096x1 ![0, 1] Gen.bcast_S16x4096_S16x4096x1_0_1 M)
                    (Host.log (broadcastInDim S16x4096x1 ![0, 1] Gen.bcast_S16x4096_S16x4096x1_0_1 D)))
                  (Host.log (broadcastInDim S16x4096x1 ![] Gen.bcast_S_S16x4096x1 (constant S_ FTy.f32 1073741824#32)))) (ix3 a b 0)
      = Ideal.div ((M (ix2 a b) : EReal) + Ideal.log (D (ix2 a b))) (Ideal.log ((2 : ℝ) : EReal)) := by
  rw [← Rows.two_eq]
  pointwise

theorem delta_at (o d' : FVec Ideal S4096x16x64 .f32) (y : Fin 4096) (hd : Fin 16) :
    (transpose S16x4096 [1, 0] (Host.reduceAdd (F := Ideal) (φ := .f32) (mulf o d') (constant S_ FTy.f32 0#32) Gen.reducesTo_S4096x16x64_S4096x16_d2 Gen.h_S_)
      Gen.transposes_S4096x16_S16x4096_1_0 : S16x4096.Idx → EReal) (ix2 hd y) = ∑ e : Fin 64, (o (ix3 y hd e) : EReal) * d' (ix3 y hd e) := by
  pointwise

section Stats

variable {q k : Fin 4096 → Fin 16 → Fin 96 → ℝ} {v d : Fin 4096 → Fin 16 → Fin 64 → ℝ}
  (hq : ∀ y hd e, (m ((c : Thread nD τ).loc main_arg0) (ix3 y hd e) : EReal) = ((q y hd e : ℝ) : EReal))
  (hk : ∀ y hd e, (m ((c : Thread nD τ).loc main_arg1) (ix3 y hd e) : EReal) = ((k y hd e : ℝ) : EReal))
  (hv : ∀ y hd e, (m ((c : Thread nD τ).loc main_arg2) (ix3 y hd e) : EReal) = ((v y hd e : ℝ) : EReal))
  (hd' : ∀ y hd e, (m ((c : Thread nD τ).loc main_arg3) (ix3 y hd e) : EReal) = ((d y hd e : ℝ) : EReal))
include hq hk

theorem V52_at (P : Fin 8) (n : Fin 16) (h : Fin 2) (r : Fin 256) :
    (Gen.V m c main_v52 (ix4 P n ⟨h.val, by omega⟩ r) : EReal) = Softmax.lse (Rows.sees (pos n r)) (Rows.sR q k (headOf P h) (pos n r)) := by
  simp only [Gen.V, Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11,
    List.flatten_cons, List.flatten_nil, List.append_nil, List.cons_append, List.nil_append]
  after_reads_simp
  simp -implicitDefEqProofs only [StableHlo.TRef.toBuf, StableHlo.TRef.ofBuf, cast_cast, cast_eq]
  clean_types
  generalize hS : select _ _ _ = S
  generalize hM : Host.reduce (FloatOps.maximumf (F := Ideal) (φ := .f32)) _ _ _ _ = M
  generalize hD : Host.reduceAdd (F := Ideal) (φ := .f32) (Host.exp _) _ _ _ = D
  refine (statArr_at _ _ P n h r).trans ((drop1 _ _ _).trans ((log2sum M D _ _).trans ?_))
  have eS : ∀ x, (S (ix3 (headOf P h) (pos n r) x) : EReal) = Softmax.row (Rows.sees (pos n r)) (Rows.sR q k (headOf P h) (pos n r)) x := fun x => by
    have eb : (id (constant (F := Ideal) S_ FTy.f32 4286578688#32) ix0 : EReal) = ⊥ := Rows.bot_eq
    rw [← hS]
    pointwise
    simp only [Rows.maskLe _ _ (show n.val * 256 + r.val < 4096 by omega), eb, Rows.scale_eq, hq, hk]
    exact Rows.row_at q k _ _ _
  have eM : (M (ix2 (headOf P h) (pos n r)) : EReal) = Softmax.top (Rows.sees (pos n r)) (Rows.sR q k (headOf P h) (pos n r)) := by
    rw [← hM]
    pointwise
    simp only [eS, Rows.bot_eq]
    rfl
  have eD : (D (ix2 (headOf P h) (pos n r)) : EReal) = Softmax.den (Rows.sees (pos n r)) (Rows.sR q k (headOf P h) (pos n r)) := by
    rw [← hD]
    pointwise
    simp only [eS, eM]
    rfl
  rw [eM, eD]
  rfl

include hv hd'

theorem V55_at (P : Fin 8) (n : Fin 16) (h : Fin 2) (r : Fin 256) :
    (Gen.V m c main_v55 (ix4 P n ⟨h.val, by omega⟩ r) : EReal)
      = ((∑ i, Rows.tR v d (headOf P h) (pos n r) i * Rows.pR q k (headOf P h) (pos n r) i : ℝ) : EReal) := by
  simp only [Gen.V, Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11,
    List.flatten_cons, List.flatten_nil, List.append_nil, List.cons_append, List.nil_append]
  after_reads_simp
  simp -implicitDefEqProofs only [StableHlo.TRef.toBuf, StableHlo.TRef.ofBuf, cast_cast, cast_eq]
  clean_types
  generalize hS : select _ _ _ = S
  generalize hM : Host.reduce (FloatOps.maximumf (F := Ideal) (φ := .f32)) _ _ _ _ = M
  generalize hD : Host.reduceAdd (F := Ideal) (φ := .f32) (Host.exp _) _ _ _ = D
  refine (statArr_at _ _ P n h r).trans ((delta_at _ _ _ _).trans ?_)
  have eS : ∀ x, (S (ix3 (headOf P h) (pos n r) x) : EReal) = Softmax.row (Rows.sees (pos n r)) (Rows.sR q k (headOf P h) (pos n r)) x := fun x => by
    have eb : (id (constant (F := Ideal) S_ FTy.f32 4286578688#32) ix0 : EReal) = ⊥ := Rows.bot_eq
    rw [← hS]
    pointwise
    simp only [Rows.maskLe _ _ (show n.val * 256 + r.val < 4096 by omega), eb, Rows.scale_eq, hq, hk]
    exact Rows.row_at q k _ _ _
  have eM : (M (ix2 (headOf P h) (pos n r)) : EReal) = Softmax.top (Rows.sees (pos n r)) (Rows.sR q k (headOf P h) (pos n r)) := by
    rw [← hM]
    pointwise
    simp only [eS, Rows.bot_eq]
    rfl
  have eD : (D (ix2 (headOf P h) (pos n r)) : EReal) = Softmax.den (Rows.sees (pos n r)) (Rows.sR q k (headOf P h) (pos n r)) := by
    rw [← hD]
    pointwise
    simp only [eS, eM]
    rfl
  clear hS hM hD
  pointwise
  simp only [eS, eM, eD, hv, hd']
  exact Rows.delta_eq q k v d (headOf P h) (pos n r)

end Stats
end Cert.KernelIdeal.Flow
end
-- ==== Proof.BlockReads.lean ====
/-
The blocks of a point of the grid, and what the step there computes from finite arguments: probabilities and derivatives by
the rows' positions.
-/
module

public import proofs.«01_k».proof.Proof.Entry

@[expose] public section

set_option maxRecDepth 16384

noncomputable section

namespace Cert.KernelIdeal.Flow

open Idealize.ShloMosaic Idealize.ShloMosaic.TcCoe Idealize.ShloMosaic.Tactic
open Cert.KernelIdeal.Facts₀ Cert.KernelIdeal.Facts

theorem idx : ∀ t : Fin cfg0.N,
    win0_0.index t = ![0, t.val / 8, 0] ∧ win0_1.index t = ![t.val % 8, t.val / 8] ∧ win0_2.index t = ![t.val % 8, t.val / 8, 0]
    ∧ win0_3.index t = ![t.val % 8, t.val / 8] ∧ win0_4.index t = ![0, t.val / 8, 0] ∧ win0_5.index t = ![t.val / 8, 0, 0, 0]
    ∧ win0_6.index t = ![t.val / 8, 0, 0, 0] ∧ win0_7.index t = ![0, t.val / 8, 0] ∧ win0_8.index t = ![t.val % 8, t.val / 8, 0]
    ∧ win0_9.index t = ![t.val % 8, t.val / 8, 0] :=
  (by decide +kernel : ∀ t : Fin grid0.N, _)

/-- The point of a pair of heads and a pair of blocks of keys. -/
abbrev pt (P p : Fin 8) : Fin cfg0.N := ⟨8 * P.val + p.val, by show _ < 64; omega⟩

/-- A block of keys. -/
abbrev blkOf (p : Fin 8) (b : Fin 2) : Fin 16 := ⟨2 * p.val + b.val, by omega⟩

/-! ## A block read off its array -/

section Reads

variable (t : Fin cfg0.N)

theorem read0 (A : S16x2048x256.Idx → EReal) (n : Fin 16) (j r : Fin 256) (j' : Fin 2048) (hj : j'.val = 256 * (t.val / 8) + j.val) :
    (((cfg0.win 0).blk t).view.read (Elt Ideal) A (ix3 n j r) : EReal) = A (ix3 n j' r) := by
  blk_ext [idx t]
theorem read1 (A : S4096x2048.Idx → EReal) (x : Fin 512) (j : Fin 256) (x' : Fin 4096) (j' : Fin 2048) (hx : x'.val = 512 * (t.val % 8) + x.val)
    (hj : j'.val = 256 * (t.val / 8) + j.val) : (((cfg0.win 1).blk t).view.read (Elt Ideal) A (ix2 x j) : EReal) = A (ix2 x' j') := by
  blk_ext [idx t]
theorem read2 (A : S16x2048x256.Idx → EReal) (b : Fin 2) (j r : Fin 256) (n : Fin 16) (j' : Fin 2048) (hn : n.val = 2 * (t.val % 8) + b.val)
    (hj : j'.val = 256 * (t.val / 8) + j.val) : (((cfg0.win 2).blk t).view.read (Elt Ideal) A (ix3 b j r) : EReal) = A (ix3 n j' r) := by
  blk_ext [idx t]
theorem read3 (A : S4096x1024.Idx → EReal) (x : Fin 512) (j : Fin 128) (x' : Fin 4096) (j' : Fin 1024) (hx : x'.val = 512 * (t.val % 8) + x.val)
    (hj : j'.val = 128 * (t.val / 8) + j.val) : (((cfg0.win 3).blk t).view.read (Elt Ideal) A (ix2 x j) : EReal) = A (ix2 x' j') := by
  blk_ext [idx t]
theorem read4 (A : S16x1024x256.Idx → EReal) (n : Fin 16) (j : Fin 128) (r : Fin 256) (j' : Fin 1024) (hj : j'.val = 128 * (t.val / 8) + j.val) :
    (((cfg0.win 4).blk t).view.read (Elt Ideal) A (ix3 n j r) : EReal) = A (ix3 n j' r) := by
  blk_ext [idx t]
theorem read5 (A : S8x16x8x256.Idx → EReal) (n : Fin 16) (h : Fin 8) (r : Fin 256) (P : Fin 8) (hP : P.val = t.val / 8) :
    (((cfg0.win 5).blk t).view.read (Elt Ideal) A (ix4 0 n h r) : EReal) = A (ix4 P n h r) := by
  blk_ext [idx t]
theorem read6 (A : S8x16x8x256.Idx → EReal) (n : Fin 16) (h : Fin 8) (r : Fin 256) (P : Fin 8) (hP : P.val = t.val / 8) :
    (((cfg0.win 6).blk t).view.read (Elt Ideal) A (ix4 0 n h r) : EReal) = A (ix4 P n h r) := by
  blk_ext [idx t]

end Reads

/-! ## The blocks of a point -/

section Point

variable (m : (ℓ : Loc nD τ sig) → Buf (Elt Ideal) ℓ) (c : Dev nD) (P p : Fin 8)

theorem qt_pt (n : Fin 16) (h : Fin 2) (e : Fin 128) (r : Fin 256) :
    ((inAt m c (pt P p)).qt (ix3 n (at128 h e) r) : EReal) = padded (m ((c : Thread nD τ).loc main_arg0)) (pos n r) (headOf P h) e :=
  (read0 (pt P p) (Gen.V m c main_v4) n (at128 h e) r (colK P h e) (by dsimp only; omega)).trans (V4_at m c n P h e r)
theorem k_pt (b h : Fin 2) (e : Fin 128) (t : Fin 256) :
    ((inAt m c (pt P p)).k (ix2 (at256 b t) (at128 h e)) : EReal) = padded (m ((c : Thread nD τ).loc main_arg1)) (pos (blkOf p b) t) (headOf P h) e :=
  (read1 (pt P p) (Gen.V m c main_v7) (at256 b t) (at128 h e) (pos (blkOf p b) t) (colK P h e) (by dsimp only; omega) (by dsimp only; omega)).trans (V7_at m c _ P h e)
theorem kt_pt (b h : Fin 2) (e : Fin 128) (t : Fin 256) :
    ((inAt m c (pt P p)).kt (ix3 b (at128 h e) t) : EReal) = padded (m ((c : Thread nD τ).loc main_arg1)) (pos (blkOf p b) t) (headOf P h) e :=
  (read2 (pt P p) (Gen.V m c main_v12) b (at128 h e) t (blkOf p b) (colK P h e) (by dsimp only; omega) (by dsimp only; omega)).trans (V12_at m c _ P h e t)
theorem v_pt (b h : Fin 2) (e : Fin 64) (t : Fin 256) :
    ((inAt m c (pt P p)).v (ix2 (at256 b t) (at64 h e)) : EReal) = m ((c : Thread nD τ).loc main_arg2) (ix3 (pos (blkOf p b) t) (headOf P h) e) :=
  (read3 (pt P p) (Gen.V m c main_v14) (at256 b t) (at64 h e) (pos (blkOf p b) t) (colV P h e) (by dsimp only; omega) (by dsimp only; omega)).trans (V14_at m c _ P h e)
theorem dot_pt (n : Fin 16) (h : Fin 2) (e : Fin 64) (r : Fin 256) :
    ((inAt m c (pt P p)).dot (ix3 n (at64 h e) r) : EReal) = m ((c : Thread nD τ).loc main_arg3) (ix3 (pos n r) (headOf P h) e) :=
  (read4 (pt P p) (Gen.V m c main_v18) n (at64 h e) r (colV P h e) (by dsimp only; omega)).trans (V18_at m c n P h e r)

variable {q k : Fin 4096 → Fin 16 → Fin 96 → ℝ} {v d : Fin 4096 → Fin 16 → Fin 64 → ℝ}
  (hq : ∀ y hd e, (m ((c : Thread nD τ).loc main_arg0) (ix3 y hd e) : EReal) = ((q y hd e : ℝ) : EReal))
  (hk : ∀ y hd e, (m ((c : Thread nD τ).loc main_arg1) (ix3 y hd e) : EReal) = ((k y hd e : ℝ) : EReal))
  (hv : ∀ y hd e, (m ((c : Thread nD τ).loc main_arg2) (ix3 y hd e) : EReal) = ((v y hd e : ℝ) : EReal))
  (hd' : ∀ y hd e, (m ((c : Thread nD τ).loc main_arg3) (ix3 y hd e) : EReal) = ((d y hd e : ℝ) : EReal))
include hq hk

theorem l_pt (n : Fin 16) (h : Fin 2) (r : Fin 256) :
    ((inAt m c (pt P p)).l (ix4 0 n ⟨h.val, by omega⟩ r) : EReal) = Softmax.lse (Rows.sees (pos n r)) (Rows.sR q k (headOf P h) (pos n r)) :=
  (read5 (pt P p) (Gen.V m c main_v52) n ⟨h.val, by omega⟩ r P (by dsimp only; omega)).trans (V52_at m c hq hk P n h r)

/-- The products of the padded rows are those of the rows. -/
theorem sX_pt (b h : Fin 2) (n : Fin 16) (t r : Fin 256) :
    sX (inAt m c (pt P p)) b h n t r = ∑ e : Fin 96, ((k (pos (blkOf p b) t) (headOf P h) e : ℝ) : EReal) * ((q (pos n r) (headOf P h) e : ℝ) : EReal) := by
  unfold sX
  simp only [k_pt, qt_pt]
  rw [Fin.sum_univ_two_halves 96 32 rfl]
  rw [show (∑ j : Fin 32, padded (m ((c : Thread nD τ).loc main_arg1)) (pos (blkOf p b) t) (headOf P h) ⟨96 + j.val, by omega⟩
    * padded (m ((c : Thread nD τ).loc main_arg0)) (pos n r) (headOf P h) ⟨96 + j.val, by omega⟩) = 0 from
    Finset.sum_eq_zero fun j _ => by unfold padded; rw [dif_neg (by dsimp only; omega), zero_mul], add_zero]
  refine Finset.sum_congr rfl fun e _ => ?_
  unfold padded
  rw [dif_pos e.isLt, dif_pos e.isLt, hq, hk]

theorem pG_pt (b h : Fin 2) (n : Fin 16) (t r : Fin 256) :
    pG (inAt m c (pt P p)) b h (2 * p.val + b.val) n t r = ((Rows.pR q k (headOf P h) (pos n r) (pos (blkOf p b) t) : ℝ) : EReal) := by
  rw [← Rows.exp2_at]
  unfold pG
  rw [sX_pt m c P p hq hk, l_pt m c P p hq hk]
  have hi : (256 * (2 * p.val + b.val) + t.val ≤ 256 * n.val + r.val) ↔ Rows.sees (pos n r) (pos (blkOf p b) t) := by
    show _ ↔ (2 * p.val + b.val) * 256 + t.val ≤ n.val * 256 + r.val
    omega
  simp only [hi]
  rfl

include hv hd'

theorem dl_pt (n : Fin 16) (h : Fin 2) (r : Fin 256) :
    ((inAt m c (pt P p)).dl (ix4 0 n ⟨h.val, by omega⟩ r) : EReal)
      = ((∑ i, Rows.tR v d (headOf P h) (pos n r) i * Rows.pR q k (headOf P h) (pos n r) i : ℝ) : EReal) :=
  (read6 (pt P p) (Gen.V m c main_v55) n ⟨h.val, by omega⟩ r P (by dsimp only; omega)).trans (V55_at m c hq hk hv hd' P n h r)

theorem dG_pt (b h : Fin 2) (n : Fin 16) (t r : Fin 256) :
    dG (inAt m c (pt P p)) b h (2 * p.val + b.val) n t r = ((Rows.gR q k v d (headOf P h) (pos n r) (pos (blkOf p b) t) : ℝ) : EReal) := by
  rw [← Rows.deriv_at]
  unfold dG
  rw [pG_pt m c P p hq hk, dl_pt m c P p hq hk hv hd', show scale = ((Rows.C : ℝ) : EReal) from Rows.scale_eq]
  unfold sY
  simp only [v_pt, dot_pt, hv, hd']

end Point

end Cert.KernelIdeal.Flow

end
-- ==== Proof.Arrays.lean ====
/-
The kernel's three result arrays, from finite arguments: each entry is a sum over the sequence.
-/
module

public import proofs.«01_k».proof.Proof.BlockReads

@[expose] public section

set_option maxRecDepth 16384

noncomputable section

namespace Cert.KernelIdeal.Flow

open Idealize.ShloMosaic Idealize.ShloMosaic.TcCoe Idealize.ShloMosaic.Tactic
open Cert.KernelIdeal.Facts₀ Cert.KernelIdeal.Facts

/-! ## The results -/

section Results

variable (q k : Fin 4096 → Fin 16 → Fin 96 → ℝ) (v d : Fin 4096 → Fin 16 → Fin 64 → ℝ)

/-- The derivative with respect to the queries. -/
def outQ (y : Fin 4096) (hd : Fin 16) (e : Fin 96) : EReal := ∑ x, ((k x hd e : ℝ) : EReal) * ((Rows.gR q k v d hd y x : ℝ) : EReal)
/-- The derivative with respect to the keys. -/
def outK (x : Fin 4096) (hd : Fin 16) (e : Fin 96) : EReal := ∑ y, ((q y hd e : ℝ) : EReal) * ((Rows.gR q k v d hd y x : ℝ) : EReal)
/-- The derivative with respect to the values. -/
def outV (x : Fin 4096) (hd : Fin 16) (e : Fin 64) : EReal := ∑ y, ((d y hd e : ℝ) : EReal) * ((Rows.pR q k hd y x : ℝ) : EReal)

/-- A result laid out as the padded result arrays are. -/
def layK (f : Fin 4096 → Fin 16 → Fin 96 → EReal) : S16x2048x256.Idx → EReal := fun i =>
  if h : (i 1).val % 128 < 96 then f ⟨(i 0).val * 256 + (i 2).val, by have h0 : (i 0).val < 16 := (i 0).isLt; have h2 : (i 2).val < 256 := (i 2).isLt; omega⟩
    ⟨(i 1).val / 128, by have h1 : (i 1).val < 2048 := (i 1).isLt; omega⟩ ⟨(i 1).val % 128, h⟩ else 0
def layV (f : Fin 4096 → Fin 16 → Fin 64 → EReal) : S16x1024x256.Idx → EReal := fun i =>
  f ⟨(i 0).val * 256 + (i 2).val, by have h0 : (i 0).val < 16 := (i 0).isLt; have h2 : (i 2).val < 256 := (i 2).isLt; omega⟩
    ⟨(i 1).val / 64, by have h1 : (i 1).val < 1024 := (i 1).isLt; omega⟩ ⟨(i 1).val % 64, by omega⟩

end Results

theorem layK_at (f : Fin 4096 → Fin 16 → Fin 96 → EReal) (n : Fin 16) (P : Fin 8) (h : Fin 2) (e : Fin 128) (r : Fin 256) :
    layK f (ix3 n (colK P h e) r) = if he : e.val < 96 then f (pos n r) (headOf P h) ⟨e.val, he⟩ else 0 := by
  show (if hh : (256 * P.val + (128 * h.val + e.val)) % 128 < 96 then f ⟨n.val * 256 + r.val, _⟩ ⟨(256 * P.val + (128 * h.val + e.val)) / 128, _⟩
    ⟨(256 * P.val + (128 * h.val + e.val)) % 128, hh⟩ else 0) = _
  have h1 : (256 * P.val + (128 * h.val + e.val)) / 128 = P.val * 2 + h.val := by omega
  have h2 : (256 * P.val + (128 * h.val + e.val)) % 128 = e.val := by omega
  simp only [h1, h2]

theorem layV_at (f : Fin 4096 → Fin 16 → Fin 64 → EReal) (n : Fin 16) (P : Fin 8) (h : Fin 2) (e : Fin 64) (r : Fin 256) :
    layV f (ix3 n (colV P h e) r) = f (pos n r) (headOf P h) e := by
  show f ⟨n.val * 256 + r.val, _⟩ ⟨(128 * P.val + (64 * h.val + e.val)) / 64, _⟩ ⟨(128 * P.val + (64 * h.val + e.val)) % 64, _⟩ = _
  have h1 : (128 * P.val + (64 * h.val + e.val)) / 64 = P.val * 2 + h.val := by omega
  have h2 : (128 * P.val + (64 * h.val + e.val)) % 64 = e.val := by omega
  simp only [h1, h2]

/-! ## Where a block lies in its result -/

section Places

variable (t : Fin cfg0.N)

theorem place7 (n : Fin 16) (j r : Fin 256) (j' : Fin 2048) (hj : j'.val = 256 * (t.val / 8) + j.val) :
    ((cfg0.win 7).blk t).view.emb (ix3 n j r) = (ix3 n j' r : S16x2048x256.Idx) := by
  blk_ext [idx t]
theorem place8 (b : Fin 2) (j r : Fin 256) (n : Fin 16) (j' : Fin 2048) (hn : n.val = 2 * (t.val % 8) + b.val) (hj : j'.val = 256 * (t.val / 8) + j.val) :
    ((cfg0.win 8).blk t).view.emb (ix3 b j r) = (ix3 n j' r : S16x2048x256.Idx) := by
  blk_ext [idx t]
theorem place9 (b : Fin 2) (j : Fin 128) (r : Fin 256) (n : Fin 16) (j' : Fin 1024) (hn : n.val = 2 * (t.val % 8) + b.val) (hj : j'.val = 128 * (t.val / 8) + j.val) :
    ((cfg0.win 9).blk t).view.emb (ix3 b j r) = (ix3 n j' r : S16x1024x256.Idx) := by
  blk_ext [idx t]

end Places

/-- A sum over blocks and rows is a sum over the sequence. -/
theorem sum_pos (f : Fin 4096 → EReal) : ∑ n : Fin 16, ∑ r : Fin 256, f (pos n r) = ∑ y, f y :=
  (Fin.sum_univ_tiles 16 256 rfl f).symm

theorem sum_blk (f : Fin 4096 → EReal) : ∑ p : Fin 8, ∑ b : Fin 2, ∑ t : Fin 256, f (pos (blkOf p b) t) = ∑ y, f y := by
  rw [← sum_pos f, Fin.sum_univ_tiles 8 2 rfl (fun n : Fin 16 => ∑ r : Fin 256, f (pos n r))]
  refine Finset.sum_congr rfl fun p _ => Finset.sum_congr rfl fun b _ => Finset.sum_congr rfl fun t _ => congrArg f ?_
  exact Fin.ext (by dsimp only; omega)

theorem ix3_split {A B C : ℕ} (y : (⟨3, ![A, B, C]⟩ : Shape).Idx) : ∃ (a : Fin A) (b : Fin B) (c : Fin C), y = ix3 a b c :=
  ⟨y 0, y 1, y 2, by funext a; fin_cases a <;> rfl⟩

theorem split_t (t : Fin cfg0.N) : ∃ P p : Fin 8, t = pt P p :=
  ⟨⟨t.val / 8, by have h : t.val < 64 := t.isLt; omega⟩, ⟨t.val % 8, by omega⟩, Fin.ext (by dsimp only; omega)⟩

/-! ## The steps -/

section Steps

variable (m : (ℓ : Loc nD τ sig) → Buf (Elt Ideal) ℓ) (c : Dev nD)

/-- Each step is a body run; its first result's buffer is the one the step before left. -/
theorem accN_eq (n : ℕ) (hn : n < cfg0.N) : ∃ dq : FVec Ideal S16x256x256 .f32, accN m c n hn = bodyA (inAt m c ⟨n, hn⟩) (n % 8) dq
    ∧ ∀ j (hj : j < cfg0.N), n = j + 1 → dq = (accN m c j hj).dq := by
  cases n with
  | zero =>
    refine ⟨broadcast S16x256x256 (Scalar.ofBits .f32 0x00000000#32), rfl, ?_⟩
    intro j hj h
    exact absurd h (by omega)
  | succ n =>
    refine ⟨(accN m c n (Nat.lt_of_succ_lt hn)).dq, rfl, ?_⟩
    intro j hj h
    have e : n = j := by omega
    subst e
    rfl

theorem acc_pt (P p : Fin 8) : ∃ dq : FVec Ideal S16x256x256 .f32, accAt m c (pt P p) = bodyA (inAt m c (pt P p)) p.val dq := by
  obtain ⟨dq, h, _⟩ := accN_eq m c (8 * P.val + p.val) (pt P p).isLt
  refine ⟨dq, h.trans ?_⟩
  rw [show (8 * P.val + p.val) % 8 = p.val by omega]

variable {q k : Fin 4096 → Fin 16 → Fin 96 → ℝ} {v d : Fin 4096 → Fin 16 → Fin 64 → ℝ}
  (hq : ∀ y hd e, (m ((c : Thread nD τ).loc main_arg0) (ix3 y hd e) : EReal) = ((q y hd e : ℝ) : EReal))
  (hk : ∀ y hd e, (m ((c : Thread nD τ).loc main_arg1) (ix3 y hd e) : EReal) = ((k y hd e : ℝ) : EReal))
  (hv : ∀ y hd e, (m ((c : Thread nD τ).loc main_arg2) (ix3 y hd e) : EReal) = ((v y hd e : ℝ) : EReal))
  (hd' : ∀ y hd e, (m ((c : Thread nD τ).loc main_arg3) (ix3 y hd e) : EReal) = ((d y hd e : ℝ) : EReal))
include hq hk hv hd'

theorem dv_pt (P p : Fin 8) (b h : Fin 2) (e : Fin 64) (t : Fin 256) :
    ((accAt m c (pt P p)).dv (ix3 b (at64 h e) t) : EReal) = outV q k d (pos (blkOf p b) t) (headOf P h) e := by
  obtain ⟨dq, hA⟩ := acc_pt m c P p
  rw [hA, bodyA_dv _ _ p.isLt]
  refine Eq.trans ?_ (sum_pos fun y => ((d y (headOf P h) e : ℝ) : EReal) * ((Rows.pR q k (headOf P h) y (pos (blkOf p b) t) : ℝ) : EReal))
  refine Finset.sum_congr rfl fun n _ => Finset.sum_congr rfl fun r _ => ?_
  rw [dot_pt, hd', pG_pt m c P p hq hk]

theorem dk_pt (P p : Fin 8) (b h : Fin 2) (e : Fin 128) (t : Fin 256) :
    ((accAt m c (pt P p)).dk (ix3 b (at128 h e) t) : EReal)
      = if he : e.val < 96 then outK q k v d (pos (blkOf p b) t) (headOf P h) ⟨e.val, he⟩ else 0 := by
  obtain ⟨dq, hA⟩ := acc_pt m c P p
  rw [hA, bodyA_dk _ _ p.isLt]
  by_cases he : e.val < 96
  · rw [if_pos he, dif_pos he]
    refine Eq.trans ?_ (sum_pos fun y => ((q y (headOf P h) ⟨e.val, he⟩ : ℝ) : EReal) * ((Rows.gR q k v d (headOf P h) y (pos (blkOf p b) t) : ℝ) : EReal))
    refine Finset.sum_congr rfl fun n _ => Finset.sum_congr rfl fun r _ => ?_
    rw [qt_pt, dG_pt m c P p hq hk hv hd']
    unfold padded
    rw [dif_pos he, hq]
  · rw [if_neg he, dif_neg he]

/-- What one step adds to the derivative with respect to a query. -/
theorem dq_step (P p : Fin 8) (dq : FVec Ideal S16x256x256 .f32) (i : Fin 16) (h : Fin 2) (e : Fin 128) (he : e.val < 96) (r : Fin 256) :
    ((bodyA (inAt m c (pt P p)) p.val dq).dq (ix3 i (at128 h e) r) : EReal) = (if p.val = 0 then 0 else (dq (ix3 i (at128 h e) r) : EReal))
      + ∑ b : Fin 2, ∑ t : Fin 256, ((k (pos (blkOf p b) t) (headOf P h) ⟨e.val, he⟩ : ℝ) : EReal)
          * ((Rows.gR q k v d (headOf P h) (pos i r) (pos (blkOf p b) t) : ℝ) : EReal) := by
  rw [bodyA_dq _ _ p.isLt, if_pos he]
  refine congrArg (_ + ·) (Finset.sum_congr rfl fun b _ => Finset.sum_congr rfl fun t _ => ?_)
  rw [kt_pt, dG_pt m c P p hq hk hv hd']
  unfold padded
  rw [dif_pos he, hk]

theorem dq_run (P : Fin 8) (i : Fin 16) (h : Fin 2) (e : Fin 128) (he : e.val < 96) (r : Fin 256) (j : ℕ) (hj : j < 8) (hN : 8 * P.val + j < cfg0.N) :
    ((accN m c (8 * P.val + j) hN).dq (ix3 i (at128 h e) r) : EReal) = ∑ p ∈ Finset.range (j + 1), if hp : p < 8 then
      ∑ b : Fin 2, ∑ t : Fin 256, ((k (pos (blkOf ⟨p, hp⟩ b) t) (headOf P h) ⟨e.val, he⟩ : ℝ) : EReal)
          * ((Rows.gR q k v d (headOf P h) (pos i r) (pos (blkOf ⟨p, hp⟩ b) t) : ℝ) : EReal) else 0 := by
  induction j with
  | zero =>
    obtain ⟨dq, hA, _⟩ := accN_eq m c (8 * P.val + 0) hN
    have h8 : (8 * P.val + 0) % 8 = 0 := by omega
    rw [h8] at hA
    rw [hA, Finset.sum_range_one, dif_pos hj]
    refine (dq_step m c hq hk hv hd' P ⟨0, hj⟩ dq i h e he r).trans ?_
    rw [if_pos rfl, zero_add]
  | succ j ih =>
    obtain ⟨dq, hA, hB⟩ := accN_eq m c (8 * P.val + (j + 1)) hN
    have h8 : (8 * P.val + (j + 1)) % 8 = j + 1 := by omega
    rw [h8] at hA
    rw [hA, Finset.sum_range_succ, dif_pos hj, ← ih (by omega) (by omega), hB (8 * P.val + j) (by omega) rfl]
    refine (dq_step m c hq hk hv hd' P ⟨j + 1, hj⟩ _ i h e he r).trans ?_
    rw [if_neg (Nat.succ_ne_zero j)]

/-- Dropped columns stay zero. -/
theorem dq_zero (P : Fin 8) (i : Fin 16) (h : Fin 2) (e : Fin 128) (he : ¬ e.val < 96) (r : Fin 256) (j : ℕ) (hj : j < 8) (hN : 8 * P.val + j < cfg0.N) :
    ((accN m c (8 * P.val + j) hN).dq (ix3 i (at128 h e) r) : EReal) = 0 := by
  induction j with
  | zero =>
    obtain ⟨dq, hA, _⟩ := accN_eq m c (8 * P.val + 0) hN
    have h8 : (8 * P.val + 0) % 8 = 0 := by omega
    rw [h8] at hA
    rw [hA, bodyA_dq _ _ (by omega), if_pos rfl, if_neg he, zero_add]
  | succ j ih =>
    obtain ⟨dq, hA, hB⟩ := accN_eq m c (8 * P.val + (j + 1)) hN
    have h8 : (8 * P.val + (j + 1)) % 8 = j + 1 := by omega
    rw [h8] at hA
    rw [hA, bodyA_dq _ _ hj, if_neg (Nat.succ_ne_zero j), if_neg he, add_zero, hB (8 * P.val + j) (by omega) rfl, ih (by omega) (by omega)]

theorem dq_pt (P : Fin 8) (i : Fin 16) (h : Fin 2) (e : Fin 128) (r : Fin 256) :
    ((accAt m c (pt P 7)).dq (ix3 i (at128 h e) r) : EReal)
      = if he : e.val < 96 then outQ q k v d (pos i r) (headOf P h) ⟨e.val, he⟩ else 0 := by
  by_cases he : e.val < 96
  · rw [dif_pos he]
    refine (dq_run m c hq hk hv hd' P i h e he r 7 (by omega) (pt P 7).isLt).trans ?_
    rw [Finset.sum_range]
    refine Eq.trans ?_ (sum_blk fun x => ((k x (headOf P h) ⟨e.val, he⟩ : ℝ) : EReal) * ((Rows.gR q k v d (headOf P h) (pos i r) x : ℝ) : EReal))
    exact Finset.sum_congr rfl fun p _ => dif_pos p.isLt
  · rw [dif_neg he]
    exact dq_zero m c hq hk hv hd' P i h e he r 7 (by omega) (pt P 7).isLt

/-! ## The arrays -/

theorem arr9 : (dats m 0 c).arrAt 9 cfg0.N = layV (outV q k d) := by
  refine (dats m 0 c).arrAt_eq_of_covers 9 _ (by decide +kernel) fun t hf y => ?_
  obtain ⟨P, p, rfl⟩ := split_t t
  have H : ∀ y : S2x128x256.Idx, ((accAt m c (pt P p)).dv y : EReal) = layV (outV q k d) (((cfg0.win 9).blk (pt P p)).view.emb y) := by
    intro y
    obtain ⟨b, j, r, rfl⟩ := ix3_split y
    obtain ⟨h, e, rfl⟩ := split128 j
    exact (dv_pt m c hq hk hv hd' P p b h e r).trans ((congrArg (layV (outV q k d)) (place9 (pt P p) b (at64 h e) r (blkOf p b) (colV P h e)
      (by dsimp only; omega) (by dsimp only; omega))).trans (layV_at _ _ P h e r)).symm
  exact H y

theorem arr8 : (dats m 0 c).arrAt 8 cfg0.N = layK (outK q k v d) := by
  refine (dats m 0 c).arrAt_eq_of_covers 8 _ (by decide +kernel) fun t hf y => ?_
  obtain ⟨P, p, rfl⟩ := split_t t
  have H : ∀ y : S2x256x256.Idx, ((accAt m c (pt P p)).dk y : EReal) = layK (outK q k v d) (((cfg0.win 8).blk (pt P p)).view.emb y) := by
    intro y
    obtain ⟨b, j, r, rfl⟩ := ix3_split y
    obtain ⟨h, e, rfl⟩ := split256 j
    exact (dk_pt m c hq hk hv hd' P p b h e r).trans ((congrArg (layK (outK q k v d)) (place8 (pt P p) b (at128 h e) r (blkOf p b) (colK P h e)
      (by dsimp only; omega) (by dsimp only; omega))).trans (layK_at _ _ P h e r)).symm
  exact H y

theorem arr7 : (dats m 0 c).arrAt 7 cfg0.N = layK (outQ q k v d) := by
  refine (dats m 0 c).arrAt_eq_of_covers 7 _ (by decide +kernel) fun t hf y => ?_
  have h7 := (Gen.flush0_7 t).mp hf
  obtain ⟨P, p, rfl⟩ := split_t t
  obtain rfl : p = 7 := Fin.ext (by dsimp only at h7 ⊢; omega)
  have H : ∀ y : S16x256x256.Idx, ((accAt m c (pt P 7)).dq y : EReal) = layK (outQ q k v d) (((cfg0.win 7).blk (pt P 7)).view.emb y) := by
    intro y
    obtain ⟨n, j, r, rfl⟩ := ix3_split y
    obtain ⟨h, e, rfl⟩ := split256 j
    exact (dq_pt m c hq hk hv hd' P n h e r).trans ((congrArg (layK (outQ q k v d)) (place7 (pt P 7) n (at128 h e) r (colK P h e)
      (by dsimp only; omega))).trans (layK_at _ _ P h e r)).symm
  exact H y

end Steps

end Cert.KernelIdeal.Flow
-- ==== Proof.Reference.lean ====
/-
The reference's three results, from finite arguments: the same sums over the sequence as the kernel's.
-/
module

public import proofs.«01_k».proof.Proof.Arrays
public import proofs.«01_k».proof.Proof.Gen.ReferenceIdeal.Run

@[expose] public section

set_option maxRecDepth 16384

noncomputable section

namespace Cert.ReferenceIdeal.Flow

open Cert.ReferenceIdeal Cert.ReferenceIdeal.Gen Idealize.ShloMosaic Idealize.ShloMosaic.TcCoe Idealize.ShloMosaic.Tactic
open Cert.KernelIdeal.Flow (pos headOf colK colV padded layK layV outQ outK outV layK_at layV_at)

/-! ## The steps, named -/

/-- Which keys a query sees. -/
def tSees : IVec S16x4096x4096 1 :=
  broadcastInDim S16x4096x4096 ![0, 1, 2] bcast_S1x4096x4096_S16x4096x4096_0_1_2 (broadcastInDim S1x4096x4096 ![1, 2] bcast_S4096x4096_S1x4096x4096_1_2
    (cmpi .sle (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0)))))

/-- The masked scores. -/
def tS (a0 a1 : FVec Ideal S4096x16x96 .f32) : FVec Ideal S16x4096x4096 .f32 :=
  select tSees (mulf (Host.dotGeneral dot_S4096x16x96_S4096x16x96_S16x4096x4096_2_2_0_0_1_1 none a0 a1)
      (broadcastInDim S16x4096x4096 ![] bcast_S_S16x4096x4096 (constant S_ .f32 0x3DD105EC#32)))
    (broadcastInDim S16x4096x4096 ![] bcast_S_S16x4096x4096 (id (constant S_ .f32 0xFF800000#32)))

/-- A row's maximum. -/
def tM (S : FVec Ideal S16x4096x4096 .f32) : FVec Ideal S16x4096 .f32 :=
  Host.reduce FloatOps.maximumf S (constant S_ .f32 0xFF800000#32) reducesTo_S16x4096x4096_S16x4096_d2 h_S_

/-- The exponentials. -/
def tE (S : FVec Ideal S16x4096x4096 .f32) (M : FVec Ideal S16x4096 .f32) : FVec Ideal S16x4096x4096 .f32 :=
  Host.exp (subf S (broadcastInDim S16x4096x4096 ![0, 1, 2] bcast_S16x4096x1_S16x4096x4096_0_1_2 (broadcastInDim S16x4096x1 ![0, 1] bcast_S16x4096_S16x4096x1_0_1
    (maximumf (broadcastInDim S16x4096 ![] bcast_S_S16x4096 (constant S_ .f32 0xFF800000#32)) M))))

/-- A row's sum. -/
def tD (E : FVec Ideal S16x4096x4096 .f32) : FVec Ideal S16x4096 .f32 :=
  Host.reduceAdd E (constant S_ .f32 0x00000000#32) reducesTo_S16x4096x4096_S16x4096_d2 h_S_

/-- A row's statistic along the row. -/
def along (D : FVec Ideal S16x4096 .f32) : FVec Ideal S16x4096x4096 .f32 :=
  broadcastInDim S16x4096x4096 ![0, 1, 2] bcast_S16x4096x1_S16x4096x4096_0_1_2 (broadcastInDim S16x4096x1 ![0, 1] bcast_S16x4096_S16x4096x1_0_1 D)

/-- The derivative by the probabilities. -/
def tT (a2 a3 : FVec Ideal S4096x16x64 .f32) : FVec Ideal S16x4096x4096 .f32 :=
  Host.dotGeneral dot_S16x64x4096_S4096x16x64_S16x4096x4096_1_2_2_0_0_1 none (transpose S16x64x4096 [1, 2, 0] a3 transposes_S4096x16x64_S16x64x4096_1_2_0) a2

/-- A row's weighted derivatives over the square of its sum. -/
def tW (T E : FVec Ideal S16x4096x4096 .f32) (D : FVec Ideal S16x4096 .f32) : FVec Ideal S16x4096x4096 .f32 :=
  mulf (mulf T (broadcastInDim S16x4096x4096 ![0, 1, 2] bcast_S16x4096x1_S16x4096x4096_0_1_2
    (Host.divf (broadcastInDim S16x4096x1 ![] bcast_S_S16x4096x1 (constant S_ .f32 0x3F800000#32))
      (mulf (broadcastInDim S16x4096x1 ![0, 1] bcast_S16x4096_S16x4096x1_0_1 D) (broadcastInDim S16x4096x1 ![0, 1] bcast_S16x4096_S16x4096x1_0_1 D))))) E

/-- Less a row's sum. -/
def tN (W : FVec Ideal S16x4096x4096 .f32) : FVec Ideal S16x4096 .f32 :=
  Host.reduceAdd (Host.negf (shapeCast S16x4096x1 (Host.reduceAdd W (constant S_ .f32 0x00000000#32) reducesTo_S16x4096x4096_S16x4096_d2 h_S_) shapeCasts_S16x4096_S16x4096x1))
    (constant S_ .f32 0x00000000#32) reducesTo_S16x4096x1_S16x4096_d2 h_S_

/-- The derivative by the products. -/
def tG (T E : FVec Ideal S16x4096x4096 .f32) (D N : FVec Ideal S16x4096 .f32) : FVec Ideal S16x4096x4096 .f32 :=
  mulf (select tSees (mulf (addf (Host.divf T (along D)) (broadcastInDim S16x4096x4096 ![0, 1] bcast_S16x4096_S16x4096x4096_0_1 N)) E)
      (broadcastInDim S16x4096x4096 ![] bcast_S_S16x4096x4096 (constant S_ .f32 0x00000000#32)))
    (broadcastInDim S16x4096x4096 ![] bcast_S_S16x4096x4096 (constant S_ .f32 0x3DD105EC#32))

/-! ## The steps at an index -/

theorem tS_at (a0 a1 : FVec Ideal S4096x16x96 .f32) (hd : Fin 16) (y x : Fin 4096) :
    (tS a0 a1 (ix3 hd y x) : EReal) = if Rows.sees y x then (∑ e : Fin 96, (a0 (ix3 y hd e) : EReal) * a1 (ix3 x hd e)) * Rows.C else ⊥ := by
  have eb : (id (constant (F := Ideal) S_ FTy.f32 4286578688#32) ix0 : EReal) = ⊥ := Rows.bot_eq
  unfold tS tSees
  pointwise
  simp only [Rows.maskLe _ _ y.isLt, eb, Rows.scale_eq]

theorem tM_at (S : FVec Ideal S16x4096x4096 .f32) (hd : Fin 16) (y : Fin 4096) :
    (tM S (ix2 hd y) : EReal) = Finset.univ.fold max ⊥ (fun x : Fin 4096 => (S (ix3 hd y x) : EReal)) := by
  unfold tM
  pointwise
  simp only [Rows.bot_eq]

theorem tE_at (S : FVec Ideal S16x4096x4096 .f32) (M : FVec Ideal S16x4096 .f32) (hd : Fin 16) (y x : Fin 4096) :
    (tE S M (ix3 hd y x) : EReal) = Ideal.exp ((S (ix3 hd y x) : EReal) - M (ix2 hd y)) := by
  unfold tE
  pointwise
  simp only [Rows.bot_eq]
  rw [bot_sup_eq]

theorem tD_at (E : FVec Ideal S16x4096x4096 .f32) (hd : Fin 16) (y : Fin 4096) :
    (tD E (ix2 hd y) : EReal) = ∑ x : Fin 4096, (E (ix3 hd y x) : EReal) := by
  unfold tD
  pointwise

theorem along_at (D : FVec Ideal S16x4096 .f32) (hd : Fin 16) (y x : Fin 4096) : (along D (ix3 hd y x) : EReal) = D (ix2 hd y) := by
  unfold along
  pointwise

theorem tT_at (a2 a3 : FVec Ideal S4096x16x64 .f32) (hd : Fin 16) (y x : Fin 4096) :
    (tT a2 a3 (ix3 hd y x) : EReal) = ∑ e : Fin 64, (a3 (ix3 y hd e) : EReal) * a2 (ix3 x hd e) := by
  unfold tT
  pointwise

theorem one_eq : Ideal.ofBits .f32 0x3F800000#32 = 1 := by
  simp [Ideal.ofBits, Ideal.ieee, -EReal.coe_mul]; norm_num

theorem tW_at (T E : FVec Ideal S16x4096x4096 .f32) (D : FVec Ideal S16x4096 .f32) (hd : Fin 16) (y x : Fin 4096) :
    (tW T E D (ix3 hd y x) : EReal) = ((T (ix3 hd y x) : EReal) * Ideal.div 1 ((D (ix2 hd y) : EReal) * D (ix2 hd y))) * E (ix3 hd y x) := by
  rw [← one_eq]
  unfold tW
  pointwise

theorem tN_at (W : FVec Ideal S16x4096x4096 .f32) (hd : Fin 16) (y : Fin 4096) :
    (tN W (ix2 hd y) : EReal) = -(∑ x : Fin 4096, (W (ix3 hd y x) : EReal)) := by
  unfold tN
  pointwise
  exact Fin.sum_univ_one _

theorem tG_at (T E : FVec Ideal S16x4096x4096 .f32) (D N : FVec Ideal S16x4096 .f32) (hd : Fin 16) (y x : Fin 4096) :
    (tG T E D N (ix3 hd y x) : EReal) = (if Rows.sees y x then (Ideal.div (T (ix3 hd y x) : EReal) (D (ix2 hd y)) + N (ix2 hd y)) * E (ix3 hd y x) else 0) * Rows.C := by
  unfold tG tSees along
  pointwise
  simp only [Rows.maskLe _ _ y.isLt, Rows.scale_eq]
  by_cases h : Rows.sees y x
  · rw [if_pos h, if_pos h]
  · rw [if_neg h, if_neg h, zero_mul]

/-! ## From finite arguments -/

section Finite

variable {a0 a1 : FVec Ideal S4096x16x96 .f32} {a2 a3 : FVec Ideal S4096x16x64 .f32}
  {q k : Fin 4096 → Fin 16 → Fin 96 → ℝ} {v d : Fin 4096 → Fin 16 → Fin 64 → ℝ}
  (hq : ∀ y hd e, (a0 (ix3 y hd e) : EReal) = ((q y hd e : ℝ) : EReal))
  (hk : ∀ y hd e, (a1 (ix3 y hd e) : EReal) = ((k y hd e : ℝ) : EReal))
  (hv : ∀ y hd e, (a2 (ix3 y hd e) : EReal) = ((v y hd e : ℝ) : EReal))
  (hd' : ∀ y hd e, (a3 (ix3 y hd e) : EReal) = ((d y hd e : ℝ) : EReal))
include hq hk

theorem S_row (hd : Fin 16) (y x : Fin 4096) : (tS a0 a1 (ix3 hd y x) : EReal) = Softmax.row (Rows.sees y) (Rows.sR q k hd y) x := by
  rw [tS_at]
  simp only [hq, hk]
  exact Rows.row_at q k hd y x

theorem M_row (hd : Fin 16) (y : Fin 4096) : (tM (tS a0 a1) (ix2 hd y) : EReal) = Softmax.top (Rows.sees y) (Rows.sR q k hd y) := by
  rw [tM_at]
  simp only [S_row hq hk]
  rfl

theorem E_row (hd : Fin 16) (y x : Fin 4096) :
    (tE (tS a0 a1) (tM (tS a0 a1)) (ix3 hd y x) : EReal) = Softmax.ex (Rows.sees y) (Rows.sR q k hd y) x := by
  rw [tE_at, S_row hq hk, M_row hq hk]
  rfl

theorem D_row (hd : Fin 16) (y : Fin 4096) :
    (tD (tE (tS a0 a1) (tM (tS a0 a1))) (ix2 hd y) : EReal) = Softmax.den (Rows.sees y) (Rows.sR q k hd y) := by
  rw [tD_at]
  simp only [E_row hq hk]
  rfl

theorem P_row (hd : Fin 16) (y x : Fin 4096) :
    (Host.divf (tE (tS a0 a1) (tM (tS a0 a1))) (along (tD (tE (tS a0 a1) (tM (tS a0 a1))))) (ix3 hd y x) : EReal) = ((Rows.pR q k hd y x : ℝ) : EReal) := by
  refine Eq.trans (b := Ideal.div (tE (tS a0 a1) (tM (tS a0 a1)) (ix3 hd y x)) (along (tD (tE (tS a0 a1) (tM (tS a0 a1)))) (ix3 hd y x))) (by pointwise) ?_
  rw [along_at, E_row hq hk, D_row hq hk]
  exact Softmax.prob_eq (Rows.sees_self y) x

include hv hd'

omit hq hk in
theorem T_row (hd : Fin 16) (y x : Fin 4096) : (tT a2 a3 (ix3 hd y x) : EReal) = ((Rows.tR v d hd y x : ℝ) : EReal) := by
  rw [tT_at]
  simp only [hv, hd', ← EReal.coe_mul, Softmax.coe_sum]
  rfl

theorem G_row (hd : Fin 16) (y x : Fin 4096) :
    (tG (tT a2 a3) (tE (tS a0 a1) (tM (tS a0 a1))) (tD (tE (tS a0 a1) (tM (tS a0 a1))))
      (tN (tW (tT a2 a3) (tE (tS a0 a1) (tM (tS a0 a1))) (tD (tE (tS a0 a1) (tM (tS a0 a1)))))) (ix3 hd y x) : EReal)
      = ((Rows.gR q k v d hd y x : ℝ) : EReal) := by
  rw [tG_at, tN_at]
  simp only [tW_at, T_row hv hd', E_row hq hk, D_row hq hk]
  rw [Softmax.grad_eq (Rows.tR v d hd y) (Rows.sees_self y) x]
  by_cases h : Rows.sees y x
  · rw [if_pos h, ← EReal.coe_mul]
    rfl
  · rw [if_neg h, zero_mul]
    unfold Rows.gR Rows.pR
    rw [Softmax.probR_off h, zero_mul, zero_mul, EReal.coe_zero]

end Finite

/-! ## The results at an index -/

theorem dq_at (G : FVec Ideal S16x4096x4096 .f32) (a1 : FVec Ideal S4096x16x96 .f32) (y : Fin 4096) (hd : Fin 16) (e : Fin 96) :
    (transpose S4096x16x96 [1, 0, 2] (Host.dotGeneral dot_S16x4096x4096_S4096x16x96_S16x4096x96_2_0_1_2_0_1 none G a1 : FVec Ideal S16x4096x96 .f32)
      transposes_S16x4096x96_S4096x16x96_1_0_2 (ix3 y hd e) : EReal) = ∑ x : Fin 4096, (G (ix3 hd y x) : EReal) * a1 (ix3 x hd e) := by
  pointwise

theorem dk_at (G : FVec Ideal S16x4096x4096 .f32) (a0 : FVec Ideal S4096x16x96 .f32) (x : Fin 4096) (hd : Fin 16) (e : Fin 96) :
    (transpose S4096x16x96 [1, 0, 2] (Host.dotGeneral dot_S16x4096x4096_S4096x16x96_S16x4096x96_1_0_2_2_0_1 none G a0 : FVec Ideal S16x4096x96 .f32)
      transposes_S16x4096x96_S4096x16x96_1_0_2 (ix3 x hd e) : EReal) = ∑ y : Fin 4096, (G (ix3 hd y x) : EReal) * a0 (ix3 y hd e) := by
  pointwise

theorem dv_at (P : FVec Ideal S16x4096x4096 .f32) (a3 : FVec Ideal S4096x16x64 .f32) (x : Fin 4096) (hd : Fin 16) (e : Fin 64) :
    (transpose S4096x16x64 [2, 0, 1] (Host.dotGeneral dot_S16x64x4096_S16x4096x4096_S16x64x4096_2_1_1_2_0_0 none
        (transpose S16x64x4096 [1, 2, 0] a3 transposes_S4096x16x64_S16x64x4096_1_2_0) P : FVec Ideal S16x64x4096 .f32)
      transposes_S16x64x4096_S4096x16x64_2_0_1 (ix3 x hd e) : EReal) = ∑ y : Fin 4096, (a3 (ix3 y hd e) : EReal) * P (ix3 hd y x) := by
  pointwise

theorem splitK (i : S16x2048x256.Idx) : ∃ (n : Fin 16) (P : Fin 8) (h : Fin 2) (e : Fin 128) (r : Fin 256), i = ix3 n (colK P h e) r := by
  obtain ⟨n, j, r, rfl⟩ := Cert.KernelIdeal.Flow.ix3_split i
  refine ⟨n, ⟨j.val / 256, by omega⟩, ⟨j.val / 128 % 2, by omega⟩, ⟨j.val % 128, by omega⟩, r, ?_⟩
  congr 1
  exact Fin.ext (by dsimp only; omega)

theorem splitV (i : S16x1024x256.Idx) : ∃ (n : Fin 16) (P : Fin 8) (h : Fin 2) (e : Fin 64) (r : Fin 256), i = ix3 n (colV P h e) r := by
  obtain ⟨n, j, r, rfl⟩ := Cert.KernelIdeal.Flow.ix3_split i
  refine ⟨n, ⟨j.val / 128, by omega⟩, ⟨j.val / 64 % 2, by omega⟩, ⟨j.val % 64, by omega⟩, r, ?_⟩
  congr 1
  exact Fin.ext (by dsimp only; omega)

/-! ## The results -/

section Results

variable (m : (ℓ : Loc nD τ sig) → Buf (Elt Ideal) ℓ) (c : Dev nD)
  {q k : Fin 4096 → Fin 16 → Fin 96 → ℝ} {v d : Fin 4096 → Fin 16 → Fin 64 → ℝ}
  (hq : ∀ y hd e, (m ((c : Thread nD τ).loc main_arg0) (ix3 y hd e) : EReal) = ((q y hd e : ℝ) : EReal))
  (hk : ∀ y hd e, (m ((c : Thread nD τ).loc main_arg1) (ix3 y hd e) : EReal) = ((k y hd e : ℝ) : EReal))
  (hv : ∀ y hd e, (m ((c : Thread nD τ).loc main_arg2) (ix3 y hd e) : EReal) = ((v y hd e : ℝ) : EReal))
  (hd' : ∀ y hd e, (m ((c : Thread nD τ).loc main_arg3) (ix3 y hd e) : EReal) = ((d y hd e : ℝ) : EReal))

/-- The derivative by the products, of the arguments. -/
def mG : FVec Ideal S16x4096x4096 .f32 :=
  tG (tT (m ((c.tc : Thread nD τ).loc main_arg2)) (m ((c.tc : Thread nD τ).loc main_arg3)))
    (tE (tS (m ((c.tc : Thread nD τ).loc main_arg0)) (m ((c.tc : Thread nD τ).loc main_arg1))) (tM (tS (m ((c.tc : Thread nD τ).loc main_arg0)) (m ((c.tc : Thread nD τ).loc main_arg1)))))
    (tD (tE (tS (m ((c.tc : Thread nD τ).loc main_arg0)) (m ((c.tc : Thread nD τ).loc main_arg1))) (tM (tS (m ((c.tc : Thread nD τ).loc main_arg0)) (m ((c.tc : Thread nD τ).loc main_arg1))))))
    (tN (tW (tT (m ((c.tc : Thread nD τ).loc main_arg2)) (m ((c.tc : Thread nD τ).loc main_arg3)))
      (tE (tS (m ((c.tc : Thread nD τ).loc main_arg0)) (m ((c.tc : Thread nD τ).loc main_arg1))) (tM (tS (m ((c.tc : Thread nD τ).loc main_arg0)) (m ((c.tc : Thread nD τ).loc main_arg1)))))
      (tD (tE (tS (m ((c.tc : Thread nD τ).loc main_arg0)) (m ((c.tc : Thread nD τ).loc main_arg1))) (tM (tS (m ((c.tc : Thread nD τ).loc main_arg0)) (m ((c.tc : Thread nD τ).loc main_arg1))))))))

/-- The probabilities, of the arguments. -/
def mP : FVec Ideal S16x4096x4096 .f32 :=
  Host.divf (tE (tS (m ((c.tc : Thread nD τ).loc main_arg0)) (m ((c.tc : Thread nD τ).loc main_arg1))) (tM (tS (m ((c.tc : Thread nD τ).loc main_arg0)) (m ((c.tc : Thread nD τ).loc main_arg1)))))
    (along (tD (tE (tS (m ((c.tc : Thread nD τ).loc main_arg0)) (m ((c.tc : Thread nD τ).loc main_arg1))) (tM (tS (m ((c.tc : Thread nD τ).loc main_arg0)) (m ((c.tc : Thread nD τ).loc main_arg1)))))))

theorem open0 : Value.res_main_v67 m c = transpose S16x2048x256 [0, 2, 1] (shapeCast S16x256x2048 (shapeCast S4096x2048
    (pad S4096x16x128 ![0, 0, 0] ![0, 0, 32] ![0, 0, 0] (transpose S4096x16x96 [1, 0, 2] (Host.dotGeneral (φ₁ := .f32) (φ₂ := .f32) dot_S16x4096x4096_S4096x16x96_S16x4096x96_2_0_1_2_0_1 none
        (mG m c) (m ((c.tc : Thread nD τ).loc main_arg1))) transposes_S16x4096x96_S4096x16x96_1_0_2)
      (sitofp (F := Ideal) FTy.f32 (constantI S_ 32 0#32)) pads_S4096x16x96_S4096x16x128_000_000_0320 h_S_)
    shapeCasts_S4096x16x128_S4096x2048) shapeCasts_S4096x2048_S16x256x2048) transposes_S16x256x2048_S16x2048x256_0_2_1 := by
  unfold Value.res_main_v67 mG tG tN tW tT tD tE tM tS tSees along
  rfl

theorem open1 : Value.res_main_v71 m c = transpose S16x2048x256 [0, 2, 1] (shapeCast S16x256x2048 (shapeCast S4096x2048
    (pad S4096x16x128 ![0, 0, 0] ![0, 0, 32] ![0, 0, 0] (transpose S4096x16x96 [1, 0, 2] (Host.dotGeneral (φ₁ := .f32) (φ₂ := .f32) dot_S16x4096x4096_S4096x16x96_S16x4096x96_1_0_2_2_0_1 none
        (mG m c) (m ((c.tc : Thread nD τ).loc main_arg0))) transposes_S16x4096x96_S4096x16x96_1_0_2)
      (sitofp (F := Ideal) FTy.f32 (constantI S_ 32 0#32)) pads_S4096x16x96_S4096x16x128_000_000_0320 h_S_)
    shapeCasts_S4096x16x128_S4096x2048) shapeCasts_S4096x2048_S16x256x2048) transposes_S16x256x2048_S16x2048x256_0_2_1 := by
  unfold Value.res_main_v71 mG tG tN tW tT tD tE tM tS tSees along
  rfl

theorem open2 : Value.res_main_v74 m c = transpose S16x1024x256 [0, 2, 1] (shapeCast S16x256x1024 (shapeCast S4096x1024
    (transpose S4096x16x64 [2, 0, 1] (Host.dotGeneral (φ₁ := .f32) (φ₂ := .f32) dot_S16x64x4096_S16x4096x4096_S16x64x4096_2_1_1_2_0_0 none
        (transpose S16x64x4096 [1, 2, 0] (m ((c.tc : Thread nD τ).loc main_arg3)) transposes_S4096x16x64_S16x64x4096_1_2_0) (mP m c)) transposes_S16x64x4096_S4096x16x64_2_0_1)
    shapeCasts_S4096x16x64_S4096x1024) shapeCasts_S4096x1024_S16x256x1024) transposes_S16x256x1024_S16x1024x256_0_2_1 := by
  unfold Value.res_main_v74 mP along tD tE tM tS tSees
  rfl

include hq hk hv hd'

theorem out0 : Value.res_main_v67 m c = layK (outQ q k v d) := by
  rw [open0]
  funext i
  obtain ⟨n, P, h, e, r, rfl⟩ := splitK i
  refine (Cert.KernelIdeal.Flow.turned_at _ n P h e r).trans (Eq.trans ?_ (layK_at _ n P h e r).symm)
  unfold padded
  by_cases he : e.val < 96
  · rw [dif_pos he, dif_pos he]
    refine (dq_at _ _ _ _ _).trans (Finset.sum_congr rfl fun x _ => ?_)
    rw [hk, mul_comm]
    exact congrArg (_ * ·) (G_row hq hk hv hd' _ _ _)
  · rw [dif_neg he, dif_neg he]

theorem out1 : Value.res_main_v71 m c = layK (outK q k v d) := by
  rw [open1]
  funext i
  obtain ⟨n, P, h, e, r, rfl⟩ := splitK i
  refine (Cert.KernelIdeal.Flow.turned_at _ n P h e r).trans (Eq.trans ?_ (layK_at _ n P h e r).symm)
  unfold padded
  by_cases he : e.val < 96
  · rw [dif_pos he, dif_pos he]
    refine (dk_at _ _ _ _ _).trans (Finset.sum_congr rfl fun y _ => ?_)
    rw [hq, mul_comm]
    exact congrArg (_ * ·) (G_row hq hk hv hd' _ _ _)
  · rw [dif_neg he, dif_neg he]

omit hv in
theorem out2 : Value.res_main_v74 m c = layV (outV q k d) := by
  rw [open2]
  funext i
  obtain ⟨n, P, h, e, r, rfl⟩ := splitV i
  refine (Cert.KernelIdeal.Flow.turnedV_at _ n P h e r).trans (Eq.trans ?_ (layV_at _ n P h e r).symm)
  refine (dv_at _ _ _ _ _).trans (Finset.sum_congr rfl fun y _ => ?_)
  rw [hd']
  exact congrArg (_ * ·) (P_row hq hk _ _ _)

end Results

end Cert.ReferenceIdeal.Flow

end
-- ==== Proof.Value.lean ====
/-
From finite arguments the kernel and the reference end with the same three arrays.
-/
module

public import proofs.«01_k».proof.Defs
public import proofs.«01_k».proof.Proof.Reference
public import proofs.«01_k».proof.Proof.Gen.Pre_finite
public import Idealize.ShloMosaic.Lib.Claim

@[expose] public section

set_option maxRecDepth 16384

noncomputable section

namespace Cert.Proof

open Idealize.ShloMosaic Idealize.ShloMosaic.TcCoe Idealize.ShloMosaic.Tactic

/-- A number whose absolute value is below infinity is real. -/
theorem real_of_abs {x : EReal} (h : max x (-x) < ⊤) : x = ((x.toReal : ℝ) : EReal) := by
  refine (EReal.coe_toReal ?_ ?_).symm
  · rintro rfl
    simp at h
  · rintro rfl
    simp at h

theorem real_of_test {x : EReal} (h : Ideal.cmp .olt (max x (-x)) (Ideal.ofBits .f32 0x7F800000#32) = 1#1) : x = ((x.toReal : ℝ) : EReal) := by
  rw [Rows.topp_eq] at h
  refine real_of_abs ?_
  by_contra hn
  have h0 : Ideal.cmp .olt (max x (-x)) ⊤ = 0#1 := by
    unfold Ideal.cmp
    rw [decide_eq_false hn]
    rfl
  rw [h0] at h
  exact absurd h (by decide)

/-- The rows of an array, real. -/
def rowsK (a : Cert.KernelIdeal.S4096x16x96.Idx → EReal) (y : Fin 4096) (hd : Fin 16) (e : Fin 96) : ℝ := (a (ix3 y hd e)).toReal
def rowsV (a : Cert.KernelIdeal.S4096x16x64.Idx → EReal) (y : Fin 4096) (hd : Fin 16) (e : Fin 64) : ℝ := (a (ix3 y hd e)).toReal

theorem rowsK_at {a : FVec Ideal Cert.Pre_finite.S4096x16x96 .f32}
    (h : cmpf .olt (Host.absf a) (broadcastInDim Cert.Pre_finite.S4096x16x96 ![] Cert.Pre_finite.Facts.bcast_S_S4096x16x96 (constant Cert.Pre_finite.S_ .f32 0x7F800000#32)) = fun _ => 1#1)
    (y : Fin 4096) (hd : Fin 16) (e : Fin 96) : (a (ix3 y hd e) : EReal) = ((rowsK a y hd e : ℝ) : EReal) :=
  real_of_test (congrFun h (ix3 y hd e))

theorem rowsV_at {a : FVec Ideal Cert.Pre_finite.S4096x16x64 .f32}
    (h : cmpf .olt (Host.absf a) (broadcastInDim Cert.Pre_finite.S4096x16x64 ![] Cert.Pre_finite.Facts.bcast_S_S4096x16x64 (constant Cert.Pre_finite.S_ .f32 0x7F800000#32)) = fun _ => 1#1)
    (y : Fin 4096) (hd : Fin 16) (e : Fin 64) : (a (ix3 y hd e) : EReal) = ((rowsV a y hd e : ℝ) : EReal) :=
  real_of_test (congrFun h (ix3 y hd e))

section Pair

variable (m : (ℓ : Loc Cert.KernelIdeal.nD Cert.KernelIdeal.τ Cert.KernelIdeal.sig) → Buf (Elt Ideal) ℓ) (c : Dev Cert.KernelIdeal.nD)

/-- The four arguments, real. -/
abbrev qOf : Fin 4096 → Fin 16 → Fin 96 → ℝ := rowsK (m ((c.tc : Thread Cert.KernelIdeal.nD Cert.KernelIdeal.τ).loc Cert.KernelIdeal.main_arg0))
abbrev kOf : Fin 4096 → Fin 16 → Fin 96 → ℝ := rowsK (m ((c.tc : Thread Cert.KernelIdeal.nD Cert.KernelIdeal.τ).loc Cert.KernelIdeal.main_arg1))
abbrev vOf : Fin 4096 → Fin 16 → Fin 64 → ℝ := rowsV (m ((c.tc : Thread Cert.KernelIdeal.nD Cert.KernelIdeal.τ).loc Cert.KernelIdeal.main_arg2))
abbrev dOf : Fin 4096 → Fin 16 → Fin 64 → ℝ := rowsV (m ((c.tc : Thread Cert.KernelIdeal.nD Cert.KernelIdeal.τ).loc Cert.KernelIdeal.main_arg3))

end Pair

/-- The arrays after the kernel. -/
theorem run_kernel (m : (ℓ : Loc Cert.KernelIdeal.nD Cert.KernelIdeal.τ Cert.KernelIdeal.sig) → Buf (Elt Ideal) ℓ) (g : Dev Cert.KernelIdeal.nD → PrngReg) :
    θ_run Cert.KernelIdeal.defs (onTc (τ := Cert.KernelIdeal.τ) (Cert.KernelIdeal.main (F := Ideal))) ⟨m, fun _ => 0, g⟩
      (Pipeline.FramePost Cert.KernelIdeal.cfgs (Cert.KernelIdeal.Flow.dats m) 0 (Cert.KernelIdeal.Gen.V m)) :=
  (θ_run Cert.KernelIdeal.defs _ _).mono (fun _ h => h.1) (Cert.KernelIdeal.Flow.run_main m g)

/-- The three results after the kernel. -/
theorem kernel_run (m : (ℓ : Loc Cert.KernelIdeal.nD Cert.KernelIdeal.τ Cert.KernelIdeal.sig) → Buf (Elt Ideal) ℓ) (g : Dev Cert.KernelIdeal.nD → PrngReg) (hpre : Cert.Pre_KernelIdeal_finite m) :
    θ_run Cert.KernelIdeal.defs (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v56_0) = Cert.KernelIdeal.Flow.layK (Cert.KernelIdeal.Flow.outQ (qOf m c) (kOf m c) (vOf m c) (dOf m c))
      ∧ r.2.mem ((c.tc : Thread Cert.KernelIdeal.nD Cert.KernelIdeal.τ).loc Cert.KernelIdeal.main_v56_1) = Cert.KernelIdeal.Flow.layK (Cert.KernelIdeal.Flow.outK (qOf m c) (kOf m c) (vOf m c) (dOf m c))
      ∧ r.2.mem ((c.tc : Thread Cert.KernelIdeal.nD Cert.KernelIdeal.τ).loc Cert.KernelIdeal.main_v56_2) = Cert.KernelIdeal.Flow.layV (Cert.KernelIdeal.Flow.outV (qOf m c) (kOf m c) (dOf m c))) := by
  refine (θ_run Cert.KernelIdeal.defs _ _).mono (fun r h c => ?_) (run_kernel m g)
  obtain ⟨h0, h1, h2, h3⟩ := hpre c
  exact ⟨((h c).1 7).trans (Cert.KernelIdeal.Flow.arr7 m c (rowsK_at h0) (rowsK_at h1) (rowsV_at h2) (rowsV_at h3)),
    ((h c).1 8).trans (Cert.KernelIdeal.Flow.arr8 m c (rowsK_at h0) (rowsK_at h1) (rowsV_at h2) (rowsV_at h3)),
    ((h c).1 9).trans (Cert.KernelIdeal.Flow.arr9 m c (rowsK_at h0) (rowsK_at h1) (rowsV_at h2) (rowsV_at h3))⟩

theorem kernel_args (m : (ℓ : Loc Cert.KernelIdeal.nD Cert.KernelIdeal.τ Cert.KernelIdeal.sig) → Buf (Elt Ideal) ℓ) (g : Dev Cert.KernelIdeal.nD → PrngReg) :
    θ_run Cert.KernelIdeal.defs (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  Cert.KernelIdeal.Gen.frame_of m g (Cert.KernelIdeal.Flow.dats m) (fun _ _ => rfl) (run_kernel m g)

/-- The equation. -/
theorem algebraic : Cert.algebraic_KernelIdeal_ReferenceIdeal_pre_finite := by
  intro m g m' g' hpre hagree
  refine ⟨fun c => Cert.KernelIdeal.Flow.layK (Cert.KernelIdeal.Flow.outQ (qOf m c) (kOf m c) (vOf m c) (dOf m c)),
    fun c => Cert.KernelIdeal.Flow.layK (Cert.KernelIdeal.Flow.outK (qOf m c) (kOf m c) (vOf m c) (dOf m c)),
    fun c => Cert.KernelIdeal.Flow.layV (Cert.KernelIdeal.Flow.outV (qOf m c) (kOf m c) (dOf m c)), ?_, ?_⟩
  · refine (θ_run Cert.KernelIdeal.defs _ _).mono (fun r h c => ?_) (θ_run_and (kernel_run m g hpre) (kernel_args m g))
    exact ⟨(h.1 c).1, (h.1 c).2.1, (h.1 c).2.2, h.2 c⟩
  · refine (θ_run Cert.ReferenceIdeal.defs _ _).mono (fun r h c => ?_) (Cert.ReferenceIdeal.Value.run m' g')
    obtain ⟨h0, h1, h2, h3⟩ := hpre c
    obtain ⟨a0, a1, a2, a3⟩ := hagree c
    have q0 : ∀ y hd e, (m' ((c.tc : Thread Cert.ReferenceIdeal.nD Cert.ReferenceIdeal.τ).loc Cert.ReferenceIdeal.main_arg0) (ix3 y hd e) : EReal) = ((qOf m c y hd e : ℝ) : EReal) := fun y hd e => (congrFun a0 (ix3 y hd e)).trans (rowsK_at h0 y hd e)
    have q1 : ∀ y hd e, (m' ((c.tc : Thread Cert.ReferenceIdeal.nD Cert.ReferenceIdeal.τ).loc Cert.ReferenceIdeal.main_arg1) (ix3 y hd e) : EReal) = ((kOf m c y hd e : ℝ) : EReal) := fun y hd e => (congrFun a1 (ix3 y hd e)).trans (rowsK_at h1 y hd e)
    have q2 : ∀ y hd e, (m' ((c.tc : Thread Cert.ReferenceIdeal.nD Cert.ReferenceIdeal.τ).loc Cert.ReferenceIdeal.main_arg2) (ix3 y hd e) : EReal) = ((vOf m c y hd e : ℝ) : EReal) := fun y hd e => (congrFun a2 (ix3 y hd e)).trans (rowsV_at h2 y hd e)
    have q3 : ∀ y hd e, (m' ((c.tc : Thread Cert.ReferenceIdeal.nD Cert.ReferenceIdeal.τ).loc Cert.ReferenceIdeal.main_arg3) (ix3 y hd e) : EReal) = ((dOf m c y hd e : ℝ) : EReal) := fun y hd e => (congrFun a3 (ix3 y hd e)).trans (rowsV_at h3 y hd e)
    obtain ⟨e0, e1, e2, er⟩ := h c
    exact ⟨e0.trans (Cert.ReferenceIdeal.Flow.out0 m' c q0 q1 q2 q3), e1.trans (Cert.ReferenceIdeal.Flow.out1 m' c q0 q1 q2 q3), e2.trans (Cert.ReferenceIdeal.Flow.out2 m' c q0 q1 q3), er⟩

end Cert.Proof

end
-- ==== Proof.Mlp.Frames.lean ====
/-
The frames of the two calls of the MLP's gradient and of their references.
-/
module

public import proofs.«01_k».proof.Defs
public import proofs.«01_k».proof.Proof.Gen.Kernel2Ideal.Frame
public import proofs.«01_k».proof.Proof.Gen.Kernel3Ideal.Frame
public import proofs.«01_k».proof.Proof.Gen.Kernel2.Frame
public import proofs.«01_k».proof.Proof.Gen.Kernel3.Frame
public import proofs.«01_k».proof.Proof.Gen.Reference2Ideal.Run
public import proofs.«01_k».proof.Proof.Gen.Reference3Ideal.Run
public import Idealize.ShloMosaic.Lib.Quiescent

@[expose] public section

set_option maxRecDepth 16384

noncomputable section

namespace Cert.Proof

open Idealize.ShloMosaic Idealize.ShloMosaic.TcCoe Idealize.SL.Sem

/-- The call `_bwd_mlp_down` leaves its arguments as they were, at machine words. -/
theorem frame_kernel2 : Cert.quiescent_Kernel2 := fun m ρ _ => Cert.Kernel2.Gen.frame m ρ

/-- The same at the reals. -/
theorem frame_kernel2Ideal : Cert.quiescent_Kernel2Ideal := fun m ρ _ => Cert.Kernel2Ideal.Gen.frame m ρ

/-- The reference of `_bwd_mlp_down` leaves its arguments as they were. -/
theorem frame_reference2Ideal : Cert.quiescent_Reference2Ideal := fun m g _ =>
  (θ_run Cert.Reference2Ideal.defs _ _).mono
    (fun r h => ⟨fun c => (h c).2.2.2, sem_eq_zero_of_no_sems rfl r.2⟩)
    (Cert.Reference2Ideal.Value.run (F := Ideal) m g)

/-- The call `_bwd_mlp_up` leaves its arguments as they were, at machine words. -/
theorem frame_kernel3 : Cert.quiescent_Kernel3 := fun m ρ _ => Cert.Kernel3.Gen.frame m ρ

/-- The same at the reals. -/
theorem frame_kernel3Ideal : Cert.quiescent_Kernel3Ideal := fun m ρ _ => Cert.Kernel3Ideal.Gen.frame m ρ

/-- The reference of `_bwd_mlp_up` leaves its arguments as they were. -/
theorem frame_reference3Ideal : Cert.quiescent_Reference3Ideal := fun m g _ =>
  (θ_run Cert.Reference3Ideal.defs _ _).mono
    (fun r h => ⟨fun c => (h c).2.2, sem_eq_zero_of_no_sems rfl r.2⟩)
    (Cert.Reference3Ideal.Value.run (F := Ideal) m g)

end Cert.Proof

end
-- ==== Proof.Norm.lean ====
/-
One row of the root-mean-square norm and of its gradient, over the extended reals: the two programs' expressions are equal.
-/
module

public import proofs.«01_k».proof.Proof.Rows

@[expose] public section

noncomputable section

namespace Cert.Norm

open Idealize.ShloMosaic

/-- The norm's epsilon: the float word's rational. -/
def E : ℝ := 8796093 / 8796093022208

theorem eps_eq : Ideal.ofBits .f32 0x358637BD#32 = ((E : ℝ) : EReal) := by
  unfold E; simp [Ideal.ofBits, Ideal.ieee, -EReal.coe_mul]; norm_num
theorem len_eq : Ideal.ofBits .f32 0x44800000#32 = ((1024 : ℝ) : EReal) := by
  simp [Ideal.ofBits, Ideal.ieee, -EReal.coe_mul]; norm_num
theorem minusHalf_eq : Ideal.ofBits .f32 0xBF000000#32 = ((-(1 / 2) : ℝ) : EReal) := by
  simp [Ideal.ofBits, Ideal.ieee, -EReal.coe_mul]; norm_num

theorem E_pos : 0 < E := by unfold E; norm_num

variable (x g d : Fin 1024 → EReal)

/-- The mean square, with epsilon. -/
def ms : EReal := Ideal.div (∑ k, x k * x k) (Ideal.ofBits .f32 0x44800000#32) + Ideal.ofBits .f32 0x358637BD#32
/-- The reciprocal root of the mean square. -/
def rt : EReal := Ideal.rsqrt (ms x)
/-- The norm. -/
def nrm (k : Fin 1024) : EReal := x k * rt x * g k
/-- The gradient at the row, as the kernel computes it. -/
def dx (k : Fin 1024) : EReal :=
  rt x * (d k * g k - x k * rt x * Ideal.div (∑ j, d j * g j * (x j * rt x)) (Ideal.ofBits .f32 0x44800000#32))
/-- The row's part of the gains' gradient. -/
def dg (k : Fin 1024) : EReal := d k * (x k * rt x)
/-- The factor of the row in the reference's gradient. -/
def back : EReal :=
  Ideal.div ((∑ j, x j * (d j * g j)) * (Ideal.ofBits .f32 0xBF000000#32 * Ideal.div (rt x) (ms x))) (Ideal.ofBits .f32 0x44800000#32)

theorem div_len (t : EReal) : Ideal.div t (Ideal.ofBits .f32 0x44800000#32) = t * ((1 / 1024 : ℝ) : EReal) := by
  rw [len_eq, Ideal.div_coe (by norm_num)]

/-- A factor that is a real number, not negative, goes into a sum. -/
theorem sum_mul_real {ι : Type*} (s : Finset ι) (f : ι → EReal) {r : ℝ} (hr : 0 ≤ r) : (∑ j ∈ s, f j) * (r : EReal) = ∑ j ∈ s, f j * (r : EReal) := by
  classical
  induction s using Finset.induction_on with
  | empty => simp
  | insert a s ha ih => rw [Finset.sum_insert ha, Finset.sum_insert ha, ← ih, EReal.right_distrib_of_nonneg_of_ne_top (EReal.coe_nonneg.mpr hr) (EReal.coe_ne_top r)]

/-- Twice a real number's multiple. -/
theorem twice (c : ℝ) (S : EReal) : (c : EReal) * S + (c : EReal) * S = ((2 * c : ℝ) : EReal) * S := by
  induction S using EReal.rec with
  | coe s => rw [← EReal.coe_mul, ← EReal.coe_mul, ← EReal.coe_add]; congr 1; ring
  | top =>
    rcases lt_trichotomy c 0 with h | h | h
    · rw [EReal.coe_mul_top_of_neg h, EReal.coe_mul_top_of_neg (by linarith)]; rfl
    · simp [h]
    · rw [EReal.coe_mul_top_of_pos h, EReal.coe_mul_top_of_pos (by linarith)]; rfl
  | bot =>
    rcases lt_trichotomy c 0 with h | h | h
    · rw [EReal.coe_mul_bot_of_neg h, EReal.coe_mul_bot_of_neg (by linarith)]; rfl
    · simp [h]
    · rw [EReal.coe_mul_bot_of_pos h, EReal.coe_mul_bot_of_pos (by linarith)]; rfl

theorem sq_nonneg (t : EReal) : 0 ≤ t * t := by
  rcases le_total 0 t with h | h
  · exact mul_nonneg h h
  · exact EReal.mul_nonneg_iff.mpr (Or.inr ⟨h, h⟩)

/-- A row is real, or its mean square is infinite. -/
theorem row_cases : (∃ y : Fin 1024 → ℝ, x = fun k => ((y k : ℝ) : EReal)) ∨ ms x = ⊤ := by
  by_cases h : ∀ k, x k ≠ ⊤ ∧ x k ≠ ⊥
  · exact Or.inl ⟨fun k => (x k).toReal, funext fun k => (EReal.coe_toReal (h k).1 (h k).2).symm⟩
  · right
    obtain ⟨k, hk⟩ := not_forall.mp h
    have e : x k * x k = ⊤ := by
      by_cases h1 : x k = ⊤
      · rw [h1]; rfl
      · rw [not_not.mp fun h2 => hk ⟨h1, h2⟩]; rfl
    have s : ∑ k, x k * x k = ⊤ :=
      top_le_iff.mp (e ▸ Finset.single_le_sum (f := fun k => x k * x k) (fun j _ => sq_nonneg (x j)) (Finset.mem_univ k))
    unfold ms
    rw [s, div_len, EReal.top_mul_coe_of_pos (by norm_num), eps_eq, EReal.top_add_coe]

/-- A real row's mean square and reciprocal root. -/
theorem real_row (y : Fin 1024 → ℝ) : ∃ m r : ℝ, 0 < m ∧ 0 < r ∧ r / m = r * r * r ∧ ms (fun k => ((y k : ℝ) : EReal)) = (m : EReal) ∧ rt (fun k => ((y k : ℝ) : EReal)) = (r : EReal) := by
  have hm : 0 < (∑ k, y k * y k) * (1 / 1024) + E :=
    add_pos_of_nonneg_of_pos (mul_nonneg (Finset.sum_nonneg fun k _ => mul_self_nonneg _) (by norm_num)) E_pos
  have e : ms (fun k => ((y k : ℝ) : EReal)) = (((∑ k, y k * y k) * (1 / 1024) + E : ℝ) : EReal) := by
    unfold ms
    rw [div_len, eps_eq]
    simp only [← EReal.coe_mul, Softmax.coe_sum, ← EReal.coe_add]
  refine ⟨_, (Real.sqrt ((∑ k, y k * y k) * (1 / 1024) + E))⁻¹, hm, inv_pos.mpr (Real.sqrt_pos.mpr hm), ?_, e, ?_⟩
  · have h : Real.sqrt ((∑ k, y k * y k) * (1 / 1024) + E) * Real.sqrt ((∑ k, y k * y k) * (1 / 1024) + E) = (∑ k, y k * y k) * (1 / 1024) + E := Real.mul_self_sqrt hm.le
    rw [← mul_inv, h, div_eq_inv_mul]
  · unfold rt
    rw [e, Ideal.rsqrt_coe, if_neg (not_lt.mpr hm.le), if_neg hm.ne']

/-- The reference's gradient is the kernel's. -/
theorem back_eq (k : Fin 1024) : d k * g k * rt x + x k * back x g d + back x g d * x k = dx x g d k := by
  rcases row_cases x with ⟨y, rfl⟩ | h
  · obtain ⟨m, r, hm, hr, hq, em, er⟩ := real_row y
    unfold dx back
    rw [em, er]
    have e : ∑ j, d j * g j * (((y j : ℝ) : EReal) * (r : EReal)) = (∑ j, ((y j : ℝ) : EReal) * (d j * g j)) * (r : EReal) := by
      rw [sum_mul_real _ _ hr.le]
      refine Finset.sum_congr rfl fun j _ => ?_
      rw [← mul_assoc, mul_comm (d j * g j)]
    rw [e]
    generalize ∑ j, ((y j : ℝ) : EReal) * (d j * g j) = S
    rw [div_len, div_len, minusHalf_eq, Ideal.div_coe hm.ne', sub_eq_add_neg, EReal.left_distrib_of_nonneg_of_ne_top (EReal.coe_nonneg.mpr hr.le) (EReal.coe_ne_top r),
      add_assoc, mul_comm (d k * g k)]
    congr 1
    have a1 : ((y k : ℝ) : EReal) * (S * (((-(1 / 2) : ℝ) : EReal) * ((r : EReal) * ((1 / m : ℝ) : EReal))) * ((1 / 1024 : ℝ) : EReal))
        = ((y k * (-(1 / 2)) * (r / m) * (1 / 1024) : ℝ) : EReal) * S := by
      rw [div_eq_mul_one_div r m]
      simp only [EReal.coe_mul]
      generalize ((1 / m : ℝ) : EReal) = M
      generalize ((1 / 1024 : ℝ) : EReal) = Q
      ac_rfl
    dsimp only
    rw [mul_comm (S * _ * _) ((y k : ℝ) : EReal), a1, twice]
    have a2 : (r : EReal) * (((y k : ℝ) : EReal) * (r : EReal) * (S * (r : EReal) * ((1 / 1024 : ℝ) : EReal))) = ((r * y k * r * r * (1 / 1024) : ℝ) : EReal) * S := by
      simp only [EReal.coe_mul]
      generalize ((1 / 1024 : ℝ) : EReal) = Q
      ac_rfl
    refine Eq.trans ?_ ((mul_neg _ _).trans ((congrArg Neg.neg a2).trans (neg_mul _ _).symm)).symm
    rw [← EReal.coe_neg]
    congr 2
    rw [hq]
    ring
  · have hr : rt x = 0 := by unfold rt; rw [h]; rfl
    have hb : back x g d = 0 := by
      unfold back
      rw [hr, div_len, h]
      simp [Ideal.div]
    unfold dx
    rw [hr, hb]
    simp

/-- The squared ReLU. -/
def sq (t : EReal) : EReal := max t 0 * max t 0

theorem sqrt_sq (t : EReal) : Ideal.sqrt (sq t) = max t 0 := by
  unfold sq
  induction t using EReal.rec with
  | coe s =>
    have e : max ((s : ℝ) : EReal) 0 = ((max s 0 : ℝ) : EReal) := (EReal.coe_strictMono.monotone.map_max (a := s) (b := 0)).symm
    rw [e, ← EReal.coe_mul, Ideal.sqrt_coe, if_neg (not_lt.mpr (mul_self_nonneg _)), Real.sqrt_mul_self (le_max_right s 0)]
  | top => simp
  | bot =>
    have h : Ideal.sqrt ((0 : ℝ) : EReal) = 0 := by rw [Ideal.sqrt_coe, if_neg (lt_irrefl _), Real.sqrt_zero]; rfl
    simpa using h

end Cert.Norm

end
-- ==== Proof.Mlp.DownBlock.lean ====
/-
What the call `_bwd_mlp_down` stores in one step, read element by element.
-/
module

public import proofs.«01_k».proof.Proof.Norm
public import proofs.«01_k».proof.Proof.Gen.Kernel2Ideal.Value
public import Idealize.ShloMosaic.Lib.Pointwise

@[expose] public section

set_option maxRecDepth 16384

noncomputable section

namespace Cert.Kernel2Ideal.Flow

open Idealize.ShloMosaic Idealize.ShloMosaic.TcCoe Idealize.ShloMosaic.Tactic
open Cert.Kernel2Ideal.Gen

variable {X D : FVec Ideal S256x1024 .f32} {G : FVec Ideal S1x1024 .f32} {x d : Fin 256 → Fin 1024 → EReal} {g : Fin 1024 → EReal}

theorem rt_pay (hx : ∀ r k, X (ix2 r k) = x r k) (r : Fin 256) :
    k0_pay4 (F := Ideal) X (ix2 r 0) = Norm.rt (x r) := by
  pointwise [k0_pay4, k0_pay3, hx]
  rfl

theorem xn_pay (hx : ∀ r k, X (ix2 r k) = x r k) (r : Fin 256) (k : Fin 1024) :
    k0_pay5 (F := Ideal) X (ix2 r k) = x r k * Norm.rt (x r) := by
  pointwise [k0_pay5, k0_pay3, hx]
  rw [rt_pay hx]

theorem dg_pay (hx : ∀ r k, X (ix2 r k) = x r k) (hd : ∀ r k, D (ix2 r k) = d r k) (acc : FVec Ideal S1x1024 .f32) (k : Fin 1024) :
    k0_pay6 (F := Ideal) D X acc (ix2 0 k) = acc (ix2 0 k) + ∑ r, Norm.dg (x r) (d r) k := by
  pointwise [k0_pay6, xn_pay hx, hd]
  rfl

theorem dg_zero (k : Fin 1024) : k0_pay2 (F := Ideal) (ix2 0 k) = 0 := by
  pointwise [k0_pay2]

theorem dd_pay (hx : ∀ r k, X (ix2 r k) = x r k) (hd : ∀ r k, D (ix2 r k) = d r k) (hg : ∀ k, G (ix2 0 k) = g k)
    (r : Fin 256) (k : Fin 1024) : k0_pay7 (F := Ideal) D X G (ix2 r k) = Norm.dx (x r) g (d r) k := by
  pointwise [k0_pay7, xn_pay hx, rt_pay hx, hd, hg]
  rfl

theorem da_pay {Y : FVec Ideal S256x1024 .bf16} {W : FVec Ideal S4x1024x1024 .bf16} {U : FVec Ideal S256x4096 .bf16}
    {y : Fin 256 → Fin 1024 → EReal} {w : Fin 4096 → Fin 1024 → EReal} {a : Fin 256 → Fin 4096 → EReal}
    (hy : ∀ r k, Y (ix2 r k) = y r k) (hw : ∀ (b : Fin 4) (f k : Fin 1024), W (ix3 b f k) = (w ⟨b.val * 1024 + f.val, by omega⟩ k))
    (hu : ∀ r f, U (ix2 r f) = Norm.sq (a r f)) (r : Fin 256) (b : Fin 4) (f : Fin 1024) :
    k0_pay1 (F := Ideal) Y W U (ix2 r ⟨b.val * 1024 + f.val, by omega⟩)
      = ((∑ k, y r k * w ⟨b.val * 1024 + f.val, by omega⟩ k) * (Ideal.ofBits .f32 0x40000000#32 * max (a r ⟨b.val * 1024 + f.val, by omega⟩) 0)) := by
  pointwise [k0_pay1]
  simp only [hy, hw, hu, Norm.sqrt_sq]

end Cert.Kernel2Ideal.Flow

end
-- ==== Proof.Mlp.DownArrays.lean ====
/-
The arrays that the call `_bwd_mlp_down` takes and leaves.
-/
module

public import proofs.«01_k».proof.Proof.Mlp.DownBlock
public import Idealize.ShloMosaic.Lib.StableHlo.ReadAt
public import Idealize.ShloMosaic.Lib.KernelVsHost
public import Idealize.ShloMosaic.Lib.Pipeline.ValueKit

@[expose] public section

set_option maxRecDepth 16384

noncomputable section

namespace Cert.Kernel2Ideal.Flow

open Idealize.ShloMosaic Idealize.ShloMosaic.TcCoe Idealize.ShloMosaic.Tactic
open Cert.Kernel2Ideal.Gen

/-! ## The results, over the extended reals -/

section Results

variable (e : Fin 4096 → Fin 1024 → EReal) (a : Fin 4096 → Fin 4096 → EReal) (w : Fin 4096 → Fin 1024 → EReal) (g : Fin 1024 → EReal)

/-- The rows that the norm takes. -/
def down (y : Fin 4096) (k : Fin 1024) : EReal := ∑ f, Norm.sq (a y f) * w f k
/-- The gradient at the norm's input. -/
def outD (y : Fin 4096) (k : Fin 1024) : EReal := Norm.dx (down a w y) g (e y) k
/-- The gradient at the rows before the squared ReLU. -/
def outA (y f : Fin 4096) : EReal := (∑ k, outD e a w g y k * w f k) * (Ideal.ofBits .f32 0x40000000#32 * max (a y f) 0)
/-- The gradient of the gains. -/
def outG (k : Fin 1024) : EReal := ∑ y, Norm.dg (down a w y) (e y) k

def layD : S4096x1024.Idx → EReal := fun i => outD e a w g (i 0) (i 1)
def layA : S4096x4096.Idx → EReal := fun i => outA e a w g (i 0) (i 1)
def layG : S1x1024.Idx → EReal := fun i => outG e a w (i 1)

end Results

theorem split1 (j : S1x1024.Idx) : ∃ k : Fin 1024, j = ix2 0 k :=
  ⟨j 1, by
    funext a
    fin_cases a
    · exact Subsingleton.elim (α := Fin 1) _ _
    · rfl⟩

/-- A row of a block of 256. -/
abbrev row (t : Fin 16) (r : Fin 256) : Fin 4096 := ⟨t.val * 256 + r.val, by omega⟩

theorem idx : ∀ t : Fin cfg0.N,
    win0_0.index t = ![t.val, 0] ∧ win0_1.index t = ![t.val, 0] ∧ win0_2.index t = ![0, 0] ∧ win0_3.index t = ![0, 2, 0]
    ∧ win0_4.index t = ![t.val, 0] ∧ win0_5.index t = ![t.val, 0] ∧ win0_6.index t = ![t.val, 0] ∧ win0_7.index t = ![0, 0] :=
  (by decide +kernel : ∀ t : Fin grid0.N, _)

theorem tlt (t : Fin cfg0.N) : t.val < 16 := t.isLt

/-! ## A block read off its array -/

section Reads

variable (t : Fin cfg0.N)

theorem read0 (A : S4096x1024.Idx → EReal) (r : Fin 256) (k : Fin 1024) :
    (((cfg0.win 0).blk t).view.read (Elt Ideal) A (ix2 r k) : EReal) = A (ix2 (row ⟨t.val, tlt t⟩ r) k) := by
  blk_ext [idx t]
theorem read1 (A : S4096x1024.Idx → EReal) (r : Fin 256) (k : Fin 1024) :
    (((cfg0.win 1).blk t).view.read (Elt Ideal) A (ix2 r k) : EReal) = A (ix2 (row ⟨t.val, tlt t⟩ r) k) := by
  blk_ext [idx t]
theorem read2 (A : S1x1024.Idx → EReal) (k : Fin 1024) :
    (((cfg0.win 2).blk t).view.read (Elt Ideal) A (ix2 0 k) : EReal) = A (ix2 0 k) := by
  blk_ext [idx t]
theorem read3 (A : S4x3072x1024.Idx → EReal) (b : Fin 4) (f k : Fin 1024) :
    (((cfg0.win 3).blk t).view.read (Elt Ideal) A (ix3 b f k) : EReal) = A (ix3 b ⟨2048 + f.val, by omega⟩ k) := by
  blk_ext [idx t]
theorem read4 (A : S4096x4096.Idx → EReal) (r : Fin 256) (f : Fin 4096) :
    (((cfg0.win 4).blk t).view.read (Elt Ideal) A (ix2 r f) : EReal) = A (ix2 (row ⟨t.val, tlt t⟩ r) f) := by
  blk_ext [idx t]
theorem place5 (r : Fin 256) (k : Fin 1024) : ((cfg0.win 5).blk t).view.emb (ix2 r k) = ix2 (row ⟨t.val, tlt t⟩ r) k := by
  blk_ext [idx t]
theorem place6 (r : Fin 256) (f : Fin 4096) : ((cfg0.win 6).blk t).view.emb (ix2 r f) = ix2 (row ⟨t.val, tlt t⟩ r) f := by
  blk_ext [idx t]
theorem place7 (k : Fin 1024) : ((cfg0.win 7).blk t).view.emb (ix2 0 k) = ix2 0 k := by
  blk_ext [idx t]

end Reads

/-! ## The arrays that the host computes -/

section Entry

variable (m : (ℓ : Loc nD τ sig) → Buf (Elt Ideal) ℓ) (c : Dev nD)

theorem down_at (A : FVec Ideal S4096x4096 .f32) (W : FVec Ideal S4096x1024 .f32) (y : Fin 4096) (k : Fin 1024) :
    (Host.dotGeneral dot_S4096x4096_S4096x1024_S4096x1024_1_0_0_1_n_n none A W : FVec Ideal S4096x1024 .f32) (ix2 y k)
      = ∑ f : Fin 4096, (A (ix2 y f) : EReal) * W (ix2 f k) := by
  pointwise

theorem V6_at {a : Fin 4096 → Fin 4096 → EReal} (ha : ∀ y f, (m ((c : Thread nD τ).loc main_arg1) (ix2 y f) : EReal) = a y f) (y f : Fin 4096) :
    (Gen.V m c main_v6 (ix2 y f) : EReal) = Norm.sq (a y f) := by
  simp only [Gen.V, Gen.hostOps0, Gen.hostOps0_1, Gen.hostOps0_2, Gen.hostOps0_3, List.flatten_cons, List.flatten_nil, List.append_nil, List.cons_append, List.nil_append]
  after_reads_simp
  simp -implicitDefEqProofs only [StableHlo.TRef.toBuf, StableHlo.TRef.ofBuf, cast_cast, cast_eq]
  clean_types
  pointwise
  have ha' : ∀ y f, (m (c, Proc.tc.devRef main_arg1) (ix2 y f) : EReal) = a y f := ha
  simp only [ha']
  rfl

theorem V2_at {a : Fin 4096 → Fin 4096 → EReal} {w : Fin 4096 → Fin 1024 → EReal} (ha : ∀ y f, (m ((c : Thread nD τ).loc main_arg1) (ix2 y f) : EReal) = a y f)
    (hw : ∀ f k, (m ((c : Thread nD τ).loc main_arg2) (ix2 f k) : EReal) = w f k) (y : Fin 4096) (k : Fin 1024) :
    (Gen.V m c main_v2 (ix2 y k) : EReal) = down a w y k := by
  simp only [Gen.V, Gen.hostOps0, Gen.hostOps0_1, Gen.hostOps0_2, Gen.hostOps0_3, List.flatten_cons, List.flatten_nil, List.append_nil, List.cons_append, List.nil_append]
  after_reads_simp
  simp -implicitDefEqProofs only [StableHlo.TRef.toBuf, StableHlo.TRef.ofBuf, cast_cast, cast_eq]
  clean_types
  refine (down_at _ _ _ _).trans ?_
  pointwise
  have ha' : ∀ y f, (m (c, Proc.tc.devRef main_arg1) (ix2 y f) : EReal) = a y f := ha
  have hw' : ∀ f k, (m (c, Proc.tc.devRef main_arg2) (ix2 f k) : EReal) = w f k := hw
  simp only [ha', hw']
  rfl

theorem V5_at {w : Fin 4096 → Fin 1024 → EReal}
    (hw : ∀ f k, (m ((c : Thread nD τ).loc main_arg2) (ix2 f k) : EReal) = w f k) (b : Fin 4) (f k : Fin 1024) :
    (Gen.V m c main_v5 (ix3 b ⟨2048 + f.val, by omega⟩ k) : EReal) = (w ⟨b.val * 1024 + f.val, by omega⟩ k) := by
  simp only [Gen.V, Gen.hostOps0, Gen.hostOps0_1, Gen.hostOps0_2, Gen.hostOps0_3, List.flatten_cons, List.flatten_nil, List.append_nil, List.cons_append, List.nil_append]
  after_reads_simp
  simp -implicitDefEqProofs only [StableHlo.TRef.toBuf, StableHlo.TRef.ofBuf, cast_cast, cast_eq]
  clean_types
  pointwise
  exact hw _ _

end Entry

/-! ## The arrays after the run -/

section Arrays

variable (m : (ℓ : Loc nD τ sig) → Buf (Elt Ideal) ℓ) (c : Dev nD)
  {e : Fin 4096 → Fin 1024 → EReal} {a : Fin 4096 → Fin 4096 → EReal} {w : Fin 4096 → Fin 1024 → EReal} {g : Fin 1024 → EReal}
  (he : ∀ y k, (m ((c : Thread nD τ).loc main_arg0) (ix2 y k) : EReal) = e y k)
  (ha : ∀ y f, (m ((c : Thread nD τ).loc main_arg1) (ix2 y f) : EReal) = a y f)
  (hw : ∀ f k, (m ((c : Thread nD τ).loc main_arg2) (ix2 f k) : EReal) = w f k)
  (hg : ∀ k, (m ((c : Thread nD τ).loc main_arg3) (ix2 0 k) : EReal) = g k)
  (t : Fin cfg0.N)

include he in
theorem in0 (r : Fin 256) (k : Fin 1024) : (iblk m c 0 t (ix2 r k) : EReal) = e (row ⟨t.val, tlt t⟩ r) k :=
  (read0 t (V m c main_arg0) r k).trans ((congrFun (V_main_arg0 m c) _).trans (he _ _))
include ha hw in
theorem in1 (r : Fin 256) (k : Fin 1024) : (iblk m c 1 t (ix2 r k) : EReal) = down a w (row ⟨t.val, tlt t⟩ r) k :=
  (read1 t (V m c main_v2) r k).trans (V2_at m c ha hw _ _)
include hg in
theorem in2 (k : Fin 1024) : (iblk m c 2 t (ix2 0 k) : EReal) = g k :=
  (read2 t (V m c main_arg3) k).trans ((congrFun (V_main_arg3 m c) _).trans (hg _))
include hw in
theorem in3 (b : Fin 4) (f k : Fin 1024) : (iblk m c 3 t (ix3 b f k) : EReal) = (w ⟨b.val * 1024 + f.val, by omega⟩ k) :=
  (read3 t (V m c main_v5) b f k).trans (V5_at m c hw _ _ _)
include ha in
theorem in4 (r : Fin 256) (f : Fin 4096) : (iblk m c 4 t (ix2 r f) : EReal) = Norm.sq (a (row ⟨t.val, tlt t⟩ r) f) :=
  (read4 t (V m c main_v6) r f).trans (V6_at m c ha _ _)

include he ha hw

theorem step7 (acc : FVec Ideal S1x1024 .f32) (j : S1x1024.Idx) :
    (k0_pay6 (F := Ideal) (iblk m c 0 t) (iblk m c 1 t) acc j : EReal)
      = acc j + ∑ r : Fin 256, Norm.dg (down a w (row ⟨t.val, tlt t⟩ r)) (e (row ⟨t.val, tlt t⟩ r)) (j 1) := by
  obtain ⟨k, rfl⟩ := split1 j
  exact dg_pay (in1 m c ha hw t) (in0 m c he t) acc k

theorem arr7 : (dats m 0 c).arrAt 7 cfg0.N = layG e a w := by
  refine (dats m 0 c).arrAt_eq_of_after_last 7 t0_15 (by decide +kernel) _ fun j => ?_
  blk_simp
  rw [after0_7, Pipeline.eq_sum_fin_of_reset_step_apply_last (fun n h => (outsAt0 m c n h).2.2) 16 (fun _ => 0)
    (fun t j => ∑ r : Fin 256, Norm.dg (down a w (row ⟨t.val, tlt t⟩ r)) (e (row ⟨t.val, tlt t⟩ r)) (j 1))
    (fun t h j => by
      rw [outsAt0_A m c t h]; frame_out
      refine (step7 m c he ha hw t _ j).trans (congrArg (· + _) ?_)
      obtain ⟨k, rfl⟩ := split1 j
      exact dg_zero k)
    (fun t h j => by rw [outsAt0_B m c t h]; frame_out; exact step7 m c he ha hw t _ j)
    (le_of_eq N_0) t0_15 rfl j, zero_add]
  have H : ∀ j : S1x1024.Idx, (∑ t : Fin cfg0.N, ∑ r : Fin 256, Norm.dg (down a w (row ⟨t.val, tlt t⟩ r)) (e (row ⟨t.val, tlt t⟩ r)) (j 1)) = layG e a w j := by
    intro j
    exact Fin.sum_mul_add_congr fun t r hl => rfl
  exact H j

include hg

theorem dd_block (r : Fin 256) (k : Fin 1024) :
    (k0_pay7 (F := Ideal) (iblk m c 0 t) (iblk m c 1 t) (iblk m c 2 t) (ix2 r k) : EReal) = outD e a w g (row ⟨t.val, tlt t⟩ r) k :=
  dd_pay (in1 m c ha hw t) (in0 m c he t) (in2 m c hg t) r k

theorem da_block (r : Fin 256) (f : Fin 4096) :
    (k0_pay1 (F := Ideal) (k0_pay7 (iblk m c 0 t) (iblk m c 1 t) (iblk m c 2 t)) (iblk m c 3 t) (iblk m c 4 t) (ix2 r f) : EReal)
      = outA e a w g (row ⟨t.val, tlt t⟩ r) f := by
  obtain ⟨b, h, rfl⟩ : ∃ (b : Fin 4) (h : Fin 1024), f = ⟨b.val * 1024 + h.val, by omega⟩ :=
    ⟨⟨f.val / 1024, by omega⟩, ⟨f.val % 1024, by omega⟩, Fin.ext (by dsimp only; omega)⟩
  exact da_pay (dd_block m c he ha hw hg t) (in3 m c hw t) (in4 m c ha t) r b h

theorem arr5 : (dats m 0 c).arrAt 5 cfg0.N = layD e a w g := by
  refine (dats m 0 c).arrAt_eq_of_covers 5 _ (by decide +kernel) fun t hf y => ?_
  have H : ∀ y : S256x1024.Idx, (k0_pay7 (F := Ideal) (iblk m c 0 t) (iblk m c 1 t) (iblk m c 2 t) y : EReal) = layD e a w g (((cfg0.win 5).blk t).view.emb y) := by
    intro y
    obtain ⟨r, k, rfl⟩ : ∃ (r : Fin 256) (k : Fin 1024), y = ix2 r k := ⟨_, _, eq_ix2 y⟩
    exact (dd_block m c he ha hw hg t r k).trans (congrArg (layD e a w g) (place5 t r k)).symm
  blk_simp
  rw [after0_5]
  by_cases h0 : t.val % 16 = 0
  · rw [outsAt0_A m c t h0]
    frame_out
    exact H y
  · rw [outsAt0_B m c t h0]
    frame_out
    exact H y

theorem arr6 : (dats m 0 c).arrAt 6 cfg0.N = layA e a w g := by
  refine (dats m 0 c).arrAt_eq_of_covers 6 _ (by decide +kernel) fun t hf y => ?_
  have H : ∀ y : S256x4096.Idx, (k0_pay1 (F := Ideal) (k0_pay7 (iblk m c 0 t) (iblk m c 1 t) (iblk m c 2 t)) (iblk m c 3 t) (iblk m c 4 t) y : EReal)
      = layA e a w g (((cfg0.win 6).blk t).view.emb y) := by
    intro y
    obtain ⟨r, f, rfl⟩ : ∃ (r : Fin 256) (f : Fin 4096), y = ix2 r f := ⟨_, _, eq_ix2 y⟩
    exact (da_block m c he ha hw hg t r f).trans (congrArg (layA e a w g) (place6 t r f)).symm
  blk_simp
  rw [after0_6]
  by_cases h0 : t.val % 16 = 0
  · rw [outsAt0_A m c t h0]
    frame_out
    exact H y
  · rw [outsAt0_B m c t h0]
    frame_out
    exact H y

end Arrays

end Cert.Kernel2Ideal.Flow

end
-- ==== Proof.Mlp.NormHost.lean ====
/-
The root-mean-square norm's gradient as the references compute it on the host.
-/
module

public import proofs.«01_k».proof.Proof.Norm
public import proofs.«01_k».proof.Proof.Gen.Reference2Ideal.Run
public import Idealize.ShloMosaic.Lib.Pointwise

@[expose] public section

set_option maxRecDepth 16384

noncomputable section

namespace Cert.Reference2Ideal.Flow

open Cert.Reference2Ideal Cert.Reference2Ideal.Gen Idealize.ShloMosaic Idealize.ShloMosaic.TcCoe Idealize.ShloMosaic.Tactic

/-- A number in every row. -/
abbrev every (b : BitVec 32) : FVec Ideal S4096x1 .f32 := broadcastInDim S4096x1 ![] bcast_S_S4096x1 (constant S_ .f32 b)

/-- A row's sum. -/
abbrev sumRow (x : FVec Ideal S4096x1024 .f32) : FVec Ideal S4096 .f32 := Host.reduceAdd x (constant S_ .f32 0x00000000#32) reducesTo_S4096x1024_S4096_d1 h_S_

/-- A row's number along the row. -/
abbrev alongRow (x : FVec Ideal S4096x1 .f32) : FVec Ideal S4096x1024 .f32 := broadcastInDim S4096x1024 ![0, 1] bcast_S4096x1_S4096x1024_0_1 x

/-- The rows times the gains. -/
abbrev gains (e : FVec Ideal S4096x1024 .f32) (g : FVec Ideal S1x1024 .f32) : FVec Ideal S4096x1024 .f32 :=
  mulf e (broadcastInDim S4096x1024 ![0, 1] bcast_S1x1024_S4096x1024_0_1 g)

/-- The mean squares, with epsilon. -/
def hM (x : FVec Ideal S4096x1024 .f32) : FVec Ideal S4096x1 .f32 :=
  addf (Host.divf (broadcastInDim S4096x1 ![0] bcast_S4096_S4096x1_0 (sumRow (mulf x x))) (every 0x44800000#32)) (every 0x358637BD#32)

/-- Their reciprocal roots. -/
def hR (x : FVec Ideal S4096x1024 .f32) : FVec Ideal S4096x1 .f32 := Host.rsqrt (hM x)

/-- The rows' factors. -/
def hB (x e : FVec Ideal S4096x1024 .f32) (g : FVec Ideal S1x1024 .f32) : FVec Ideal S4096x1 .f32 :=
  Host.divf (mulf (shapeCast S4096x1 (sumRow (mulf x (gains e g))) shapeCasts_S4096_S4096x1)
    (mulf (every 0xBF000000#32) (Host.divf (hR x) (hM x)))) (every 0x44800000#32)

/-- The factors along the rows. -/
def hC (x e : FVec Ideal S4096x1024 .f32) (g : FVec Ideal S1x1024 .f32) : FVec Ideal S4096x1024 .f32 :=
  broadcastInDim S4096x1024 ![0] bcast_S4096_S4096x1024_0 (Host.reduceAdd (hB x e g) (constant S_ .f32 0x00000000#32) reducesTo_S4096x1_S4096_d1 h_S_)

/-- The gradient at the rows. -/
def hX (x e : FVec Ideal S4096x1024 .f32) (g : FVec Ideal S1x1024 .f32) : FVec Ideal S4096x1024 .f32 :=
  addf (addf (mulf (gains e g) (alongRow (hR x))) (mulf x (hC x e g))) (mulf (hC x e g) x)

/-- The gains' gradient. -/
def hG (x e : FVec Ideal S4096x1024 .f32) : FVec Ideal S1x1024 .f32 :=
  shapeCast S1x1024 (Host.reduceAdd (mulf (mulf x (alongRow (hR x))) e) (constant S_ .f32 0x00000000#32) reducesTo_S4096x1024_S1024_d0 h_S_) shapeCasts_S1024_S1x1024

section Real

variable {X D : FVec Ideal S4096x1024 .f32} {G : FVec Ideal S1x1024 .f32} {x d : Fin 4096 → Fin 1024 → EReal} {g : Fin 1024 → EReal}
  (hx : ∀ y k, X (ix2 y k) = x y k) (hd : ∀ y k, D (ix2 y k) = d y k) (hg : ∀ k, G (ix2 0 k) = g k)

include hx

theorem hM_at (y : Fin 4096) : hM X (ix2 y 0) = Norm.ms (x y) := by
  unfold hM
  pointwise [hx]
  rfl

theorem hR_at (y : Fin 4096) : hR X (ix2 y 0) = Norm.rt (x y) := by
  unfold hR
  pointwise [hM_at hx]
  rfl

include hd

theorem hG_at (k : Fin 1024) : hG X D (ix2 0 k) = (∑ y, Norm.dg (x y) (d y) k) := by
  unfold hG
  pointwise [hR_at hx, hx, hd]
  refine Finset.sum_congr rfl fun y _ => ?_
  unfold Norm.dg
  rw [mul_comm (d y k)]

include hg

theorem hB_at (y : Fin 4096) : hB X D G (ix2 y 0) = Norm.back (x y) g (d y) := by
  unfold hB
  pointwise [hR_at hx, hM_at hx, hx, hd, hg]
  rfl

theorem hC_at (y : Fin 4096) (k : Fin 1024) : hC X D G (ix2 y k) = Norm.back (x y) g (d y) := by
  unfold hC
  pointwise
  exact (Fin.sum_univ_one _).trans (hB_at hx hd hg y)

theorem hX_at (y : Fin 4096) (k : Fin 1024) : hX X D G (ix2 y k) = Norm.dx (x y) g (d y) k := by
  unfold hX
  pointwise [hR_at hx, hC_at hx hd hg, hx, hd, hg]
  exact Norm.back_eq _ _ _ k

end Real

end Cert.Reference2Ideal.Flow

end
-- ==== Proof.Mlp.DownReference.lean ====
/-
The reference's gradients of the second half of the MLP.
-/
module

public import proofs.«01_k».proof.Proof.Mlp.DownArrays
public import proofs.«01_k».proof.Proof.Mlp.NormHost

@[expose] public section

set_option maxRecDepth 16384

noncomputable section

namespace Cert.Reference2Ideal.Flow

open Cert.Reference2Ideal Cert.Reference2Ideal.Gen Idealize.ShloMosaic Idealize.ShloMosaic.TcCoe Idealize.ShloMosaic.Tactic
open Cert.Kernel2Ideal.Flow (down outD outA outG layD layA layG split1)

/-- Zero everywhere. -/
abbrev zeros : FVec Ideal S4096x4096 .f32 := broadcastInDim S4096x4096 ![] bcast_S_S4096x4096 (constant S_ .f32 0x00000000#32)

/-- The rows that the norm takes. -/
def hD (A : FVec Ideal S4096x4096 .f32) (W : FVec Ideal S4096x1024 .f32) : FVec Ideal S4096x1024 .f32 :=
  Host.dotGeneral dot_S4096x4096_S4096x1024_S4096x1024_1_0_0_1_n_n none (mulf (maximumf A zeros) (maximumf A zeros)) W

/-- The gradient at the rows before the squared ReLU. -/
def hA (A : FVec Ideal S4096x4096 .f32) (W Y : FVec Ideal S4096x1024 .f32) : FVec Ideal S4096x4096 .f32 :=
  select (cmpf .ogt A zeros) (mulf (Host.dotGeneral dot_S4096x1024_S4096x1024_S4096x4096_1_1_0_0_n_n none Y W)
    (mulf (broadcastInDim S4096x4096 ![] bcast_S_S4096x4096 (constant S_ .f32 0x40000000#32)) (maximumf A zeros))) zeros

section Real

variable {A : FVec Ideal S4096x4096 .f32} {W Y : FVec Ideal S4096x1024 .f32} {a : Fin 4096 → Fin 4096 → EReal} {w y : Fin 4096 → Fin 1024 → EReal}
  (ha : ∀ r f, A (ix2 r f) = a r f) (hw : ∀ f k, W (ix2 f k) = w f k) (hy : ∀ r k, Y (ix2 r k) = y r k)

include ha hw

theorem hD_at (r : Fin 4096) (k : Fin 1024) : hD A W (ix2 r k) = down a w r k := by
  unfold hD
  pointwise
  simp only [ha, hw]
  rfl

include hy

theorem hA_at (r f : Fin 4096) : hA A W Y (ix2 r f) = ((∑ k, y r k * w f k) * (Ideal.ofBits .f32 0x40000000#32 * max (a r f) 0)) := by
  unfold hA
  pointwise
  simp only [ha, hw, hy]
  by_cases h : 0 < a r f
  · rw [if_pos h]
  · rw [if_neg h, max_eq_right (not_lt.mp h), mul_zero, mul_zero]

end Real

section Results

variable (m : (ℓ : Loc nD τ sig) → Buf (Elt Ideal) ℓ) (c : Dev nD)
  {e : Fin 4096 → Fin 1024 → EReal} {a : Fin 4096 → Fin 4096 → EReal} {w : Fin 4096 → Fin 1024 → EReal} {g : Fin 1024 → EReal}
  (he : ∀ y k, (m ((c : Thread nD τ).loc main_arg0) (ix2 y k) : EReal) = e y k)
  (ha : ∀ y f, (m ((c : Thread nD τ).loc main_arg1) (ix2 y f) : EReal) = a y f)
  (hw : ∀ f k, (m ((c : Thread nD τ).loc main_arg2) (ix2 f k) : EReal) = w f k)
  (hg : ∀ k, (m ((c : Thread nD τ).loc main_arg3) (ix2 0 k) : EReal) = g k)

theorem open0 : Value.res_main_v51 m c = truncf .bf16 (hX (hD (m ((c.tc : Thread nD τ).loc main_arg1)) (m ((c.tc : Thread nD τ).loc main_arg2)))
    (m ((c.tc : Thread nD τ).loc main_arg0)) (m ((c.tc : Thread nD τ).loc main_arg3))) bitsLt_bf16_f32 := by
  unfold Value.res_main_v51 hX hC hB hR hM hD
  rfl

theorem open1 : Value.res_main_v52 m c = truncf .bf16 (hA (m ((c.tc : Thread nD τ).loc main_arg1)) (m ((c.tc : Thread nD τ).loc main_arg2))
    (hX (hD (m ((c.tc : Thread nD τ).loc main_arg1)) (m ((c.tc : Thread nD τ).loc main_arg2)))
    (m ((c.tc : Thread nD τ).loc main_arg0)) (m ((c.tc : Thread nD τ).loc main_arg3)))) bitsLt_bf16_f32 := by
  unfold Value.res_main_v52 hA hX hC hB hR hM hD
  rfl

include he ha hw

theorem out2 : hG (hD (m ((c.tc : Thread nD τ).loc main_arg1)) (m ((c.tc : Thread nD τ).loc main_arg2))) (m ((c.tc : Thread nD τ).loc main_arg0)) = layG e a w := by
  funext j
  obtain ⟨k, rfl⟩ := split1 j
  exact hG_at (hD_at ha hw) he k

include hg

theorem out0 : Value.res_main_v51 m c = layD e a w g := by
  rw [open0]
  funext j
  obtain ⟨r, k, rfl⟩ : ∃ (r : Fin 4096) (k : Fin 1024), j = ix2 r k := ⟨_, _, eq_ix2 j⟩
  exact hX_at (hD_at ha hw) he hg r k

theorem out1 : Value.res_main_v52 m c = layA e a w g := by
  rw [open1]
  funext j
  obtain ⟨r, f, rfl⟩ : ∃ r f : Fin 4096, j = ix2 r f := ⟨_, _, eq_ix2 j⟩
  exact hA_at ha hw (hX_at (hD_at ha hw) he hg) r f

end Results

end Cert.Reference2Ideal.Flow

end
-- ==== Proof.Mlp.DownValue.lean ====
/-
The call `_bwd_mlp_down` and its reference end with the same three arrays.
-/
module

public import proofs.«01_k».proof.Proof.Mlp.DownReference
public import proofs.«01_k».proof.Defs

@[expose] public section

set_option maxRecDepth 16384

noncomputable section

namespace Cert.Proof

open Idealize.ShloMosaic Idealize.ShloMosaic.TcCoe Idealize.ShloMosaic.Tactic

/-- The elements of a matrix. -/
def elts {n k : ℕ} (a : (⟨2, ![n, k]⟩ : Shape).Idx → EReal) (y : Fin n) (x : Fin k) : EReal := a (ix2 y x)

/-- The equation of `_bwd_mlp_down`. -/
theorem algebraic2 : Cert.algebraic_Kernel2Ideal_Reference2Ideal := by
  intro m g m' g' _ hagree
  let e := fun c : Dev Cert.Kernel2Ideal.nD => elts (n := 4096) (k := 1024) (m ((c.tc : Thread Cert.Kernel2Ideal.nD Cert.Kernel2Ideal.τ).loc Cert.Kernel2Ideal.main_arg0))
  let a := fun c : Dev Cert.Kernel2Ideal.nD => elts (n := 4096) (k := 4096) (m ((c.tc : Thread Cert.Kernel2Ideal.nD Cert.Kernel2Ideal.τ).loc Cert.Kernel2Ideal.main_arg1))
  let w := fun c : Dev Cert.Kernel2Ideal.nD => elts (n := 4096) (k := 1024) (m ((c.tc : Thread Cert.Kernel2Ideal.nD Cert.Kernel2Ideal.τ).loc Cert.Kernel2Ideal.main_arg2))
  let γ := fun c : Dev Cert.Kernel2Ideal.nD => elts (n := 1) (k := 1024) (m ((c.tc : Thread Cert.Kernel2Ideal.nD Cert.Kernel2Ideal.τ).loc Cert.Kernel2Ideal.main_arg3)) 0
  have read : ∀ c : Dev Cert.Kernel2Ideal.nD,
      (∀ y k, (m ((c.tc : Thread Cert.Kernel2Ideal.nD Cert.Kernel2Ideal.τ).loc Cert.Kernel2Ideal.main_arg0) (ix2 y k) : EReal) = e c y k)
      ∧ (∀ y k, (m ((c.tc : Thread Cert.Kernel2Ideal.nD Cert.Kernel2Ideal.τ).loc Cert.Kernel2Ideal.main_arg1) (ix2 y k) : EReal) = a c y k)
      ∧ (∀ y k, (m ((c.tc : Thread Cert.Kernel2Ideal.nD Cert.Kernel2Ideal.τ).loc Cert.Kernel2Ideal.main_arg2) (ix2 y k) : EReal) = w c y k)
      ∧ (∀ k, (m ((c.tc : Thread Cert.Kernel2Ideal.nD Cert.Kernel2Ideal.τ).loc Cert.Kernel2Ideal.main_arg3) (ix2 0 k) : EReal) = γ c k) := fun c =>
    ⟨fun _ _ => rfl, fun _ _ => rfl, fun _ _ => rfl, fun _ => rfl⟩
  refine ⟨fun c => Cert.Kernel2Ideal.Flow.layD (e c) (a c) (w c) (γ c), fun c => Cert.Kernel2Ideal.Flow.layA (e c) (a c) (w c) (γ c),
    fun c => Cert.Kernel2Ideal.Flow.layG (e c) (a c) (w c), ?_, ?_⟩
  · refine (θ_run Cert.Kernel2Ideal.defs _ _).mono (fun r h c => ?_) (Cert.Kernel2Ideal.Value.run_blocks m g)
    obtain ⟨r0, r1, r2, r3⟩ := read c
    obtain ⟨e0, e1, e2, er⟩ := h c
    exact ⟨e0.trans (Cert.Kernel2Ideal.Flow.arr5 m c r0 r1 r2 r3), e1.trans (Cert.Kernel2Ideal.Flow.arr6 m c r0 r1 r2 r3),
      e2.trans (Cert.Kernel2Ideal.Flow.arr7 m c r0 r1 r2), er⟩
  · refine (θ_run Cert.Reference2Ideal.defs _ _).mono (fun r h c => ?_) (Cert.Reference2Ideal.Value.run m' g')
    obtain ⟨r0, r1, r2, r3⟩ := read c
    obtain ⟨a0, a1, a2, a3⟩ := hagree c
    have q0 : ∀ y k, (m' ((c.tc : Thread Cert.Reference2Ideal.nD Cert.Reference2Ideal.τ).loc Cert.Reference2Ideal.main_arg0) (ix2 y k) : EReal) = e c y k := fun y k => (congrFun a0 (ix2 y k)).trans (r0 y k)
    have q1 : ∀ y k, (m' ((c.tc : Thread Cert.Reference2Ideal.nD Cert.Reference2Ideal.τ).loc Cert.Reference2Ideal.main_arg1) (ix2 y k) : EReal) = a c y k := fun y k => (congrFun a1 (ix2 y k)).trans (r1 y k)
    have q2 : ∀ y k, (m' ((c.tc : Thread Cert.Reference2Ideal.nD Cert.Reference2Ideal.τ).loc Cert.Reference2Ideal.main_arg2) (ix2 y k) : EReal) = w c y k := fun y k => (congrFun a2 (ix2 y k)).trans (r2 y k)
    have q3 : ∀ k, (m' ((c.tc : Thread Cert.Reference2Ideal.nD Cert.Reference2Ideal.τ).loc Cert.Reference2Ideal.main_arg3) (ix2 0 k) : EReal) = γ c k := fun k => (congrFun a3 (ix2 0 k)).trans (r3 k)
    obtain ⟨e0, e1, e2, er⟩ := h c
    exact ⟨e0.trans (Cert.Reference2Ideal.Flow.out0 m' c q0 q1 q2 q3), e1.trans (Cert.Reference2Ideal.Flow.out1 m' c q0 q1 q2 q3),
      e2.trans (Cert.Reference2Ideal.Flow.out2 m' c q0 q1 q2), er⟩

end Cert.Proof

end
-- ==== Proof.Mlp.UpBlock.lean ====
/-
What the call `_bwd_mlp_up` stores in one step, read element by element.
-/
module

public import proofs.«01_k».proof.Proof.Norm
public import proofs.«01_k».proof.Proof.Gen.Kernel3Ideal.Value
public import Idealize.ShloMosaic.Lib.Pointwise
public import Idealize.ShloMosaic.Lib.Pipeline.ValueKit

@[expose] public section

set_option maxRecDepth 16384

noncomputable section

namespace Cert.Kernel3Ideal.Flow

open Idealize.ShloMosaic Idealize.ShloMosaic.TcCoe Idealize.ShloMosaic.Tactic
open Cert.Kernel3Ideal.Gen

variable {X D E : FVec Ideal S256x1024 .f32} {G : FVec Ideal S1x1024 .f32} {x d e : Fin 256 → Fin 1024 → EReal} {g : Fin 1024 → EReal}

theorem rt_pay (hx : ∀ r k, X (ix2 r k) = x r k) (r : Fin 256) :
    k0_pay1 (F := Ideal) X (ix2 r 0) = Norm.rt (x r) := by
  pointwise [k0_pay1, hx]
  rfl

theorem xn_pay (hx : ∀ r k, X (ix2 r k) = x r k) (r : Fin 256) (k : Fin 1024) :
    k0_pay2 (F := Ideal) X (ix2 r k) = x r k * Norm.rt (x r) := by
  pointwise [k0_pay2, hx]
  rw [rt_pay hx]

theorem dg_pay (hx : ∀ r k, X (ix2 r k) = x r k) (hd : ∀ r k, D (ix2 r k) = d r k) (acc : FVec Ideal S1x1024 .f32) (k : Fin 1024) :
    k0_pay3 (F := Ideal) D X acc (ix2 0 k) = acc (ix2 0 k) + ∑ r, Norm.dg (x r) (d r) k := by
  pointwise [k0_pay3, xn_pay hx, hd]
  rfl

theorem dg_zero (k : Fin 1024) : k0_pay5 (F := Ideal) (ix2 0 k) = 0 := by
  pointwise [k0_pay5]

theorem dx_pay (hx : ∀ r k, X (ix2 r k) = x r k) (hd : ∀ r k, D (ix2 r k) = d r k) (hg : ∀ k, G (ix2 0 k) = g k)
    (he : ∀ r k, E (ix2 r k) = e r k)
    (r : Fin 256) (k : Fin 1024) : k0_pay4 (F := Ideal) D X G E (ix2 r k) = (e r k + Norm.dx (x r) g (d r) k) := by
  pointwise [k0_pay4, xn_pay hx, rt_pay hx, hd, hg, he]
  rfl

theorem dh_pay {A0 A1 A2 A3 : FVec Ideal S256x1024 .bf16} {W0 W1 W2 W3 : FVec Ideal S1x1024x1024 .bf16} {a : Fin 256 → Fin 4096 → EReal} {w : Fin 1024 → Fin 4096 → EReal}
    (h0 : ∀ r f, A0 (ix2 r f) = (a r ⟨0 * 1024 + f.val, by omega⟩)) (h1 : ∀ r f, A1 (ix2 r f) = (a r ⟨1 * 1024 + f.val, by omega⟩))
    (h2 : ∀ r f, A2 (ix2 r f) = (a r ⟨2 * 1024 + f.val, by omega⟩)) (h3 : ∀ r f, A3 (ix2 r f) = (a r ⟨3 * 1024 + f.val, by omega⟩))
    (w0 : ∀ k f, W0 (ix3 0 k f) = (w k ⟨0 * 1024 + f.val, by omega⟩)) (w1 : ∀ k f, W1 (ix3 0 k f) = (w k ⟨1 * 1024 + f.val, by omega⟩))
    (w2 : ∀ k f, W2 (ix3 0 k f) = (w k ⟨2 * 1024 + f.val, by omega⟩)) (w3 : ∀ k f, W3 (ix3 0 k f) = (w k ⟨3 * 1024 + f.val, by omega⟩))
    (r : Fin 256) (k : Fin 1024) : k0_pay6 (F := Ideal) A0 W0 A1 W1 A2 W2 A3 W3 (ix2 r k) = (∑ f, a r f * w k f) := by
  pointwise [k0_pay6]
  simp only [h0, h1, h2, h3, w0, w1, w2, w3]
  refine Eq.trans ?_ (Fin.sum_mul_add_congr (S := 4) (n := 1024) (F := fun (b : Fin 4) (f : Fin 1024) => a r ⟨b.val * 1024 + f.val, by omega⟩ * w k ⟨b.val * 1024 + f.val, by omega⟩) fun b f h => rfl)
  rw [Fin.sum_univ_four]
  rfl

end Cert.Kernel3Ideal.Flow

end
-- ==== Proof.Mlp.UpArrays.lean ====
/-
The arrays that the call `_bwd_mlp_up` takes and leaves.
-/
module

public import proofs.«01_k».proof.Proof.Mlp.UpBlock
public import Idealize.ShloMosaic.Lib.StableHlo.ReadAt
public import Idealize.ShloMosaic.Lib.KernelVsHost
public import Idealize.ShloMosaic.Lib.Pipeline.ValueKit

@[expose] public section

set_option maxRecDepth 16384

noncomputable section

namespace Cert.Kernel3Ideal.Flow

open Idealize.ShloMosaic Idealize.ShloMosaic.TcCoe Idealize.ShloMosaic.Tactic
open Cert.Kernel3Ideal.Gen

/-! ## The results, over the extended reals -/

section Results

variable (e : Fin 4096 → Fin 1024 → EReal) (d : Fin 4096 → Fin 4096 → EReal) (x : Fin 4096 → Fin 1024 → EReal) (g : Fin 1024 → EReal) (w : Fin 1024 → Fin 4096 → EReal)

/-- The gradient at the norm's result. -/
def dh (y : Fin 4096) (k : Fin 1024) : EReal := ∑ f, d y f * w k f
/-- The gradient at the residual rows. -/
def outX (y : Fin 4096) (k : Fin 1024) : EReal := e y k + Norm.dx (x y) g (dh d w y) k
/-- The gradient of the gains. -/
def outG (k : Fin 1024) : EReal := ∑ y, Norm.dg (x y) (dh d w y) k

def layX : S4096x1024.Idx → EReal := fun i => outX e d x g w (i 0) (i 1)
def layG : S1x1024.Idx → EReal := fun i => outG d x w (i 1)

end Results

theorem split1 (j : S1x1024.Idx) : ∃ k : Fin 1024, j = ix2 0 k :=
  ⟨j 1, by
    funext a
    fin_cases a
    · exact Subsingleton.elim (α := Fin 1) _ _
    · rfl⟩

/-- A row of a block of 256. -/
abbrev row (t : Fin 16) (r : Fin 256) : Fin 4096 := ⟨t.val * 256 + r.val, by omega⟩

theorem idx : ∀ t : Fin cfg0.N,
    win0_0.index t = ![t.val, 0] ∧ win0_1.index t = ![0, 1, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

theorem tlt (t : Fin cfg0.N) : t.val < 16 := t.isLt

/-! ## A block read off its array -/

section Reads

variable (t : Fin cfg0.N)

theorem read0 (A : S4096x4096.Idx → EReal) (r : Fin 256) (f : Fin 4096) :
    (((cfg0.win 0).blk t).view.read (Elt Ideal) A (ix2 r f) : EReal) = A (ix2 (row ⟨t.val, tlt t⟩ r) f) := by
  blk_ext [idx t]
theorem read1 (A : S4x3072x1024.Idx → EReal) (b : Fin 4) (f k : Fin 1024) :
    (((cfg0.win 1).blk t).view.read (Elt Ideal) A (ix3 b f k) : EReal) = A (ix3 b ⟨1024 + f.val, by omega⟩ k) := by
  blk_ext [idx t]
theorem read2 (A : S4096x1024.Idx → EReal) (r : Fin 256) (k : Fin 1024) :
    (((cfg0.win 2).blk t).view.read (Elt Ideal) A (ix2 r k) : EReal) = A (ix2 (row ⟨t.val, tlt t⟩ r) k) := by
  blk_ext [idx t]
theorem read3 (A : S1x1024.Idx → EReal) (k : Fin 1024) :
    (((cfg0.win 3).blk t).view.read (Elt Ideal) A (ix2 0 k) : EReal) = A (ix2 0 k) := by
  blk_ext [idx t]
theorem read4 (A : S4096x1024.Idx → EReal) (r : Fin 256) (k : Fin 1024) :
    (((cfg0.win 4).blk t).view.read (Elt Ideal) A (ix2 r k) : EReal) = A (ix2 (row ⟨t.val, tlt t⟩ r) k) := by
  blk_ext [idx t]
theorem place5 (r : Fin 256) (k : Fin 1024) : ((cfg0.win 5).blk t).view.emb (ix2 r k) = ix2 (row ⟨t.val, tlt t⟩ r) k := by
  blk_ext [idx t]

end Reads

/-! ## The arrays that the host computes -/

section Entry

variable (m : (ℓ : Loc nD τ sig) → Buf (Elt Ideal) ℓ) (c : Dev nD)

theorem V4_at {d : Fin 4096 → Fin 4096 → EReal} (hd : ∀ y f, (m ((c : Thread nD τ).loc main_arg1) (ix2 y f) : EReal) = d y f) (y f : Fin 4096) :
    (Gen.V m c main_v4 (ix2 y f) : EReal) = d y f := by
  simp only [Gen.V, Gen.hostOps0, Gen.hostOps0_1, Gen.hostOps0_2, List.flatten_cons, List.flatten_nil, List.append_nil, List.cons_append, List.nil_append]
  after_reads_simp
  clean_types
  pointwise
  exact hd y f

theorem V3_at {w : Fin 1024 → Fin 4096 → EReal}
    (hw : ∀ k f, (m ((c : Thread nD τ).loc main_arg4) (ix2 k f) : EReal) = w k f) (b : Fin 4) (k f : Fin 1024) :
    (Gen.V m c main_v3 (ix3 b ⟨1024 + k.val, by omega⟩ f) : EReal) = (w k ⟨b.val * 1024 + f.val, by omega⟩) := by
  simp only [Gen.V, Gen.hostOps0, Gen.hostOps0_1, Gen.hostOps0_2, List.flatten_cons, List.flatten_nil, List.append_nil, List.cons_append, List.nil_append]
  after_reads_simp
  simp -implicitDefEqProofs only [StableHlo.TRef.toBuf, StableHlo.TRef.ofBuf, cast_cast, cast_eq]
  clean_types
  pointwise
  exact hw _ _

end Entry

/-! ## The arrays after the run -/

section Arrays

variable (m : (ℓ : Loc nD τ sig) → Buf (Elt Ideal) ℓ) (c : Dev nD)
  {e : Fin 4096 → Fin 1024 → EReal} {d : Fin 4096 → Fin 4096 → EReal} {x : Fin 4096 → Fin 1024 → EReal} {g : Fin 1024 → EReal} {w : Fin 1024 → Fin 4096 → EReal}
  (he : ∀ y k, (m ((c : Thread nD τ).loc main_arg0) (ix2 y k) : EReal) = e y k)
  (hd : ∀ y f, (m ((c : Thread nD τ).loc main_arg1) (ix2 y f) : EReal) = d y f)
  (hx : ∀ y k, (m ((c : Thread nD τ).loc main_arg2) (ix2 y k) : EReal) = x y k)
  (hg : ∀ k, (m ((c : Thread nD τ).loc main_arg3) (ix2 0 k) : EReal) = g k)
  (hw : ∀ k f, (m ((c : Thread nD τ).loc main_arg4) (ix2 k f) : EReal) = w k f)
  (t : Fin cfg0.N)

include hd in
theorem in0 (r : Fin 256) (f : Fin 4096) : (iblk m c 0 t (ix2 r f) : EReal) = d (row ⟨t.val, tlt t⟩ r) f :=
  (read0 t (V m c main_v4) r f).trans (V4_at m c hd _ _)
include hw in
theorem in1 (b : Fin 4) (k f : Fin 1024) : (iblk m c 1 t (ix3 b k f) : EReal) = (w k ⟨b.val * 1024 + f.val, by omega⟩) :=
  (read1 t (V m c main_v3) b k f).trans (V3_at m c hw _ _ _)
include hx in
theorem in2 (r : Fin 256) (k : Fin 1024) : (iblk m c 2 t (ix2 r k) : EReal) = x (row ⟨t.val, tlt t⟩ r) k :=
  (read2 t (V m c main_arg2) r k).trans ((congrFun (V_main_arg2 m c) _).trans (hx _ _))
include hg in
theorem in3 (k : Fin 1024) : (iblk m c 3 t (ix2 0 k) : EReal) = g k :=
  (read3 t (V m c main_arg3) k).trans ((congrFun (V_main_arg3 m c) _).trans (hg _))
include he in
theorem in4 (r : Fin 256) (k : Fin 1024) : (iblk m c 4 t (ix2 r k) : EReal) = e (row ⟨t.val, tlt t⟩ r) k :=
  (read4 t (V m c main_arg0) r k).trans ((congrFun (V_main_arg0 m c) _).trans (he _ _))

/-- The gradient at the norm's result, of one block of rows. -/
abbrev blockH : FVec Ideal S256x1024 .f32 :=
  k0_pay6 (F := Ideal) (View.ld (iblk m c 0 t) (Rect.unit ![0, 0] ![256, 1024] inb_S256x4096_S256x1024_0_0)) (View.ld (iblk m c 1 t) (Rect.unit ![0, 0, 0] ![1, 1024, 1024] inb_S4x1024x1024_S1x1024x1024_0_0_0)) (View.ld (iblk m c 0 t) (Rect.unit ![0, 1024] ![256, 1024] inb_S256x4096_S256x1024_0_1024)) (View.ld (iblk m c 1 t) (Rect.unit ![1, 0, 0] ![1, 1024, 1024] inb_S4x1024x1024_S1x1024x1024_1_0_0)) (View.ld (iblk m c 0 t) (Rect.unit ![0, 2048] ![256, 1024] inb_S256x4096_S256x1024_0_2048)) (View.ld (iblk m c 1 t) (Rect.unit ![2, 0, 0] ![1, 1024, 1024] inb_S4x1024x1024_S1x1024x1024_2_0_0)) (View.ld (iblk m c 0 t) (Rect.unit ![0, 3072] ![256, 1024] inb_S256x4096_S256x1024_0_3072)) (View.ld (iblk m c 1 t) (Rect.unit ![3, 0, 0] ![1, 1024, 1024] inb_S4x1024x1024_S1x1024x1024_3_0_0))

include hd in
theorem cols_block (b : Fin 4) {o : ℕ} (ho : o = b.val * 1024) (inb) (r : Fin 256) (f : Fin 1024) :
    (View.ld (iblk m c 0 t) (Rect.unit ![0, o] ![256, 1024] inb) (ix2 r f) : EReal) = (d (row ⟨t.val, tlt t⟩ r) ⟨b.val * 1024 + f.val, by omega⟩) := by
  subst ho
  refine (View.ld_unit_apply_of (iblk m c 0 t) _ _ inb (ix2 r f) (ix2 r ⟨b.val * 1024 + f.val, by omega⟩) fun a => ?_).trans (in0 m c hd t r _)
  fin_cases a
  · exact (Nat.zero_add _).symm
  · rfl

include hw in
theorem wt_block (b : Fin 4) {o : ℕ} (ho : o = b.val) (inb) (k f : Fin 1024) :
    (View.ld (iblk m c 1 t) (Rect.unit ![o, 0, 0] ![1, 1024, 1024] inb) (ix3 0 k f) : EReal) = (w k ⟨b.val * 1024 + f.val, by omega⟩) := by
  subst ho
  refine (View.ld_unit_apply_of (iblk m c 1 t) _ _ inb (ix3 0 k f) (ix3 b k f) fun a => ?_).trans (in1 m c hw t b k f)
  fin_cases a
  · rfl
  · exact (Nat.zero_add _).symm
  · exact (Nat.zero_add _).symm

include hd hw

theorem dh_block (r : Fin 256) (k : Fin 1024) : (blockH m c t (ix2 r k) : EReal) = dh d w (row ⟨t.val, tlt t⟩ r) k :=
  dh_pay (a := fun r => d (row ⟨t.val, tlt t⟩ r)) (w := w)
    (cols_block m c hd t 0 rfl _) (cols_block m c hd t 1 rfl _) (cols_block m c hd t 2 rfl _) (cols_block m c hd t 3 rfl _)
    (wt_block m c hw t 0 rfl _) (wt_block m c hw t 1 rfl _) (wt_block m c hw t 2 rfl _) (wt_block m c hw t 3 rfl _) r k

include hx

theorem step6 (acc : FVec Ideal S1x1024 .f32) (j : S1x1024.Idx) :
    (k0_pay3 (F := Ideal) (blockH m c t) (iblk m c 2 t) acc j : EReal)
      = acc j + ∑ r : Fin 256, Norm.dg (x (row ⟨t.val, tlt t⟩ r)) (dh d w (row ⟨t.val, tlt t⟩ r)) (j 1) := by
  obtain ⟨k, rfl⟩ := split1 j
  exact dg_pay (in2 m c hx t) (dh_block m c hd hw t) acc k

theorem arr6 : (dats m 0 c).arrAt 6 cfg0.N = layG d x w := by
  refine (dats m 0 c).arrAt_eq_of_after_last 6 t0_15 (by decide +kernel) _ fun j => ?_
  blk_simp
  rw [after0_6, Pipeline.eq_sum_fin_of_reset_step_apply_last (fun n h => (outsAt0 m c n h).2) 16 (fun _ => 0)
    (fun t j => ∑ r : Fin 256, Norm.dg (x (row ⟨t.val, tlt t⟩ r)) (dh d w (row ⟨t.val, tlt t⟩ r)) (j 1))
    (fun t h j => by
      rw [outsAt0_A m c t h]; frame_out
      refine (step6 m c hd hx hw t _ j).trans (congrArg (· + _) ?_)
      obtain ⟨k, rfl⟩ := split1 j
      exact dg_zero k)
    (fun t h j => by rw [outsAt0_B m c t h]; frame_out; exact step6 m c hd hx hw t _ j)
    (le_of_eq N_0) t0_15 rfl j, zero_add]
  have H : ∀ j : S1x1024.Idx, (∑ t : Fin cfg0.N, ∑ r : Fin 256, Norm.dg (x (row ⟨t.val, tlt t⟩ r)) (dh d w (row ⟨t.val, tlt t⟩ r)) (j 1)) = layG d x w j := by
    intro j
    exact Fin.sum_mul_add_congr fun t r hl => rfl
  exact H j

include he hg

theorem dx_block (r : Fin 256) (k : Fin 1024) :
    (k0_pay4 (F := Ideal) (blockH m c t) (iblk m c 2 t) (iblk m c 3 t) (iblk m c 4 t) (ix2 r k) : EReal) = outX e d x g w (row ⟨t.val, tlt t⟩ r) k :=
  dx_pay (in2 m c hx t) (dh_block m c hd hw t) (in3 m c hg t) (in4 m c he t) r k

theorem arr5 : (dats m 0 c).arrAt 5 cfg0.N = layX e d x g w := by
  refine (dats m 0 c).arrAt_eq_of_covers 5 _ (by decide +kernel) fun t hf y => ?_
  have H : ∀ y : S256x1024.Idx, (k0_pay4 (F := Ideal) (blockH m c t) (iblk m c 2 t) (iblk m c 3 t) (iblk m c 4 t) y : EReal)
      = layX e d x g w (((cfg0.win 5).blk t).view.emb y) := by
    intro y
    obtain ⟨r, k, rfl⟩ : ∃ (r : Fin 256) (k : Fin 1024), y = ix2 r k := ⟨_, _, eq_ix2 y⟩
    exact (dx_block m c he hd hx hg hw t r k).trans (congrArg (layX e d x g w) (place5 t r k)).symm
  blk_simp
  rw [after0_5]
  by_cases h0 : t.val % 16 = 0
  · rw [outsAt0_A m c t h0]
    frame_out
    exact H y
  · rw [outsAt0_B m c t h0]
    frame_out
    exact H y

end Arrays

end Cert.Kernel3Ideal.Flow

end
-- ==== Proof.Mlp.UpReference.lean ====
/-
The reference's gradients of the first half of the MLP.
-/
module

public import proofs.«01_k».proof.Proof.Mlp.UpArrays
public import proofs.«01_k».proof.Proof.Mlp.NormHost
public import proofs.«01_k».proof.Proof.Gen.Reference3Ideal.Run

@[expose] public section

set_option maxRecDepth 16384

noncomputable section

namespace Cert.Reference3Ideal.Flow

open Cert.Reference3Ideal Cert.Reference3Ideal.Gen Idealize.ShloMosaic Idealize.ShloMosaic.TcCoe Idealize.ShloMosaic.Tactic
open Cert.Kernel3Ideal.Flow (dh outX outG layX layG split1)
open Cert.Reference2Ideal.Flow (hM hR hB hC hG alongRow gains hR_at hC_at hG_at)

/-- The gradient at the norm's result. -/
def hH (D : FVec Ideal S4096x4096 .f32) (W : FVec Ideal S1024x4096 .f32) : FVec Ideal S4096x1024 .f32 :=
  Host.dotGeneral dot_S4096x4096_S1024x4096_S4096x1024_1_1_0_0_n_n none D W

theorem hH_at {D : FVec Ideal S4096x4096 .f32} {W : FVec Ideal S1024x4096 .f32} {d : Fin 4096 → Fin 4096 → EReal} {w : Fin 1024 → Fin 4096 → EReal}
    (hd : ∀ r f, D (ix2 r f) = d r f) (hw : ∀ k f, W (ix2 k f) = w k f) (r : Fin 4096) (k : Fin 1024) :
    hH D W (ix2 r k) = dh d w r k := by
  unfold hH
  pointwise
  simp only [hd, hw]
  rfl

/-- The gradient at the residual rows. -/
def hY (E X H : FVec Ideal S4096x1024 .f32) (G : FVec Ideal S1x1024 .f32) : FVec Ideal S4096x1024 .f32 :=
  addf (addf (addf E (mulf (gains H G) (alongRow (hR X)))) (mulf X (hC X H G))) (mulf (hC X H G) X)

theorem hY_at {E X H : FVec Ideal S4096x1024 .f32} {G : FVec Ideal S1x1024 .f32} {e x h : Fin 4096 → Fin 1024 → EReal} {g : Fin 1024 → EReal}
    (he : ∀ y k, E (ix2 y k) = e y k) (hx : ∀ y k, X (ix2 y k) = x y k) (hh : ∀ y k, H (ix2 y k) = h y k)
    (hg : ∀ k, G (ix2 0 k) = g k) (y : Fin 4096) (k : Fin 1024) :
    hY E X H G (ix2 y k) = (e y k + Norm.dx (x y) g (h y) k) := by
  unfold hY
  pointwise [hR_at hx, hC_at hx hh hg, hx, hh, hg, he]
  rw [← Norm.back_eq, ← add_assoc, ← add_assoc]

section Results

variable (m : (ℓ : Loc nD τ sig) → Buf (Elt Ideal) ℓ) (c : Dev nD)
  {e : Fin 4096 → Fin 1024 → EReal} {d : Fin 4096 → Fin 4096 → EReal} {x : Fin 4096 → Fin 1024 → EReal} {g : Fin 1024 → EReal} {w : Fin 1024 → Fin 4096 → EReal}
  (he : ∀ y k, (m ((c : Thread nD τ).loc main_arg0) (ix2 y k) : EReal) = e y k)
  (hd : ∀ y f, (m ((c : Thread nD τ).loc main_arg1) (ix2 y f) : EReal) = d y f)
  (hx : ∀ y k, (m ((c : Thread nD τ).loc main_arg2) (ix2 y k) : EReal) = x y k)
  (hg : ∀ k, (m ((c : Thread nD τ).loc main_arg3) (ix2 0 k) : EReal) = g k)
  (hw : ∀ k f, (m ((c : Thread nD τ).loc main_arg4) (ix2 k f) : EReal) = w k f)

theorem open0 : Value.res_main_v38 m c = hY (m ((c.tc : Thread nD τ).loc main_arg0)) (m ((c.tc : Thread nD τ).loc main_arg2))
    (hH (m ((c.tc : Thread nD τ).loc main_arg1)) (m ((c.tc : Thread nD τ).loc main_arg4))) (m ((c.tc : Thread nD τ).loc main_arg3)) := by
  unfold Value.res_main_v38 hY hC hB hR hM hH
  rfl

include hd hx hw

theorem out1 : hG (m ((c.tc : Thread nD τ).loc main_arg2)) (hH (m ((c.tc : Thread nD τ).loc main_arg1)) (m ((c.tc : Thread nD τ).loc main_arg4))) = layG d x w := by
  funext j
  obtain ⟨k, rfl⟩ := split1 j
  exact hG_at hx (hH_at hd hw) k

include he hg

theorem out0 : Value.res_main_v38 m c = layX e d x g w := by
  rw [open0]
  funext j
  obtain ⟨r, k, rfl⟩ : ∃ (r : Fin 4096) (k : Fin 1024), j = ix2 r k := ⟨_, _, eq_ix2 j⟩
  exact hY_at he hx (hH_at hd hw) hg r k

end Results

end Cert.Reference3Ideal.Flow

end
-- ==== Proof.Mlp.UpValue.lean ====
/-
The call `_bwd_mlp_up` and its reference end with the same two arrays.
-/
module

public import proofs.«01_k».proof.Proof.Mlp.DownValue
public import proofs.«01_k».proof.Proof.Mlp.UpReference
public import proofs.«01_k».proof.Defs

@[expose] public section

set_option maxRecDepth 16384

noncomputable section

namespace Cert.Proof

open Idealize.ShloMosaic Idealize.ShloMosaic.TcCoe Idealize.ShloMosaic.Tactic

/-- The equation of `_bwd_mlp_up`. -/
theorem algebraic3 : Cert.algebraic_Kernel3Ideal_Reference3Ideal := by
  intro m g m' g' _ hagree
  let e := fun c : Dev Cert.Kernel3Ideal.nD => elts (n := 4096) (k := 1024) (m ((c.tc : Thread Cert.Kernel3Ideal.nD Cert.Kernel3Ideal.τ).loc Cert.Kernel3Ideal.main_arg0))
  let d := fun c : Dev Cert.Kernel3Ideal.nD => elts (n := 4096) (k := 4096) (m ((c.tc : Thread Cert.Kernel3Ideal.nD Cert.Kernel3Ideal.τ).loc Cert.Kernel3Ideal.main_arg1))
  let x := fun c : Dev Cert.Kernel3Ideal.nD => elts (n := 4096) (k := 1024) (m ((c.tc : Thread Cert.Kernel3Ideal.nD Cert.Kernel3Ideal.τ).loc Cert.Kernel3Ideal.main_arg2))
  let γ := fun c : Dev Cert.Kernel3Ideal.nD => elts (n := 1) (k := 1024) (m ((c.tc : Thread Cert.Kernel3Ideal.nD Cert.Kernel3Ideal.τ).loc Cert.Kernel3Ideal.main_arg3)) 0
  let w := fun c : Dev Cert.Kernel3Ideal.nD => elts (n := 1024) (k := 4096) (m ((c.tc : Thread Cert.Kernel3Ideal.nD Cert.Kernel3Ideal.τ).loc Cert.Kernel3Ideal.main_arg4))
  have read : ∀ c : Dev Cert.Kernel3Ideal.nD,
      (∀ y k, (m ((c.tc : Thread Cert.Kernel3Ideal.nD Cert.Kernel3Ideal.τ).loc Cert.Kernel3Ideal.main_arg0) (ix2 y k) : EReal) = e c y k)
      ∧ (∀ y k, (m ((c.tc : Thread Cert.Kernel3Ideal.nD Cert.Kernel3Ideal.τ).loc Cert.Kernel3Ideal.main_arg1) (ix2 y k) : EReal) = d c y k)
      ∧ (∀ y k, (m ((c.tc : Thread Cert.Kernel3Ideal.nD Cert.Kernel3Ideal.τ).loc Cert.Kernel3Ideal.main_arg2) (ix2 y k) : EReal) = x c y k)
      ∧ (∀ k, (m ((c.tc : Thread Cert.Kernel3Ideal.nD Cert.Kernel3Ideal.τ).loc Cert.Kernel3Ideal.main_arg3) (ix2 0 k) : EReal) = γ c k)
      ∧ (∀ y k, (m ((c.tc : Thread Cert.Kernel3Ideal.nD Cert.Kernel3Ideal.τ).loc Cert.Kernel3Ideal.main_arg4) (ix2 y k) : EReal) = w c y k) := fun c =>
    ⟨fun _ _ => rfl, fun _ _ => rfl, fun _ _ => rfl, fun _ => rfl, fun _ _ => rfl⟩
  refine ⟨fun c => Cert.Kernel3Ideal.Flow.layX (e c) (d c) (x c) (γ c) (w c), fun c => Cert.Kernel3Ideal.Flow.layG (d c) (x c) (w c), ?_, ?_⟩
  · refine (θ_run Cert.Kernel3Ideal.defs _ _).mono (fun r h c => ?_) (Cert.Kernel3Ideal.Value.run_blocks m g)
    obtain ⟨r0, r1, r2, r3, r4⟩ := read c
    obtain ⟨e0, e1, er⟩ := h c
    exact ⟨e0.trans (Cert.Kernel3Ideal.Flow.arr5 m c r0 r1 r2 r3 r4), e1.trans (Cert.Kernel3Ideal.Flow.arr6 m c r1 r2 r4), er⟩
  · refine (θ_run Cert.Reference3Ideal.defs _ _).mono (fun r h c => ?_) (Cert.Reference3Ideal.Value.run m' g')
    obtain ⟨r0, r1, r2, r3, r4⟩ := read c
    obtain ⟨a0, a1, a2, a3, a4⟩ := hagree c
    have q0 : ∀ y k, (m' ((c.tc : Thread Cert.Reference3Ideal.nD Cert.Reference3Ideal.τ).loc Cert.Reference3Ideal.main_arg0) (ix2 y k) : EReal) = e c y k := fun y k => (congrFun a0 (ix2 y k)).trans (r0 y k)
    have q1 : ∀ y k, (m' ((c.tc : Thread Cert.Reference3Ideal.nD Cert.Reference3Ideal.τ).loc Cert.Reference3Ideal.main_arg1) (ix2 y k) : EReal) = d c y k := fun y k => (congrFun a1 (ix2 y k)).trans (r1 y k)
    have q2 : ∀ y k, (m' ((c.tc : Thread Cert.Reference3Ideal.nD Cert.Reference3Ideal.τ).loc Cert.Reference3Ideal.main_arg2) (ix2 y k) : EReal) = x c y k := fun y k => (congrFun a2 (ix2 y k)).trans (r2 y k)
    have q3 : ∀ k, (m' ((c.tc : Thread Cert.Reference3Ideal.nD Cert.Reference3Ideal.τ).loc Cert.Reference3Ideal.main_arg3) (ix2 0 k) : EReal) = γ c k := fun k => (congrFun a3 (ix2 0 k)).trans (r3 k)
    have q4 : ∀ y k, (m' ((c.tc : Thread Cert.Reference3Ideal.nD Cert.Reference3Ideal.τ).loc Cert.Reference3Ideal.main_arg4) (ix2 y k) : EReal) = w c y k := fun y k => (congrFun a4 (ix2 y k)).trans (r4 y k)
    obtain ⟨e0, e1, er⟩ := h c
    exact ⟨e0.trans (Cert.Reference3Ideal.Flow.out0 m' c q0 q1 q2 q3 q4), e1.trans (Cert.Reference3Ideal.Flow.out1 m' c q1 q2 q4), er⟩

end Cert.Proof

end
-- ==== Proof.In.Frames.lean ====
/-
The frames of the input projection's gradient, of the weight gradients and of their references.
-/
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import Idealize.ShloMosaic.Lib.Quiescent

@[expose] public section

set_option maxRecDepth 16384

noncomputable section

namespace Cert.Proof

open Idealize.ShloMosaic Idealize.ShloMosaic.TcCoe Idealize.SL.Sem

/-- The call `_bwd_in` leaves its arguments as they were, at machine words. -/
theorem frame_kernel4 : Cert.quiescent_Kernel4 := fun m ρ _ => Cert.Kernel4.Gen.frame m ρ

/-- The same at the reals. -/
theorem frame_kernel4Ideal : Cert.quiescent_Kernel4Ideal := fun m ρ _ => Cert.Kernel4Ideal.Gen.frame m ρ

/-- The reference of `_bwd_in` leaves its arguments as they were. -/
theorem frame_reference4Ideal : Cert.quiescent_Reference4Ideal := fun m g _ =>
  (θ_run Cert.Reference4Ideal.defs _ _).mono
    (fun r h => ⟨fun c => (h c).2.2, sem_eq_zero_of_no_sems rfl r.2⟩)
    (Cert.Reference4Ideal.Value.run (F := Ideal) m g)

/-- The call `_wgrad` for w_mlp_up leaves its arguments as they were, at machine words. -/
theorem frame_kernel5 : Cert.quiescent_Kernel5 := fun m ρ _ => Cert.Kernel5.Gen.frame m ρ

/-- The same at the reals. -/
theorem frame_kernel5Ideal : Cert.quiescent_Kernel5Ideal := fun m ρ _ => Cert.Kernel5Ideal.Gen.frame m ρ

/-- The reference of `_wgrad` for w_mlp_up leaves its arguments as they were. -/
theorem frame_reference5Ideal : Cert.quiescent_Reference5Ideal := fun m g _ =>
  (θ_run Cert.Reference5Ideal.defs _ _).mono
    (fun r h => ⟨fun c => (h c).2, sem_eq_zero_of_no_sems rfl r.2⟩)
    (Cert.Reference5Ideal.Value.run (F := Ideal) m g)

/-- The call `_wgrad` for w_mlp_down leaves its arguments as they were, at machine words. -/
theorem frame_kernel6 : Cert.quiescent_Kernel6 := fun m ρ _ => Cert.Kernel6.Gen.frame m ρ

/-- The same at the reals. -/
theorem frame_kernel6Ideal : Cert.quiescent_Kernel6Ideal := fun m ρ _ => Cert.Kernel6Ideal.Gen.frame m ρ

/-- The reference of `_wgrad` for w_mlp_down leaves its arguments as they were. -/
theorem frame_reference6Ideal : Cert.quiescent_Reference6Ideal := fun m g _ =>
  (θ_run Cert.Reference6Ideal.defs _ _).mono
    (fun r h => ⟨fun c => (h c).2, sem_eq_zero_of_no_sems rfl r.2⟩)
    (Cert.Reference6Ideal.Value.run (F := Ideal) m g)

/-- The call `_wgrad` for a quarter of w_in leaves its arguments as they were, at machine words. -/
theorem frame_kernel7 : Cert.quiescent_Kernel7 := fun m ρ _ => Cert.Kernel7.Gen.frame m ρ

/-- The same at the reals. -/
theorem frame_kernel7Ideal : Cert.quiescent_Kernel7Ideal := fun m ρ _ => Cert.Kernel7Ideal.Gen.frame m ρ

/-- The reference of `_wgrad` for a quarter of w_in leaves its arguments as they were. -/
theorem frame_reference7Ideal : Cert.quiescent_Reference7Ideal := fun m g _ =>
  (θ_run Cert.Reference7Ideal.defs _ _).mono
    (fun r h => ⟨fun c => (h c).2, sem_eq_zero_of_no_sems rfl r.2⟩)
    (Cert.Reference7Ideal.Value.run (F := Ideal) m g)

end Cert.Proof

end
-- ==== Proof.In.Block.lean ====
/-
What the call `_bwd_in` stores in one step, read element by element.
-/
module

public import proofs.«01_k».proof.Proof.Norm
public import proofs.«01_k».proof.Proof.Gen.Kernel4Ideal.Value
public import Idealize.ShloMosaic.Lib.Pointwise
public import Idealize.ShloMosaic.Lib.Pipeline.ValueKit

@[expose] public section

set_option maxRecDepth 16384

noncomputable section

namespace Cert.Kernel4Ideal.Flow

open Idealize.ShloMosaic Idealize.ShloMosaic.TcCoe Idealize.ShloMosaic.Tactic
open Cert.Kernel4Ideal.Gen

/-- A column of a quarter of the 4096 columns. -/
abbrev col (b : Fin 4) (f : Fin 1024) : Fin 4096 := ⟨b.val * 1024 + f.val, by omega⟩

/-- A row of 4096 numbers, given in quarters, times another. -/
def part4 (a0 a1 a2 a3 : Fin 1024 → EReal) (w : Fin 4096 → EReal) : EReal :=
  (∑ f, a0 f * w (col 0 f)) + (∑ f, a1 f * w (col 1 f)) + (∑ f, a2 f * w (col 2 f)) + ∑ f, a3 f * w (col 3 f)

variable {X D E : FVec Ideal S256x1024 .f32} {G : FVec Ideal S1x1024 .f32} {x d e : Fin 256 → Fin 1024 → EReal} {g : Fin 1024 → EReal}

theorem sq_pay (hx : ∀ r k, X (ix2 r k) = x r k) (r : Fin 256) : k0_pay7 (F := Ideal) X (ix2 r 0) = ∑ k, x r k * x r k := by
  pointwise [k0_pay7, hx]

theorem rt_pay (hx : ∀ r k, X (ix2 r k) = x r k) (r : Fin 256) :
    k0_pay1 (F := Ideal) (k0_pay7 X) (ix2 r 0) = Norm.rt (x r) := by
  pointwise [k0_pay1, sq_pay hx]
  rfl

theorem xn_pay (hx : ∀ r k, X (ix2 r k) = x r k) (r : Fin 256) (k : Fin 1024) :
    k0_pay2 (F := Ideal) X (k0_pay7 X) (ix2 r k) = x r k * Norm.rt (x r) := by
  pointwise [k0_pay2, hx]
  rw [rt_pay hx]

theorem dg_pay (hx : ∀ r k, X (ix2 r k) = x r k) (hd : ∀ r k, D (ix2 r k) = d r k) (acc : FVec Ideal S1x1024 .f32) (k : Fin 1024) :
    k0_pay3 (F := Ideal) D X (k0_pay7 X) acc (ix2 0 k) = acc (ix2 0 k) + ∑ r, Norm.dg (x r) (d r) k := by
  pointwise [k0_pay3, xn_pay hx, hd]
  rfl

theorem dg_zero (k : Fin 1024) : k0_pay5 (F := Ideal) (ix2 0 k) = 0 := by
  pointwise [k0_pay5]

theorem dx_pay (hx : ∀ r k, X (ix2 r k) = x r k) (hd : ∀ r k, D (ix2 r k) = d r k) (hg : ∀ k, G (ix2 0 k) = g k)
    (he : ∀ r k, E (ix2 r k) = e r k)
    (r : Fin 256) (k : Fin 1024) : k0_pay4 (F := Ideal) D X G (k0_pay7 X) E (ix2 r k) = (e r k + Norm.dx (x r) g (d r) k) := by
  pointwise [k0_pay4, xn_pay hx, rt_pay hx, hd, hg, he]
  rfl

theorem dh_pay {A0 A1 A2 A3 : FVec Ideal S256x1024 .bf16} {W0 W1 W2 W3 : FVec Ideal S1024x1024 .bf16}
    {a0 a1 a2 a3 : Fin 256 → Fin 1024 → EReal} {w : Fin 1024 → Fin 4096 → EReal}
    (h0 : ∀ r f, A0 (ix2 r f) = a0 r f) (h1 : ∀ r f, A1 (ix2 r f) = a1 r f) (h2 : ∀ r f, A2 (ix2 r f) = a2 r f) (h3 : ∀ r f, A3 (ix2 r f) = a3 r f)
    (w0 : ∀ k f, W0 (ix2 k f) = w k (col 0 f)) (w1 : ∀ k f, W1 (ix2 k f) = w k (col 1 f))
    (w2 : ∀ k f, W2 (ix2 k f) = w k (col 2 f)) (w3 : ∀ k f, W3 (ix2 k f) = w k (col 3 f))
    (r : Fin 256) (k : Fin 1024) : k0_pay6 (F := Ideal) A0 W0 A1 W1 A2 W2 A3 W3 (ix2 r k) = part4 (a0 r) (a1 r) (a2 r) (a3 r) (w k) := by
  pointwise [k0_pay6]
  simp only [h0, h1, h2, h3, w0, w1, w2, w3]
  rfl

end Cert.Kernel4Ideal.Flow

end
-- ==== Proof.In.Arrays.lean ====
/-
The arrays that the call `_bwd_in` takes and leaves.
-/
module

public import proofs.«01_k».proof.Proof.In.Block
public import Idealize.ShloMosaic.Lib.StableHlo.ReadAt
public import Idealize.ShloMosaic.Lib.KernelVsHost
public import Idealize.ShloMosaic.Lib.Pipeline.ValueKit

@[expose] public section

set_option maxRecDepth 16384

noncomputable section

namespace Cert.Kernel4Ideal.Flow

open Idealize.ShloMosaic Idealize.ShloMosaic.TcCoe Idealize.ShloMosaic.Tactic
open Cert.Kernel4Ideal.Gen

/-! ## The results, over the extended reals -/

section Results

variable (e : Fin 4096 → Fin 1024 → EReal) (d0 d1 d2 d3 : Fin 4096 → Fin 1024 → EReal) (x : Fin 4096 → Fin 1024 → EReal) (g : Fin 1024 → EReal) (w : Fin 1024 → Fin 4096 → EReal)

/-- The gradient at the norm's result. -/
def dh (y : Fin 4096) (k : Fin 1024) : EReal := part4 (d0 y) (d1 y) (d2 y) (d3 y) (w k)
/-- The gradient at the residual rows. -/
def outX (y : Fin 4096) (k : Fin 1024) : EReal := e y k + Norm.dx (x y) g (dh d0 d1 d2 d3 w y) k
/-- The gradient of the gains. -/
def outG (k : Fin 1024) : EReal := ∑ y, Norm.dg (x y) (dh d0 d1 d2 d3 w y) k

def layX : S4096x1024.Idx → EReal := fun i => outX e d0 d1 d2 d3 x g w (i 0) (i 1)
def layG : S1x1024.Idx → EReal := fun i => outG d0 d1 d2 d3 x w (i 1)

end Results

theorem split1 (j : S1x1024.Idx) : ∃ k : Fin 1024, j = ix2 0 k :=
  ⟨j 1, by
    funext a
    fin_cases a
    · exact Subsingleton.elim (α := Fin 1) _ _
    · rfl⟩

/-- A row of a block of 256. -/
abbrev row (t : Fin 16) (r : Fin 256) : Fin 4096 := ⟨t.val * 256 + r.val, by omega⟩

theorem idx : ∀ t : Fin cfg0.N,
    win0_0.index t = ![t.val, 0] ∧ win0_1.index t = ![t.val, 0] ∧ win0_2.index t = ![t.val, 0] ∧ win0_3.index t = ![t.val, 0]
    ∧ win0_4.index t = ![0, 0] ∧ win0_5.index t = ![t.val, 0] ∧ win0_6.index t = ![0, 0] ∧ win0_7.index t = ![t.val, 0]
    ∧ win0_8.index t = ![t.val, 0] ∧ win0_9.index t = ![0, 0] :=
  (by decide +kernel : ∀ t : Fin grid0.N, _)

theorem tlt (t : Fin cfg0.N) : t.val < 16 := t.isLt

/-! ## A block read off its array -/

section Reads

variable (t : Fin cfg0.N)

theorem read0 (A : S4096x1024.Idx → EReal) (r : Fin 256) (k : Fin 1024) :
    (((cfg0.win 0).blk t).view.read (Elt Ideal) A (ix2 r k) : EReal) = A (ix2 (row ⟨t.val, tlt t⟩ r) k) := by
  blk_ext [idx t]
theorem read1 (A : S4096x1024.Idx → EReal) (r : Fin 256) (k : Fin 1024) :
    (((cfg0.win 1).blk t).view.read (Elt Ideal) A (ix2 r k) : EReal) = A (ix2 (row ⟨t.val, tlt t⟩ r) k) := by
  blk_ext [idx t]
theorem read2 (A : S4096x1024.Idx → EReal) (r : Fin 256) (k : Fin 1024) :
    (((cfg0.win 2).blk t).view.read (Elt Ideal) A (ix2 r k) : EReal) = A (ix2 (row ⟨t.val, tlt t⟩ r) k) := by
  blk_ext [idx t]
theorem read3 (A : S4096x1024.Idx → EReal) (r : Fin 256) (k : Fin 1024) :
    (((cfg0.win 3).blk t).view.read (Elt Ideal) A (ix2 r k) : EReal) = A (ix2 (row ⟨t.val, tlt t⟩ r) k) := by
  blk_ext [idx t]
theorem read4 (A : S1024x4096.Idx → EReal) (k : Fin 1024) (f : Fin 4096) :
    (((cfg0.win 4).blk t).view.read (Elt Ideal) A (ix2 k f) : EReal) = A (ix2 k f) := by
  blk_ext [idx t]
theorem read5 (A : S4096x1024.Idx → EReal) (r : Fin 256) (k : Fin 1024) :
    (((cfg0.win 5).blk t).view.read (Elt Ideal) A (ix2 r k) : EReal) = A (ix2 (row ⟨t.val, tlt t⟩ r) k) := by
  blk_ext [idx t]
theorem read6 (A : S1x1024.Idx → EReal) (k : Fin 1024) :
    (((cfg0.win 6).blk t).view.read (Elt Ideal) A (ix2 0 k) : EReal) = A (ix2 0 k) := by
  blk_ext [idx t]
theorem read7 (A : S4096x1024.Idx → EReal) (r : Fin 256) (k : Fin 1024) :
    (((cfg0.win 7).blk t).view.read (Elt Ideal) A (ix2 r k) : EReal) = A (ix2 (row ⟨t.val, tlt t⟩ r) k) := by
  blk_ext [idx t]
theorem place8 (r : Fin 256) (k : Fin 1024) : ((cfg0.win 8).blk t).view.emb (ix2 r k) = ix2 (row ⟨t.val, tlt t⟩ r) k := by
  blk_ext [idx t]

end Reads

/-! ## The arrays that the host computes -/

section Entry

variable (m : (ℓ : Loc nD τ sig) → Buf (Elt Ideal) ℓ) (c : Dev nD)

theorem V0_at {d : Fin 4096 → Fin 1024 → EReal} (hd : ∀ y f, (m ((c : Thread nD τ).loc main_arg0) (ix2 y f) : EReal) = d y f) (y : Fin 4096) (f : Fin 1024) :
    (Gen.V m c main_v0 (ix2 y f) : EReal) = d y f := by
  simp only [Gen.V, Gen.hostOps0, List.flatten_cons, List.flatten_nil, List.append_nil, List.cons_append, List.nil_append]
  after_reads_simp
  clean_types
  pointwise
  exact hd _ _
theorem V1_at {d : Fin 4096 → Fin 1024 → EReal} (hd : ∀ y f, (m ((c : Thread nD τ).loc main_arg1) (ix2 y f) : EReal) = d y f) (y : Fin 4096) (f : Fin 1024) :
    (Gen.V m c main_v1 (ix2 y f) : EReal) = d y f := by
  simp only [Gen.V, Gen.hostOps0, List.flatten_cons, List.flatten_nil, List.append_nil, List.cons_append, List.nil_append]
  after_reads_simp
  clean_types
  pointwise
  exact hd _ _
theorem V2_at {d : Fin 4096 → Fin 1024 → EReal} (hd : ∀ y f, (m ((c : Thread nD τ).loc main_arg2) (ix2 y f) : EReal) = d y f) (y : Fin 4096) (f : Fin 1024) :
    (Gen.V m c main_v2 (ix2 y f) : EReal) = d y f := by
  simp only [Gen.V, Gen.hostOps0, List.flatten_cons, List.flatten_nil, List.append_nil, List.cons_append, List.nil_append]
  after_reads_simp
  clean_types
  pointwise
  exact hd _ _
theorem V3_at {d : Fin 4096 → Fin 1024 → EReal} (hd : ∀ y f, (m ((c : Thread nD τ).loc main_arg3) (ix2 y f) : EReal) = d y f) (y : Fin 4096) (f : Fin 1024) :
    (Gen.V m c main_v3 (ix2 y f) : EReal) = d y f := by
  simp only [Gen.V, Gen.hostOps0, List.flatten_cons, List.flatten_nil, List.append_nil, List.cons_append, List.nil_append]
  after_reads_simp
  clean_types
  pointwise
  exact hd _ _
theorem V4_at {d : Fin 1024 → Fin 4096 → EReal} (hd : ∀ y f, (m ((c : Thread nD τ).loc main_arg4) (ix2 y f) : EReal) = d y f) (y : Fin 1024) (f : Fin 4096) :
    (Gen.V m c main_v4 (ix2 y f) : EReal) = d y f := by
  simp only [Gen.V, Gen.hostOps0, List.flatten_cons, List.flatten_nil, List.append_nil, List.cons_append, List.nil_append]
  after_reads_simp
  clean_types
  pointwise
  exact hd _ _

end Entry

/-! ## The arrays after the run -/

section Arrays

variable (m : (ℓ : Loc nD τ sig) → Buf (Elt Ideal) ℓ) (c : Dev nD)
  {e : Fin 4096 → Fin 1024 → EReal} {d0 d1 d2 d3 : Fin 4096 → Fin 1024 → EReal} {x : Fin 4096 → Fin 1024 → EReal} {g : Fin 1024 → EReal} {w : Fin 1024 → Fin 4096 → EReal}
  (h0 : ∀ y k, (m ((c : Thread nD τ).loc main_arg0) (ix2 y k) : EReal) = d0 y k)
  (h1 : ∀ y k, (m ((c : Thread nD τ).loc main_arg1) (ix2 y k) : EReal) = d1 y k)
  (h2 : ∀ y k, (m ((c : Thread nD τ).loc main_arg2) (ix2 y k) : EReal) = d2 y k)
  (h3 : ∀ y k, (m ((c : Thread nD τ).loc main_arg3) (ix2 y k) : EReal) = d3 y k)
  (hw : ∀ k f, (m ((c : Thread nD τ).loc main_arg4) (ix2 k f) : EReal) = w k f)
  (hx : ∀ y k, (m ((c : Thread nD τ).loc main_arg5) (ix2 y k) : EReal) = x y k)
  (hg : ∀ k, (m ((c : Thread nD τ).loc main_arg6) (ix2 0 k) : EReal) = g k)
  (he : ∀ y k, (m ((c : Thread nD τ).loc main_arg7) (ix2 y k) : EReal) = e y k)
  (t : Fin cfg0.N)

include h0 in
theorem in0 (r : Fin 256) (k : Fin 1024) : (iblk m c 0 t (ix2 r k) : EReal) = d0 (row ⟨t.val, tlt t⟩ r) k :=
  (read0 t (V m c main_v0) r k).trans (V0_at m c h0 _ _)
include h1 in
theorem in1 (r : Fin 256) (k : Fin 1024) : (iblk m c 1 t (ix2 r k) : EReal) = d1 (row ⟨t.val, tlt t⟩ r) k :=
  (read1 t (V m c main_v1) r k).trans (V1_at m c h1 _ _)
include h2 in
theorem in2 (r : Fin 256) (k : Fin 1024) : (iblk m c 2 t (ix2 r k) : EReal) = d2 (row ⟨t.val, tlt t⟩ r) k :=
  (read2 t (V m c main_v2) r k).trans (V2_at m c h2 _ _)
include h3 in
theorem in3 (r : Fin 256) (k : Fin 1024) : (iblk m c 3 t (ix2 r k) : EReal) = d3 (row ⟨t.val, tlt t⟩ r) k :=
  (read3 t (V m c main_v3) r k).trans (V3_at m c h3 _ _)
include hw in
theorem in4 (k : Fin 1024) (f : Fin 4096) : (iblk m c 4 t (ix2 k f) : EReal) = w k f :=
  (read4 t (V m c main_v4) k f).trans (V4_at m c hw _ _)
include hx in
theorem in5 (r : Fin 256) (k : Fin 1024) : (iblk m c 5 t (ix2 r k) : EReal) = x (row ⟨t.val, tlt t⟩ r) k :=
  (read5 t (V m c main_arg5) r k).trans ((congrFun (V_main_arg5 m c) _).trans (hx _ _))
include hg in
theorem in6 (k : Fin 1024) : (iblk m c 6 t (ix2 0 k) : EReal) = g k :=
  (read6 t (V m c main_arg6) k).trans ((congrFun (V_main_arg6 m c) _).trans (hg _))
include he in
theorem in7 (r : Fin 256) (k : Fin 1024) : (iblk m c 7 t (ix2 r k) : EReal) = e (row ⟨t.val, tlt t⟩ r) k :=
  (read7 t (V m c main_arg7) r k).trans ((congrFun (V_main_arg7 m c) _).trans (he _ _))

/-- The gradient at the norm's result, of one block of rows. -/
abbrev blockH : FVec Ideal S256x1024 .f32 :=
  k0_pay6 (F := Ideal) (iblk m c 0 t) (View.ld (iblk m c 4 t) (Rect.unit ![0, 0] ![1024, 1024] inb_S1024x4096_S1024x1024_0_0)) (iblk m c 1 t) (View.ld (iblk m c 4 t) (Rect.unit ![0, 1024] ![1024, 1024] inb_S1024x4096_S1024x1024_0_1024)) (iblk m c 2 t) (View.ld (iblk m c 4 t) (Rect.unit ![0, 2048] ![1024, 1024] inb_S1024x4096_S1024x1024_0_2048)) (iblk m c 3 t) (View.ld (iblk m c 4 t) (Rect.unit ![0, 3072] ![1024, 1024] inb_S1024x4096_S1024x1024_0_3072))

include hw in
theorem wt_block (b : Fin 4) {o : ℕ} (ho : o = b.val * 1024) (inb) (k f : Fin 1024) :
    (View.ld (iblk m c 4 t) (Rect.unit ![0, o] ![1024, 1024] inb) (ix2 k f) : EReal) = w k (col b f) := by
  subst ho
  refine (View.ld_unit_apply_of (iblk m c 4 t) _ _ inb (ix2 k f) (ix2 k (col b f)) fun a => ?_).trans (in4 m c hw t k _)
  fin_cases a
  · exact (Nat.zero_add _).symm
  · rfl

include h0 h1 h2 h3 hw

theorem dh_block (r : Fin 256) (k : Fin 1024) : (blockH m c t (ix2 r k) : EReal) = dh d0 d1 d2 d3 w (row ⟨t.val, tlt t⟩ r) k :=
  dh_pay (a0 := fun r => d0 (row ⟨t.val, tlt t⟩ r)) (a1 := fun r => d1 (row ⟨t.val, tlt t⟩ r)) (a2 := fun r => d2 (row ⟨t.val, tlt t⟩ r))
    (a3 := fun r => d3 (row ⟨t.val, tlt t⟩ r)) (w := w) (in0 m c h0 t) (in1 m c h1 t) (in2 m c h2 t) (in3 m c h3 t)
    (wt_block m c hw t 0 rfl _) (wt_block m c hw t 1 rfl _) (wt_block m c hw t 2 rfl _) (wt_block m c hw t 3 rfl _) r k

include hx

theorem step9 (acc : FVec Ideal S1x1024 .f32) (j : S1x1024.Idx) :
    (k0_pay3 (F := Ideal) (blockH m c t) (iblk m c 5 t) (k0_pay7 (iblk m c 5 t)) acc j : EReal)
      = acc j + ∑ r : Fin 256, Norm.dg (x (row ⟨t.val, tlt t⟩ r)) (dh d0 d1 d2 d3 w (row ⟨t.val, tlt t⟩ r)) (j 1) := by
  obtain ⟨k, rfl⟩ := split1 j
  exact dg_pay (in5 m c hx t) (dh_block m c h0 h1 h2 h3 hw t) acc k

theorem arr9 : (dats m 0 c).arrAt 9 cfg0.N = layG d0 d1 d2 d3 x w := by
  refine (dats m 0 c).arrAt_eq_of_after_last 9 t0_15 (by decide +kernel) _ fun j => ?_
  blk_simp
  rw [after0_9, Pipeline.eq_sum_fin_of_reset_step_apply_last (fun n h => (outsAt0 m c n h).2) 16 (fun _ => 0)
    (fun t j => ∑ r : Fin 256, Norm.dg (x (row ⟨t.val, tlt t⟩ r)) (dh d0 d1 d2 d3 w (row ⟨t.val, tlt t⟩ r)) (j 1))
    (fun t h j => by
      rw [outsAt0_A m c t h]; frame_out
      refine (step9 m c h0 h1 h2 h3 hw hx t _ j).trans (congrArg (· + _) ?_)
      obtain ⟨k, rfl⟩ := split1 j
      exact dg_zero k)
    (fun t h j => by rw [outsAt0_B m c t h]; frame_out; exact step9 m c h0 h1 h2 h3 hw hx t _ j)
    (le_of_eq N_0) t0_15 rfl j, zero_add]
  have H : ∀ j : S1x1024.Idx, (∑ t : Fin cfg0.N, ∑ r : Fin 256, Norm.dg (x (row ⟨t.val, tlt t⟩ r)) (dh d0 d1 d2 d3 w (row ⟨t.val, tlt t⟩ r)) (j 1)) = layG d0 d1 d2 d3 x w j := by
    intro j
    exact Fin.sum_mul_add_congr fun t r hl => rfl
  exact H j

include he hg

theorem dx_block (r : Fin 256) (k : Fin 1024) :
    (k0_pay4 (F := Ideal) (blockH m c t) (iblk m c 5 t) (iblk m c 6 t) (k0_pay7 (iblk m c 5 t)) (iblk m c 7 t) (ix2 r k) : EReal) = outX e d0 d1 d2 d3 x g w (row ⟨t.val, tlt t⟩ r) k :=
  dx_pay (in5 m c hx t) (dh_block m c h0 h1 h2 h3 hw t) (in6 m c hg t) (in7 m c he t) r k

theorem arr8 : (dats m 0 c).arrAt 8 cfg0.N = layX e d0 d1 d2 d3 x g w := by
  refine (dats m 0 c).arrAt_eq_of_covers 8 _ (by decide +kernel) fun t hf y => ?_
  have H : ∀ y : S256x1024.Idx, (k0_pay4 (F := Ideal) (blockH m c t) (iblk m c 5 t) (iblk m c 6 t) (k0_pay7 (iblk m c 5 t)) (iblk m c 7 t) y : EReal)
      = layX e d0 d1 d2 d3 x g w (((cfg0.win 8).blk t).view.emb y) := by
    intro y
    obtain ⟨r, k, rfl⟩ : ∃ (r : Fin 256) (k : Fin 1024), y = ix2 r k := ⟨_, _, eq_ix2 y⟩
    exact (dx_block m c h0 h1 h2 h3 hw hx hg he t r k).trans (congrArg (layX e d0 d1 d2 d3 x g w) (place8 t r k)).symm
  blk_simp
  rw [after0_8]
  by_cases ht : t.val % 16 = 0
  · rw [outsAt0_A m c t ht]
    frame_out
    exact H y
  · rw [outsAt0_B m c t ht]
    frame_out
    exact H y

end Arrays

end Cert.Kernel4Ideal.Flow

end
-- ==== Proof.In.Reference.lean ====
/-
The reference's gradients of the input projection.
-/
module

public import proofs.«01_k».proof.Proof.In.Arrays
public import proofs.«01_k».proof.Proof.Mlp.UpReference
public import proofs.«01_k».proof.Proof.Gen.Reference4Ideal.Run

@[expose] public section

set_option maxRecDepth 16384

noncomputable section

namespace Cert.Reference4Ideal.Flow

open Cert.Reference4Ideal Cert.Reference4Ideal.Gen Idealize.ShloMosaic Idealize.ShloMosaic.TcCoe Idealize.ShloMosaic.Tactic
open Cert.Kernel4Ideal.Flow (dh outX outG layX layG split1 col part4)
open Cert.Reference2Ideal.Flow (hM hR hB hC hG alongRow gains hR_at hC_at hG_at)
open Cert.Reference3Ideal.Flow (hY hY_at)

/-- The four gradients side by side. -/
def hD (D0 D1 D2 D3 : FVec Ideal S4096x1024 .f32) : FVec Ideal S4096x4096 .f32 :=
  concatenate S4096x4096 1 [⟨S4096x1024, D0⟩, ⟨S4096x1024, D1⟩, ⟨S4096x1024, D2⟩, ⟨S4096x1024, D3⟩] concatenates_S4096x1024_S4096x1024_S4096x1024_S4096x1024_S4096x4096_d1

/-- The gradient at the norm's result. -/
def hH (D0 D1 D2 D3 : FVec Ideal S4096x1024 .f32) (W : FVec Ideal S1024x4096 .f32) : FVec Ideal S4096x1024 .f32 :=
  Host.dotGeneral dot_S4096x4096_S1024x4096_S4096x1024_1_1_0_0_n_n none (hD D0 D1 D2 D3) W

section Product

variable {D0 D1 D2 D3 : FVec Ideal S4096x1024 .f32} {W : FVec Ideal S1024x4096 .f32} {d0 d1 d2 d3 : Fin 4096 → Fin 1024 → EReal} {w : Fin 1024 → Fin 4096 → EReal}

theorem hD_0 (y : Fin 4096) (f : Fin 1024) : hD D0 D1 D2 D3 (ix2 y (col 0 f)) = D0 (ix2 y f) := by
  unfold hD
  pointwise
theorem hD_1 (y : Fin 4096) (f : Fin 1024) : hD D0 D1 D2 D3 (ix2 y (col 1 f)) = D1 (ix2 y f) := by
  unfold hD
  pointwise
theorem hD_2 (y : Fin 4096) (f : Fin 1024) : hD D0 D1 D2 D3 (ix2 y (col 2 f)) = D2 (ix2 y f) := by
  unfold hD
  pointwise
  refine (dif_neg (by omega)).trans ((dif_neg (by omega)).trans ((dif_pos (by omega)).trans (congrArg (fun f => D2 (ix2 y f)) (Fin.ext ?_))))
  show 2048 + f.val - 1024 - 1024 = f.val
  omega
theorem hD_3 (y : Fin 4096) (f : Fin 1024) : hD D0 D1 D2 D3 (ix2 y (col 3 f)) = D3 (ix2 y f) := by
  unfold hD
  pointwise
  refine (dif_neg (by omega)).trans ((dif_neg (by omega)).trans ((dif_neg (by omega)).trans (congrArg (fun f => D3 (ix2 y f)) (Fin.ext ?_))))
  show 3072 + f.val - 1024 - 1024 - 1024 = f.val
  omega

variable (h0 : ∀ y k, D0 (ix2 y k) = d0 y k) (h1 : ∀ y k, D1 (ix2 y k) = d1 y k) (h2 : ∀ y k, D2 (ix2 y k) = d2 y k) (h3 : ∀ y k, D3 (ix2 y k) = d3 y k)
  (hw : ∀ k f, W (ix2 k f) = w k f)

include h0 h1 h2 h3 hw

theorem hH_at (r : Fin 4096) (k : Fin 1024) : hH D0 D1 D2 D3 W (ix2 r k) = dh d0 d1 d2 d3 w r k := by
  unfold hH
  pointwise
  simp only [hw]
  refine (Fin.sum_mul_add_congr (S := 4) (n := 1024) (F := fun (b : Fin 4) (f : Fin 1024) => hD D0 D1 D2 D3 (ix2 r (col b f)) * w k (col b f)) fun b f h => rfl).symm.trans ?_
  rw [Fin.sum_univ_four]
  simp only [hD_0, hD_1, hD_2, hD_3, h0, h1, h2, h3]
  rfl

end Product

section Results

variable (m : (ℓ : Loc nD τ sig) → Buf (Elt Ideal) ℓ) (c : Dev nD)
  {d0 d1 d2 d3 : Fin 4096 → Fin 1024 → EReal} {e x : Fin 4096 → Fin 1024 → EReal} {g : Fin 1024 → EReal} {w : Fin 1024 → Fin 4096 → EReal}
  (h0 : ∀ y k, (m ((c : Thread nD τ).loc main_arg0) (ix2 y k) : EReal) = d0 y k)
  (h1 : ∀ y k, (m ((c : Thread nD τ).loc main_arg1) (ix2 y k) : EReal) = d1 y k)
  (h2 : ∀ y k, (m ((c : Thread nD τ).loc main_arg2) (ix2 y k) : EReal) = d2 y k)
  (h3 : ∀ y k, (m ((c : Thread nD τ).loc main_arg3) (ix2 y k) : EReal) = d3 y k)
  (hw : ∀ k f, (m ((c : Thread nD τ).loc main_arg4) (ix2 k f) : EReal) = w k f)
  (hx : ∀ y k, (m ((c : Thread nD τ).loc main_arg5) (ix2 y k) : EReal) = x y k)
  (hg : ∀ k, (m ((c : Thread nD τ).loc main_arg6) (ix2 0 k) : EReal) = g k)
  (he : ∀ y k, (m ((c : Thread nD τ).loc main_arg7) (ix2 y k) : EReal) = e y k)

/-- The gradient at the norm's result, of the program's arrays. -/
abbrev resH : FVec Ideal S4096x1024 .f32 :=
  hH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

theorem open0 : Value.res_main_v39 m c = hY (m ((c.tc : Thread nD τ).loc main_arg7)) (m ((c.tc : Thread nD τ).loc main_arg5))
    (resH m c) (m ((c.tc : Thread nD τ).loc main_arg6)) := by
  unfold Value.res_main_v39 hY hC hB hR hM resH hH hD
  rfl

include h0 h1 h2 h3 hw hx

theorem out1 : hG (m ((c.tc : Thread nD τ).loc main_arg5)) (resH m c) = layG d0 d1 d2 d3 x w := by
  funext j
  obtain ⟨k, rfl⟩ := split1 j
  exact hG_at hx (hH_at h0 h1 h2 h3 hw) k

include hg he

theorem out0 : Value.res_main_v39 m c = layX e d0 d1 d2 d3 x g w := by
  rw [open0]
  funext j
  obtain ⟨r, k, rfl⟩ : ∃ (r : Fin 4096) (k : Fin 1024), j = ix2 r k := ⟨_, _, eq_ix2 j⟩
  exact hY_at he hx (hH_at h0 h1 h2 h3 hw) hg r k

end Results

end Cert.Reference4Ideal.Flow

end
-- ==== Proof.In.Value.lean ====
/-
The call `_bwd_in` and its reference end with the same two arrays.
-/
module

public import proofs.«01_k».proof.Proof.Mlp.DownValue
public import proofs.«01_k».proof.Proof.In.Reference
public import proofs.«01_k».proof.Defs

@[expose] public section

set_option maxRecDepth 16484

noncomputable section

namespace Cert.Proof

open Idealize.ShloMosaic Idealize.ShloMosaic.TcCoe Idealize.ShloMosaic.Tactic

/-- The equation of `_bwd_in`. -/
theorem algebraic4 : Cert.algebraic_Kernel4Ideal_Reference4Ideal := by
  intro m g m' g' _ hagree
  let d0 := fun c : Dev Cert.Kernel4Ideal.nD => elts (n := 4096) (k := 1024) (m ((c.tc : Thread Cert.Kernel4Ideal.nD Cert.Kernel4Ideal.τ).loc Cert.Kernel4Ideal.main_arg0))
  let d1 := fun c : Dev Cert.Kernel4Ideal.nD => elts (n := 4096) (k := 1024) (m ((c.tc : Thread Cert.Kernel4Ideal.nD Cert.Kernel4Ideal.τ).loc Cert.Kernel4Ideal.main_arg1))
  let d2 := fun c : Dev Cert.Kernel4Ideal.nD => elts (n := 4096) (k := 1024) (m ((c.tc : Thread Cert.Kernel4Ideal.nD Cert.Kernel4Ideal.τ).loc Cert.Kernel4Ideal.main_arg2))
  let d3 := fun c : Dev Cert.Kernel4Ideal.nD => elts (n := 4096) (k := 1024) (m ((c.tc : Thread Cert.Kernel4Ideal.nD Cert.Kernel4Ideal.τ).loc Cert.Kernel4Ideal.main_arg3))
  let w := fun c : Dev Cert.Kernel4Ideal.nD => elts (n := 1024) (k := 4096) (m ((c.tc : Thread Cert.Kernel4Ideal.nD Cert.Kernel4Ideal.τ).loc Cert.Kernel4Ideal.main_arg4))
  let x := fun c : Dev Cert.Kernel4Ideal.nD => elts (n := 4096) (k := 1024) (m ((c.tc : Thread Cert.Kernel4Ideal.nD Cert.Kernel4Ideal.τ).loc Cert.Kernel4Ideal.main_arg5))
  let γ := fun c : Dev Cert.Kernel4Ideal.nD => elts (n := 1) (k := 1024) (m ((c.tc : Thread Cert.Kernel4Ideal.nD Cert.Kernel4Ideal.τ).loc Cert.Kernel4Ideal.main_arg6)) 0
  let e := fun c : Dev Cert.Kernel4Ideal.nD => elts (n := 4096) (k := 1024) (m ((c.tc : Thread Cert.Kernel4Ideal.nD Cert.Kernel4Ideal.τ).loc Cert.Kernel4Ideal.main_arg7))
  have read : ∀ c : Dev Cert.Kernel4Ideal.nD,
      (∀ y k, (m ((c.tc : Thread Cert.Kernel4Ideal.nD Cert.Kernel4Ideal.τ).loc Cert.Kernel4Ideal.main_arg0) (ix2 y k) : EReal) = d0 c y k)
      ∧ (∀ y k, (m ((c.tc : Thread Cert.Kernel4Ideal.nD Cert.Kernel4Ideal.τ).loc Cert.Kernel4Ideal.main_arg1) (ix2 y k) : EReal) = d1 c y k)
      ∧ (∀ y k, (m ((c.tc : Thread Cert.Kernel4Ideal.nD Cert.Kernel4Ideal.τ).loc Cert.Kernel4Ideal.main_arg2) (ix2 y k) : EReal) = d2 c y k)
      ∧ (∀ y k, (m ((c.tc : Thread Cert.Kernel4Ideal.nD Cert.Kernel4Ideal.τ).loc Cert.Kernel4Ideal.main_arg3) (ix2 y k) : EReal) = d3 c y k)
      ∧ (∀ y k, (m ((c.tc : Thread Cert.Kernel4Ideal.nD Cert.Kernel4Ideal.τ).loc Cert.Kernel4Ideal.main_arg4) (ix2 y k) : EReal) = w c y k)
      ∧ (∀ y k, (m ((c.tc : Thread Cert.Kernel4Ideal.nD Cert.Kernel4Ideal.τ).loc Cert.Kernel4Ideal.main_arg5) (ix2 y k) : EReal) = x c y k)
      ∧ (∀ k, (m ((c.tc : Thread Cert.Kernel4Ideal.nD Cert.Kernel4Ideal.τ).loc Cert.Kernel4Ideal.main_arg6) (ix2 0 k) : EReal) = γ c k)
      ∧ (∀ y k, (m ((c.tc : Thread Cert.Kernel4Ideal.nD Cert.Kernel4Ideal.τ).loc Cert.Kernel4Ideal.main_arg7) (ix2 y k) : EReal) = e c y k) := fun c =>
    ⟨fun _ _ => rfl, fun _ _ => rfl, fun _ _ => rfl, fun _ _ => rfl, fun _ _ => rfl, fun _ _ => rfl, fun _ => rfl, fun _ _ => rfl⟩
  refine ⟨fun c => Cert.Kernel4Ideal.Flow.layX (e c) (d0 c) (d1 c) (d2 c) (d3 c) (x c) (γ c) (w c), fun c => Cert.Kernel4Ideal.Flow.layG (d0 c) (d1 c) (d2 c) (d3 c) (x c) (w c), ?_, ?_⟩
  · refine (θ_run Cert.Kernel4Ideal.defs _ _).mono (fun r h c => ?_) (Cert.Kernel4Ideal.Value.run_blocks m g)
    obtain ⟨r0, r1, r2, r3, r4, r5, r6, r7⟩ := read c
    obtain ⟨e0, e1, er⟩ := h c
    exact ⟨e0.trans (Cert.Kernel4Ideal.Flow.arr8 m c r0 r1 r2 r3 r4 r5 r6 r7), e1.trans (Cert.Kernel4Ideal.Flow.arr9 m c r0 r1 r2 r3 r4 r5), er⟩
  · refine (θ_run Cert.Reference4Ideal.defs _ _).mono (fun r h c => ?_) (Cert.Reference4Ideal.Value.run m' g')
    obtain ⟨r0, r1, r2, r3, r4, r5, r6, r7⟩ := read c
    obtain ⟨a0, a1, a2, a3, a4, a5, a6, a7⟩ := hagree c
    have q0 : ∀ y k, (m' ((c.tc : Thread Cert.Reference4Ideal.nD Cert.Reference4Ideal.τ).loc Cert.Reference4Ideal.main_arg0) (ix2 y k) : EReal) = d0 c y k := fun y k => (congrFun a0 (ix2 y k)).trans (r0 y k)
    have q1 : ∀ y k, (m' ((c.tc : Thread Cert.Reference4Ideal.nD Cert.Reference4Ideal.τ).loc Cert.Reference4Ideal.main_arg1) (ix2 y k) : EReal) = d1 c y k := fun y k => (congrFun a1 (ix2 y k)).trans (r1 y k)
    have q2 : ∀ y k, (m' ((c.tc : Thread Cert.Reference4Ideal.nD Cert.Reference4Ideal.τ).loc Cert.Reference4Ideal.main_arg2) (ix2 y k) : EReal) = d2 c y k := fun y k => (congrFun a2 (ix2 y k)).trans (r2 y k)
    have q3 : ∀ y k, (m' ((c.tc : Thread Cert.Reference4Ideal.nD Cert.Reference4Ideal.τ).loc Cert.Reference4Ideal.main_arg3) (ix2 y k) : EReal) = d3 c y k := fun y k => (congrFun a3 (ix2 y k)).trans (r3 y k)
    have q4 : ∀ y k, (m' ((c.tc : Thread Cert.Reference4Ideal.nD Cert.Reference4Ideal.τ).loc Cert.Reference4Ideal.main_arg4) (ix2 y k) : EReal) = w c y k := fun y k => (congrFun a4 (ix2 y k)).trans (r4 y k)
    have q5 : ∀ y k, (m' ((c.tc : Thread Cert.Reference4Ideal.nD Cert.Reference4Ideal.τ).loc Cert.Reference4Ideal.main_arg5) (ix2 y k) : EReal) = x c y k := fun y k => (congrFun a5 (ix2 y k)).trans (r5 y k)
    have q6 : ∀ k, (m' ((c.tc : Thread Cert.Reference4Ideal.nD Cert.Reference4Ideal.τ).loc Cert.Reference4Ideal.main_arg6) (ix2 0 k) : EReal) = γ c k := fun k => (congrFun a6 (ix2 0 k)).trans (r6 k)
    have q7 : ∀ y k, (m' ((c.tc : Thread Cert.Reference4Ideal.nD Cert.Reference4Ideal.τ).loc Cert.Reference4Ideal.main_arg7) (ix2 y k) : EReal) = e c y k := fun y k => (congrFun a7 (ix2 y k)).trans (r7 y k)
    obtain ⟨e0, e1, er⟩ := h c
    exact ⟨e0.trans (Cert.Reference4Ideal.Flow.out0 m' c q0 q1 q2 q3 q4 q5 q6 q7), e1.trans (Cert.Reference4Ideal.Flow.out1 m' c q0 q1 q2 q3 q4 q5), er⟩

end Cert.Proof

end
-- ==== Proof.Wgrad.UpArrays.lean ====
/-
The arrays that the call `_wgrad` takes and leaves, for w_mlp_up.
-/
module

public import proofs.«01_k».proof.Proof.Gen.Kernel5Ideal.Value
public import Idealize.ShloMosaic.Lib.Pointwise
public import Idealize.ShloMosaic.Lib.StableHlo.ReadAt
public import Idealize.ShloMosaic.Lib.KernelVsHost
public import Idealize.ShloMosaic.Lib.Pipeline.ValueKit

@[expose] public section

set_option maxRecDepth 16384

noncomputable section

namespace Cert.Kernel5Ideal.Flow

open Idealize.ShloMosaic Idealize.ShloMosaic.TcCoe Idealize.ShloMosaic.Tactic
open Cert.Kernel5Ideal.Gen

/-- The gradient of the weight. -/
def dw (h : Fin 4096 → Fin 1024 → EReal) (d : Fin 4096 → Fin 4096 → EReal) (k : Fin 1024) (n : Fin 4096) : EReal := ∑ y, h y k * d y n

/-- The gradient where the pack holds it: a quarter of the columns in each block. -/
def spread (h : Fin 4096 → Fin 1024 → EReal) (d : Fin 4096 → Fin 4096 → EReal) : S4x3072x1024.Idx → EReal := fun i =>
  dw h d ⟨(i 1).val % 1024, Nat.mod_lt _ (by decide)⟩ ⟨(i 0).val * 1024 + (i 2).val, by have h0 : (i 0).val < 4 := (i 0).isLt; have h2 : (i 2).val < 1024 := (i 2).isLt; omega⟩

/-- The pack after the call: rows 1024 to 2047 of each block new, the others as they were. -/
def layP (h : Fin 4096 → Fin 1024 → EReal) (d : Fin 4096 → Fin 4096 → EReal) (b : S4x3072x1024.Idx → EReal) : S4x3072x1024.Idx → EReal := fun i =>
  if (i 1).val / 1024 = 1 then spread h d i else b i

/-! ## One step -/

theorem add_pay {A D : FVec Ideal S1024x1024 .bf16} {a d : Fin 1024 → Fin 1024 → EReal}
    (ha : ∀ r k, A (ix2 r k) = a r k) (hd : ∀ r k, D (ix2 r k) = d r k) (acc : FVec Ideal S1024x1024 .f32) (k n : Fin 1024) :
    k0_pay2 (F := Ideal) acc A D (ix2 k n) = acc (ix2 k n) + ∑ r, a r k * d r n := by
  pointwise [k0_pay2]
  simp only [ha, hd]

theorem zero_pay (k n : Fin 1024) : k0_pay1 (F := Ideal) (ix2 k n) = 0 := by
  pointwise [k0_pay1]

theorem cast_pay (acc : FVec Ideal S1024x1024 .f32) (k n : Fin 1024) : (k0_pay3 (F := Ideal) acc (ix3 0 k n) : EReal) = acc (ix2 k n) := by
  pointwise [k0_pay3]

theorem split3 (j : S1x1024x1024.Idx) : ∃ k n : Fin 1024, j = ix3 0 k n :=
  ⟨j 1, j 2, by
    funext a
    fin_cases a
    · exact Subsingleton.elim (α := Fin 1) _ _
    · rfl
    · rfl⟩

/-- An index of a quarter. -/
abbrev row (t : Fin 4) (r : Fin 1024) : Fin 4096 := ⟨t.val * 1024 + r.val, by omega⟩

theorem idx : ∀ t : Fin cfg0.N,
    win0_0.index t = ![t.val % 4, 0] ∧ win0_1.index t = ![t.val % 4, t.val / 4] ∧ win0_2.index t = ![t.val / 4, 1, 0] :=
  (by decide +kernel : ∀ t : Fin grid0.N, _)

theorem tlt (t : Fin cfg0.N) : t.val < 16 := t.isLt

/-- The quarter of the rows that a step reads. -/
abbrev part (t : Fin cfg0.N) : Fin 4 := ⟨t.val % 4, Nat.mod_lt _ (by decide)⟩
/-- The quarter of the columns that a step computes. -/
abbrev side (t : Fin cfg0.N) : Fin 4 := ⟨t.val / 4, by have := tlt t; omega⟩

section Reads

variable (t : Fin cfg0.N)

theorem read0 (A : S4096x1024.Idx → EReal) (r k : Fin 1024) :
    (((cfg0.win 0).blk t).view.read (Elt Ideal) A (ix2 r k) : EReal) = A (ix2 (row (part t) r) k) := by
  blk_ext [idx t]
theorem read1 (A : S4096x4096.Idx → EReal) (r k : Fin 1024) :
    (((cfg0.win 1).blk t).view.read (Elt Ideal) A (ix2 r k) : EReal) = A (ix2 (row (part t) r) (row (side t) k)) := by
  blk_ext [idx t]
theorem place2 (k n : Fin 1024) : ((cfg0.win 2).blk t).view.emb (ix3 0 k n) = ix3 (side t) ⟨1024 + k.val, by omega⟩ n := by
  blk_ext [idx t]

end Reads

section Arrays

variable (m : (ℓ : Loc nD τ sig) → Buf (Elt Ideal) ℓ) (c : Dev nD) {h : Fin 4096 → Fin 1024 → EReal} {d : Fin 4096 → Fin 4096 → EReal} {b : S4x3072x1024.Idx → EReal}
  (hh : ∀ y k, (m ((c : Thread nD τ).loc main_arg0) (ix2 y k) : EReal) = h y k)
  (hd : ∀ y k, (m ((c : Thread nD τ).loc main_arg1) (ix2 y k) : EReal) = d y k)
  (hb : ∀ i, (m ((c : Thread nD τ).loc main_arg2) i : EReal) = b i)

include hh in
theorem V0_at (y : Fin 4096) (k : Fin 1024) : (Gen.V m c main_v0 (ix2 y k) : EReal) = h y k := by
  simp only [Gen.V, Gen.hostOps0, List.flatten_cons, List.flatten_nil, List.append_nil, List.cons_append, List.nil_append]
  after_reads_simp
  clean_types
  pointwise
  exact hh y k

include hd in
theorem V1_at (y k : Fin 4096) : (Gen.V m c main_v1 (ix2 y k) : EReal) = d y k := by
  simp only [Gen.V, Gen.hostOps0, List.flatten_cons, List.flatten_nil, List.append_nil, List.cons_append, List.nil_append]
  after_reads_simp
  clean_types
  pointwise
  exact hd y k

include hb in
theorem V2_at (i : S4x3072x1024.Idx) : (Gen.V m c main_v2 i : EReal) = b i := by
  simp only [Gen.V, Gen.hostOps0, List.flatten_cons, List.flatten_nil, List.append_nil, List.cons_append, List.nil_append]
  after_reads_simp
  exact hb i

section Steps

variable (t : Fin cfg0.N)

include hh in
theorem in0 (r k : Fin 1024) : (iblk m c 0 t (ix2 r k) : EReal) = h (row (part t) r) k :=
  (read0 t (V m c main_v0) r k).trans (V0_at m c hh _ _)
include hd in
theorem in1 (r k : Fin 1024) : (iblk m c 1 t (ix2 r k) : EReal) = d (row (part t) r) (row (side t) k) :=
  (read1 t (V m c main_v1) r k).trans (V1_at m c hd _ _)

include hh hd

theorem step (acc : FVec Ideal S1024x1024 .f32) (j : S1024x1024.Idx) :
    (k0_pay2 (F := Ideal) acc (iblk m c 0 t) (iblk m c 1 t) j : EReal)
      = acc j + ∑ r : Fin 1024, h (row (part t) r) (j 0) * d (row (part t) r) (row (side t) (j 1)) := by
  obtain ⟨k, n, rfl⟩ : ∃ (k n : Fin 1024), j = ix2 k n := ⟨_, _, eq_ix2 j⟩
  exact add_pay (in0 m c hh t) (in1 m c hd t) acc k n

end Steps

include hh hd

/-- What the scratch array holds after the last step of a quarter. -/
theorem held (t : Fin cfg0.N) (ht : t.val % 4 = 3) (k n : Fin 1024) : ((outsAt0 m c t.val t.isLt).2 (ix2 k n) : EReal) = dw h d k (row (side t) n) := by
  rw [Pipeline.eq_sum_fin_of_reset_step_apply_of_flush (fun n h => (outsAt0 m c n h).2) 4 (fun _ => 0)
    (fun t j => ∑ r : Fin 1024, h (row (part t) r) (j 0) * d (row (part t) r) (row (side t) (j 1)))
    (fun t h0 j => by
      rw [outsAt0_A m c t h0 (by omega)]; frame_out
      refine (step m c hh hd t _ j).trans (congrArg (· + _) ?_)
      obtain ⟨k, n, rfl⟩ : ∃ (k n : Fin 1024), j = ix2 k n := ⟨_, _, eq_ix2 j⟩
      exact zero_pay k n)
    (fun t h0 j => by
      have carried := congrFun (Memref.IsWhole.read_unread (m := scM0_0) (Memref.isWhole_whole _) (outsAt0 m c (t.val - 1) (Nat.lt_of_le_of_lt (Nat.sub_le _ _) t.isLt)).2) j
      by_cases h1 : t.val % 4 = 3
      · rw [outsAt0_C m c t h0 h1]; frame_out; exact (step m c hh hd t _ j).trans (congrArg (· + _) carried)
      · rw [outsAt0_B m c t h0 h1]; frame_out; exact (step m c hh hd t _ j).trans (congrArg (· + _) carried))
    t ht (ix2 k n), zero_add]
  refine Fin.sum_mul_add_congr (S := 4) (n := 1024) (f := fun y => h y k * d y (row (side t) n)) fun s r hl => ?_
  have hs : part ⟨4 * (t.val / 4) + s.val, Pipeline.run_point_lt_of_flush t ht s⟩ = s := Fin.ext (by show (4 * (t.val / 4) + s.val) % 4 = s.val; omega)
  have hq : side ⟨4 * (t.val / 4) + s.val, Pipeline.run_point_lt_of_flush t ht s⟩ = side t := Fin.ext (by show (4 * (t.val / 4) + s.val) / 4 = t.val / 4; omega)
  show h (row (part _) r) k * d (row (part _) r) (row (side _) n) = _
  rw [hs, hq]

theorem left (t : Fin cfg0.N) (ht : t.val % 4 = 3) (y : S1x1024x1024.Idx) :
    ((outsAt0 m c t.val t.isLt).1 y : EReal) = spread h d (((cfg0.win 2).blk t).view.emb y) := by
  obtain ⟨k, n, rfl⟩ := split3 y
  have hp := held m c hh hd t ht k n
  rw [outsAt0_C m c t (by omega) ht] at hp ⊢
  revert hp
  frame_out
  intro hp
  refine (cast_pay _ k n).trans (hp.trans ?_)
  rw [place2]
  refine congrArg (fun q => dw h d q (row (side t) n)) (Fin.ext ?_)
  show k.val = (1024 + k.val) % 1024
  omega

include hb in
theorem arr2 : (dats m 0 c).arrAt 2 cfg0.N = layP h d b := by
  refine ((dats m 0 c).arrAt_eq_of_coversWhere 2 (spread h d) (P := fun i => (i 1).val / 1024 = 1) (fun β => β (1 : Fin _) = 1) (by decide +kernel) (fun t hf y => ?_) (fun j => Iff.rfl)).trans ?_
  · blk_simp
    rw [after0_2]
    exact left m c hh hd t ((flush0_2 t).mp hf) y
  · funext i
    show (if _ then _ else _) = (if _ then _ else _)
    rw [A_eq, V2_at m c hb]

end Arrays

end Cert.Kernel5Ideal.Flow

end
-- ==== Proof.Wgrad.UpValue.lean ====
/-
The call `_wgrad` for w_mlp_up and its reference end with the same pack of gradients.
-/
module

public import proofs.«01_k».proof.Proof.Wgrad.UpArrays
public import proofs.«01_k».proof.Proof.Mlp.DownValue
public import proofs.«01_k».proof.Proof.Gen.Reference5Ideal.Run
public import proofs.«01_k».proof.Defs

@[expose] public section

set_option maxRecDepth 16384

noncomputable section

namespace Cert.Reference5Ideal.Flow

open Cert.Reference5Ideal Cert.Reference5Ideal.Gen Idealize.ShloMosaic Idealize.ShloMosaic.TcCoe Idealize.ShloMosaic.Tactic
open Cert.Kernel5Ideal.Flow (dw spread layP)

/-- The gradient of the weight. -/
def hW (H : FVec Ideal S4096x1024 .f32) (D : FVec Ideal S4096x4096 .f32) : FVec Ideal S1024x4096 .f32 :=
  transpose S1024x4096 [1, 0] (Host.dotGeneral dot_S4096x4096_S4096x1024_S4096x1024_0_0_1_1_n_n none D H) transposes_S4096x1024_S1024x4096_1_0

/-- The pack after the step. -/
def hP (H : FVec Ideal S4096x1024 .f32) (D : FVec Ideal S4096x4096 .f32) (B : FVec Ideal S4x3072x1024 .bf16) : FVec Ideal S4x3072x1024 .bf16 :=
  concatenate S4x3072x1024 1 [⟨S4x1024x1024, extractStridedSlice S4x1024x1024 ![0, 0, 0] B slices_S4x3072x1024_S4x1024x1024_0_0_0⟩, ⟨S4x1024x1024, truncf .bf16 (transpose S4x1024x1024 [1, 0, 2] (shapeCast _ (hW H D) shapeCasts_S1024x4096_S1024x4x1024) transposes_S1024x4x1024_S4x1024x1024_1_0_2) bitsLt_bf16_f32⟩, ⟨S4x1024x1024, extractStridedSlice S4x1024x1024 ![0, 2048, 0] B slices_S4x3072x1024_S4x1024x1024_0_2048_0⟩] concatenates_S4x1024x1024_S4x1024x1024_S4x1024x1024_S4x3072x1024_d1

section Pack

variable {H : FVec Ideal S4096x1024 .f32} {D : FVec Ideal S4096x4096 .f32} {B : FVec Ideal S4x3072x1024 .bf16}
  {h : Fin 4096 → Fin 1024 → EReal} {d : Fin 4096 → Fin 4096 → EReal} {b : S4x3072x1024.Idx → EReal}

theorem hW_at (hh : ∀ y k, H (ix2 y k) = h y k) (hd : ∀ y k, D (ix2 y k) = d y k) (k : Fin 1024) (n : Fin 4096) : hW H D (ix2 k n) = dw h d k n := by
  unfold hW
  pointwise
  simp only [hh, hd]
  exact Finset.sum_congr rfl fun y _ => mul_comm _ _

theorem hP_first (hb : ∀ i, B i = b i) (q : Fin 4) (k f : Fin 1024) : hP H D B (ix3 q ⟨k.val, by omega⟩ f) = b (ix3 q ⟨k.val, by omega⟩ f) := by
  unfold hP
  pointwise
  exact hb _
theorem hP_new (hh : ∀ y k, H (ix2 y k) = h y k) (hd : ∀ y k, D (ix2 y k) = d y k) (q : Fin 4) (k f : Fin 1024) :
    hP H D B (ix3 q ⟨1024 + k.val, by omega⟩ f) = dw h d k ⟨q.val * 1024 + f.val, by omega⟩ := by
  unfold hP
  pointwise
  exact hW_at hh hd _ _
theorem hP_last (hb : ∀ i, B i = b i) (q : Fin 4) (k f : Fin 1024) : hP H D B (ix3 q ⟨2048 + k.val, by omega⟩ f) = b (ix3 q ⟨2048 + k.val, by omega⟩ f) := by
  unfold hP
  pointwise
  refine (dif_neg (by omega)).trans ((dif_neg (by omega)).trans ((hb _).trans (congrArg (fun r => b (ix3 q r f)) (Fin.ext ?_))))
  show 2048 + (2048 + k.val - 1024 - 1024) = 2048 + k.val
  omega

theorem hP_eq (hh : ∀ y k, H (ix2 y k) = h y k) (hd : ∀ y k, D (ix2 y k) = d y k) (hb : ∀ i, B i = b i) : hP H D B = layP h d b := by
  funext j
  obtain ⟨q, r, f, rfl⟩ : ∃ (q : Fin 4) (r : Fin 3072) (f : Fin 1024), j = ix3 q r f := ⟨_, _, _, eq_ix3 j⟩
  have hl : layP h d b (ix3 q r f) = if r.val / 1024 = 1 then dw h d ⟨r.val % 1024, Nat.mod_lt _ (by decide)⟩ ⟨q.val * 1024 + f.val, by omega⟩ else b (ix3 q r f) := rfl
  rw [hl]
  by_cases h0 : r.val < 1024
  · rw [if_neg (by omega)]
    exact hP_first hb q ⟨r.val, h0⟩ f
  by_cases h1 : r.val < 2048
  · rw [if_pos (by omega)]
    have e : r = ⟨1024 + (r.val - 1024), by omega⟩ := Fin.ext (by show r.val = 1024 + (r.val - 1024); omega)
    rw [e]
    refine (hP_new hh hd q ⟨r.val - 1024, by omega⟩ f).trans (congrArg (fun k => dw h d k _) (Fin.ext ?_))
    show r.val - 1024 = (1024 + (r.val - 1024)) % 1024
    omega
  · rw [if_neg (by omega)]
    have e : r = ⟨2048 + (r.val - 2048), by omega⟩ := Fin.ext (by show r.val = 2048 + (r.val - 2048); omega)
    rw [e]
    exact hP_last hb q ⟨r.val - 2048, by omega⟩ f

end Pack

end Cert.Reference5Ideal.Flow

namespace Cert.Proof

open Idealize.ShloMosaic Idealize.ShloMosaic.TcCoe Idealize.ShloMosaic.Tactic

/-- The equation of `_wgrad` for w_mlp_up. -/
theorem algebraic5 : Cert.algebraic_Kernel5Ideal_Reference5Ideal := by
  intro m g m' g' _ hagree
  let h := fun c : Dev Cert.Kernel5Ideal.nD => elts (n := 4096) (k := 1024) (m ((c.tc : Thread Cert.Kernel5Ideal.nD Cert.Kernel5Ideal.τ).loc Cert.Kernel5Ideal.main_arg0))
  let d := fun c : Dev Cert.Kernel5Ideal.nD => elts (n := 4096) (k := 4096) (m ((c.tc : Thread Cert.Kernel5Ideal.nD Cert.Kernel5Ideal.τ).loc Cert.Kernel5Ideal.main_arg1))
  let b := fun c : Dev Cert.Kernel5Ideal.nD => m ((c.tc : Thread Cert.Kernel5Ideal.nD Cert.Kernel5Ideal.τ).loc Cert.Kernel5Ideal.main_arg2)
  refine ⟨fun c => Cert.Kernel5Ideal.Flow.layP (h c) (d c) (b c), ?_, ?_⟩
  · refine (θ_run Cert.Kernel5Ideal.defs _ _).mono (fun r hr c => ?_) (Cert.Kernel5Ideal.Value.run_blocks m g)
    obtain ⟨e0, er⟩ := hr c
    exact ⟨e0.trans (Cert.Kernel5Ideal.Flow.arr2 m c (fun _ _ => rfl) (fun _ _ => rfl) (fun _ => rfl)), er⟩
  · refine (θ_run Cert.Reference5Ideal.defs _ _).mono (fun r hr c => ?_) (Cert.Reference5Ideal.Value.run m' g')
    obtain ⟨a0, a1, a2⟩ := hagree c
    obtain ⟨e0, er⟩ := hr c
    exact ⟨e0.trans (Cert.Reference5Ideal.Flow.hP_eq (fun y k => congrFun a0 (ix2 y k)) (fun y k => congrFun a1 (ix2 y k)) (fun i => congrFun a2 i)), er⟩

end Cert.Proof

end
-- ==== Proof.Wgrad.DownArrays.lean ====
/-
The arrays that the call `_wgrad` takes and leaves, for w_mlp_down.
-/
module

public import proofs.«01_k».proof.Proof.Gen.Kernel6Ideal.Value
public import Idealize.ShloMosaic.Lib.Pointwise
public import Idealize.ShloMosaic.Lib.StableHlo.ReadAt
public import Idealize.ShloMosaic.Lib.KernelVsHost
public import Idealize.ShloMosaic.Lib.Pipeline.ValueKit

@[expose] public section

set_option maxRecDepth 16384

noncomputable section

namespace Cert.Kernel6Ideal.Flow

open Idealize.ShloMosaic Idealize.ShloMosaic.TcCoe Idealize.ShloMosaic.Tactic
open Cert.Kernel6Ideal.Gen

/-- The gradient of the weight. -/
def dw (h : Fin 4096 → Fin 4096 → EReal) (d : Fin 4096 → Fin 1024 → EReal) (k : Fin 4096) (n : Fin 1024) : EReal := ∑ y, h y k * d y n

/-- The gradient where the pack holds it: a quarter of the rows in each block. -/
def spread (h : Fin 4096 → Fin 4096 → EReal) (d : Fin 4096 → Fin 1024 → EReal) : S4x3072x1024.Idx → EReal := fun i =>
  dw h d ⟨(i 0).val * 1024 + (i 1).val % 1024, by have h0 : (i 0).val < 4 := (i 0).isLt; omega⟩ (i 2)

/-- The pack after the call: rows 2048 to 3071 of each block new, the others as they were. -/
def layP (h : Fin 4096 → Fin 4096 → EReal) (d : Fin 4096 → Fin 1024 → EReal) (b : S4x3072x1024.Idx → EReal) : S4x3072x1024.Idx → EReal := fun i =>
  if (i 1).val / 1024 = 2 then spread h d i else b i

/-! ## One step -/

theorem add_pay {A D : FVec Ideal S1024x1024 .bf16} {a d : Fin 1024 → Fin 1024 → EReal}
    (ha : ∀ r k, A (ix2 r k) = a r k) (hd : ∀ r k, D (ix2 r k) = d r k) (acc : FVec Ideal S1024x1024 .f32) (k n : Fin 1024) :
    k0_pay2 (F := Ideal) acc A D (ix2 k n) = acc (ix2 k n) + ∑ r, a r k * d r n := by
  pointwise [k0_pay2]
  simp only [ha, hd]

theorem zero_pay (k n : Fin 1024) : k0_pay1 (F := Ideal) (ix2 k n) = 0 := by
  pointwise [k0_pay1]

theorem cast_pay (acc : FVec Ideal S1024x1024 .f32) (k n : Fin 1024) : (k0_pay3 (F := Ideal) acc (ix3 0 k n) : EReal) = acc (ix2 k n) := by
  pointwise [k0_pay3]

theorem split3 (j : S1x1024x1024.Idx) : ∃ k n : Fin 1024, j = ix3 0 k n :=
  ⟨j 1, j 2, by
    funext a
    fin_cases a
    · exact Subsingleton.elim (α := Fin 1) _ _
    · rfl
    · rfl⟩

/-- An index of a quarter. -/
abbrev row (t : Fin 4) (r : Fin 1024) : Fin 4096 := ⟨t.val * 1024 + r.val, by omega⟩

theorem idx : ∀ t : Fin cfg0.N,
    win0_0.index t = ![t.val % 4, t.val / 4] ∧ win0_1.index t = ![t.val % 4, 0] ∧ win0_2.index t = ![t.val / 4, 2, 0] :=
  (by decide +kernel : ∀ t : Fin grid0.N, _)

theorem tlt (t : Fin cfg0.N) : t.val < 16 := t.isLt

/-- The quarter of the rows that a step reads. -/
abbrev part (t : Fin cfg0.N) : Fin 4 := ⟨t.val % 4, Nat.mod_lt _ (by decide)⟩
/-- The quarter of the weight's rows that a step computes. -/
abbrev side (t : Fin cfg0.N) : Fin 4 := ⟨t.val / 4, by have := tlt t; omega⟩

section Reads

variable (t : Fin cfg0.N)

theorem read0 (A : S4096x4096.Idx → EReal) (r k : Fin 1024) :
    (((cfg0.win 0).blk t).view.read (Elt Ideal) A (ix2 r k) : EReal) = A (ix2 (row (part t) r) (row (side t) k)) := by
  blk_ext [idx t]
theorem read1 (A : S4096x1024.Idx → EReal) (r k : Fin 1024) :
    (((cfg0.win 1).blk t).view.read (Elt Ideal) A (ix2 r k) : EReal) = A (ix2 (row (part t) r) k) := by
  blk_ext [idx t]
theorem place2 (k n : Fin 1024) : ((cfg0.win 2).blk t).view.emb (ix3 0 k n) = ix3 (side t) ⟨2048 + k.val, by omega⟩ n := by
  blk_ext [idx t]

end Reads

section Arrays

variable (m : (ℓ : Loc nD τ sig) → Buf (Elt Ideal) ℓ) (c : Dev nD) {h : Fin 4096 → Fin 4096 → EReal} {d : Fin 4096 → Fin 1024 → EReal} {b : S4x3072x1024.Idx → EReal}
  (hh : ∀ y k, (m ((c : Thread nD τ).loc main_arg0) (ix2 y k) : EReal) = h y k)
  (hd : ∀ y k, (m ((c : Thread nD τ).loc main_arg1) (ix2 y k) : EReal) = d y k)
  (hb : ∀ i, (m ((c : Thread nD τ).loc main_arg2) i : EReal) = b i)

include hh in
theorem V0_at (y k : Fin 4096) : (Gen.V m c main_v0 (ix2 y k) : EReal) = h y k := by
  simp only [Gen.V, Gen.hostOps0, List.flatten_cons, List.flatten_nil, List.append_nil, List.cons_append, List.nil_append]
  after_reads_simp
  clean_types
  pointwise
  exact hh y k

include hd in
theorem V1_at (y : Fin 4096) (k : Fin 1024) : (Gen.V m c main_v1 (ix2 y k) : EReal) = d y k := by
  simp only [Gen.V, Gen.hostOps0, List.flatten_cons, List.flatten_nil, List.append_nil, List.cons_append, List.nil_append]
  after_reads_simp
  clean_types
  pointwise
  exact hd y k

include hb in
theorem V2_at (i : S4x3072x1024.Idx) : (Gen.V m c main_v2 i : EReal) = b i := by
  simp only [Gen.V, Gen.hostOps0, List.flatten_cons, List.flatten_nil, List.append_nil, List.cons_append, List.nil_append]
  after_reads_simp
  exact hb i

section Steps

variable (t : Fin cfg0.N)

include hh in
theorem in0 (r k : Fin 1024) : (iblk m c 0 t (ix2 r k) : EReal) = h (row (part t) r) (row (side t) k) :=
  (read0 t (V m c main_v0) r k).trans (V0_at m c hh _ _)
include hd in
theorem in1 (r k : Fin 1024) : (iblk m c 1 t (ix2 r k) : EReal) = d (row (part t) r) k :=
  (read1 t (V m c main_v1) r k).trans (V1_at m c hd _ _)

include hh hd

theorem step (acc : FVec Ideal S1024x1024 .f32) (j : S1024x1024.Idx) :
    (k0_pay2 (F := Ideal) acc (iblk m c 0 t) (iblk m c 1 t) j : EReal)
      = acc j + ∑ r : Fin 1024, h (row (part t) r) (row (side t) (j 0)) * d (row (part t) r) (j 1) := by
  obtain ⟨k, n, rfl⟩ : ∃ (k n : Fin 1024), j = ix2 k n := ⟨_, _, eq_ix2 j⟩
  exact add_pay (in0 m c hh t) (in1 m c hd t) acc k n

end Steps

include hh hd

/-- What the scratch array holds after the last step of a quarter. -/
theorem held (t : Fin cfg0.N) (ht : t.val % 4 = 3) (k n : Fin 1024) : ((outsAt0 m c t.val t.isLt).2 (ix2 k n) : EReal) = dw h d (row (side t) k) n := by
  rw [Pipeline.eq_sum_fin_of_reset_step_apply_of_flush (fun n h => (outsAt0 m c n h).2) 4 (fun _ => 0)
    (fun t j => ∑ r : Fin 1024, h (row (part t) r) (row (side t) (j 0)) * d (row (part t) r) (j 1))
    (fun t h0 j => by
      rw [outsAt0_A m c t h0 (by omega)]; frame_out
      refine (step m c hh hd t _ j).trans (congrArg (· + _) ?_)
      obtain ⟨k, n, rfl⟩ : ∃ (k n : Fin 1024), j = ix2 k n := ⟨_, _, eq_ix2 j⟩
      exact zero_pay k n)
    (fun t h0 j => by
      have carried := congrFun (Memref.IsWhole.read_unread (m := scM0_0) (Memref.isWhole_whole _) (outsAt0 m c (t.val - 1) (Nat.lt_of_le_of_lt (Nat.sub_le _ _) t.isLt)).2) j
      by_cases h1 : t.val % 4 = 3
      · rw [outsAt0_C m c t h0 h1]; frame_out; exact (step m c hh hd t _ j).trans (congrArg (· + _) carried)
      · rw [outsAt0_B m c t h0 h1]; frame_out; exact (step m c hh hd t _ j).trans (congrArg (· + _) carried))
    t ht (ix2 k n), zero_add]
  refine Fin.sum_mul_add_congr (S := 4) (n := 1024) (f := fun y => h y (row (side t) k) * d y n) fun s r hl => ?_
  have hs : part ⟨4 * (t.val / 4) + s.val, Pipeline.run_point_lt_of_flush t ht s⟩ = s := Fin.ext (by show (4 * (t.val / 4) + s.val) % 4 = s.val; omega)
  have hq : side ⟨4 * (t.val / 4) + s.val, Pipeline.run_point_lt_of_flush t ht s⟩ = side t := Fin.ext (by show (4 * (t.val / 4) + s.val) / 4 = t.val / 4; omega)
  show h (row (part _) r) (row (side _) k) * d (row (part _) r) n = _
  rw [hs, hq]

theorem left (t : Fin cfg0.N) (ht : t.val % 4 = 3) (y : S1x1024x1024.Idx) :
    ((outsAt0 m c t.val t.isLt).1 y : EReal) = spread h d (((cfg0.win 2).blk t).view.emb y) := by
  obtain ⟨k, n, rfl⟩ := split3 y
  have hp := held m c hh hd t ht k n
  rw [outsAt0_C m c t (by omega) ht] at hp ⊢
  revert hp
  frame_out
  intro hp
  refine (cast_pay _ k n).trans (hp.trans ?_)
  rw [place2]
  refine congrArg (fun q => dw h d q n) (Fin.ext ?_)
  show t.val / 4 * 1024 + k.val = t.val / 4 * 1024 + (2048 + k.val) % 1024
  omega

include hb in
theorem arr2 : (dats m 0 c).arrAt 2 cfg0.N = layP h d b := by
  refine ((dats m 0 c).arrAt_eq_of_coversWhere 2 (spread h d) (P := fun i => (i 1).val / 1024 = 2) (fun β => β (1 : Fin _) = 2) (by decide +kernel) (fun t hf y => ?_) (fun j => Iff.rfl)).trans ?_
  · blk_simp
    rw [after0_2]
    exact left m c hh hd t ((flush0_2 t).mp hf) y
  · funext i
    show (if _ then _ else _) = (if _ then _ else _)
    rw [A_eq, V2_at m c hb]

end Arrays

end Cert.Kernel6Ideal.Flow

end
-- ==== Proof.Wgrad.DownValue.lean ====
/-
The call `_wgrad` for w_mlp_down and its reference end with the same pack of gradients.
-/
module

public import proofs.«01_k».proof.Proof.Wgrad.DownArrays
public import proofs.«01_k».proof.Proof.Mlp.DownValue
public import proofs.«01_k».proof.Proof.Gen.Reference6Ideal.Run
public import proofs.«01_k».proof.Defs

@[expose] public section

set_option maxRecDepth 16384

noncomputable section

namespace Cert.Reference6Ideal.Flow

open Cert.Reference6Ideal Cert.Reference6Ideal.Gen Idealize.ShloMosaic Idealize.ShloMosaic.TcCoe Idealize.ShloMosaic.Tactic
open Cert.Kernel6Ideal.Flow (dw spread layP)

/-- The gradient of the weight. -/
def hW (H : FVec Ideal S4096x4096 .f32) (D : FVec Ideal S4096x1024 .f32) : FVec Ideal S4096x1024 .f32 :=
  transpose S4096x1024 [1, 0] (Host.dotGeneral dot_S4096x1024_S4096x4096_S1024x4096_0_0_1_1_n_n none D H) transposes_S1024x4096_S4096x1024_1_0

/-- The pack after the step. -/
def hP (H : FVec Ideal S4096x4096 .f32) (D : FVec Ideal S4096x1024 .f32) (B : FVec Ideal S4x3072x1024 .bf16) : FVec Ideal S4x3072x1024 .bf16 :=
  concatenate S4x3072x1024 1 [⟨S4x2048x1024, extractStridedSlice S4x2048x1024 ![0, 0, 0] B slices_S4x3072x1024_S4x2048x1024_0_0_0⟩, ⟨S4x1024x1024, truncf .bf16 (shapeCast _ (hW H D) shapeCasts_S4096x1024_S4x1024x1024) bitsLt_bf16_f32⟩] concatenates_S4x2048x1024_S4x1024x1024_S4x3072x1024_d1

section Pack

variable {H : FVec Ideal S4096x4096 .f32} {D : FVec Ideal S4096x1024 .f32} {B : FVec Ideal S4x3072x1024 .bf16}
  {h : Fin 4096 → Fin 4096 → EReal} {d : Fin 4096 → Fin 1024 → EReal} {b : S4x3072x1024.Idx → EReal}

theorem hW_at (hh : ∀ y k, H (ix2 y k) = h y k) (hd : ∀ y k, D (ix2 y k) = d y k) (k : Fin 4096) (n : Fin 1024) : hW H D (ix2 k n) = dw h d k n := by
  unfold hW
  pointwise
  simp only [hh, hd]
  exact Finset.sum_congr rfl fun y _ => mul_comm _ _

theorem hP_first (hb : ∀ i, B i = b i) (q : Fin 4) (k : Fin 2048) (f : Fin 1024) : hP H D B (ix3 q ⟨k.val, by omega⟩ f) = b (ix3 q ⟨k.val, by omega⟩ f) := by
  unfold hP
  pointwise
  exact hb _
theorem hP_new (hh : ∀ y k, H (ix2 y k) = h y k) (hd : ∀ y k, D (ix2 y k) = d y k) (q : Fin 4) (k f : Fin 1024) :
    hP H D B (ix3 q ⟨2048 + k.val, by omega⟩ f) = dw h d ⟨q.val * 1024 + k.val, by omega⟩ f := by
  unfold hP
  pointwise
  exact hW_at hh hd _ _

theorem hP_eq (hh : ∀ y k, H (ix2 y k) = h y k) (hd : ∀ y k, D (ix2 y k) = d y k) (hb : ∀ i, B i = b i) : hP H D B = layP h d b := by
  funext j
  obtain ⟨q, r, f, rfl⟩ : ∃ (q : Fin 4) (r : Fin 3072) (f : Fin 1024), j = ix3 q r f := ⟨_, _, _, eq_ix3 j⟩
  have hl : layP h d b (ix3 q r f) = if r.val / 1024 = 2 then dw h d ⟨q.val * 1024 + r.val % 1024, by omega⟩ f else b (ix3 q r f) := rfl
  rw [hl]
  by_cases h1 : r.val < 2048
  · rw [if_neg (by omega)]
    exact hP_first hb q ⟨r.val, h1⟩ f
  · rw [if_pos (by omega)]
    have e : r = ⟨2048 + (r.val - 2048), by omega⟩ := Fin.ext (by show r.val = 2048 + (r.val - 2048); omega)
    rw [e]
    refine (hP_new hh hd q ⟨r.val - 2048, by omega⟩ f).trans (congrArg (fun k => dw h d k f) (Fin.ext ?_))
    show q.val * 1024 + (r.val - 2048) = q.val * 1024 + (2048 + (r.val - 2048)) % 1024
    omega

end Pack

end Cert.Reference6Ideal.Flow

namespace Cert.Proof

open Idealize.ShloMosaic Idealize.ShloMosaic.TcCoe Idealize.ShloMosaic.Tactic

/-- The equation of `_wgrad` for w_mlp_down. -/
theorem algebraic6 : Cert.algebraic_Kernel6Ideal_Reference6Ideal := by
  intro m g m' g' _ hagree
  let h := fun c : Dev Cert.Kernel6Ideal.nD => elts (n := 4096) (k := 4096) (m ((c.tc : Thread Cert.Kernel6Ideal.nD Cert.Kernel6Ideal.τ).loc Cert.Kernel6Ideal.main_arg0))
  let d := fun c : Dev Cert.Kernel6Ideal.nD => elts (n := 4096) (k := 1024) (m ((c.tc : Thread Cert.Kernel6Ideal.nD Cert.Kernel6Ideal.τ).loc Cert.Kernel6Ideal.main_arg1))
  let b := fun c : Dev Cert.Kernel6Ideal.nD => m ((c.tc : Thread Cert.Kernel6Ideal.nD Cert.Kernel6Ideal.τ).loc Cert.Kernel6Ideal.main_arg2)
  refine ⟨fun c => Cert.Kernel6Ideal.Flow.layP (h c) (d c) (b c), ?_, ?_⟩
  · refine (θ_run Cert.Kernel6Ideal.defs _ _).mono (fun r hr c => ?_) (Cert.Kernel6Ideal.Value.run_blocks m g)
    obtain ⟨e0, er⟩ := hr c
    exact ⟨e0.trans (Cert.Kernel6Ideal.Flow.arr2 m c (fun _ _ => rfl) (fun _ _ => rfl) (fun _ => rfl)), er⟩
  · refine (θ_run Cert.Reference6Ideal.defs _ _).mono (fun r hr c => ?_) (Cert.Reference6Ideal.Value.run m' g')
    obtain ⟨a0, a1, a2⟩ := hagree c
    obtain ⟨e0, er⟩ := hr c
    exact ⟨e0.trans (Cert.Reference6Ideal.Flow.hP_eq (fun y k => congrFun a0 (ix2 y k)) (fun y k => congrFun a1 (ix2 y k)) (fun i => congrFun a2 i)), er⟩

end Cert.Proof

end
-- ==== Proof.Wgrad.InArrays.lean ====
/-
The arrays that the call `_wgrad` takes and leaves, for a quarter of w_in's columns.
-/
module

public import proofs.«01_k».proof.Proof.Gen.Kernel7Ideal.Value
public import Idealize.ShloMosaic.Lib.Pointwise
public import Idealize.ShloMosaic.Lib.StableHlo.ReadAt
public import Idealize.ShloMosaic.Lib.KernelVsHost
public import Idealize.ShloMosaic.Lib.Pipeline.ValueKit

@[expose] public section

set_option maxRecDepth 16384

noncomputable section

namespace Cert.Kernel7Ideal.Flow

open Idealize.ShloMosaic Idealize.ShloMosaic.TcCoe Idealize.ShloMosaic.Tactic
open Cert.Kernel7Ideal.Gen

/-- The gradient of the weight. -/
def dw (h d : Fin 4096 → Fin 1024 → EReal) (k n : Fin 1024) : EReal := ∑ y, h y k * d y n

def layW (h d : Fin 4096 → Fin 1024 → EReal) : S1024x1024.Idx → EReal := fun i => dw h d (i 0) (i 1)

/-! ## One step -/

theorem add_pay {A D : FVec Ideal S1024x1024 .bf16} {a d : Fin 1024 → Fin 1024 → EReal}
    (ha : ∀ r k, A (ix2 r k) = a r k) (hd : ∀ r k, D (ix2 r k) = d r k) (acc : FVec Ideal S1024x1024 .f32) (k n : Fin 1024) :
    k0_pay2 (F := Ideal) acc A D (ix2 k n) = acc (ix2 k n) + ∑ r, a r k * d r n := by
  pointwise [k0_pay2]
  simp only [ha, hd]

theorem zero_pay (k n : Fin 1024) : k0_pay1 (F := Ideal) (ix2 k n) = 0 := by
  pointwise [k0_pay1]

/-- A row of a quarter. -/
abbrev row (t : Fin 4) (r : Fin 1024) : Fin 4096 := ⟨t.val * 1024 + r.val, by omega⟩

theorem idx : ∀ t : Fin cfg0.N,
    win0_0.index t = ![t.val, 0] ∧ win0_1.index t = ![t.val, 0] ∧ win0_2.index t = ![0, 0] :=
  (by decide +kernel : ∀ t : Fin grid0.N, _)

theorem tlt (t : Fin cfg0.N) : t.val < 4 := t.isLt

section Reads

variable (t : Fin cfg0.N)

theorem read0 (A : S4096x1024.Idx → EReal) (r k : Fin 1024) :
    (((cfg0.win 0).blk t).view.read (Elt Ideal) A (ix2 r k) : EReal) = A (ix2 (row ⟨t.val, tlt t⟩ r) k) := by
  blk_ext [idx t]
theorem read1 (A : S4096x1024.Idx → EReal) (r k : Fin 1024) :
    (((cfg0.win 1).blk t).view.read (Elt Ideal) A (ix2 r k) : EReal) = A (ix2 (row ⟨t.val, tlt t⟩ r) k) := by
  blk_ext [idx t]

end Reads

section Arrays

variable (m : (ℓ : Loc nD τ sig) → Buf (Elt Ideal) ℓ) (c : Dev nD) {h d : Fin 4096 → Fin 1024 → EReal}
  (hh : ∀ y k, (m ((c : Thread nD τ).loc main_arg0) (ix2 y k) : EReal) = h y k)
  (hd : ∀ y k, (m ((c : Thread nD τ).loc main_arg1) (ix2 y k) : EReal) = d y k)

include hh in
theorem V0_at (y : Fin 4096) (k : Fin 1024) : (Gen.V m c main_v0 (ix2 y k) : EReal) = h y k := by
  simp only [Gen.V, Gen.hostOps0, List.flatten_cons, List.flatten_nil, List.append_nil, List.cons_append, List.nil_append]
  after_reads_simp
  clean_types
  pointwise
  exact hh y k

include hd in
theorem V1_at (y : Fin 4096) (k : Fin 1024) : (Gen.V m c main_v1 (ix2 y k) : EReal) = d y k := by
  simp only [Gen.V, Gen.hostOps0, List.flatten_cons, List.flatten_nil, List.append_nil, List.cons_append, List.nil_append]
  after_reads_simp
  clean_types
  pointwise
  exact hd y k

variable (t : Fin cfg0.N)

include hh in
theorem in0 (r k : Fin 1024) : (iblk m c 0 t (ix2 r k) : EReal) = h (row ⟨t.val, tlt t⟩ r) k :=
  (read0 t (V m c main_v0) r k).trans (V0_at m c hh _ _)
include hd in
theorem in1 (r k : Fin 1024) : (iblk m c 1 t (ix2 r k) : EReal) = d (row ⟨t.val, tlt t⟩ r) k :=
  (read1 t (V m c main_v1) r k).trans (V1_at m c hd _ _)

include hh hd

theorem step (acc : FVec Ideal S1024x1024 .f32) (j : S1024x1024.Idx) :
    (k0_pay2 (F := Ideal) acc (iblk m c 0 t) (iblk m c 1 t) j : EReal)
      = acc j + ∑ r : Fin 1024, h (row ⟨t.val, tlt t⟩ r) (j 0) * d (row ⟨t.val, tlt t⟩ r) (j 1) := by
  obtain ⟨k, n, rfl⟩ : ∃ (k n : Fin 1024), j = ix2 k n := ⟨_, _, eq_ix2 j⟩
  exact add_pay (in0 m c hh t) (in1 m c hd t) acc k n

/-- What the scratch array holds after the last step. -/
theorem held (t : Fin cfg0.N) (ht : t.val + 1 = cfg0.N) (j : S1024x1024.Idx) : ((outsAt0 m c t.val t.isLt).2 j : EReal) = layW h d j := by
  rw [Pipeline.eq_sum_fin_of_reset_step_apply_last (fun n h => (outsAt0 m c n h).2) 4 (fun _ => 0)
    (fun t j => ∑ r : Fin 1024, h (row ⟨t.val, tlt t⟩ r) (j 0) * d (row ⟨t.val, tlt t⟩ r) (j 1))
    (fun t h0 j => by
      rw [outsAt0_A m c t h0 (by omega)]; frame_out
      refine (step m c hh hd t _ j).trans (congrArg (· + _) ?_)
      obtain ⟨k, n, rfl⟩ : ∃ (k n : Fin 1024), j = ix2 k n := ⟨_, _, eq_ix2 j⟩
      exact zero_pay k n)
    (fun t h0 j => by
      by_cases h1 : t.val % 4 = 3
      · rw [outsAt0_C m c t h0 h1]; frame_out; exact (step m c hh hd t _ j).trans (congrArg (· + _) (congrFun (Memref.IsWhole.read_unread (m := scM0_0) (Memref.isWhole_whole _) _) j))
      · rw [outsAt0_B m c t h0 h1]; frame_out; exact (step m c hh hd t _ j).trans (congrArg (· + _) (congrFun (Memref.IsWhole.read_unread (m := scM0_0) (Memref.isWhole_whole _) _) j)))
    (le_of_eq N_0) t ht j, zero_add]
  exact Fin.sum_mul_add_congr (S := 4) (n := 1024) fun t r hl => rfl

theorem arr2 : (dats m 0 c).arrAt 2 cfg0.N = layW h d := by
  refine (dats m 0 c).arrAt_eq_of_after_last 2 t0_3 (by decide +kernel) _ fun j => ?_
  blk_simp
  rw [after0_2]
  refine Eq.trans ?_ (held m c hh hd t0_3 rfl j)
  rw [outsAt0_C m c t0_3 (by decide) rfl]
  frame_out

end Arrays

end Cert.Kernel7Ideal.Flow

end
-- ==== Proof.Wgrad.InValue.lean ====
/-
The call `_wgrad` for a quarter of w_in's columns and its reference end with the same array.
-/
module

public import proofs.«01_k».proof.Proof.Wgrad.InArrays
public import proofs.«01_k».proof.Proof.Mlp.DownValue
public import proofs.«01_k».proof.Proof.Gen.Reference7Ideal.Run
public import proofs.«01_k».proof.Defs

@[expose] public section

set_option maxRecDepth 16384

noncomputable section

namespace Cert.Reference7Ideal.Flow

open Cert.Reference7Ideal Cert.Reference7Ideal.Gen Idealize.ShloMosaic Idealize.ShloMosaic.TcCoe Idealize.ShloMosaic.Tactic
open Cert.Kernel7Ideal.Flow (dw layW)

/-- The gradient of the weight. -/
def hW (H D : FVec Ideal S4096x1024 .f32) : FVec Ideal S1024x1024 .f32 :=
  transpose S1024x1024 [1, 0] (Host.dotGeneral dot_S4096x1024_S4096x1024_S1024x1024_0_0_1_1_n_n none D H) transposes_S1024x1024_S1024x1024_1_0

theorem hW_eq {H D : FVec Ideal S4096x1024 .f32} {h d : Fin 4096 → Fin 1024 → EReal}
    (hh : ∀ y k, H (ix2 y k) = h y k) (hd : ∀ y k, D (ix2 y k) = d y k) : hW H D = layW h d := by
  funext j
  obtain ⟨k, n, rfl⟩ : ∃ (k n : Fin 1024), j = ix2 k n := ⟨_, _, eq_ix2 j⟩
  unfold hW
  pointwise
  simp only [hh, hd]
  exact Finset.sum_congr rfl fun y _ => mul_comm _ _

end Cert.Reference7Ideal.Flow

namespace Cert.Proof

open Idealize.ShloMosaic Idealize.ShloMosaic.TcCoe Idealize.ShloMosaic.Tactic

/-- The equation of `_wgrad` for a quarter of w_in's columns. -/
theorem algebraic7 : Cert.algebraic_Kernel7Ideal_Reference7Ideal := by
  intro m g m' g' _ hagree
  let h := fun c : Dev Cert.Kernel7Ideal.nD => elts (n := 4096) (k := 1024) (m ((c.tc : Thread Cert.Kernel7Ideal.nD Cert.Kernel7Ideal.τ).loc Cert.Kernel7Ideal.main_arg0))
  let d := fun c : Dev Cert.Kernel7Ideal.nD => elts (n := 4096) (k := 1024) (m ((c.tc : Thread Cert.Kernel7Ideal.nD Cert.Kernel7Ideal.τ).loc Cert.Kernel7Ideal.main_arg1))
  refine ⟨fun c => Cert.Kernel7Ideal.Flow.layW (h c) (d c), ?_, ?_⟩
  · refine (θ_run Cert.Kernel7Ideal.defs _ _).mono (fun r hr c => ?_) (Cert.Kernel7Ideal.Value.run_blocks m g)
    obtain ⟨e0, er⟩ := hr c
    exact ⟨e0.trans (Cert.Kernel7Ideal.Flow.arr2 m c (fun _ _ => rfl) (fun _ _ => rfl)), er⟩
  · refine (θ_run Cert.Reference7Ideal.defs _ _).mono (fun r hr c => ?_) (Cert.Reference7Ideal.Value.run m' g')
    obtain ⟨a0, a1⟩ := hagree c
    obtain ⟨e0, er⟩ := hr c
    exact ⟨e0.trans (Cert.Reference7Ideal.Flow.hW_eq (fun y k => congrFun a0 (ix2 y k)) (fun y k => congrFun a1 (ix2 y k))), er⟩

end Cert.Proof

end
-- ==== Proof.Fwd.Frames.lean ====
/-
The frames of the forward calls and of their references.
-/
module

public import proofs.«01_k».proof.Defs
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel11.Frame
public import proofs.«01_k».proof.Proof.Gen.Kernel10Ideal.Frame
public import proofs.«01_k».proof.Proof.Gen.Kernel11Ideal.Frame
public import proofs.«01_k».proof.Proof.Gen.Reference10Ideal.Run
public import proofs.«01_k».proof.Proof.Gen.Reference11Ideal.Run
public import Idealize.ShloMosaic.Lib.Quiescent

@[expose] public section

set_option maxRecDepth 16384

noncomputable section

namespace Cert.Proof

open Idealize.ShloMosaic Idealize.ShloMosaic.TcCoe Idealize.SL.Sem

/-- The call `_fwd_in` leaves its arguments as they were, at machine words. -/
theorem frame_kernel8 : Cert.quiescent_Kernel8 := fun m ρ _ => Cert.Kernel8.Gen.frame m ρ

/-- The same at the reals. -/
theorem frame_kernel8Ideal : Cert.quiescent_Kernel8Ideal := fun m ρ _ => Cert.Kernel8Ideal.Gen.frame m ρ

/-- The reference of `_fwd_in` leaves its arguments as they were. -/
theorem frame_reference8Ideal : Cert.quiescent_Reference8Ideal := fun m g _ =>
  (θ_run Cert.Reference8Ideal.defs _ _).mono
    (fun r h => ⟨fun c => (h c).2.2, sem_eq_zero_of_no_sems rfl r.2⟩)
    (Cert.Reference8Ideal.Value.run (F := Ideal) m g)

/-- The call `_fwd_mlp_up` leaves its arguments as they were, at machine words. -/
theorem frame_kernel9 : Cert.quiescent_Kernel9 := fun m ρ _ => Cert.Kernel9.Gen.frame m ρ

/-- The same at the reals. -/
theorem frame_kernel9Ideal : Cert.quiescent_Kernel9Ideal := fun m ρ _ => Cert.Kernel9Ideal.Gen.frame m ρ

/-- The reference of `_fwd_mlp_up` leaves its arguments as they were. -/
theorem frame_reference9Ideal : Cert.quiescent_Reference9Ideal := fun m g _ =>
  (θ_run Cert.Reference9Ideal.defs _ _).mono
    (fun r h => ⟨fun c => (h c).2.2, sem_eq_zero_of_no_sems rfl r.2⟩)
    (Cert.Reference9Ideal.Value.run (F := Ideal) m g)

/-- The call `_fwd_mlp_down` leaves its arguments as they were, at machine words. -/
theorem frame_kernel10 : Cert.quiescent_Kernel10 := fun m ρ _ => Cert.Kernel10.Gen.frame m ρ

/-- The same at the reals. -/
theorem frame_kernel10Ideal : Cert.quiescent_Kernel10Ideal := fun m ρ _ => Cert.Kernel10Ideal.Gen.frame m ρ

/-- The reference of `_fwd_mlp_down` leaves its arguments as they were. -/
theorem frame_reference10Ideal : Cert.quiescent_Reference10Ideal := fun m g _ =>
  (θ_run Cert.Reference10Ideal.defs _ _).mono
    (fun r h => ⟨fun c => (h c).2.2, sem_eq_zero_of_no_sems rfl r.2⟩)
    (Cert.Reference10Ideal.Value.run (F := Ideal) m g)

/-- The call `_fwd_mix` leaves its arguments as they were, at machine words. -/
theorem frame_kernel11 : Cert.quiescent_Kernel11 := fun m ρ _ => Cert.Kernel11.Gen.frame m ρ

/-- The same at the reals. -/
theorem frame_kernel11Ideal : Cert.quiescent_Kernel11Ideal := fun m ρ _ => Cert.Kernel11Ideal.Gen.frame m ρ

/-- The reference of `_fwd_mix` leaves its arguments as they were. -/
theorem frame_reference11Ideal : Cert.quiescent_Reference11Ideal := fun m g _ =>
  (θ_run Cert.Reference11Ideal.defs _ _).mono
    (fun r h => ⟨fun c => (h c).2.2.2.2.2, sem_eq_zero_of_no_sems rfl r.2⟩)
    (Cert.Reference11Ideal.Value.run (F := Ideal) m g)

end Cert.Proof

end
-- ==== Proof.Fwd.Host.lean ====
/-
The reference's norm, read element by element.
-/
module

public import proofs.«01_k».proof.Proof.Mlp.NormHost
public import proofs.«01_k».proof.Proof.Mlp.DownValue

@[expose] public section

set_option maxRecDepth 16384

noncomputable section

namespace Cert.Reference2Ideal.Flow

open Cert.Reference2Ideal Cert.Reference2Ideal.Gen Idealize.ShloMosaic Idealize.ShloMosaic.TcCoe Idealize.ShloMosaic.Tactic

/-- The norm. -/
def hN (X : FVec Ideal S4096x1024 .f32) (G : FVec Ideal S1x1024 .f32) : FVec Ideal S4096x1024 .f32 := gains (mulf X (alongRow (hR X))) G

theorem hN_at {X : FVec Ideal S4096x1024 .f32} {G : FVec Ideal S1x1024 .f32} {x : Fin 4096 → Fin 1024 → EReal} {g : Fin 1024 → EReal}
    (hx : ∀ y k, X (ix2 y k) = x y k) (hg : ∀ k, G (ix2 0 k) = g k) (y : Fin 4096) (k : Fin 1024) : hN X G (ix2 y k) = Norm.nrm (x y) g k := by
  unfold hN
  pointwise [hR_at hx, hx, hg]
  rfl

end Cert.Reference2Ideal.Flow

end
-- ==== Proof.Fwd.In.lean ====
/-
The call `_fwd_in` and its reference end with the same two arrays: the rows of the input projection, and the normed rows.
-/
module

public import proofs.«01_k».proof.Proof.Fwd.Host
public import proofs.«01_k».proof.Proof.Gen.Kernel8Ideal.Value
public import proofs.«01_k».proof.Proof.Gen.Reference8Ideal.Run
public import proofs.«01_k».proof.Defs
public import Idealize.ShloMosaic.Lib.Pointwise
public import Idealize.ShloMosaic.Lib.StableHlo.ReadAt
public import Idealize.ShloMosaic.Lib.KernelVsHost
public import Idealize.ShloMosaic.Lib.Pipeline.ValueKit

@[expose] public section

set_option maxRecDepth 16384

noncomputable section

namespace Cert.Kernel8Ideal.Flow

open Cert.Kernel8Ideal Cert.Kernel8Ideal.Gen Idealize.ShloMosaic Idealize.ShloMosaic.TcCoe Idealize.ShloMosaic.Tactic

/-! ## The results, over the extended reals -/

section Results

variable (x : Fin 4096 → Fin 1024 → EReal) (g : Fin 1024 → EReal) (w : Fin 1024 → Fin 4096 → EReal)

/-- The projected rows. -/
def outZ (y f : Fin 4096) : EReal := ∑ k, Norm.nrm (x y) g k * w k f

def layZ : S4096x4096.Idx → EReal := fun i => outZ x g w (i 0) (i 1)
def layH : S4096x1024.Idx → EReal := fun i => Norm.nrm (x (i 0)) g (i 1)

end Results

/-! ## One block -/

theorem h_pay {X : FVec Ideal S256x1024 .f32} {G : FVec Ideal S1x1024 .f32} {x : Fin 256 → Fin 1024 → EReal} {g : Fin 1024 → EReal}
    (hx : ∀ r k, X (ix2 r k) = x r k) (hg : ∀ k, G (ix2 0 k) = g k) (r : Fin 256) (k : Fin 1024) :
    k0_pay1 (F := Ideal) X G (ix2 r k) = Norm.nrm (x r) g k := by
  pointwise [k0_pay1, hx, hg]
  rfl

theorem z_pay {X : FVec Ideal S256x1024 .f32} {G : FVec Ideal S1x1024 .f32} {W : FVec Ideal S1024x4096 .bf16} {x : Fin 256 → Fin 1024 → EReal} {g : Fin 1024 → EReal} {w : Fin 1024 → Fin 4096 → EReal}
    (hx : ∀ r k, X (ix2 r k) = x r k) (hg : ∀ k, G (ix2 0 k) = g k) (hw : ∀ k f, W (ix2 k f) = w k f) (r : Fin 256) (f : Fin 4096) :
    k0_pay2 (F := Ideal) X G W (ix2 r f) = ∑ k, Norm.nrm (x r) g k * w k f := by
  pointwise [k0_pay2]
  simp only [h_pay hx hg, hw]

/-- A row of a block of 256. -/
abbrev row (t : Fin 16) (r : Fin 256) : Fin 4096 := ⟨t.val * 256 + r.val, by omega⟩

theorem idx : ∀ t : Fin cfg0.N,
    win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

theorem tlt (t : Fin cfg0.N) : t.val < 16 := t.isLt

/-! ## The arrays -/

section Arrays

variable (m : (ℓ : Loc nD τ sig) → Buf (Elt Ideal) ℓ) (c : Dev nD)
  {x : Fin 4096 → Fin 1024 → EReal} {g : Fin 1024 → EReal} {w : Fin 1024 → Fin 4096 → EReal}
  (hx : ∀ y k, (m ((c : Thread nD τ).loc main_arg0) (ix2 y k) : EReal) = x y k)
  (hg : ∀ k, (m ((c : Thread nD τ).loc main_arg1) (ix2 0 k) : EReal) = g k)
  (hw : ∀ y k, (m ((c : Thread nD τ).loc main_arg2) (ix2 y k) : EReal) = w y k)
  (t : Fin cfg0.N)

theorem read0 (A : S4096x1024.Idx → EReal) (r : Fin 256) (k : Fin 1024) :
    (((cfg0.win 0).blk t).view.read (Elt Ideal) A (ix2 r k) : EReal) = A (ix2 (row ⟨t.val, tlt t⟩ r) k) := by
  blk_ext [idx t]
theorem read1 (A : S1x1024.Idx → EReal) (k : Fin 1024) :
    (((cfg0.win 1).blk t).view.read (Elt Ideal) A (ix2 0 k) : EReal) = A (ix2 0 k) := by
  blk_ext [idx t]
theorem read2 (A : S1024x4096.Idx → EReal) (k : Fin 1024) (f : Fin 4096) :
    (((cfg0.win 2).blk t).view.read (Elt Ideal) A (ix2 k f) : EReal) = A (ix2 k f) := by
  blk_ext [idx t]
theorem place3 (r : Fin 256) (f : Fin 4096) : ((cfg0.win 3).blk t).view.emb (ix2 r f) = ix2 (row ⟨t.val, tlt t⟩ r) f := by
  blk_ext [idx t]
theorem place4 (r : Fin 256) (k : Fin 1024) : ((cfg0.win 4).blk t).view.emb (ix2 r k) = ix2 (row ⟨t.val, tlt t⟩ r) k := by
  blk_ext [idx t]

include hw in
theorem V0_at (k : Fin 1024) (f : Fin 4096) : (Gen.V m c main_v0 (ix2 k f) : EReal) = w k f := by
  simp only [Gen.V, Gen.hostOps0, List.flatten_cons, List.flatten_nil, List.append_nil, List.cons_append, List.nil_append]
  after_reads_simp
  clean_types
  pointwise
  exact hw _ _

include hx in
theorem in0 (r : Fin 256) (k : Fin 1024) : (iblk m c 0 t (ix2 r k) : EReal) = x (row ⟨t.val, tlt t⟩ r) k :=
  (read0 t (V m c main_arg0) r k).trans ((congrFun (V_main_arg0 m c) _).trans (hx _ _))
include hg in
theorem in1 (k : Fin 1024) : (iblk m c 1 t (ix2 0 k) : EReal) = g k :=
  (read1 t (V m c main_arg1) k).trans ((congrFun (V_main_arg1 m c) _).trans (hg _))
include hw in
theorem in2 (k : Fin 1024) (f : Fin 4096) : (iblk m c 2 t (ix2 k f) : EReal) = w k f :=
  (read2 t (V m c main_v0) k f).trans (V0_at m c hw _ _)

include hx hg

theorem arr4 : (dats m 0 c).arrAt 4 cfg0.N = layH x g := by
  refine (dats m 0 c).arrAt_eq_of_covers 4 _ (by decide +kernel) fun t hf y => ?_
  blk_simp
  rw [after0_4]
  frame_out
  obtain ⟨r, k, rfl⟩ : ∃ (r : Fin 256) (k : Fin 1024), y = ix2 r k := ⟨_, _, eq_ix2 y⟩
  exact (h_pay (in0 m c hx t) (in1 m c hg t) r k).trans (congrArg (layH x g) (place4 t r k)).symm

include hw

theorem arr3 : (dats m 0 c).arrAt 3 cfg0.N = layZ x g w := by
  refine (dats m 0 c).arrAt_eq_of_covers 3 _ (by decide +kernel) fun t hf y => ?_
  blk_simp
  rw [after0_3]
  frame_out
  obtain ⟨r, f, rfl⟩ : ∃ (r : Fin 256) (f : Fin 4096), y = ix2 r f := ⟨_, _, eq_ix2 y⟩
  exact (z_pay (in0 m c hx t) (in1 m c hg t) (in2 m c hw t) r f).trans (congrArg (layZ x g w) (place3 t r f)).symm

end Arrays

end Cert.Kernel8Ideal.Flow

namespace Cert.Reference8Ideal.Flow

open Cert.Reference8Ideal Cert.Reference8Ideal.Gen Idealize.ShloMosaic Idealize.ShloMosaic.TcCoe Idealize.ShloMosaic.Tactic
open Cert.Kernel8Ideal.Flow (outZ layZ layH)
open Cert.Reference2Ideal.Flow (hM hR hN alongRow gains hN_at)

/-- The projected rows. -/
def hZ (X : FVec Ideal S4096x1024 .f32) (G : FVec Ideal S1x1024 .f32) (W : FVec Ideal S1024x4096 .f32) : FVec Ideal S4096x4096 .f32 :=
  Host.dotGeneral dot_S4096x1024_S1024x4096_S4096x4096_1_0_0_1_n_n none (hN X G) W

section Results

variable {X : FVec Ideal S4096x1024 .f32} {G : FVec Ideal S1x1024 .f32} {W : FVec Ideal S1024x4096 .f32}
  {x : Fin 4096 → Fin 1024 → EReal} {g : Fin 1024 → EReal} {w : Fin 1024 → Fin 4096 → EReal}
  (hx : ∀ y k, X (ix2 y k) = x y k) (hg : ∀ k, G (ix2 0 k) = g k) (hw : ∀ k f, W (ix2 k f) = w k f)

include hx hg

theorem h_eq : truncf (F := Ideal) .bf16 (hN X G) bitsLt_bf16_f32 = layH x g := by
  funext j
  obtain ⟨r, k, rfl⟩ : ∃ (r : Fin 4096) (k : Fin 1024), j = ix2 r k := ⟨_, _, eq_ix2 j⟩
  pointwise
  exact hN_at hx hg r k

include hw

theorem z_eq : hZ X G W = layZ x g w := by
  funext j
  obtain ⟨r, f, rfl⟩ : ∃ (r : Fin 4096) (f : Fin 4096), j = ix2 r f := ⟨_, _, eq_ix2 j⟩
  unfold hZ
  pointwise
  simp only [hN_at hx hg, hw]
  rfl

end Results

end Cert.Reference8Ideal.Flow

namespace Cert.Proof

open Idealize.ShloMosaic Idealize.ShloMosaic.TcCoe Idealize.ShloMosaic.Tactic

/-- The equation of `_fwd_in`. -/
theorem algebraic8 : Cert.algebraic_Kernel8Ideal_Reference8Ideal := by
  intro m g m' g' _ hagree
  let x := fun c : Dev Cert.Kernel8Ideal.nD => elts (n := 4096) (k := 1024) (m ((c.tc : Thread Cert.Kernel8Ideal.nD Cert.Kernel8Ideal.τ).loc Cert.Kernel8Ideal.main_arg0))
  let γ := fun c : Dev Cert.Kernel8Ideal.nD => elts (n := 1) (k := 1024) (m ((c.tc : Thread Cert.Kernel8Ideal.nD Cert.Kernel8Ideal.τ).loc Cert.Kernel8Ideal.main_arg1)) 0
  let w := fun c : Dev Cert.Kernel8Ideal.nD => elts (n := 1024) (k := 4096) (m ((c.tc : Thread Cert.Kernel8Ideal.nD Cert.Kernel8Ideal.τ).loc Cert.Kernel8Ideal.main_arg2))
  have read : ∀ c : Dev Cert.Kernel8Ideal.nD,
      (∀ y k, (m ((c.tc : Thread Cert.Kernel8Ideal.nD Cert.Kernel8Ideal.τ).loc Cert.Kernel8Ideal.main_arg0) (ix2 y k) : EReal) = x c y k)
      ∧ (∀ k, (m ((c.tc : Thread Cert.Kernel8Ideal.nD Cert.Kernel8Ideal.τ).loc Cert.Kernel8Ideal.main_arg1) (ix2 0 k) : EReal) = γ c k)
      ∧ (∀ y k, (m ((c.tc : Thread Cert.Kernel8Ideal.nD Cert.Kernel8Ideal.τ).loc Cert.Kernel8Ideal.main_arg2) (ix2 y k) : EReal) = w c y k) := fun c =>
    ⟨fun _ _ => rfl, fun _ => rfl, fun _ _ => rfl⟩
  refine ⟨fun c => Cert.Kernel8Ideal.Flow.layZ (x c) (γ c) (w c), fun c => Cert.Kernel8Ideal.Flow.layH (x c) (γ c), ?_, ?_⟩
  · refine (θ_run Cert.Kernel8Ideal.defs _ _).mono (fun r h c => ?_) (Cert.Kernel8Ideal.Value.run_blocks m g)
    obtain ⟨r0, r1, r2⟩ := read c
    obtain ⟨e0, e1, er⟩ := h c
    exact ⟨e0.trans (Cert.Kernel8Ideal.Flow.arr3 m c r0 r1 r2), e1.trans (Cert.Kernel8Ideal.Flow.arr4 m c r0 r1), er⟩
  · refine (θ_run Cert.Reference8Ideal.defs _ _).mono (fun r h c => ?_) (Cert.Reference8Ideal.Value.run m' g')
    obtain ⟨r0, r1, r2⟩ := read c
    obtain ⟨a0, a1, a2⟩ := hagree c
    have q0 : ∀ y k, (m' ((c.tc : Thread Cert.Reference8Ideal.nD Cert.Reference8Ideal.τ).loc Cert.Reference8Ideal.main_arg0) (ix2 y k) : EReal) = x c y k := fun y k => (congrFun a0 (ix2 y k)).trans (r0 y k)
    have q1 : ∀ k, (m' ((c.tc : Thread Cert.Reference8Ideal.nD Cert.Reference8Ideal.τ).loc Cert.Reference8Ideal.main_arg1) (ix2 0 k) : EReal) = γ c k := fun k => (congrFun a1 (ix2 0 k)).trans (r1 k)
    have q2 : ∀ y k, (m' ((c.tc : Thread Cert.Reference8Ideal.nD Cert.Reference8Ideal.τ).loc Cert.Reference8Ideal.main_arg2) (ix2 y k) : EReal) = w c y k := fun y k => (congrFun a2 (ix2 y k)).trans (r2 y k)
    obtain ⟨e0, e1, er⟩ := h c
    exact ⟨e0.trans (Cert.Reference8Ideal.Flow.z_eq q0 q1 q2), e1.trans (Cert.Reference8Ideal.Flow.h_eq q0 q1), er⟩

end Cert.Proof

end
-- ==== Proof.Fwd.Up.lean ====
/-
The call `_fwd_mlp_up` and its reference end with the same two arrays: the normed rows, and the squared ReLU of their product with the weights.
-/
module

public import proofs.«01_k».proof.Proof.Fwd.Host
public import proofs.«01_k».proof.Proof.Gen.Kernel9Ideal.Value
public import proofs.«01_k».proof.Proof.Gen.Reference9Ideal.Run
public import proofs.«01_k».proof.Defs
public import Idealize.ShloMosaic.Lib.Pointwise
public import Idealize.ShloMosaic.Lib.StableHlo.ReadAt
public import Idealize.ShloMosaic.Lib.KernelVsHost
public import Idealize.ShloMosaic.Lib.Pipeline.ValueKit

@[expose] public section

set_option maxRecDepth 16384

noncomputable section

namespace Cert.Kernel9Ideal.Flow

open Cert.Kernel9Ideal Cert.Kernel9Ideal.Gen Idealize.ShloMosaic Idealize.ShloMosaic.TcCoe Idealize.ShloMosaic.Tactic

/-! ## The results, over the extended reals -/

section Results

variable (x : Fin 4096 → Fin 1024 → EReal) (g : Fin 1024 → EReal) (w : Fin 1024 → Fin 4096 → EReal)

/-- The activations. -/
def outU (y f : Fin 4096) : EReal := Norm.sq (∑ k, Norm.nrm (x y) g k * w k f)

def layU : S4096x4096.Idx → EReal := fun i => outU x g w (i 0) (i 1)
def layH : S4096x1024.Idx → EReal := fun i => Norm.nrm (x (i 0)) g (i 1)

end Results

/-! ## One block -/

section Block

variable {X : FVec Ideal S256x1024 .f32} {G : FVec Ideal S1x1024 .f32} {H : FVec Ideal S256x1024 .bf16} {W : FVec Ideal S1x1024x1024 .bf16}
  {x h : Fin 256 → Fin 1024 → EReal} {g : Fin 1024 → EReal} {w : Fin 1024 → Fin 1024 → EReal}
  (hx : ∀ r k, X (ix2 r k) = x r k) (hg : ∀ k, G (ix2 0 k) = g k) (hh : ∀ r k, H (ix2 r k) = h r k) (hw : ∀ k f, W (ix3 0 k f) = w k f)

include hx hg in
theorem h_pay (r : Fin 256) (k : Fin 1024) : k0_pay3 (F := Ideal) X G (ix2 r k) = Norm.nrm (x r) g k := by
  pointwise [k0_pay3, hx, hg]
  rfl

include hh hw in
theorem u_pay1 (r : Fin 256) (f : Fin 1024) : k0_pay1 (F := Ideal) H W (ix2 r f) = Norm.sq (∑ k, h r k * w k f) := by
  pointwise [k0_pay1]
  simp only [hh, hw]
  rfl

include hx hg hw in
theorem u_pay4 (r : Fin 256) (f : Fin 1024) : k0_pay4 (F := Ideal) X G W (ix2 r f) = Norm.sq (∑ k, Norm.nrm (x r) g k * w k f) := by
  pointwise [k0_pay4]
  simp only [h_pay hx hg, hw]
  rfl

end Block

/-- A row of a block of 256. -/
abbrev row (t : Fin 16) (r : Fin 256) : Fin 4096 := ⟨t.val * 256 + r.val, by omega⟩

theorem idx : ∀ t : Fin cfg0.N,
    win0_0.index t = ![t.val, 0] ∧ win0_1.index t = ![0, 0] ∧ win0_2.index t = ![0, 1, 0] ∧ win0_3.index t = ![t.val, 0] ∧ win0_4.index t = ![t.val, 0] :=
  (by decide +kernel : ∀ t : Fin grid0.N, _)

theorem tlt (t : Fin cfg0.N) : t.val < 16 := t.isLt

/-! ## The arrays -/

section Arrays

variable (m : (ℓ : Loc nD τ sig) → Buf (Elt Ideal) ℓ) (c : Dev nD)
  {x : Fin 4096 → Fin 1024 → EReal} {g : Fin 1024 → EReal} {w : Fin 1024 → Fin 4096 → EReal}
  (hx : ∀ y k, (m ((c : Thread nD τ).loc main_arg0) (ix2 y k) : EReal) = x y k)
  (hg : ∀ k, (m ((c : Thread nD τ).loc main_arg1) (ix2 0 k) : EReal) = g k)
  (hw : ∀ y k, (m ((c : Thread nD τ).loc main_arg2) (ix2 y k) : EReal) = w y k)
  (t : Fin cfg0.N)

theorem read0 (A : S4096x1024.Idx → EReal) (r : Fin 256) (k : Fin 1024) :
    (((cfg0.win 0).blk t).view.read (Elt Ideal) A (ix2 r k) : EReal) = A (ix2 (row ⟨t.val, tlt t⟩ r) k) := by
  blk_ext [idx t]
theorem read1 (A : S1x1024.Idx → EReal) (k : Fin 1024) :
    (((cfg0.win 1).blk t).view.read (Elt Ideal) A (ix2 0 k) : EReal) = A (ix2 0 k) := by
  blk_ext [idx t]
theorem read2 (A : S4x3072x1024.Idx → EReal) (b : Fin 4) (k f : Fin 1024) :
    (((cfg0.win 2).blk t).view.read (Elt Ideal) A (ix3 b k f) : EReal) = A (ix3 b ⟨1024 + k.val, by omega⟩ f) := by
  blk_ext [idx t]
theorem place3 (r : Fin 256) (k : Fin 1024) : ((cfg0.win 3).blk t).view.emb (ix2 r k) = ix2 (row ⟨t.val, tlt t⟩ r) k := by
  blk_ext [idx t]
theorem place4 (r : Fin 256) (f : Fin 4096) : ((cfg0.win 4).blk t).view.emb (ix2 r f) = ix2 (row ⟨t.val, tlt t⟩ r) f := by
  blk_ext [idx t]

include hw in
theorem V3_at (b : Fin 4) (k f : Fin 1024) : (Gen.V m c main_v3 (ix3 b ⟨1024 + k.val, by omega⟩ f) : EReal) = (w k ⟨b.val * 1024 + f.val, by omega⟩) := by
  simp only [Gen.V, Gen.hostOps0, Gen.hostOps0_1, Gen.hostOps0_2, List.flatten_cons, List.flatten_nil, List.append_nil, List.cons_append, List.nil_append]
  after_reads_simp
  simp -implicitDefEqProofs only [StableHlo.TRef.toBuf, StableHlo.TRef.ofBuf, cast_cast, cast_eq]
  clean_types
  pointwise
  exact hw _ _

include hx in
theorem in0 (r : Fin 256) (k : Fin 1024) : (iblk m c 0 t (ix2 r k) : EReal) = x (row ⟨t.val, tlt t⟩ r) k :=
  (read0 t (V m c main_arg0) r k).trans ((congrFun (V_main_arg0 m c) _).trans (hx _ _))
include hg in
theorem in1 (k : Fin 1024) : (iblk m c 1 t (ix2 0 k) : EReal) = g k :=
  (read1 t (V m c main_arg1) k).trans ((congrFun (V_main_arg1 m c) _).trans (hg _))
include hw in
theorem in2 (b : Fin 4) (k f : Fin 1024) : (iblk m c 2 t (ix3 b k f) : EReal) = (w k ⟨b.val * 1024 + f.val, by omega⟩) :=
  (read2 t (V m c main_v3) b k f).trans (V3_at m c hw _ _ _)

include hw in
theorem wt_block (b : Fin 4) {o : ℕ} (ho : o = b.val) (inb) (k f : Fin 1024) :
    (View.ld (iblk m c 2 t) (Rect.unit ![o, 0, 0] ![1, 1024, 1024] inb) (ix3 0 k f) : EReal) = (w k ⟨b.val * 1024 + f.val, by omega⟩) := by
  subst ho
  refine (View.ld_unit_apply_of (iblk m c 2 t) _ _ inb (ix3 0 k f) (ix3 b k f) fun a => ?_).trans (in2 m c hw t b k f)
  fin_cases a
  · rfl
  · exact (Nat.zero_add _).symm
  · exact (Nat.zero_add _).symm

include hx hg

theorem h_block (r : Fin 256) (k : Fin 1024) : (k0_pay3 (F := Ideal) (iblk m c 0 t) (iblk m c 1 t) (ix2 r k) : EReal) = Norm.nrm (x (row ⟨t.val, tlt t⟩ r)) g k :=
  h_pay (x := fun r => x (row ⟨t.val, tlt t⟩ r)) (in0 m c hx t) (in1 m c hg t) r k

theorem arr3 : (dats m 0 c).arrAt 3 cfg0.N = layH x g := by
  refine (dats m 0 c).arrAt_eq_of_covers 3 _ (by decide +kernel) fun t hf y => ?_
  blk_simp
  rw [after0_3]
  frame_out
  obtain ⟨r, k, rfl⟩ : ∃ (r : Fin 256) (k : Fin 1024), y = ix2 r k := ⟨_, _, eq_ix2 y⟩
  exact (h_block m c hx hg t r k).trans (congrArg (layH x g) (place3 t r k)).symm

include hw

/-- The columns of one piece. -/
theorem u_piece {P : FVec Ideal S256x1024 .bf16} (b : Fin 4) (hP : ∀ r f, (P (ix2 r f) : EReal) = Norm.sq (∑ k, Norm.nrm (x (row ⟨t.val, tlt t⟩ r)) g k * w k ⟨b.val * 1024 + f.val, by omega⟩))
    {o : ℕ} (ho : o = b.val * 1024) (y : S256x4096.Idx) (j : S256x1024.Idx) (h0 : (y 0).val = (j 0).val) (h1 : (y 1).val = o + (j 1).val) :
    (P j : EReal) = layU x g w (((cfg0.win 4).blk t).view.emb y) := by
  subst ho
  obtain ⟨r, f, rfl⟩ : ∃ (r : Fin 256) (f : Fin 1024), j = ix2 r f := ⟨_, _, eq_ix2 j⟩
  have hy : y = ix2 r ⟨b.val * 1024 + f.val, by omega⟩ := (eq_ix2 y).trans (congrArg₂ ix2 (Fin.ext h0) (Fin.ext h1))
  rw [hy]
  exact (hP r f).trans (congrArg (layU x g w) (place4 t r _)).symm

theorem piece4 (b : Fin 4) {o : ℕ} (ho : o = b.val) (inb) (r : Fin 256) (f : Fin 1024) :
    (k0_pay4 (F := Ideal) (iblk m c 0 t) (iblk m c 1 t) (View.ld (iblk m c 2 t) (Rect.unit ![o, 0, 0] ![1, 1024, 1024] inb)) (ix2 r f) : EReal)
      = Norm.sq (∑ k, Norm.nrm (x (row ⟨t.val, tlt t⟩ r)) g k * w k ⟨b.val * 1024 + f.val, by omega⟩) :=
  u_pay4 (x := fun r => x (row ⟨t.val, tlt t⟩ r)) (w := fun k f => w k ⟨b.val * 1024 + f.val, by omega⟩) (in0 m c hx t) (in1 m c hg t) (wt_block m c hw t b ho inb) r f

theorem piece1 (b : Fin 4) {o : ℕ} (ho : o = b.val) (inb) (r : Fin 256) (f : Fin 1024) :
    (k0_pay1 (F := Ideal) (k0_pay3 (iblk m c 0 t) (iblk m c 1 t)) (View.ld (iblk m c 2 t) (Rect.unit ![o, 0, 0] ![1, 1024, 1024] inb)) (ix2 r f) : EReal)
      = Norm.sq (∑ k, Norm.nrm (x (row ⟨t.val, tlt t⟩ r)) g k * w k ⟨b.val * 1024 + f.val, by omega⟩) :=
  u_pay1 (h := fun r => Norm.nrm (x (row ⟨t.val, tlt t⟩ r)) g) (w := fun k f => w k ⟨b.val * 1024 + f.val, by omega⟩) (h_block m c hx hg t) (wt_block m c hw t b ho inb) r f

theorem u_block (y : S256x4096.Idx) : (out0_4 (F := Ideal) (iblk m c 0 t) (iblk m c 1 t) (iblk m c 2 t) y : EReal) = layU x g w (((cfg0.win 4).blk t).view.emb y) := by
  unfold out0_4 k0_pay6
  open_payloads
  canon_tiles j h
  · exact u_piece (P := k0_pay1 _ _) m c hx hg hw t 3 (piece1 m c hx hg hw t 3 rfl _) rfl y j (by omega) (by omega)
  · exact u_piece (P := k0_pay1 _ _) m c hx hg hw t 2 (piece1 m c hx hg hw t 2 rfl _) rfl y j (by omega) (by omega)
  · exact u_piece (P := k0_pay4 _ _ _) m c hx hg hw t 1 (piece4 m c hx hg hw t 1 rfl _) rfl y j (by omega) (by omega)
  · exact u_piece (P := k0_pay4 _ _ _) m c hx hg hw t 0 (piece4 m c hx hg hw t 0 rfl _) rfl y j (by omega) (by omega)

theorem arr4 : (dats m 0 c).arrAt 4 cfg0.N = layU x g w := by
  refine (dats m 0 c).arrAt_eq_of_covers 4 _ (by decide +kernel) fun t hf y => ?_
  blk_simp
  rw [after0_4]
  exact u_block m c hx hg hw t y

end Arrays

end Cert.Kernel9Ideal.Flow

namespace Cert.Reference9Ideal.Flow

open Cert.Reference9Ideal Cert.Reference9Ideal.Gen Idealize.ShloMosaic Idealize.ShloMosaic.TcCoe Idealize.ShloMosaic.Tactic
open Cert.Kernel9Ideal.Flow (outU layU layH)
open Cert.Reference2Ideal.Flow (hM hR hN alongRow gains hN_at)

/-- The activations before the squared ReLU, cut at zero. -/
def hA (X : FVec Ideal S4096x1024 .f32) (G : FVec Ideal S1x1024 .f32) (W : FVec Ideal S1024x4096 .f32) : FVec Ideal S4096x4096 .f32 :=
  maximumf (Host.dotGeneral dot_S4096x1024_S1024x4096_S4096x4096_1_0_0_1_n_n none (hN X G) W) (broadcastInDim S4096x4096 ![] bcast_S_S4096x4096 (constant S_ .f32 0x00000000#32))

section Results

variable {X : FVec Ideal S4096x1024 .f32} {G : FVec Ideal S1x1024 .f32} {W : FVec Ideal S1024x4096 .f32}
  {x : Fin 4096 → Fin 1024 → EReal} {g : Fin 1024 → EReal} {w : Fin 1024 → Fin 4096 → EReal}
  (hx : ∀ y k, X (ix2 y k) = x y k) (hg : ∀ k, G (ix2 0 k) = g k) (hw : ∀ k f, W (ix2 k f) = w k f)

include hx hg

theorem h_eq : truncf (F := Ideal) .bf16 (hN X G) bitsLt_bf16_f32 = layH x g := by
  funext j
  obtain ⟨r, k, rfl⟩ : ∃ (r : Fin 4096) (k : Fin 1024), j = ix2 r k := ⟨_, _, eq_ix2 j⟩
  pointwise
  exact hN_at hx hg r k

include hw

theorem hA_at (y f : Fin 4096) : hA X G W (ix2 y f) = max (∑ k, Norm.nrm (x y) g k * w k f) 0 := by
  unfold hA
  pointwise
  simp only [hN_at hx hg, hw]

theorem u_eq : truncf (F := Ideal) .bf16 (mulf (hA X G W) (hA X G W)) bitsLt_bf16_f32 = layU x g w := by
  funext j
  obtain ⟨r, f, rfl⟩ : ∃ (r : Fin 4096) (f : Fin 4096), j = ix2 r f := ⟨_, _, eq_ix2 j⟩
  pointwise [hA_at hx hg hw]
  rfl

end Results

end Cert.Reference9Ideal.Flow

namespace Cert.Proof

open Idealize.ShloMosaic Idealize.ShloMosaic.TcCoe Idealize.ShloMosaic.Tactic

/-- The equation of `_fwd_mlp_up`. -/
theorem algebraic9 : Cert.algebraic_Kernel9Ideal_Reference9Ideal := by
  intro m g m' g' _ hagree
  let x := fun c : Dev Cert.Kernel9Ideal.nD => elts (n := 4096) (k := 1024) (m ((c.tc : Thread Cert.Kernel9Ideal.nD Cert.Kernel9Ideal.τ).loc Cert.Kernel9Ideal.main_arg0))
  let γ := fun c : Dev Cert.Kernel9Ideal.nD => elts (n := 1) (k := 1024) (m ((c.tc : Thread Cert.Kernel9Ideal.nD Cert.Kernel9Ideal.τ).loc Cert.Kernel9Ideal.main_arg1)) 0
  let w := fun c : Dev Cert.Kernel9Ideal.nD => elts (n := 1024) (k := 4096) (m ((c.tc : Thread Cert.Kernel9Ideal.nD Cert.Kernel9Ideal.τ).loc Cert.Kernel9Ideal.main_arg2))
  have read : ∀ c : Dev Cert.Kernel9Ideal.nD,
      (∀ y k, (m ((c.tc : Thread Cert.Kernel9Ideal.nD Cert.Kernel9Ideal.τ).loc Cert.Kernel9Ideal.main_arg0) (ix2 y k) : EReal) = x c y k)
      ∧ (∀ k, (m ((c.tc : Thread Cert.Kernel9Ideal.nD Cert.Kernel9Ideal.τ).loc Cert.Kernel9Ideal.main_arg1) (ix2 0 k) : EReal) = γ c k)
      ∧ (∀ y k, (m ((c.tc : Thread Cert.Kernel9Ideal.nD Cert.Kernel9Ideal.τ).loc Cert.Kernel9Ideal.main_arg2) (ix2 y k) : EReal) = w c y k) := fun c =>
    ⟨fun _ _ => rfl, fun _ => rfl, fun _ _ => rfl⟩
  refine ⟨fun c => Cert.Kernel9Ideal.Flow.layH (x c) (γ c), fun c => Cert.Kernel9Ideal.Flow.layU (x c) (γ c) (w c), ?_, ?_⟩
  · refine (θ_run Cert.Kernel9Ideal.defs _ _).mono (fun r h c => ?_) (Cert.Kernel9Ideal.Value.run_blocks m g)
    obtain ⟨r0, r1, r2⟩ := read c
    obtain ⟨e0, e1, er⟩ := h c
    exact ⟨e0.trans (Cert.Kernel9Ideal.Flow.arr3 m c r0 r1), e1.trans (Cert.Kernel9Ideal.Flow.arr4 m c r0 r1 r2), er⟩
  · refine (θ_run Cert.Reference9Ideal.defs _ _).mono (fun r h c => ?_) (Cert.Reference9Ideal.Value.run m' g')
    obtain ⟨r0, r1, r2⟩ := read c
    obtain ⟨a0, a1, a2⟩ := hagree c
    have q0 : ∀ y k, (m' ((c.tc : Thread Cert.Reference9Ideal.nD Cert.Reference9Ideal.τ).loc Cert.Reference9Ideal.main_arg0) (ix2 y k) : EReal) = x c y k := fun y k => (congrFun a0 (ix2 y k)).trans (r0 y k)
    have q1 : ∀ k, (m' ((c.tc : Thread Cert.Reference9Ideal.nD Cert.Reference9Ideal.τ).loc Cert.Reference9Ideal.main_arg1) (ix2 0 k) : EReal) = γ c k := fun k => (congrFun a1 (ix2 0 k)).trans (r1 k)
    have q2 : ∀ y k, (m' ((c.tc : Thread Cert.Reference9Ideal.nD Cert.Reference9Ideal.τ).loc Cert.Reference9Ideal.main_arg2) (ix2 y k) : EReal) = w c y k := fun y k => (congrFun a2 (ix2 y k)).trans (r2 y k)
    obtain ⟨e0, e1, er⟩ := h c
    exact ⟨e0.trans (Cert.Reference9Ideal.Flow.h_eq q0 q1), e1.trans (Cert.Reference9Ideal.Flow.u_eq q0 q1 q2), er⟩

end Cert.Proof

end
-- ==== Proof.Fwd.Down.lean ====
/-
The call `_fwd_mlp_down` and its reference end with the same two arrays: the rows of the product, and the residual stream after them.
-/
module

public import proofs.«01_k».proof.Proof.Fwd.Host
public import proofs.«01_k».proof.Proof.Gen.Kernel10Ideal.Value
public import proofs.«01_k».proof.Proof.Gen.Reference10Ideal.Run
public import proofs.«01_k».proof.Defs
public import Idealize.ShloMosaic.Lib.Pointwise
public import Idealize.ShloMosaic.Lib.StableHlo.ReadAt
public import Idealize.ShloMosaic.Lib.KernelVsHost
public import Idealize.ShloMosaic.Lib.Pipeline.ValueKit

@[expose] public section

set_option maxRecDepth 16384

noncomputable section

namespace Cert.Kernel10Ideal.Flow

open Cert.Kernel10Ideal Cert.Kernel10Ideal.Gen Idealize.ShloMosaic Idealize.ShloMosaic.TcCoe Idealize.ShloMosaic.Tactic

/-! ## The results, over the extended reals -/

section Results

variable (u : Fin 4096 → Fin 4096 → EReal) (w : Fin 4096 → Fin 1024 → EReal) (x : Fin 4096 → Fin 1024 → EReal) (g : Fin 1024 → EReal)

/-- The rows of the product. -/
def outD (y : Fin 4096) (k : Fin 1024) : EReal := ∑ f, u y f * w f k
/-- The residual stream. -/
def outX (y : Fin 4096) (k : Fin 1024) : EReal := x y k + Norm.nrm (outD u w y) g k

def layD : S4096x1024.Idx → EReal := fun i => outD u w (i 0) (i 1)
def layX : S4096x1024.Idx → EReal := fun i => outX u w x g (i 0) (i 1)

end Results

/-! ## One block -/

section Block

variable {U : FVec Ideal S256x4096 .bf16} {W : FVec Ideal S4x1024x1024 .bf16} {X : FVec Ideal S256x1024 .f32} {G : FVec Ideal S1x1024 .f32}
  {u : Fin 256 → Fin 4096 → EReal} {w : Fin 4096 → Fin 1024 → EReal} {x : Fin 256 → Fin 1024 → EReal} {g : Fin 1024 → EReal}
  (hu : ∀ r f, U (ix2 r f) = u r f) (hw : ∀ (b : Fin 4) (f k : Fin 1024), W (ix3 b f k) = (w ⟨b.val * 1024 + f.val, by omega⟩ k))
  (hx : ∀ r k, X (ix2 r k) = x r k) (hg : ∀ k, G (ix2 0 k) = g k)

include hu hw

theorem d_pay (r : Fin 256) (k : Fin 1024) : k0_pay1 (F := Ideal) U W (ix2 r k) = ∑ f, u r f * w f k := by
  pointwise [k0_pay1]
  refine Finset.sum_congr rfl fun f _ => congrArg₂ _ (hu r f) ((hw _ _ _).trans (congrArg (w · k) (Fin.ext ?_)))
  show f.val / 1024 * 1024 + f.val % 1024 = f.val
  omega

include hx hg

theorem x_pay (r : Fin 256) (k : Fin 1024) : k0_pay2 (F := Ideal) U W X G (ix2 r k) = x r k + Norm.nrm (fun k => ∑ f, u r f * w f k) g k := by
  pointwise [k0_pay2, d_pay hu hw, hx, hg]
  rfl

end Block

/-- A row of a block of 256. -/
abbrev row (t : Fin 16) (r : Fin 256) : Fin 4096 := ⟨t.val * 256 + r.val, by omega⟩

theorem idx : ∀ t : Fin cfg0.N,
    win0_0.index t = ![t.val, 0] ∧ win0_1.index t = ![0, 2, 0] ∧ win0_2.index t = ![t.val, 0] ∧ win0_3.index t = ![0, 0] ∧ win0_4.index t = ![t.val, 0] ∧ win0_5.index t = ![t.val, 0] :=
  (by decide +kernel : ∀ t : Fin grid0.N, _)

theorem tlt (t : Fin cfg0.N) : t.val < 16 := t.isLt

/-! ## The arrays -/

section Arrays

variable (m : (ℓ : Loc nD τ sig) → Buf (Elt Ideal) ℓ) (c : Dev nD)
  {u : Fin 4096 → Fin 4096 → EReal} {w : Fin 4096 → Fin 1024 → EReal} {x : Fin 4096 → Fin 1024 → EReal} {g : Fin 1024 → EReal}
  (hu : ∀ y k, (m ((c : Thread nD τ).loc main_arg0) (ix2 y k) : EReal) = u y k)
  (hw : ∀ y k, (m ((c : Thread nD τ).loc main_arg1) (ix2 y k) : EReal) = w y k)
  (hx : ∀ y k, (m ((c : Thread nD τ).loc main_arg2) (ix2 y k) : EReal) = x y k)
  (hg : ∀ k, (m ((c : Thread nD τ).loc main_arg3) (ix2 0 k) : EReal) = g k)
  (t : Fin cfg0.N)

theorem read0 (A : S4096x4096.Idx → EReal) (r : Fin 256) (k : Fin 4096) :
    (((cfg0.win 0).blk t).view.read (Elt Ideal) A (ix2 r k) : EReal) = A (ix2 (row ⟨t.val, tlt t⟩ r) k) := by
  blk_ext [idx t]
theorem read1 (A : S4x3072x1024.Idx → EReal) (b : Fin 4) (f k : Fin 1024) :
    (((cfg0.win 1).blk t).view.read (Elt Ideal) A (ix3 b f k) : EReal) = A (ix3 b ⟨2048 + f.val, by omega⟩ k) := by
  blk_ext [idx t]
theorem read2 (A : S4096x1024.Idx → EReal) (r : Fin 256) (k : Fin 1024) :
    (((cfg0.win 2).blk t).view.read (Elt Ideal) A (ix2 r k) : EReal) = A (ix2 (row ⟨t.val, tlt t⟩ r) k) := by
  blk_ext [idx t]
theorem read3 (A : S1x1024.Idx → EReal) (k : Fin 1024) :
    (((cfg0.win 3).blk t).view.read (Elt Ideal) A (ix2 0 k) : EReal) = A (ix2 0 k) := by
  blk_ext [idx t]
theorem place4 (r : Fin 256) (k : Fin 1024) : ((cfg0.win 4).blk t).view.emb (ix2 r k) = ix2 (row ⟨t.val, tlt t⟩ r) k := by
  blk_ext [idx t]
theorem place5 (r : Fin 256) (k : Fin 1024) : ((cfg0.win 5).blk t).view.emb (ix2 r k) = ix2 (row ⟨t.val, tlt t⟩ r) k := by
  blk_ext [idx t]

include hw in
theorem V2_at (b : Fin 4) (f k : Fin 1024) : (Gen.V m c main_v2 (ix3 b ⟨2048 + f.val, by omega⟩ k) : EReal) = (w ⟨b.val * 1024 + f.val, by omega⟩ k) := by
  simp only [Gen.V, Gen.hostOps0, Gen.hostOps0_1, Gen.hostOps0_2, List.flatten_cons, List.flatten_nil, List.append_nil, List.cons_append, List.nil_append]
  after_reads_simp
  simp -implicitDefEqProofs only [StableHlo.TRef.toBuf, StableHlo.TRef.ofBuf, cast_cast, cast_eq]
  clean_types
  pointwise
  exact hw _ _

include hu in
theorem V3_at (y f : Fin 4096) : (Gen.V m c main_v3 (ix2 y f) : EReal) = u y f := by
  simp only [Gen.V, Gen.hostOps0, Gen.hostOps0_1, Gen.hostOps0_2, List.flatten_cons, List.flatten_nil, List.append_nil, List.cons_append, List.nil_append]
  after_reads_simp
  clean_types
  pointwise
  exact hu _ _

include hu in
theorem in0 (r : Fin 256) (f : Fin 4096) : (iblk m c 0 t (ix2 r f) : EReal) = u (row ⟨t.val, tlt t⟩ r) f :=
  (read0 t (V m c main_v3) r f).trans (V3_at m c hu _ _)
include hw in
theorem in1 (b : Fin 4) (f k : Fin 1024) : (iblk m c 1 t (ix3 b f k) : EReal) = (w ⟨b.val * 1024 + f.val, by omega⟩ k) :=
  (read1 t (V m c main_v2) b f k).trans (V2_at m c hw _ _ _)
include hx in
theorem in2 (r : Fin 256) (k : Fin 1024) : (iblk m c 2 t (ix2 r k) : EReal) = x (row ⟨t.val, tlt t⟩ r) k :=
  (read2 t (V m c main_arg2) r k).trans ((congrFun (V_main_arg2 m c) _).trans (hx _ _))
include hg in
theorem in3 (k : Fin 1024) : (iblk m c 3 t (ix2 0 k) : EReal) = g k :=
  (read3 t (V m c main_arg3) k).trans ((congrFun (V_main_arg3 m c) _).trans (hg _))

include hu hw

theorem arr4 : (dats m 0 c).arrAt 4 cfg0.N = layD u w := by
  refine (dats m 0 c).arrAt_eq_of_covers 4 _ (by decide +kernel) fun t hf y => ?_
  blk_simp
  rw [after0_4]
  frame_out
  obtain ⟨r, k, rfl⟩ : ∃ (r : Fin 256) (k : Fin 1024), y = ix2 r k := ⟨_, _, eq_ix2 y⟩
  exact (d_pay (u := fun r => u (row ⟨t.val, tlt t⟩ r)) (in0 m c hu t) (in1 m c hw t) r k).trans (congrArg (layD u w) (place4 t r k)).symm

include hx hg

theorem arr5 : (dats m 0 c).arrAt 5 cfg0.N = layX u w x g := by
  refine (dats m 0 c).arrAt_eq_of_covers 5 _ (by decide +kernel) fun t hf y => ?_
  blk_simp
  rw [after0_5]
  frame_out
  obtain ⟨r, k, rfl⟩ : ∃ (r : Fin 256) (k : Fin 1024), y = ix2 r k := ⟨_, _, eq_ix2 y⟩
  exact (x_pay (u := fun r => u (row ⟨t.val, tlt t⟩ r)) (x := fun r => x (row ⟨t.val, tlt t⟩ r)) (in0 m c hu t) (in1 m c hw t) (in2 m c hx t) (in3 m c hg t) r k).trans
    (congrArg (layX u w x g) (place5 t r k)).symm

end Arrays

end Cert.Kernel10Ideal.Flow

namespace Cert.Reference10Ideal.Flow

open Cert.Reference10Ideal Cert.Reference10Ideal.Gen Idealize.ShloMosaic Idealize.ShloMosaic.TcCoe Idealize.ShloMosaic.Tactic
open Cert.Kernel10Ideal.Flow (outD outX layD layX)
open Cert.Reference2Ideal.Flow (hM hR hN alongRow gains hN_at)

/-- The product. -/
def hD (U : FVec Ideal S4096x4096 .f32) (W : FVec Ideal S4096x1024 .f32) : FVec Ideal S4096x1024 .f32 :=
  Host.dotGeneral dot_S4096x4096_S4096x1024_S4096x1024_1_0_0_1_n_n none U W

section Results

variable {U : FVec Ideal S4096x4096 .f32} {W : FVec Ideal S4096x1024 .f32} {X : FVec Ideal S4096x1024 .f32} {G : FVec Ideal S1x1024 .f32}
  {u : Fin 4096 → Fin 4096 → EReal} {w : Fin 4096 → Fin 1024 → EReal} {x : Fin 4096 → Fin 1024 → EReal} {g : Fin 1024 → EReal}
  (hu : ∀ y f, U (ix2 y f) = u y f) (hw : ∀ f k, W (ix2 f k) = w f k) (hx : ∀ y k, X (ix2 y k) = x y k) (hg : ∀ k, G (ix2 0 k) = g k)

include hu hw

theorem hD_at (y : Fin 4096) (k : Fin 1024) : hD U W (ix2 y k) = outD u w y k := by
  unfold hD
  pointwise
  simp only [hu, hw]
  rfl

theorem d_eq : hD U W = layD u w := by
  funext j
  obtain ⟨r, k, rfl⟩ : ∃ (r : Fin 4096) (k : Fin 1024), j = ix2 r k := ⟨_, _, eq_ix2 j⟩
  exact hD_at hu hw r k

include hx hg

theorem x_eq : addf X (hN (hD U W) G) = layX u w x g := by
  funext j
  obtain ⟨r, k, rfl⟩ : ∃ (r : Fin 4096) (k : Fin 1024), j = ix2 r k := ⟨_, _, eq_ix2 j⟩
  pointwise [hN_at (hD_at hu hw) hg, hx]
  rfl

end Results

end Cert.Reference10Ideal.Flow

namespace Cert.Proof

open Idealize.ShloMosaic Idealize.ShloMosaic.TcCoe Idealize.ShloMosaic.Tactic

/-- The equation of `_fwd_mlp_down`. -/
theorem algebraic10 : Cert.algebraic_Kernel10Ideal_Reference10Ideal := by
  intro m g m' g' _ hagree
  let u := fun c : Dev Cert.Kernel10Ideal.nD => elts (n := 4096) (k := 4096) (m ((c.tc : Thread Cert.Kernel10Ideal.nD Cert.Kernel10Ideal.τ).loc Cert.Kernel10Ideal.main_arg0))
  let w := fun c : Dev Cert.Kernel10Ideal.nD => elts (n := 4096) (k := 1024) (m ((c.tc : Thread Cert.Kernel10Ideal.nD Cert.Kernel10Ideal.τ).loc Cert.Kernel10Ideal.main_arg1))
  let x := fun c : Dev Cert.Kernel10Ideal.nD => elts (n := 4096) (k := 1024) (m ((c.tc : Thread Cert.Kernel10Ideal.nD Cert.Kernel10Ideal.τ).loc Cert.Kernel10Ideal.main_arg2))
  let γ := fun c : Dev Cert.Kernel10Ideal.nD => elts (n := 1) (k := 1024) (m ((c.tc : Thread Cert.Kernel10Ideal.nD Cert.Kernel10Ideal.τ).loc Cert.Kernel10Ideal.main_arg3)) 0
  have read : ∀ c : Dev Cert.Kernel10Ideal.nD,
      (∀ y k, (m ((c.tc : Thread Cert.Kernel10Ideal.nD Cert.Kernel10Ideal.τ).loc Cert.Kernel10Ideal.main_arg0) (ix2 y k) : EReal) = u c y k)
      ∧ (∀ y k, (m ((c.tc : Thread Cert.Kernel10Ideal.nD Cert.Kernel10Ideal.τ).loc Cert.Kernel10Ideal.main_arg1) (ix2 y k) : EReal) = w c y k)
      ∧ (∀ y k, (m ((c.tc : Thread Cert.Kernel10Ideal.nD Cert.Kernel10Ideal.τ).loc Cert.Kernel10Ideal.main_arg2) (ix2 y k) : EReal) = x c y k)
      ∧ (∀ k, (m ((c.tc : Thread Cert.Kernel10Ideal.nD Cert.Kernel10Ideal.τ).loc Cert.Kernel10Ideal.main_arg3) (ix2 0 k) : EReal) = γ c k) := fun c =>
    ⟨fun _ _ => rfl, fun _ _ => rfl, fun _ _ => rfl, fun _ => rfl⟩
  refine ⟨fun c => Cert.Kernel10Ideal.Flow.layD (u c) (w c), fun c => Cert.Kernel10Ideal.Flow.layX (u c) (w c) (x c) (γ c), ?_, ?_⟩
  · refine (θ_run Cert.Kernel10Ideal.defs _ _).mono (fun r h c => ?_) (Cert.Kernel10Ideal.Value.run_blocks m g)
    obtain ⟨r0, r1, r2, r3⟩ := read c
    obtain ⟨e0, e1, er⟩ := h c
    exact ⟨e0.trans (Cert.Kernel10Ideal.Flow.arr4 m c r0 r1), e1.trans (Cert.Kernel10Ideal.Flow.arr5 m c r0 r1 r2 r3), er⟩
  · refine (θ_run Cert.Reference10Ideal.defs _ _).mono (fun r h c => ?_) (Cert.Reference10Ideal.Value.run m' g')
    obtain ⟨r0, r1, r2, r3⟩ := read c
    obtain ⟨a0, a1, a2, a3⟩ := hagree c
    have q0 : ∀ y k, (m' ((c.tc : Thread Cert.Reference10Ideal.nD Cert.Reference10Ideal.τ).loc Cert.Reference10Ideal.main_arg0) (ix2 y k) : EReal) = u c y k := fun y k => (congrFun a0 (ix2 y k)).trans (r0 y k)
    have q1 : ∀ y k, (m' ((c.tc : Thread Cert.Reference10Ideal.nD Cert.Reference10Ideal.τ).loc Cert.Reference10Ideal.main_arg1) (ix2 y k) : EReal) = w c y k := fun y k => (congrFun a1 (ix2 y k)).trans (r1 y k)
    have q2 : ∀ y k, (m' ((c.tc : Thread Cert.Reference10Ideal.nD Cert.Reference10Ideal.τ).loc Cert.Reference10Ideal.main_arg2) (ix2 y k) : EReal) = x c y k := fun y k => (congrFun a2 (ix2 y k)).trans (r2 y k)
    have q3 : ∀ k, (m' ((c.tc : Thread Cert.Reference10Ideal.nD Cert.Reference10Ideal.τ).loc Cert.Reference10Ideal.main_arg3) (ix2 0 k) : EReal) = γ c k := fun k => (congrFun a3 (ix2 0 k)).trans (r3 k)
    obtain ⟨e0, e1, er⟩ := h c
    exact ⟨e0.trans (Cert.Reference10Ideal.Flow.d_eq q0 q1), e1.trans (Cert.Reference10Ideal.Flow.x_eq q0 q1 q2 q3), er⟩

end Cert.Proof

end
-- ==== Proof.Mix.Args.lean ====
/-
The gated mix of the two branches and its gradient, over the extended reals.
-/
module

public import proofs.«01_k».proof.Proof.Norm

@[expose] public section

noncomputable section

namespace Cert.Mix

open Idealize.ShloMosaic

/-- Rows of 1024. -/
abbrev Rows := Fin 4096 → Fin 1024 → EReal
/-- A square of weights. -/
abbrev Square := Fin 1024 → Fin 1024 → EReal

/-- What a call takes: rows `e` (forwards the residual rows, backwards a cotangent), the two branches' rows, the gates, three weight matrices and the norm's gains. -/
structure Args where
  e : Rows
  om : Rows
  os : Rows
  ga : Rows
  gb : Rows
  wmu : Square
  wsu : Square
  wo : Square
  g : Fin 1024 → EReal

/-- The sigmoid. -/
def sg (t : EReal) : EReal := Ideal.div 1 (1 + Ideal.exp (-t))

/-- Rows times weights. -/
def mul (x : Rows) (w : Square) (y : Fin 4096) (k : Fin 1024) : EReal := ∑ j, x y j * w j k

/-- One row times the transposed weights. -/
def back (d : Fin 1024 → EReal) (w : Square) (j : Fin 1024) : EReal := ∑ k, d k * w j k

/-- A gate's gradient, from the gradient of the mix, the branch and the gate. -/
def dgate (d a s : EReal) : EReal := d * a * sg s * (1 - sg s)

namespace Args

variable (A : Args) (y : Fin 4096) (k : Fin 1024)

/-- The first branch before its gate. -/
def au : EReal := mul A.om A.wmu y k
/-- The second branch before its gate. -/
def bu : EReal := mul A.os A.wsu y k
/-- The mix. -/
def mixed : EReal := sg (A.ga y k) * A.au y k + sg (A.gb y k) * A.bu y k
/-- The rows that the norm takes. -/
def yo : EReal := mul A.mixed A.wo y k
/-- The residual rows after the mix. -/
def x1 : EReal := A.e y k + Norm.nrm (A.yo y) A.g k
/-- The gradient at the norm's input. -/
def dyo : EReal := Norm.dx (A.yo y) A.g (A.e y) k
/-- The gradient of the gains. -/
def dg : EReal := ∑ y, Norm.dg (A.yo y) (A.e y) k
/-- The gradient at the mix. -/
def dy : EReal := back (A.dyo y) A.wo k
/-- The gradients at the branches before the gates. -/
def dau : EReal := A.dy y k * sg (A.ga y k)
def dbu : EReal := A.dy y k * sg (A.gb y k)
/-- The gradients at the gates. -/
def dga : EReal := dgate (A.dy y k) (A.au y k) (A.ga y k)
def dgb : EReal := dgate (A.dy y k) (A.bu y k) (A.gb y k)
/-- The gradients at the branches' rows. -/
def dom : EReal := back (A.dau y) A.wmu k
def dos : EReal := back (A.dbu y) A.wsu k
/-- A head's row sum of output times gradient. -/
def delta (h : Fin 16) : EReal := ∑ c : Fin 64, A.dom y ⟨h.val * 64 + c.val, by omega⟩ * A.om y ⟨h.val * 64 + c.val, by omega⟩

end Args

end Cert.Mix

end
-- ==== Proof.Mix.Forward.lean ====
/-
The call `_fwd_mix` and its reference end with the same five arrays.
-/
module

public import proofs.«01_k».proof.Proof.Fwd.Host
public import proofs.«01_k».proof.Proof.Mix.Args
public import proofs.«01_k».proof.Proof.Gen.Kernel11Ideal.Value
public import proofs.«01_k».proof.Proof.Gen.Reference11Ideal.Run
public import proofs.«01_k».proof.Defs
public import Idealize.ShloMosaic.Lib.Pointwise
public import Idealize.ShloMosaic.Lib.StableHlo.ReadAt
public import Idealize.ShloMosaic.Lib.KernelVsHost
public import Idealize.ShloMosaic.Lib.Pipeline.ValueKit

@[expose] public section

set_option maxRecDepth 16384

noncomputable section

namespace Cert.Kernel11Ideal.Flow

open Cert.Kernel11Ideal Cert.Kernel11Ideal.Gen Idealize.ShloMosaic Idealize.ShloMosaic.TcCoe Idealize.ShloMosaic.Tactic

/-- What the program is given. -/
def args (m : (ℓ : Loc nD τ sig) → Buf (Elt Ideal) ℓ) (c : Dev nD) : Mix.Args where
  om := fun y k => m ((c : Thread nD τ).loc main_arg0) (ix2 y k)
  os := fun y k => m ((c : Thread nD τ).loc main_arg1) (ix2 y k)
  ga := fun y k => m ((c : Thread nD τ).loc main_arg2) (ix2 y k)
  gb := fun y k => m ((c : Thread nD τ).loc main_arg3) (ix2 y k)
  e := fun y k => m ((c : Thread nD τ).loc main_arg4) (ix2 y k)
  wmu := fun y k => m ((c : Thread nD τ).loc main_arg5) (ix2 y k)
  wsu := fun y k => m ((c : Thread nD τ).loc main_arg6) (ix2 y k)
  wo := fun y k => m ((c : Thread nD τ).loc main_arg7) (ix2 y k)
  g := fun k => m ((c : Thread nD τ).loc main_arg8) (ix2 0 k)

/-- Rows as an array. -/
def lay (x : Mix.Rows) : S4096x1024.Idx → EReal := fun i => x (i 0) (i 1)

/-! ## One block -/

section Block

variable {X Y GA GB M : FVec Ideal S256x1024 .f32} {W V : FVec Ideal S1024x1024 .bf16} {G : FVec Ideal S1x1024 .f32}
  {x y ga gb u : Fin 256 → Fin 1024 → EReal} {w v : Mix.Square} {g : Fin 1024 → EReal}
  (hx : ∀ r k, X (ix2 r k) = x r k) (hy : ∀ r k, Y (ix2 r k) = y r k) (hga : ∀ r k, GA (ix2 r k) = ga r k) (hgb : ∀ r k, GB (ix2 r k) = gb r k)
  (hm : ∀ r k, M (ix2 r k) = u r k) (hw : ∀ j k, W (ix2 j k) = w j k) (hv : ∀ j k, V (ix2 j k) = v j k) (hg : ∀ k, G (ix2 0 k) = g k)

include hx hw in
theorem au_pay (r : Fin 256) (k : Fin 1024) : k0_pay4 (F := Ideal) X W (ix2 r k) = ∑ j, x r j * w j k := by
  pointwise [k0_pay4]
  simp only [hx, hw]

include hy hv in
theorem bu_pay (r : Fin 256) (k : Fin 1024) : k0_pay5 (F := Ideal) Y V (ix2 r k) = ∑ j, y r j * v j k :=
  au_pay hy hv r k

include hx hy hga hgb hw hv in
theorem mix_pay (r : Fin 256) (k : Fin 1024) :
    k0_pay6 (F := Ideal) X W Y V GA GB (ix2 r k) = Mix.sg (ga r k) * (∑ j, x r j * w j k) + Mix.sg (gb r k) * (∑ j, y r j * v j k) := by
  pointwise [k0_pay6, au_pay hx hw, bu_pay hy hv, hga, hgb]
  unfold Mix.sg
  simp only [zero_sub]

include hm in
theorem y_pay (r : Fin 256) (k : Fin 1024) : k0_pay1 (F := Ideal) M (ix2 r k) = u r k := by
  pointwise [k0_pay1]
  exact hm r k

include hm hw in
theorem yo_pay (r : Fin 256) (k : Fin 1024) : k0_pay2 (F := Ideal) M W (ix2 r k) = ∑ j, u r j * w j k := by
  pointwise [k0_pay2]
  simp only [y_pay hm, hw]

include hm hw hx hg in
theorem x_pay (r : Fin 256) (k : Fin 1024) : k0_pay3 (F := Ideal) M W X G (ix2 r k) = x r k + Norm.nrm (fun k => ∑ j, u r j * w j k) g k := by
  pointwise [k0_pay3, yo_pay hm hw, hx, hg]
  rfl

end Block

/-- A row of a block of 256. -/
abbrev row (t : Fin 16) (r : Fin 256) : Fin 4096 := ⟨t.val * 256 + r.val, by omega⟩

theorem idx : ∀ t : Fin cfg0.N,
    win0_0.index t = ![t.val, 0] ∧ win0_1.index t = ![t.val, 0] ∧ win0_2.index t = ![t.val, 1] ∧ win0_3.index t = ![t.val, 2] ∧ win0_4.index t = ![t.val, 0]
    ∧ win0_5.index t = ![0, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0] ∧ win0_12.index t = ![t.val, 0] ∧ win0_13.index t = ![t.val, 0] :=
  (by decide +kernel : ∀ t : Fin grid0.N, _)

theorem tlt (t : Fin cfg0.N) : t.val < 16 := t.isLt

/-! ## The arrays -/

section Arrays

variable (m : (ℓ : Loc nD τ sig) → Buf (Elt Ideal) ℓ) (c : Dev nD) (t : Fin cfg0.N)

theorem read0 (A : S4096x1024.Idx → EReal) (r : Fin 256) (k : Fin 1024) :
    (((cfg0.win 0).blk t).view.read (Elt Ideal) A (ix2 r k) : EReal) = A (ix2 (row ⟨t.val, tlt t⟩ r) k) := by
  blk_ext [idx t]
theorem read1 (A : S4096x1024.Idx → EReal) (r : Fin 256) (k : Fin 1024) :
    (((cfg0.win 1).blk t).view.read (Elt Ideal) A (ix2 r k) : EReal) = A (ix2 (row ⟨t.val, tlt t⟩ r) k) := by
  blk_ext [idx t]
theorem read2 (A : S4096x4096.Idx → EReal) (r : Fin 256) (k : Fin 1024) :
    (((cfg0.win 2).blk t).view.read (Elt Ideal) A (ix2 r k) : EReal) = A (ix2 (row ⟨t.val, tlt t⟩ r) ⟨1024 + k.val, by omega⟩) := by
  blk_ext [idx t]
theorem read3 (A : S4096x4096.Idx → EReal) (r : Fin 256) (k : Fin 1024) :
    (((cfg0.win 3).blk t).view.read (Elt Ideal) A (ix2 r k) : EReal) = A (ix2 (row ⟨t.val, tlt t⟩ r) ⟨2048 + k.val, by omega⟩) := by
  blk_ext [idx t]
theorem read4 (A : S4096x1024.Idx → EReal) (r : Fin 256) (k : Fin 1024) :
    (((cfg0.win 4).blk t).view.read (Elt Ideal) A (ix2 r k) : EReal) = A (ix2 (row ⟨t.val, tlt t⟩ r) k) := by
  blk_ext [idx t]
theorem read5 (A : S1024x1024.Idx → EReal) (j k : Fin 1024) :
    (((cfg0.win 5).blk t).view.read (Elt Ideal) A (ix2 j k) : EReal) = A (ix2 j k) := by
  blk_ext [idx t]
theorem read6 (A : S1024x1024.Idx → EReal) (j k : Fin 1024) :
    (((cfg0.win 6).blk t).view.read (Elt Ideal) A (ix2 j k) : EReal) = A (ix2 j k) := by
  blk_ext [idx t]
theorem read7 (A : S1024x1024.Idx → EReal) (j k : Fin 1024) :
    (((cfg0.win 7).blk t).view.read (Elt Ideal) A (ix2 j k) : EReal) = A (ix2 j k) := by
  blk_ext [idx t]
theorem read8 (A : S1x1024.Idx → EReal) (k : Fin 1024) :
    (((cfg0.win 8).blk t).view.read (Elt Ideal) A (ix2 0 k) : EReal) = A (ix2 0 k) := by
  blk_ext [idx t]
theorem place9 (r : Fin 256) (k : Fin 1024) : ((cfg0.win 9).blk t).view.emb (ix2 r k) = ix2 (row ⟨t.val, tlt t⟩ r) k := by
  blk_ext [idx t]
theorem place10 (r : Fin 256) (k : Fin 1024) : ((cfg0.win 10).blk t).view.emb (ix2 r k) = ix2 (row ⟨t.val, tlt t⟩ r) k := by
  blk_ext [idx t]
theorem place11 (r : Fin 256) (k : Fin 1024) : ((cfg0.win 11).blk t).view.emb (ix2 r k) = ix2 (row ⟨t.val, tlt t⟩ r) k := by
  blk_ext [idx t]
theorem place12 (r : Fin 256) (k : Fin 1024) : ((cfg0.win 12).blk t).view.emb (ix2 r k) = ix2 (row ⟨t.val, tlt t⟩ r) k := by
  blk_ext [idx t]
theorem place13 (r : Fin 256) (k : Fin 1024) : ((cfg0.win 13).blk t).view.emb (ix2 r k) = ix2 (row ⟨t.val, tlt t⟩ r) k := by
  blk_ext [idx t]

theorem V1a_at (y : Fin 4096) (k : Fin 1024) : (Gen.V m c main_v1 (ix2 y ⟨1024 + k.val, by omega⟩) : EReal) = (args m c).ga y k := by
  simp only [Gen.V, Gen.hostOps0, Gen.hostOps0_1, Gen.hostOps0_2, List.flatten_cons, List.flatten_nil, List.append_nil, List.cons_append, List.nil_append]
  after_reads_simp
  simp -implicitDefEqProofs only [StableHlo.TRef.toBuf, StableHlo.TRef.ofBuf, cast_cast, cast_eq]
  clean_types
  pointwise
  rw [dif_pos (by omega)]
  rfl

theorem V1b_at (y : Fin 4096) (k : Fin 1024) : (Gen.V m c main_v1 (ix2 y ⟨2048 + k.val, by omega⟩) : EReal) = (args m c).gb y k := by
  simp only [Gen.V, Gen.hostOps0, Gen.hostOps0_1, Gen.hostOps0_2, List.flatten_cons, List.flatten_nil, List.append_nil, List.cons_append, List.nil_append]
  after_reads_simp
  simp -implicitDefEqProofs only [StableHlo.TRef.toBuf, StableHlo.TRef.ofBuf, cast_cast, cast_eq]
  clean_types
  pointwise
  rw [dif_pos (by omega), dif_neg (by omega)]
  exact congrArg (m ((c : Thread nD τ).loc main_arg3)) (congrArg (ix2 y) (Fin.ext (show 2048 + k.val - 1024 - 1024 = k.val by omega)))

theorem V2_at (j k : Fin 1024) : (Gen.V m c main_v2 (ix2 j k) : EReal) = (args m c).wmu j k := by
  simp only [Gen.V, Gen.hostOps0, Gen.hostOps0_1, Gen.hostOps0_2, List.flatten_cons, List.flatten_nil, List.append_nil, List.cons_append, List.nil_append]
  after_reads_simp
  clean_types
  pointwise
  rfl

theorem V3_at (j k : Fin 1024) : (Gen.V m c main_v3 (ix2 j k) : EReal) = (args m c).wsu j k := by
  simp only [Gen.V, Gen.hostOps0, Gen.hostOps0_1, Gen.hostOps0_2, List.flatten_cons, List.flatten_nil, List.append_nil, List.cons_append, List.nil_append]
  after_reads_simp
  clean_types
  pointwise
  rfl

theorem V4_at (j k : Fin 1024) : (Gen.V m c main_v4 (ix2 j k) : EReal) = (args m c).wo j k := by
  simp only [Gen.V, Gen.hostOps0, Gen.hostOps0_1, Gen.hostOps0_2, List.flatten_cons, List.flatten_nil, List.append_nil, List.cons_append, List.nil_append]
  after_reads_simp
  clean_types
  pointwise
  rfl

theorem in0 (r : Fin 256) (k : Fin 1024) : (iblk m c 0 t (ix2 r k) : EReal) = (args m c).om (row ⟨t.val, tlt t⟩ r) k :=
  (read0 t (V m c main_arg0) r k).trans (congrFun (V_main_arg0 m c) _)
theorem in1 (r : Fin 256) (k : Fin 1024) : (iblk m c 1 t (ix2 r k) : EReal) = (args m c).os (row ⟨t.val, tlt t⟩ r) k :=
  (read1 t (V m c main_arg1) r k).trans (congrFun (V_main_arg1 m c) _)
theorem in2 (r : Fin 256) (k : Fin 1024) : (iblk m c 2 t (ix2 r k) : EReal) = (args m c).ga (row ⟨t.val, tlt t⟩ r) k :=
  (read2 t (V m c main_v1) r k).trans (V1a_at m c _ _)
theorem in3 (r : Fin 256) (k : Fin 1024) : (iblk m c 3 t (ix2 r k) : EReal) = (args m c).gb (row ⟨t.val, tlt t⟩ r) k :=
  (read3 t (V m c main_v1) r k).trans (V1b_at m c _ _)
theorem in4 (r : Fin 256) (k : Fin 1024) : (iblk m c 4 t (ix2 r k) : EReal) = (args m c).e (row ⟨t.val, tlt t⟩ r) k :=
  (read4 t (V m c main_arg4) r k).trans (congrFun (V_main_arg4 m c) _)
theorem in5 (j k : Fin 1024) : (iblk m c 5 t (ix2 j k) : EReal) = (args m c).wmu j k :=
  (read5 t (V m c main_v2) j k).trans (V2_at m c _ _)
theorem in6 (j k : Fin 1024) : (iblk m c 6 t (ix2 j k) : EReal) = (args m c).wsu j k :=
  (read6 t (V m c main_v3) j k).trans (V3_at m c _ _)
theorem in7 (j k : Fin 1024) : (iblk m c 7 t (ix2 j k) : EReal) = (args m c).wo j k :=
  (read7 t (V m c main_v4) j k).trans (V4_at m c _ _)
theorem in8 (k : Fin 1024) : (iblk m c 8 t (ix2 0 k) : EReal) = (args m c).g k :=
  (read8 t (V m c main_arg8) k).trans (congrFun (V_main_arg8 m c) _)

theorem mix_block (r : Fin 256) (k : Fin 1024) :
    (k0_pay6 (F := Ideal) (iblk m c 0 t) (iblk m c 5 t) (iblk m c 1 t) (iblk m c 6 t) (iblk m c 2 t) (iblk m c 3 t) (ix2 r k) : EReal)
      = (args m c).mixed (row ⟨t.val, tlt t⟩ r) k :=
  mix_pay (x := fun r => (args m c).om (row ⟨t.val, tlt t⟩ r)) (y := fun r => (args m c).os (row ⟨t.val, tlt t⟩ r))
    (ga := fun r => (args m c).ga (row ⟨t.val, tlt t⟩ r)) (gb := fun r => (args m c).gb (row ⟨t.val, tlt t⟩ r))
    (in0 m c t) (in1 m c t) (in2 m c t) (in3 m c t) (in5 m c t) (in6 m c t) r k

theorem arr9 : (dats m 0 c).arrAt 9 cfg0.N = lay (args m c).mixed := by
  refine (dats m 0 c).arrAt_eq_of_covers 9 _ (by decide +kernel) fun t hf y => ?_
  blk_simp
  rw [after0_9]
  unfold_out out0_9
  frame_out
  obtain ⟨r, k, rfl⟩ : ∃ (r : Fin 256) (k : Fin 1024), y = ix2 r k := ⟨_, _, eq_ix2 y⟩
  exact (y_pay (u := fun r => (args m c).mixed (row ⟨t.val, tlt t⟩ r)) (mix_block m c t) r k).trans (congrArg (lay (args m c).mixed) (place9 t r k)).symm

theorem arr10 : (dats m 0 c).arrAt 10 cfg0.N = lay (args m c).yo := by
  refine (dats m 0 c).arrAt_eq_of_covers 10 _ (by decide +kernel) fun t hf y => ?_
  blk_simp
  rw [after0_10]
  unfold_out out0_10
  frame_out
  obtain ⟨r, k, rfl⟩ : ∃ (r : Fin 256) (k : Fin 1024), y = ix2 r k := ⟨_, _, eq_ix2 y⟩
  exact (yo_pay (u := fun r => (args m c).mixed (row ⟨t.val, tlt t⟩ r)) (mix_block m c t) (in7 m c t) r k).trans (congrArg (lay (args m c).yo) (place10 t r k)).symm

theorem arr11 : (dats m 0 c).arrAt 11 cfg0.N = lay (args m c).au := by
  refine (dats m 0 c).arrAt_eq_of_covers 11 _ (by decide +kernel) fun t hf y => ?_
  blk_simp
  rw [after0_11]
  frame_out
  obtain ⟨r, k, rfl⟩ : ∃ (r : Fin 256) (k : Fin 1024), y = ix2 r k := ⟨_, _, eq_ix2 y⟩
  exact (au_pay (x := fun r => (args m c).om (row ⟨t.val, tlt t⟩ r)) (in0 m c t) (in5 m c t) r k).trans (congrArg (lay (args m c).au) (place11 t r k)).symm

theorem arr12 : (dats m 0 c).arrAt 12 cfg0.N = lay (args m c).bu := by
  refine (dats m 0 c).arrAt_eq_of_covers 12 _ (by decide +kernel) fun t hf y => ?_
  blk_simp
  rw [after0_12]
  frame_out
  obtain ⟨r, k, rfl⟩ : ∃ (r : Fin 256) (k : Fin 1024), y = ix2 r k := ⟨_, _, eq_ix2 y⟩
  exact (bu_pay (y := fun r => (args m c).os (row ⟨t.val, tlt t⟩ r)) (in1 m c t) (in6 m c t) r k).trans (congrArg (lay (args m c).bu) (place12 t r k)).symm

theorem arr13 : (dats m 0 c).arrAt 13 cfg0.N = lay (args m c).x1 := by
  refine (dats m 0 c).arrAt_eq_of_covers 13 _ (by decide +kernel) fun t hf y => ?_
  blk_simp
  rw [after0_13]
  unfold_out out0_13
  frame_out
  obtain ⟨r, k, rfl⟩ : ∃ (r : Fin 256) (k : Fin 1024), y = ix2 r k := ⟨_, _, eq_ix2 y⟩
  exact (x_pay (u := fun r => (args m c).mixed (row ⟨t.val, tlt t⟩ r)) (x := fun r => (args m c).e (row ⟨t.val, tlt t⟩ r)) (in4 m c t) (mix_block m c t) (in7 m c t) (in8 m c t) r k).trans (congrArg (lay (args m c).x1) (place13 t r k)).symm

end Arrays

end Cert.Kernel11Ideal.Flow

namespace Cert.Reference11Ideal.Flow

open Cert.Reference11Ideal Cert.Reference11Ideal.Gen Idealize.ShloMosaic Idealize.ShloMosaic.TcCoe Idealize.ShloMosaic.Tactic
open Cert.Kernel11Ideal.Flow (lay)
open Cert.Reference2Ideal.Flow (hM hR hN alongRow gains hN_at)

/-- What the program is given. -/
def args (m : (ℓ : Loc nD τ sig) → Buf (Elt Ideal) ℓ) (c : Dev nD) : Mix.Args where
  om := fun y k => m ((c : Thread nD τ).loc main_arg0) (ix2 y k)
  os := fun y k => m ((c : Thread nD τ).loc main_arg1) (ix2 y k)
  ga := fun y k => m ((c : Thread nD τ).loc main_arg2) (ix2 y k)
  gb := fun y k => m ((c : Thread nD τ).loc main_arg3) (ix2 y k)
  e := fun y k => m ((c : Thread nD τ).loc main_arg4) (ix2 y k)
  wmu := fun y k => m ((c : Thread nD τ).loc main_arg5) (ix2 y k)
  wsu := fun y k => m ((c : Thread nD τ).loc main_arg6) (ix2 y k)
  wo := fun y k => m ((c : Thread nD τ).loc main_arg7) (ix2 y k)
  g := fun k => m ((c : Thread nD τ).loc main_arg8) (ix2 0 k)

/-- The sigmoid. -/
def hS (x : FVec Ideal S4096x1024 .f32) : FVec Ideal S4096x1024 .f32 :=
  Host.divf (broadcastInDim S4096x1024 ![] bcast_S_S4096x1024 (constant S_ .f32 0x3F800000#32))
    (addf (broadcastInDim S4096x1024 ![] bcast_S_S4096x1024 (constant S_ .f32 0x3F800000#32)) (Host.exp (Host.negf x)))
/-- Rows times weights. -/
def hP (x : FVec Ideal S4096x1024 .f32) (w : FVec Ideal S1024x1024 .f32) : FVec Ideal S4096x1024 .f32 :=
  Host.dotGeneral dot_S4096x1024_S1024x1024_S4096x1024_1_0_0_1_n_n none x w
/-- The mix. -/
def hMix (om os ga gb : FVec Ideal S4096x1024 .f32) (wmu wsu : FVec Ideal S1024x1024 .f32) : FVec Ideal S4096x1024 .f32 :=
  addf (mulf (hS ga) (hP om wmu)) (mulf (hS gb) (hP os wsu))

theorem hS_at (x : FVec Ideal S4096x1024 .f32) (y : Fin 4096) (k : Fin 1024) : hS x (ix2 y k) = Mix.sg (x (ix2 y k)) := by
  unfold hS
  pointwise
  rfl

theorem hP_at {X : FVec Ideal S4096x1024 .f32} {W : FVec Ideal S1024x1024 .f32} {x : Mix.Rows} {w : Mix.Square}
    (hx : ∀ y k, X (ix2 y k) = x y k) (hw : ∀ j k, W (ix2 j k) = w j k) (y : Fin 4096) (k : Fin 1024) : hP X W (ix2 y k) = Mix.mul x w y k := by
  unfold hP
  pointwise
  simp only [hx, hw]
  rfl

theorem hMix_at {OM OS GA GB : FVec Ideal S4096x1024 .f32} {WMU WSU : FVec Ideal S1024x1024 .f32} {A : Mix.Args}
    (hom : ∀ y k, OM (ix2 y k) = A.om y k) (hos : ∀ y k, OS (ix2 y k) = A.os y k) (hga : ∀ y k, GA (ix2 y k) = A.ga y k)
    (hgb : ∀ y k, GB (ix2 y k) = A.gb y k) (hmu : ∀ j k, WMU (ix2 j k) = A.wmu j k) (hsu : ∀ j k, WSU (ix2 j k) = A.wsu j k)
    (y : Fin 4096) (k : Fin 1024) : hMix OM OS GA GB WMU WSU (ix2 y k) = A.mixed y k := by
  unfold hMix
  pointwise [hS_at, hP_at hom hmu, hP_at hos hsu, hga, hgb]
  rfl

/-- An array with given elements. -/
theorem ext_lay {X : S4096x1024.Idx → EReal} {x : Mix.Rows} (h : ∀ y k, X (ix2 y k) = x y k) : X = lay x :=
  funext fun j => (congrArg X (eq_ix2 j)).trans (h (j 0) (j 1))

section Results

variable (m : (ℓ : Loc nD τ sig) → Buf (Elt Ideal) ℓ) (c : Dev nD)

abbrev mixed : FVec Ideal S4096x1024 .f32 :=
  hMix (m ((c : Thread nD τ).loc main_arg0)) (m ((c : Thread nD τ).loc main_arg1)) (m ((c : Thread nD τ).loc main_arg2)) (m ((c : Thread nD τ).loc main_arg3))
    (m ((c : Thread nD τ).loc main_arg5)) (m ((c : Thread nD τ).loc main_arg6))
abbrev yo : FVec Ideal S4096x1024 .f32 := hP (mixed m c) (m ((c : Thread nD τ).loc main_arg7))

theorem mixed_at (y : Fin 4096) (k : Fin 1024) : mixed m c (ix2 y k) = (args m c).mixed y k :=
  hMix_at (A := args m c) (fun _ _ => rfl) (fun _ _ => rfl) (fun _ _ => rfl) (fun _ _ => rfl) (fun _ _ => rfl) (fun _ _ => rfl) y k

theorem yo_at (y : Fin 4096) (k : Fin 1024) : yo m c (ix2 y k) = (args m c).yo y k :=
  hP_at (w := (args m c).wo) (mixed_at m c) (fun _ _ => rfl) y k

theorem out_y : (truncf (F := Ideal) .bf16 (mixed m c) bitsLt_bf16_f32 : S4096x1024.Idx → EReal) = lay (args m c).mixed :=
  ext_lay fun y k => by
    pointwise
    exact mixed_at m c y k
theorem out_yo : (yo m c : S4096x1024.Idx → EReal) = lay (args m c).yo := ext_lay (yo_at m c)
theorem out_au : (hP (m ((c : Thread nD τ).loc main_arg0)) (m ((c : Thread nD τ).loc main_arg5)) : S4096x1024.Idx → EReal) = lay (args m c).au :=
  ext_lay (hP_at (x := (args m c).om) (w := (args m c).wmu) (fun _ _ => rfl) (fun _ _ => rfl))
theorem out_bu : (hP (m ((c : Thread nD τ).loc main_arg1)) (m ((c : Thread nD τ).loc main_arg6)) : S4096x1024.Idx → EReal) = lay (args m c).bu :=
  ext_lay (hP_at (x := (args m c).os) (w := (args m c).wsu) (fun _ _ => rfl) (fun _ _ => rfl))
theorem out_x1 : (addf (F := Ideal) (m ((c : Thread nD τ).loc main_arg4)) (hN (yo m c) (m ((c : Thread nD τ).loc main_arg8))) : S4096x1024.Idx → EReal) = lay (args m c).x1 :=
  ext_lay fun y k => by
    pointwise [hN_at (yo_at m c) (g := (args m c).g) fun _ => rfl]
    rfl

end Results

end Cert.Reference11Ideal.Flow

namespace Cert.Proof

open Idealize.ShloMosaic Idealize.ShloMosaic.TcCoe Idealize.ShloMosaic.Tactic

/-- The equation of `_fwd_mix`. -/
theorem algebraic11 : Cert.algebraic_Kernel11Ideal_Reference11Ideal := by
  intro m g m' g' _ hagree
  let A := Cert.Kernel11Ideal.Flow.args m
  refine ⟨fun c => Cert.Kernel11Ideal.Flow.lay (A c).mixed, fun c => Cert.Kernel11Ideal.Flow.lay (A c).yo, fun c => Cert.Kernel11Ideal.Flow.lay (A c).au, fun c => Cert.Kernel11Ideal.Flow.lay (A c).bu, fun c => Cert.Kernel11Ideal.Flow.lay (A c).x1, ?_, ?_⟩
  · refine (θ_run Cert.Kernel11Ideal.defs _ _).mono (fun r h c => ?_) (Cert.Kernel11Ideal.Value.run_blocks m g)
    obtain ⟨e0, e1, e2, e3, e4, er⟩ := h c
    exact ⟨e0.trans (Cert.Kernel11Ideal.Flow.arr9 m c), e1.trans (Cert.Kernel11Ideal.Flow.arr10 m c), e2.trans (Cert.Kernel11Ideal.Flow.arr11 m c), e3.trans (Cert.Kernel11Ideal.Flow.arr12 m c), e4.trans (Cert.Kernel11Ideal.Flow.arr13 m c), er⟩
  · refine (θ_run Cert.Reference11Ideal.defs _ _).mono (fun r h c => ?_) (Cert.Reference11Ideal.Value.run m' g')
    have q : Cert.Reference11Ideal.Flow.args m' c = A c := by
      obtain ⟨a0, a1, a2, a3, a4, a5, a6, a7, a8⟩ := hagree c
      exact (Mix.Args.mk.injEq ..).mpr ⟨funext fun y => funext fun k => congrFun a4 (ix2 y k), funext fun y => funext fun k => congrFun a0 (ix2 y k),
        funext fun y => funext fun k => congrFun a1 (ix2 y k), funext fun y => funext fun k => congrFun a2 (ix2 y k), funext fun y => funext fun k => congrFun a3 (ix2 y k),
        funext fun y => funext fun k => congrFun a5 (ix2 y k), funext fun y => funext fun k => congrFun a6 (ix2 y k), funext fun y => funext fun k => congrFun a7 (ix2 y k),
        funext fun k => congrFun a8 (ix2 0 k)⟩
    obtain ⟨e0, e1, e2, e3, e4, er⟩ := h c
    exact ⟨e0.trans ((Cert.Reference11Ideal.Flow.out_y m' c).trans (congrArg (fun a => Cert.Kernel11Ideal.Flow.lay (Mix.Args.mixed a)) q)), e1.trans ((Cert.Reference11Ideal.Flow.out_yo m' c).trans (congrArg (fun a => Cert.Kernel11Ideal.Flow.lay (Mix.Args.yo a)) q)), e2.trans ((Cert.Reference11Ideal.Flow.out_au m' c).trans (congrArg (fun a => Cert.Kernel11Ideal.Flow.lay (Mix.Args.au a)) q)), e3.trans ((Cert.Reference11Ideal.Flow.out_bu m' c).trans (congrArg (fun a => Cert.Kernel11Ideal.Flow.lay (Mix.Args.bu a)) q)), e4.trans ((Cert.Reference11Ideal.Flow.out_x1 m' c).trans (congrArg (fun a => Cert.Kernel11Ideal.Flow.lay (Mix.Args.x1 a)) q)), er⟩

end Cert.Proof

end
-- ==== Proof.lean ====
/-
The certificate: the frames of the programs, the named constant, and the equations of kernels and references.
-/
module

public import proofs.«01_k».proof.Defs
public import proofs.«01_k».proof.Proof.Frames
public import proofs.«01_k».proof.Proof.Value
public import proofs.«01_k».proof.Proof.Mlp.Frames
public import proofs.«01_k».proof.Proof.Mlp.DownValue
public import proofs.«01_k».proof.Proof.Mlp.UpValue
public import proofs.«01_k».proof.Proof.In.Frames
public import proofs.«01_k».proof.Proof.In.Value
public import proofs.«01_k».proof.Proof.Wgrad.UpValue
public import proofs.«01_k».proof.Proof.Wgrad.DownValue
public import proofs.«01_k».proof.Proof.Wgrad.InValue
public import proofs.«01_k».proof.Proof.Fwd.Frames
public import proofs.«01_k».proof.Proof.Fwd.In
public import proofs.«01_k».proof.Proof.Fwd.Up
public import proofs.«01_k».proof.Proof.Fwd.Down
public import proofs.«01_k».proof.Proof.Mix.Forward

@[expose] public section

namespace Cert.Proof

/-- Everything that is claimed. -/
theorem claim : Cert.Claim :=
  ⟨inferInstance, inferInstance, inferInstance, inferInstance, inferInstance, inferInstance, inferInstance, inferInstance, inferInstance,
    inferInstance, inferInstance, inferInstance, inferInstance, inferInstance, inferInstance, inferInstance, inferInstance, inferInstance,
    inferInstance, inferInstance, inferInstance, inferInstance, inferInstance, inferInstance, inferInstance,
    inferInstance, inferInstance, inferInstance, inferInstance, inferInstance, inferInstance, inferInstance, inferInstance, inferInstance,
    frame_kernel, frame_kernelIdeal, fun m g _ => frame_kernelIdeal m g trivial,
    frame_referenceIdeal, fun m g _ => frame_referenceIdeal m g trivial,
    frame_kernel2, frame_kernel2Ideal, frame_reference2Ideal,
    frame_kernel3, frame_kernel3Ideal, frame_reference3Ideal,
    frame_kernel4, frame_kernel4Ideal, frame_reference4Ideal,
    frame_kernel5, frame_kernel5Ideal, frame_reference5Ideal,
    frame_kernel6, frame_kernel6Ideal, frame_reference6Ideal,
    frame_kernel7, frame_kernel7Ideal, frame_reference7Ideal,
    frame_kernel8, frame_kernel8Ideal, frame_reference8Ideal,
    frame_kernel9, frame_kernel9Ideal, frame_reference9Ideal,
    frame_kernel10, frame_kernel10Ideal, frame_reference10Ideal,
    frame_kernel11, frame_kernel11Ideal, frame_reference11Ideal,
    preserves, algebraic, trivial, algebraic2, trivial, algebraic3, trivial, algebraic4, trivial, algebraic5, trivial, algebraic6, trivial, algebraic7,
    trivial, algebraic8, trivial, algebraic9, trivial, algebraic10, trivial, algebraic11⟩

end Cert.Proof

end
